-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v27_0)) (v1 : (c : Dev Cert.Kernel2Ideal.nD) → Buf (Elt Ideal) ((c.tc : Thread Cert.Kernel2Ideal.nD Cert.Kernel2Ideal.τ).loc Cert.Kernel2Ideal.main_v27_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27_0) = v0 c
          ∧ r.2.mem ((c.tc : Thread Cert.Kernel2Ideal.nD Cert.Kernel2Ideal.τ).loc Cert.Kernel2Ideal.main_v27_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v23_0)) (v1 : (c : Dev Cert.Kernel3Ideal.nD) → Buf (Elt Ideal) ((c.tc : Thread Cert.Kernel3Ideal.nD Cert.Kernel3Ideal.τ).loc Cert.Kernel3Ideal.main_v23_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v23_0) = v0 c
          ∧ r.2.mem ((c.tc : Thread Cert.Kernel3Ideal.nD Cert.Kernel3Ideal.τ).loc Cert.Kernel3Ideal.main_v23_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_routed : Cert.Pre_routed.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_routed.lean ====
abbrev S32768x8x128 : Shape := ⟨3, ![32768, 8, 128]⟩
abbrev S32768 : Shape := ⟨1, ![32768]⟩
abbrev S32 : Shape := ⟨1, ![32]⟩
abbrev S_ : Shape := ⟨0, ![]⟩
abbrev S1 : Shape := ⟨1, ![1]⟩
abbrev S64 : Shape := ⟨1, ![64]⟩
abbrev S65536 : Shape := ⟨1, ![65536]⟩
abbrev S81920 : Shape := ⟨1, ![81920]⟩
abbrev S65536x1 : Shape := ⟨2, ![65536, 1]⟩
abbrev S64x1 : Shape := ⟨2, ![64, 1]⟩
abbrev S1x81920 : Shape := ⟨2, ![1, 81920]⟩
abbrev S64x81920 : Shape := ⟨2, ![64, 81920]⟩
abbrev S81920x1 : Shape := ⟨2, ![81920, 1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  shapeCasts_S1_S_ : S1.ShapeCasts S_
  concatenates_S32_S32_S64_d0 : Shape.Concatenates [S32, S32] S64 0
  natLt_1_32 : 1 < 32
  concatenates_S32768_S32768_S65536_d0 : Shape.Concatenates [S32768, S32768] S65536 0
  bcast_S_S81920 : S_.BroadcastsInDim S81920 (![] : Fin 0 → Fin S81920.rank)
  bcast_S_S65536 : S_.BroadcastsInDim S65536 (![] : Fin 0 → Fin S65536.rank)
  bcast_S65536_S65536x1_0 : S65536.BroadcastsInDim S65536x1 (![0] : Fin 1 → Fin S65536x1.rank)
  bcast_S_S64 : S_.BroadcastsInDim S64 (![] : Fin 0 → Fin S64.rank)
  bcast_S64_S64x1_0 : S64.BroadcastsInDim S64x1 (![0] : Fin 1 → Fin S64x1.rank)
  bcast_S81920_S1x81920_1 : S81920.BroadcastsInDim S1x81920 (![1] : Fin 1 → Fin S1x81920.rank)
  bcast_S64x1_S64x81920_0_1 : S64x1.BroadcastsInDim S64x81920 (![0, 1] : Fin 2 → Fin S64x81920.rank)
  bcast_S1x81920_S64x81920_0_1 : S1x81920.BroadcastsInDim S64x81920 (![0, 1] : Fin 2 → Fin S64x81920.rank)
  bcast_S_S64x1 : S_.BroadcastsInDim S64x1 (![] : Fin 0 → Fin S64x1.rank)
  reducesTo_S64x81920_S81920_d0 : S64x81920.ReducesTo [0] S81920
  bcast_S81920_S81920x1_0 : S81920.BroadcastsInDim S81920x1 (![0] : Fin 1 → Fin S81920x1.rank)
  reducesTo_S65536_S_d0 : S65536.ReducesTo [0] S_
  reducesTo_S64_S_d0 : S64.ReducesTo [0] S_
  reducesTo_S81920_S_d0 : S81920.ReducesTo [0] S_
  scatter_S81920_S65536x1_S65536_n_0_0_1_wf : ScatterDims.WF S81920 S65536x1 S65536 [] [0] [0] 1
  gather_S81920_S65536x1_S65536_n_0_n_n_0_1_1_wf : GatherDims.WF S81920 S65536x1 S65536 [] [0] [] [0] [] 1 ![1]
  gather_S65536_S81920x1_S81920_n_0_n_n_0_1_1_wf : GatherDims.WF S65536 S81920x1 S81920 [] [0] [] [0] [] 1 ![1]

variable [Facts]

def scatter_S81920_S65536x1_S65536_n_0_0_1 : ScatterDims S81920 S65536x1 S65536 where
  updateWindowDims := []
  insertedWindowDims := [0]
  scatterDimsToOperandDims := [0]
  indexVectorDim := 1
  wf := scatter_S81920_S65536x1_S65536_n_0_0_1_wf
def gather_S81920_S65536x1_S65536_n_0_n_n_0_1_1 : GatherDims S81920 S65536x1 S65536 where
  offsetDims := []
  collapsedSliceDims := [0]
  operandBatchingDims := []
  startIndicesBatchingDims := []
  startIndexMap := [0]
  indexVectorDim := 1
  sliceSizes := ![1]
  wf := gather_S81920_S65536x1_S65536_n_0_n_n_0_1_1_wf
def gather_S65536_S81920x1_S81920_n_0_n_n_0_1_1 : GatherDims S65536 S81920x1 S81920 where
  offsetDims := []
  collapsedSliceDims := [0]
  operandBatchingDims := []
  startIndicesBatchingDims := []
  startIndexMap := [0]
  indexVectorDim := 1
  sliceSizes := ![1]
  wf := gather_S65536_S81920x1_S81920_n_0_n_n_0_1_1_wf
def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_part5 {F : FTy → Type} [FloatOps F] (main_v76 : IVec S81920 32) (main_v84 : IVec S81920 1) (main_v89 : IVec S_ 1) (main_v91 : IVec S81920 1) (main_c_26 : IVec S_ 1) : IVec S_ 1 :=
  let main_v92 : IVec S_ 1 := (fun x v => Host.reduce IntOp.andi x v reducesTo_S81920_S_d0 h_S_) main_v91 main_c_26
  let main_v93 : IVec S_ 1 := andi main_v89 main_v92
  let main_c_27 : IVec S_ 32 := constantI S_ 32 1#32
  let main_v94 : IVec S81920 32 := broadcastInDim S81920 ![] bcast_S_S81920 main_c_27
  let main_v95 : IVec S81920 1 := cmpi .sge main_v76 main_v94
  let main_v96 : IVec S81920 1 := ori main_v84 main_v95
  let main_c_28 : IVec S_ 1 := constantI S_ 1 1#1
  let main_v97 : IVec S_ 1 := (fun x v => Host.reduce IntOp.andi x v reducesTo_S81920_S_d0 h_S_) main_v96 main_c_28
  let main_v98 : IVec S_ 1 := andi main_v93 main_v97
  main_v98

def fn_part4 {F : FTy → Type} [FloatOps F] (main_v26 : IVec S65536 32) (main_v35 : IVec S81920 32) (main_v43 : IVec S65536 1) (main_v48 : IVec S65536 1) (main_v57 : IVec S64 1) (main_v58 : IVec S81920 32) (main_v75 : IVec S64x81920 32) : IVec S_ 1 :=
  let main_c_19 : IVec S_ 32 := constantI S_ 32 0#32
  let main_v76 : IVec S81920 32 := (fun x v => Host.reduce IntOp.addi x v reducesTo_S64x81920_S81920_d0 h_S_) main_v75 main_c_19
  let main_c_20 : IVec S_ 32 := constantI S_ 32 0#32
  let main_v77 : IVec S81920 32 := broadcastInDim S81920 ![] bcast_S_S81920 main_c_20
  let main_v78 : IVec S81920 1 := cmpi .slt main_v35 main_v77
  let main_c_21 : IVec S_ 32 := constantI S_ 32 65536#32
  let main_v79 : IVec S81920 32 := broadcastInDim S81920 ![] bcast_S_S81920 main_c_21
  let main_v80 : IVec S81920 32 := addi main_v35 main_v79
  let main_v81 : IVec S81920 32 := select main_v78 main_v80 main_v35
  let main_v82 : IVec S81920x1 32 := broadcastInDim S81920x1 ![0] bcast_S81920_S81920x1_0 main_v81
  let main_v83 : IVec S81920 32 := (fun x i => Host.gather gather_S65536_S81920x1_S81920_n_0_n_n_0_1_1 x i) main_v26 main_v82
  let main_v84 : IVec S81920 1 := cmpi .eq main_v83 main_v58
  let main_c_22 : IVec S_ 1 := constantI S_ 1 1#1
  let main_v85 : IVec S_ 1 := (fun x v => Host.reduce IntOp.andi x v reducesTo_S65536_S_d0 h_S_) main_v48 main_c_22
  let main_c_23 : IVec S_ 1 := constantI S_ 1 1#1
  let main_v86 : IVec S_ 1 := (fun x v => Host.reduce IntOp.andi x v reducesTo_S65536_S_d0 h_S_) main_v43 main_c_23
  let main_v87 : IVec S_ 1 := andi main_v85 main_v86
  let main_c_24 : IVec S_ 1 := constantI S_ 1 1#1
  let main_v88 : IVec S_ 1 := (fun x v => Host.reduce IntOp.andi x v reducesTo_S64_S_d0 h_S_) main_v57 main_c_24
  let main_v89 : IVec S_ 1 := andi main_v87 main_v88
  let main_c_25 : IVec S_ 32 := constantI S_ 32 1#32
  let main_v90 : IVec S81920 32 := broadcastInDim S81920 ![] bcast_S_S81920 main_c_25
  let main_v91 : IVec S81920 1 := cmpi .sle main_v76 main_v90
  let main_c_26 : IVec S_ 1 := constantI S_ 1 1#1
  fn_part5 (F := F) main_v76 main_v84 main_v89 main_v91 main_c_26

def fn_part3 {F : FTy → Type} [FloatOps F] (main_v21 : IVec S64 32) (main_v26 : IVec S65536 32) (main_v35 : IVec S81920 32) (main_v43 : IVec S65536 1) (main_v48 : IVec S65536 1) (main_v50 : IVec S64 1) (main_v51 : IVec S64 1) (main_v53 : IVec S64 1) : IVec S_ 1 :=
  let main_c_17 : IVec S_ 32 := constantI S_ 32 81408#32
  let main_v54 : IVec S64 32 := broadcastInDim S64 ![] bcast_S_S64 main_c_17
  let main_v55 : IVec S64 1 := cmpi .sle main_v21 main_v54
  let main_v56 : IVec S64 1 := andi main_v53 main_v55
  let main_v57 : IVec S64 1 := ori main_v51 main_v56
  let main_v58 : IVec S81920 32 := iotaInDim S81920 32 0
  let main_v59 : IVec S64x1 1 := broadcastInDim S64x1 ![0] bcast_S64_S64x1_0 main_v50
  let main_v60 : IVec S64x1 32 := broadcastInDim S64x1 ![0] bcast_S64_S64x1_0 main_v21
  let main_v61 : IVec S1x81920 32 := broadcastInDim S1x81920 ![1] bcast_S81920_S1x81920_1 main_v58
  let main_v62 : IVec S64x81920 32 := broadcastInDim S64x81920 ![0, 1] bcast_S64x1_S64x81920_0_1 main_v60
  let main_v63 : IVec S64x81920 32 := broadcastInDim S64x81920 ![0, 1] bcast_S1x81920_S64x81920_0_1 main_v61
  let main_v64 : IVec S64x81920 1 := cmpi .sle main_v62 main_v63
  let main_v65 : IVec S64x81920 1 := broadcastInDim S64x81920 ![0, 1] bcast_S64x1_S64x81920_0_1 main_v59
  let main_v66 : IVec S64x81920 1 := andi main_v65 main_v64
  let main_v67 : IVec S1x81920 32 := broadcastInDim S1x81920 ![1] bcast_S81920_S1x81920_1 main_v58
  let main_v68 : IVec S64x1 32 := broadcastInDim S64x1 ![0] bcast_S64_S64x1_0 main_v21
  let main_c_18 : IVec S_ 32 := constantI S_ 32 512#32
  let main_v69 : IVec S64x1 32 := broadcastInDim S64x1 ![] bcast_S_S64x1 main_c_18
  let main_v70 : IVec S64x1 32 := addi main_v68 main_v69
  let main_v71 : IVec S64x81920 32 := broadcastInDim S64x81920 ![0, 1] bcast_S1x81920_S64x81920_0_1 main_v67
  let main_v72 : IVec S64x81920 32 := broadcastInDim S64x81920 ![0, 1] bcast_S64x1_S64x81920_0_1 main_v70
  let main_v73 : IVec S64x81920 1 := cmpi .slt main_v71 main_v72
  let main_v74 : IVec S64x81920 1 := andi main_v66 main_v73
  let main_v75 : IVec S64x81920 32 := (extui 32 · natLt_1_32) main_v74
  fn_part4 (F := F) main_v26 main_v35 main_v43 main_v48 main_v57 main_v58 main_v75

def fn_part2 {F : FTy → Type} [FloatOps F] (main_v21 : IVec S64 32) (main_v25 : IVec S64 32) (main_v26 : IVec S65536 32) (main_v27 : IVec S65536 32) (main_v35 : IVec S81920 32) : IVec S_ 1 :=
  let main_c_11 : IVec S_ 32 := constantI S_ 32 0#32
  let main_v36 : IVec S65536 32 := broadcastInDim S65536 ![] bcast_S_S65536 main_c_11
  let main_v37 : IVec S65536 1 := cmpi .slt main_v26 main_v36
  let main_c_12 : IVec S_ 32 := constantI S_ 32 81920#32
  let main_v38 : IVec S65536 32 := broadcastInDim S65536 ![] bcast_S_S65536 main_c_12
  let main_v39 : IVec S65536 32 := addi main_v26 main_v38
  let main_v40 : IVec S65536 32 := select main_v37 main_v39 main_v26
  let main_v41 : IVec S65536x1 32 := broadcastInDim S65536x1 ![0] bcast_S65536_S65536x1_0 main_v40
  let main_v42 : IVec S65536 32 := (fun x i => Host.gather gather_S81920_S65536x1_S65536_n_0_n_n_0_1_1 x i) main_v35 main_v41
  let main_v43 : IVec S65536 1 := cmpi .eq main_v42 main_v27
  let main_c_13 : IVec S_ 32 := constantI S_ 32 0#32
  let main_v44 : IVec S65536 32 := broadcastInDim S65536 ![] bcast_S_S65536 main_c_13
  let main_v45 : IVec S65536 1 := cmpi .sge main_v26 main_v44
  let main_c_14 : IVec S_ 32 := constantI S_ 32 81920#32
  let main_v46 : IVec S65536 32 := broadcastInDim S65536 ![] bcast_S_S65536 main_c_14
  let main_v47 : IVec S65536 1 := cmpi .slt main_v26 main_v46
  let main_v48 : IVec S65536 1 := andi main_v45 main_v47
  let main_c_15 : IVec S_ 32 := constantI S_ 32 0#32
  let main_v49 : IVec S64 32 := broadcastInDim S64 ![] bcast_S_S64 main_c_15
  let main_v50 : IVec S64 1 := cmpi .sgt main_v25 main_v49
  let main_v51 : IVec S64 1 := noti main_v50
  let main_c_16 : IVec S_ 32 := constantI S_ 32 0#32
  let main_v52 : IVec S64 32 := broadcastInDim S64 ![] bcast_S_S64 main_c_16
  let main_v53 : IVec S64 1 := cmpi .sge main_v21 main_v52
  fn_part3 (F := F) main_v21 main_v26 main_v35 main_v43 main_v48 main_v50 main_v51 main_v53

def fn_part1 {F : FTy → Type} [FloatOps F] (main_arg1 : IVec S32768 32) (main_arg2 : IVec S32768 32) (main_arg3 : IVec S32 32) (main_v14 : IVec S32 32) (main_v16 : IVec S32 32) (main_c_5 : IVec S_ 32) : IVec S_ 1 :=
  let main_v17 : IVec S32 32 := broadcastInDim S32 ![] bcast_S_S32 main_c_5
  let main_v18 : IVec S32 32 := maxsi main_v16 main_v17
  let main_c_6 : IVec S_ 32 := constantI S_ 32 81408#32
  let main_v19 : IVec S32 32 := broadcastInDim S32 ![] bcast_S_S32 main_c_6
  let main_v20 : IVec S32 32 := minsi main_v14 main_v19
  let main_v21 : IVec S64 32 := (fun a b => concatenate S64 0 [⟨S32, a⟩, ⟨S32, b⟩] concatenates_S32_S32_S64_d0) main_v18 main_v20
  let main_c_7 : IVec S_ 32 := constantI S_ 32 81920#32
  let main_v22 : IVec S32 32 := broadcastInDim S32 ![] bcast_S_S32 main_c_7
  let main_v23 : IVec S32 1 := cmpi .slt main_v14 main_v22
  let main_v24 : IVec S32 32 := (extui 32 · natLt_1_32) main_v23
  let main_v25 : IVec S64 32 := (fun a b => concatenate S64 0 [⟨S32, a⟩, ⟨S32, b⟩] concatenates_S32_S32_S64_d0) main_arg3 main_v24
  let main_v26 : IVec S65536 32 := (fun a b => concatenate S65536 0 [⟨S32768, a⟩, ⟨S32768, b⟩] concatenates_S32768_S32768_S65536_d0) main_arg1 main_arg2
  let main_v27 : IVec S65536 32 := iotaInDim S65536 32 0
  let main_c_8 : IVec S_ 32 := constantI S_ 32 4294967295#32
  let main_v28 : IVec S81920 32 := broadcastInDim S81920 ![] bcast_S_S81920 main_c_8
  let main_c_9 : IVec S_ 32 := constantI S_ 32 0#32
  let main_v29 : IVec S65536 32 := broadcastInDim S65536 ![] bcast_S_S65536 main_c_9
  let main_v30 : IVec S65536 1 := cmpi .slt main_v26 main_v29
  let main_c_10 : IVec S_ 32 := constantI S_ 32 81920#32
  let main_v31 : IVec S65536 32 := broadcastInDim S65536 ![] bcast_S_S65536 main_c_10
  let main_v32 : IVec S65536 32 := addi main_v26 main_v31
  let main_v33 : IVec S65536 32 := select main_v30 main_v32 main_v26
  let main_v34 : IVec S65536x1 32 := broadcastInDim S65536x1 ![0] bcast_S65536_S65536x1_0 main_v33
  let main_v35 : IVec S81920 32 := (fun x i u => Host.scatter scatter_S81920_S65536x1_S65536_n_0_0_1 (fun _ b => b) x i u) main_v28 main_v34 main_v27
  fn_part2 (F := F) main_v21 main_v25 main_v26 main_v27 main_v35

def fn {F : FTy → Type} [FloatOps F] (main_arg0 : FVec F S32768x8x128 .bf16) (main_arg1 : IVec S32768 32) (main_arg2 : IVec S32768 32) (main_arg3 : IVec S32 32) : IVec S_ 1 :=
  let main_c : IVec S_ 32 := constantI S_ 32 512#32
  let main_v0 : IVec S32 32 := broadcastInDim S32 ![] bcast_S_S32 main_c
  let main_v1 : IVec S32 32 := addi main_arg3 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := fn_floor_divide (F := F) main_v3 main_c_1
  let main_c_2 : IVec S_ 32 := constantI S_ 32 512#32
  let main_v5 : IVec S32 32 := broadcastInDim S32 ![] bcast_S_S32 main_c_2
  let main_v6 : IVec S32 32 := muli main_v4 main_v5
  let main_v7 : IVec S32 32 := fn_cumsum (F := F) main_v6
  let main_v8 : IVec S1 32 := (extractStridedSlice S1 ![31] · slices_S32_S1_31) main_v7
  let main_v9 : IVec S_ 32 := shapeCast S_ main_v8 shapeCasts_S1_S_
  let main_v10 : IVec S32 32 := iotaInDim S32 32 0
  let main_c_3 : IVec S_ 32 := constantI S_ 32 512#32
  let main_v11 : IVec S32 32 := broadcastInDim S32 ![] bcast_S_S32 main_c_3
  let main_v12 : IVec S32 32 := muli main_v10 main_v11
  let main_v13 : IVec S32 32 := broadcastInDim S32 ![] bcast_S_S32 main_v9
  let main_v14 : IVec S32 32 := addi main_v13 main_v12
  let main_c_4 : IVec S_ 32 := constantI S_ 32 512#32
  let main_v15 : IVec S32 32 := broadcastInDim S32 ![] bcast_S_S32 main_c_4
  let main_v16 : IVec S32 32 := subi main_v7 main_v15
  let main_c_5 : IVec S_ 32 := constantI S_ 32 0#32
  fn_part1 (F := F) main_arg1 main_arg2 main_arg3 main_v14 main_v16 main_c_5
-- ==== Kernel.lean ====
abbrev S32768x8x128 : Shape := ⟨3, ![32768, 8, 128]⟩
abbrev S32768 : Shape := ⟨1, ![32768]⟩
abbrev S32 : Shape := ⟨1, ![32]⟩
abbrev S_ : Shape := ⟨0, ![]⟩
abbrev S1 : Shape := ⟨1, ![1]⟩
abbrev S64 : Shape := ⟨1, ![64]⟩
abbrev S81920x8x128 : Shape := ⟨3, ![81920, 8, 128]⟩
abbrev S2048 : Shape := ⟨1, ![2048]⟩
abbrev S2048x8x128 : Shape := ⟨3, ![2048, 8, 128]⟩
abbrev S512x8x128 : Shape := ⟨3, ![512, 8, 128]⟩
abbrev S1x8x128 : Shape := ⟨3, ![1, 8, 128]⟩
abbrev S8x128 : Shape := ⟨2, ![8, 128]⟩

abbrev nBuf : Space → Nat
  | .hbm => 56
  | .vmem => 3
  | .smem => 6
  | _ => 0

abbrev bufTy : (tb : Table) → Fin (tcTables nBuf tb) → BufTy
  | .hbm, ⟨0, _⟩ => ⟨S32768x8x128, .bf16⟩
  | .hbm, ⟨1, _⟩ => ⟨S32768, .i32⟩
  | .hbm, ⟨2, _⟩ => ⟨S32768, .i32⟩
  | .hbm, ⟨3, _⟩ => ⟨S32, .i32⟩
  | .hbm, ⟨4, _⟩ => ⟨S_, .i32⟩
  | .hbm, ⟨5, _⟩ => ⟨S32, .i32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S32, .i32⟩
  | .hbm, ⟨17, _⟩ => ⟨S32, .i1⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i1⟩
  | .hbm, ⟨24, _⟩ => ⟨S_, .i32⟩
  | .hbm, ⟨25, _⟩ => ⟨S32, .i32⟩
  | .hbm, ⟨26, _⟩ => ⟨S32, .i32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S_, .i32⟩
  | .hbm, ⟨33, _⟩ => ⟨S32, .i32⟩
  | .hbm, ⟨34, _⟩ => ⟨S1, .i32⟩
  | .hbm, ⟨35, _⟩ => ⟨S_, .i32⟩
  | .hbm, ⟨36, _⟩ => ⟨S32, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S32, .i32⟩
  | .hbm, ⟨41, _⟩ => ⟨S32, .i32⟩
  | .hbm, ⟨42, _⟩ => ⟨S_, .i32⟩
  | .hbm, ⟨43, _⟩ => ⟨S32, .i32⟩
  | .hbm, ⟨44, _⟩ => ⟨S32, .i32⟩
  | .hbm, ⟨45, _⟩ => ⟨S_, .i32⟩
  | .hbm, ⟨46, _⟩ => ⟨S32, .i32⟩
  | .hbm, ⟨47, _⟩ => ⟨S32, .i32⟩
  | .hbm, ⟨48, _⟩ => ⟨S_, .i32⟩
  | .hbm, ⟨49, _⟩ => ⟨S32, .i32⟩
  | .hbm, ⟨50, _⟩ => ⟨S32, .i32⟩
  | .hbm, ⟨51, _⟩ => ⟨S_, .i32⟩
  | .hbm, ⟨52, _⟩ => ⟨S32, .i32⟩
  | .hbm, ⟨53, _⟩ => ⟨S32, .i1⟩
  | .hbm, ⟨54, _⟩ => ⟨S32, .i32⟩
  | .hbm, ⟨55, _⟩ => ⟨S81920x8x128, .bf16⟩
  | .local _ .vmem, ⟨0, _⟩ => ⟨S2048x8x128, .bf16⟩
  | .local _ .vmem, ⟨1, _⟩ => ⟨S2048x8x128, .bf16⟩
  | .local _ .vmem, ⟨2, _⟩ => ⟨S512x8x128, .bf16⟩
  | .local _ .smem, ⟨0, _⟩ => ⟨S64, .i32⟩
  | .local _ .smem, ⟨1, _⟩ => ⟨S64, .i32⟩
  | .local _ .smem, ⟨2, _⟩ => ⟨S2048, .i32⟩
  | .local _ .smem, ⟨3, _⟩ => ⟨S2048, .i32⟩
  | .local _ .smem, ⟨4, _⟩ => ⟨S2048, .i32⟩
  | .local _ .smem, ⟨5, _⟩ => ⟨S2048, .i32⟩
  | _, _ => ⟨S32768x8x128, .bf16⟩

abbrev bufScoped : (cs : CoreSpace) → Fin (nBuf (.core cs)) → Bool
  | .vmem, ⟨0, _⟩ => true
  | .vmem, ⟨1, _⟩ => true
  | .vmem, ⟨2, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v4 : Ref sig .tc := ⟨.hbm, 27, rfl⟩
abbrev main_c_2 : Ref sig .tc := ⟨.hbm, 28, rfl⟩
abbrev main_v5 : Ref sig .tc := ⟨.hbm, 29, rfl⟩
abbrev main_v6 : Ref sig .tc := ⟨.hbm, 30, rfl⟩
abbrev main_call1_call0_c : Ref sig .tc := ⟨.hbm, 31, rfl⟩
abbrev main_call1_call0_v0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c_3 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_4 : Ref sig .tc := ⟨.hbm, 42, rfl⟩
abbrev main_v15 : Ref sig .tc := ⟨.hbm, 43, rfl⟩
abbrev main_v16 : Ref sig .tc := ⟨.hbm, 44, rfl⟩
abbrev main_c_5 : Ref sig .tc := ⟨.hbm, 45, rfl⟩
abbrev main_v17 : Ref sig .tc := ⟨.hbm, 46, rfl⟩
abbrev main_v18 : Ref sig .tc := ⟨.hbm, 47, rfl⟩
abbrev main_c_6 : Ref sig .tc := ⟨.hbm, 48, rfl⟩
abbrev main_v19 : Ref sig .tc := ⟨.hbm, 49, rfl⟩
abbrev main_v20 : Ref sig .tc := ⟨.hbm, 50, rfl⟩
abbrev main_c_7 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v26 : Ref sig .tc := ⟨.hbm, 55, rfl⟩
abbrev main_v21 : Ref sig .tc := ⟨.smem, 0, rfl⟩
abbrev main_v25 : Ref sig .tc := ⟨.smem, 1, rfl⟩
abbrev cc0_stg2_0 : Ref sig .tc := ⟨.vmem, 0, rfl⟩
abbrev cc0_stg2_1 : Ref sig .tc := ⟨.vmem, 1, rfl⟩
abbrev cc0_scratch0 : Ref sig .tc := ⟨.vmem, 2, rfl⟩
abbrev cc0_stg0_0 : Ref sig .tc := ⟨.smem, 2, rfl⟩
abbrev cc0_stg0_1 : Ref sig .tc := ⟨.smem, 3, rfl⟩
abbrev cc0_stg1_0 : Ref sig .tc := ⟨.smem, 4, rfl⟩
abbrev cc0_stg1_1 : Ref sig .tc := ⟨.smem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

abbrev pre0 : Pipeline.Prefetch sig := ⟨2, ![main_v21.idx, main_v25.idx], fun | 0 => main_v21.names | 1 => main_v25.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (v522 : BitVec 32) : Fin 3 → Nat :=
  let c0_i32_333 : BitVec 32 := 0#32
  let c0_i32_334 : BitVec 32 := 0#32
  ![v522.toNat, 0, 0]
def k0_cond2 (v10 : BitVec 32) : BitVec 1 :=
  let c0_i32_12 : BitVec 32 := 0#32
  let v11 : BitVec 1 := Scalar.cmpi .sgt v10 c0_i32_12
  let v12 : BitVec 32 := Scalar.extui v11
  let c0_i32_13 : BitVec 32 := 0#32
  let v13 : BitVec 1 := Scalar.cmpi .ne v12 c0_i32_13
  v13

def k0_chk1 (i : grid0.Coords) (v10 : BitVec 32) (v522 : BitVec 32) : Prop :=
  (∀ (k0_h1 : k0_cond1 i = 1#1), ∀ (k0_h2 : k0_cond2 v10 = 1#1), ∀ a, (k0_off1 v522) a + S512x8x128.size a ≤ S81920x8x128.size a) ∧
  (∀ (k0_h1 : k0_cond1 i = 1#1), ∀ (k0_h2 : k0_cond2 v10 = 1#1), ∀ (hinb : ∀ a, (k0_off1 v522) a + S512x8x128.size a ≤ S81920x8x128.size a), (Rect.unit (s := S81920x8x128) (k0_off1 v522) S512x8x128.size hinb).WholeWords (EltTy.packing .bf16))
theorem k0_off1_inb : ∀ (i : grid0.Coords) (v10 : BitVec 32) (v522 : BitVec 32) (k0_hw1 : k0_chk1 i v10 v522), ∀ (k0_h1 : k0_cond1 i = 1#1), ∀ (k0_h2 : k0_cond2 v10 = 1#1), ∀ a, (k0_off1 v522) a + S512x8x128.size a ≤ S81920x8x128.size a := fun i v10 v522 k0_hw1 k0_h1 k0_h2 => k0_hw1.1 k0_h1 k0_h2
theorem k0_off1_wordsbf16 : ∀ (i : grid0.Coords) (v10 : BitVec 32) (v522 : BitVec 32) (k0_hw1 : k0_chk1 i v10 v522), ∀ (k0_h1 : k0_cond1 i = 1#1), ∀ (k0_h2 : k0_cond2 v10 = 1#1), (Rect.unit (s := S81920x8x128) (k0_off1 v522) S512x8x128.size (k0_off1_inb i v10 v522 k0_hw1 k0_h1 k0_h2)).WholeWords (EltTy.packing .bf16) := fun i v10 v522 k0_hw1 k0_h1 k0_h2 => k0_hw1.2 k0_h1 k0_h2 (k0_off1_inb i v10 v522 k0_hw1 k0_h1 k0_h2)

def k0_off2 (v522 : BitVec 32) : Fin 3 → Nat :=
  let c0_i32_333 : BitVec 32 := 0#32
  let c0_i32_334 : BitVec 32 := 0#32
  ![v522.toNat, 0, 0]
def k0_cond3 (v14 : BitVec 32) : BitVec 1 :=
  let c0_i32_14 : BitVec 32 := 0#32
  let v15 : BitVec 1 := Scalar.cmpi .sgt v14 c0_i32_14
  let v16 : BitVec 32 := Scalar.extui v15
  let c0_i32_15 : BitVec 32 := 0#32
  let v17 : BitVec 1 := Scalar.cmpi .ne v16 c0_i32_15
  v17

def k0_chk2 (i : grid0.Coords) (v14 : BitVec 32) (v522 : BitVec 32) : Prop :=
  (∀ (k0_h1 : k0_cond1 i = 1#1), ∀ (k0_h3 : k0_cond3 v14 = 1#1), ∀ a, (k0_off2 v522) a + S512x8x128.size a ≤ S81920x8x128.size a) ∧
  (∀ (k0_h1 : k0_cond1 i = 1#1), ∀ (k0_h3 : k0_cond3 v14 = 1#1), ∀ (hinb : ∀ a, (k0_off2 v522) a + S512x8x128.size a ≤ S81920x8x128.size a), (Rect.unit (s := S81920x8x128) (k0_off2 v522) S512x8x128.size hinb).WholeWords (EltTy.packing .bf16))
theorem k0_off2_inb : ∀ (i : grid0.Coords) (v14 : BitVec 32) (v522 : BitVec 32) (k0_hw2 : k0_chk2 i v14 v522), ∀ (k0_h1 : k0_cond1 i = 1#1), ∀ (k0_h3 : k0_cond3 v14 = 1#1), ∀ a, (k0_off2 v522) a + S512x8x128.size a ≤ S81920x8x128.size a := fun i v14 v522 k0_hw2 k0_h1 k0_h3 => k0_hw2.1 k0_h1 k0_h3
theorem k0_off2_wordsbf16 : ∀ (i : grid0.Coords) (v14 : BitVec 32) (v522 : BitVec 32) (k0_hw2 : k0_chk2 i v14 v522), ∀ (k0_h1 : k0_cond1 i = 1#1), ∀ (k0_h3 : k0_cond3 v14 = 1#1), (Rect.unit (s := S81920x8x128) (k0_off2 v522) S512x8x128.size (k0_off2_inb i v14 v522 k0_hw2 k0_h1 k0_h3)).WholeWords (EltTy.packing .bf16) := fun i v14 v522 k0_hw2 k0_h1 k0_h3 => k0_hw2.2 k0_h1 k0_h3 (k0_off2_inb i v14 v522 k0_hw2 k0_h1 k0_h3)

def k0_off3 (v522 : BitVec 32) : Fin 3 → Nat :=
  let c0_i32_333 : BitVec 32 := 0#32
  let c0_i32_334 : BitVec 32 := 0#32
  ![v522.toNat, 0, 0]
def k0_cond4 (v18 : BitVec 32) : BitVec 1 :=
  let c0_i32_16 : BitVec 32 := 0#32
  let v19 : BitVec 1 := Scalar.cmpi .sgt v18 c0_i32_16
  let v20 : BitVec 32 := Scalar.extui v19
  let c0_i32_17 : BitVec 32 := 0#32
  let v21 : BitVec 1 := Scalar.cmpi .ne v20 c0_i32_17
  v21

def k0_chk3 (i : grid0.Coords) (v18 : BitVec 32) (v522 : BitVec 32) : Prop :=
  (∀ (k0_h1 : k0_cond1 i = 1#1), ∀ (k0_h4 : k0_cond4 v18 = 1#1), ∀ a, (k0_off3 v522) a + S512x8x128.size a ≤ S81920x8x128.size a) ∧
  (∀ (k0_h1 : k0_cond1 i = 1#1), ∀ (k0_h4 : k0_cond4 v18 = 1#1), ∀ (hinb : ∀ a, (k0_off3 v522) a + S512x8x128.size a ≤ S81920x8x128.size a), (Rect.unit (s := S81920x8x128) (k0_off3 v522) S512x8x128.size hinb).WholeWords (EltTy.packing .bf16))
theorem k0_off3_inb : ∀ (i : grid0.Coords) (v18 : BitVec 32) (v522 : BitVec 32) (k0_hw3 : k0_chk3 i v18 v522), ∀ (k0_h1 : k0_cond1 i = 1#1), ∀ (k0_h4 : k0_cond4 v18 = 1#1), ∀ a, (k0_off3 v522) a + S512x8x128.size a ≤ S81920x8x128.size a := fun i v18 v522 k0_hw3 k0_h1 k0_h4 => k0_hw3.1 k0_h1 k0_h4
theorem k0_off3_wordsbf16 : ∀ (i : grid0.Coords) (v18 : BitVec 32) (v522 : BitVec 32) (k0_hw3 : k0_chk3 i v18 v522), ∀ (k0_h1 : k0_cond1 i = 1#1), ∀ (k0_h4 : k0_cond4 v18 = 1#1), (Rect.unit (s := S81920x8x128) (k0_off3 v522) S512x8x128.size (k0_off3_inb i v18 v522 k0_hw3 k0_h1 k0_h4)).WholeWords (EltTy.packing .bf16) := fun i v18 v522 k0_hw3 k0_h1 k0_h4 => k0_hw3.2 k0_h1 k0_h4 (k0_off3_inb i v18 v522 k0_hw3 k0_h1 k0_h4)

def k0_off4 (v522 : BitVec 32) : Fin 3 → Nat :=
  let c0_i32_333 : BitVec 32 := 0#32
  let c0_i32_334 : BitVec 32 := 0#32
  ![v522.toNat, 0, 0]
def k0_cond5 (v22 : BitVec 32) : BitVec 1 :=
  let c0_i32_18 : BitVec 32 := 0#32
  let v23 : BitVec 1 := Scalar.cmpi .sgt v22 c0_i32_18
  let v24 : BitVec 32 := Scalar.extui v23
  let c0_i32_19 : BitVec 32 := 0#32
  let v25 : BitVec 1 := Scalar.cmpi .ne v24 c0_i32_19
  v25

def k0_chk4 (i : grid0.Coords) (v22 : BitVec 32) (v522 : BitVec 32) : Prop :=
  (∀ (k0_h1 : k0_cond1 i = 1#1), ∀ (k0_h5 : k0_cond5 v22 = 1#1), ∀ a, (k0_off4 v522) a + S512x8x128.size a ≤ S81920x8x128.size a) ∧
  (∀ (k0_h1 : k0_cond1 i = 1#1), ∀ (k0_h5 : k0_cond5 v22 = 1#1), ∀ (hinb : ∀ a, (k0_off4 v522) a + S512x8x128.size a ≤ S81920x8x128.size a), (Rect.unit (s := S81920x8x128) (k0_off4 v522) S512x8x128.size hinb).WholeWords (EltTy.packing .bf16))
theorem k0_off4_inb : ∀ (i : grid0.Coords) (v22 : BitVec 32) (v522 : BitVec 32) (k0_hw4 : k0_chk4 i v22 v522), ∀ (k0_h1 : k0_cond1 i = 1#1), ∀ (k0_h5 : k0_cond5 v22 = 1#1), ∀ a, (k0_off4 v522) a + S512x8x128.size a ≤ S81920x8x128.size a := fun i v22 v522 k0_hw4 k0_h1 k0_h5 => k0_hw4.1 k0_h1 k0_h5
theorem k0_off4_wordsbf16 : ∀ (i : grid0.Coords) (v22 : BitVec 32) (v522 : BitVec 32) (k0_hw4 : k0_chk4 i v22 v522), ∀ (k0_h1 : k0_cond1 i = 1#1), ∀ (k0_h5 : k0_cond5 v22 = 1#1), (Rect.unit (s := S81920x8x128) (k0_off4 v522) S512x8x128.size (k0_off4_inb i v22 v522 k0_hw4 k0_h1 k0_h5)).WholeWords (EltTy.packing .bf16) := fun i v22 v522 k0_hw4 k0_h1 k0_h5 => k0_hw4.2 k0_h1 k0_h5 (k0_off4_inb i v22 v522 k0_hw4 k0_h1 k0_h5)

def k0_off5 (v522 : BitVec 32) : Fin 3 → Nat :=
  let c0_i32_333 : BitVec 32 := 0#32
  let c0_i32_334 : BitVec 32 := 0#32
  ![v522.toNat, 0, 0]
def k0_cond6 (v26 : BitVec 32) : BitVec 1 :=
  let c0_i32_20 : BitVec 32 := 0#32
  let v27 : BitVec 1 := Scalar.cmpi .sgt v26 c0_i32_20
  let v28 : BitVec 32 := Scalar.extui v27
  let c0_i32_21 : BitVec 32 := 0#32
  let v29 : BitVec 1 := Scalar.cmpi .ne v28 c0_i32_21
  v29

def k0_chk5 (i : grid0.Coords) (v26 : BitVec 32) (v522 : BitVec 32) : Prop :=
  (∀ (k0_h1 : k0_cond1 i = 1#1), ∀ (k0_h6 : k0_cond6 v26 = 1#1), ∀ a, (k0_off5 v522) a + S512x8x128.size a ≤ S81920x8x128.size a) ∧
  (∀ (k0_h1 : k0_cond1 i = 1#1), ∀ (k0_h6 : k0_cond6 v26 = 1#1), ∀ (hinb : ∀ a, (k0_off5 v522) a + S512x8x128.size a ≤ S81920x8x128.size a), (Rect.unit (s := S81920x8x128) (k0_off5 v522) S512x8x128.size hinb).WholeWords (EltTy.packing .bf16))
theorem k0_off5_inb : ∀ (i : grid0.Coords) (v26 : BitVec 32) (v522 : BitVec 32) (k0_hw5 : k0_chk5 i v26 v522), ∀ (k0_h1 : k0_cond1 i = 1#1), ∀ (k0_h6 : k0_cond6 v26 = 1#1), ∀ a, (k0_off5 v522) a + S512x8x128.size a ≤ S81920x8x128.size a := fun i v26 v522 k0_hw5 k0_h1 k0_h6 => k0_hw5.1 k0_h1 k0_h6
theorem k0_off5_wordsbf16 : ∀ (i : grid0.Coords) (v26 : BitVec 32) (v522 : BitVec 32) (k0_hw5 : k0_chk5 i v26 v522), ∀ (k0_h1 : k0_cond1 i = 1#1), ∀ (k0_h6 : k0_cond6 v26 = 1#1), (Rect.unit (s := S81920x8x128) (k0_off5 v522) S512x8x128.size (k0_off5_inb i v26 v522 k0_hw5 k0_h1 k0_h6)).WholeWords (EltTy.packing .bf16) := fun i v26 v522 k0_hw5 k0_h1 k0_h6 => k0_hw5.2 k0_h1 k0_h6 (k0_off5_inb i v26 v522 k0_hw5 k0_h1 k0_h6)

def k0_off6 (v522 : BitVec 32) : Fin 3 → Nat :=
  let c0_i32_333 : BitVec 32 := 0#32
  let c0_i32_334 : BitVec 32 := 0#32
  ![v522.toNat, 0, 0]
def k0_cond7 (v30 : BitVec 32) : BitVec 1 :=
  let c0_i32_22 : BitVec 32 := 0#32
  let v31 : BitVec 1 := Scalar.cmpi .sgt v30 c0_i32_22
  let v32 : BitVec 32 := Scalar.extui v31
  let c0_i32_23 : BitVec 32 := 0#32
  let v33 : BitVec 1 := Scalar.cmpi .ne v32 c0_i32_23
  v33

def k0_chk6 (i : grid0.Coords) (v30 : BitVec 32) (v522 : BitVec 32) : Prop :=
  (∀ (k0_h1 : k0_cond1 i = 1#1), ∀ (k0_h7 : k0_cond7 v30 = 1#1), ∀ a, (k0_off6 v522) a + S512x8x128.size a ≤ S81920x8x128.size a) ∧
  (∀ (k0_h1 : k0_cond1 i = 1#1), ∀ (k0_h7 : k0_cond7 v30 = 1#1), ∀ (hinb : ∀ a, (k0_off6 v522) a + S512x8x128.size a ≤ S81920x8x128.size a), (Rect.unit (s := S81920x8x128) (k0_off6 v522) S512x8x128.size hinb).WholeWords (EltTy.packing .bf16))
theorem k0_off6_inb : ∀ (i : grid0.Coords) (v30 : BitVec 32) (v522 : BitVec 32) (k0_hw6 : k0_chk6 i v30 v522), ∀ (k0_h1 : k0_cond1 i = 1#1), ∀ (k0_h7 : k0_cond7 v30 = 1#1), ∀ a, (k0_off6 v522) a + S512x8x128.size a ≤ S81920x8x128.size a := fun i v30 v522 k0_hw6 k0_h1 k0_h7 => k0_hw6.1 k0_h1 k0_h7
theorem k0_off6_wordsbf16 : ∀ (i : grid0.Coords) (v30 : BitVec 32) (v522 : BitVec 32) (k0_hw6 : k0_chk6 i v30 v522), ∀ (k0_h1 : k0_cond1 i = 1#1), ∀ (k0_h7 : k0_cond7 v30 = 1#1), (Rect.unit (s := S81920x8x128) (k0_off6 v522) S512x8x128.size (k0_off6_inb i v30 v522 k0_hw6 k0_h1 k0_h7)).WholeWords (EltTy.packing .bf16) := fun i v30 v522 k0_hw6 k0_h1 k0_h7 => k0_hw6.2 k0_h1 k0_h7 (k0_off6_inb i v30 v522 k0_hw6 k0_h1 k0_h7)

def k0_off7 (v522 : BitVec 32) : Fin 3 → Nat :=
  let c0_i32_333 : BitVec 32 := 0#32
  let c0_i32_334 : BitVec 32 := 0#32
  ![v522.toNat, 0, 0]
def k0_cond8 (v34 : BitVec 32) : BitVec 1 :=
  let c0_i32_24 : BitVec 32 := 0#32
  let v35 : BitVec 1 := Scalar.cmpi .sgt v34 c0_i32_24
  let v36 : BitVec 32 := Scalar.extui v35
  let c0_i32_25 : BitVec 32 := 0#32
  let v37 : BitVec 1 := Scalar.cmpi .ne v36 c0_i32_25
  v37

def k0_chk7 (i : grid0.Coords) (v34 : BitVec 32) (v522 : BitVec 32) : Prop :=
  (∀ (k0_h1 : k0_cond1 i = 1#1), ∀ (k0_h8 : k0_cond8 v34 = 1#1), ∀ a, (k0_off7 v522) a + S512x8x128.size a ≤ S81920x8x128.size a) ∧
  (∀ (k0_h1 : k0_cond1 i = 1#1), ∀ (k0_h8 : k0_cond8 v34 = 1#1), ∀ (hinb : ∀ a, (k0_off7 v522) a + S512x8x128.size a ≤ S81920x8x128.size a), (Rect.unit (s := S81920x8x128) (k0_off7 v522) S512x8x128.size hinb).WholeWords (EltTy.packing .bf16))
theorem k0_off7_inb : ∀ (i : grid0.Coords) (v34 : BitVec 32) (v522 : BitVec 32) (k0_hw7 : k0_chk7 i v34 v522), ∀ (k0_h1 : k0_cond1 i = 1#1), ∀ (k0_h8 : k0_cond8 v34 = 1#1), ∀ a, (k0_off7 v522) a + S512x8x128.size a ≤ S81920x8x128.size a := fun i v34 v522 k0_hw7 k0_h1 k0_h8 => k0_hw7.1 k0_h1 k0_h8
theorem k0_off7_wordsbf16 : ∀ (i : grid0.Coords) (v34 : BitVec 32) (v522 : BitVec 32) (k0_hw7 : k0_chk7 i v34 v522), ∀ (k0_h1 : k0_cond1 i = 1#1), ∀ (k0_h8 : k0_cond8 v34 = 1#1), (Rect.unit (s := S81920x8x128) (k0_off7 v522) S512x8x128.size (k0_off7_inb i v34 v522 k0_hw7 k0_h1 k0_h8)).WholeWords (EltTy.packing .bf16) := fun i v34 v522 k0_hw7 k0_h1 k0_h8 => k0_hw7.2 k0_h1 k0_h8 (k0_off7_inb i v34 v522 k0_hw7 k0_h1 k0_h8)

def k0_off8 (v522 : BitVec 32) : Fin 3 → Nat :=
  let c0_i32_333 : BitVec 32 := 0#32
  let c0_i32_334 : BitVec 32 := 0#32
  ![v522.toNat, 0, 0]
def k0_cond9 (v38 : BitVec 32) : BitVec 1 :=
  let c0_i32_26 : BitVec 32 := 0#32
  let v39 : BitVec 1 := Scalar.cmpi .sgt v38 c0_i32_26
  let v40 : BitVec 32 := Scalar.extui v39
  let c0_i32_27 : BitVec 32 := 0#32
  let v41 : BitVec 1 := Scalar.cmpi .ne v40 c0_i32_27
  v41

def k0_chk8 (i : grid0.Coords) (v38 : BitVec 32) (v522 : BitVec 32) : Prop :=
  (∀ (k0_h1 : k0_cond1 i = 1#1), ∀ (k0_h9 : k0_cond9 v38 = 1#1), ∀ a, (k0_off8 v522) a + S512x8x128.size a ≤ S81920x8x128.size a) ∧
  (∀ (k0_h1 : k0_cond1 i = 1#1), ∀ (k0_h9 : k0_cond9 v38 = 1#1), ∀ (hinb : ∀ a, (k0_off8 v522) a + S512x8x128.size a ≤ S81920x8x128.size a), (Rect.unit (s := S81920x8x128) (k0_off8 v522) S512x8x128.size hinb).WholeWords (EltTy.packing .bf16))
theorem k0_off8_inb : ∀ (i : grid0.Coords) (v38 : BitVec 32) (v522 : BitVec 32) (k0_hw8 : k0_chk8 i v38 v522), ∀ (k0_h1 : k0_cond1 i = 1#1), ∀ (k0_h9 : k0_cond9 v38 = 1#1), ∀ a, (k0_off8 v522) a + S512x8x128.size a ≤ S81920x8x128.size a := fun i v38 v522 k0_hw8 k0_h1 k0_h9 => k0_hw8.1 k0_h1 k0_h9
theorem k0_off8_wordsbf16 : ∀ (i : grid0.Coords) (v38 : BitVec 32) (v522 : BitVec 32) (k0_hw8 : k0_chk8 i v38 v522), ∀ (k0_h1 : k0_cond1 i = 1#1), ∀ (k0_h9 : k0_cond9 v38 = 1#1), (Rect.unit (s := S81920x8x128) (k0_off8 v522) S512x8x128.size (k0_off8_inb i v38 v522 k0_hw8 k0_h1 k0_h9)).WholeWords (EltTy.packing .bf16) := fun i v38 v522 k0_hw8 k0_h1 k0_h9 => k0_hw8.2 k0_h1 k0_h9 (k0_off8_inb i v38 v522 k0_hw8 k0_h1 k0_h9)

def k0_off9 (v522 : BitVec 32) : Fin 3 → Nat :=
  let c0_i32_333 : BitVec 32 := 0#32
  let c0_i32_334 : BitVec 32 := 0#32
  ![v522.toNat, 0, 0]
def k0_cond10 (v42 : BitVec 32) : BitVec 1 :=
  let c0_i32_28 : BitVec 32 := 0#32
  let v43 : BitVec 1 := Scalar.cmpi .sgt v42 c0_i32_28
  let v44 : BitVec 32 := Scalar.extui v43
  let c0_i32_29 : BitVec 32 := 0#32
  let v45 : BitVec 1 := Scalar.cmpi .ne v44 c0_i32_29
  v45

def k0_chk9 (i : grid0.Coords) (v42 : BitVec 32) (v522 : BitVec 32) : Prop :=
  (∀ (k0_h1 : k0_cond1 i = 1#1), ∀ (k0_h10 : k0_cond10 v42 = 1#1), ∀ a, (k0_off9 v522) a + S512x8x128.size a ≤ S81920x8x128.size a) ∧
  (∀ (k0_h1 : k0_cond1 i = 1#1), ∀ (k0_h10 : k0_cond10 v42 = 1#1), ∀ (hinb : ∀ a, (k0_off9 v522) a + S512x8x128.size a ≤ S81920x8x128.size a), (Rect.unit (s := S81920x8x128) (k0_off9 v522) S512x8x128.size hinb).WholeWords (EltTy.packing .bf16))
theorem k0_off9_inb : ∀ (i : grid0.Coords) (v42 : BitVec 32) (v522 : BitVec 32) (k0_hw9 : k0_chk9 i v42 v522), ∀ (k0_h1 : k0_cond1 i = 1#1), ∀ (k0_h10 : k0_cond10 v42 = 1#1), ∀ a, (k0_off9 v522) a + S512x8x128.size a ≤ S81920x8x128.size a := fun i v42 v522 k0_hw9 k0_h1 k0_h10 => k0_hw9.1 k0_h1 k0_h10
theorem k0_off9_wordsbf16 : ∀ (i : grid0.Coords) (v42 : BitVec 32) (v522 : BitVec 32) (k0_hw9 : k0_chk9 i v42 v522), ∀ (k0_h1 : k0_cond1 i = 1#1), ∀ (k0_h10 : k0_cond10 v42 = 1#1), (Rect.unit (s := S81920x8x128) (k0_off9 v522) S512x8x128.size (k0_off9_inb i v42 v522 k0_hw9 k0_h1 k0_h10)).WholeWords (EltTy.packing .bf16) := fun i v42 v522 k0_hw9 k0_h1 k0_h10 => k0_hw9.2 k0_h1 k0_h10 (k0_off9_inb i v42 v522 k0_hw9 k0_h1 k0_h10)

def k0_off10 (v522 : BitVec 32) : Fin 3 → Nat :=
  let c0_i32_333 : BitVec 32 := 0#32
  let c0_i32_334 : BitVec 32 := 0#32
  ![v522.toNat, 0, 0]
def k0_cond11 (v46 : BitVec 32) : BitVec 1 :=
  let c0_i32_30 : BitVec 32 := 0#32
  let v47 : BitVec 1 := Scalar.cmpi .sgt v46 c0_i32_30
  let v48 : BitVec 32 := Scalar.extui v47
  let c0_i32_31 : BitVec 32 := 0#32
  let v49 : BitVec 1 := Scalar.cmpi .ne v48 c0_i32_31
  v49

def k0_chk10 (i : grid0.Coords) (v46 : BitVec 32) (v522 : BitVec 32) : Prop :=
  (∀ (k0_h1 : k0_cond1 i = 1#1), ∀ (k0_h11 : k0_cond11 v46 = 1#1), ∀ a, (k0_off10 v522) a + S512x8x128.size a ≤ S81920x8x128.size a) ∧
  (∀ (k0_h1 : k0_cond1 i = 1#1), ∀ (k0_h11 : k0_cond11 v46 = 1#1), ∀ (hinb : ∀ a, (k0_off10 v522) a + S512x8x128.size a ≤ S81920x8x128.size a), (Rect.unit (s := S81920x8x128) (k0_off10 v522) S512x8x128.size hinb).WholeWords (EltTy.packing .bf16))
theorem k0_off10_inb : ∀ (i : grid0.Coords) (v46 : BitVec 32) (v522 : BitVec 32) (k0_hw10 : k0_chk10 i v46 v522), ∀ (k0_h1 : k0_cond1 i = 1#1), ∀ (k0_h11 : k0_cond11 v46 = 1#1), ∀ a, (k0_off10 v522) a + S512x8x128.size a ≤ S81920x8x128.size a := fun i v46 v522 k0_hw10 k0_h1 k0_h11 => k0_hw10.1 k0_h1 k0_h11
theorem k0_off10_wordsbf16 : ∀ (i : grid0.Coords) (v46 : BitVec 32) (v522 : BitVec 32) (k0_hw10 : k0_chk10 i v46 v522), ∀ (k0_h1 : k0_cond1 i = 1#1), ∀ (k0_h11 : k0_cond11 v46 = 1#1), (Rect.unit (s := S81920x8x128) (k0_off10 v522) S512x8x128.size (k0_off10_inb i v46 v522 k0_hw10 k0_h1 k0_h11)).WholeWords (EltTy.packing .bf16) := fun i v46 v522 k0_hw10 k0_h1 k0_h11 => k0_hw10.2 k0_h1 k0_h11 (k0_off10_inb i v46 v522 k0_hw10 k0_h1 k0_h11)

def k0_off11 (v522 : BitVec 32) : Fin 3 → Nat :=
  let c0_i32_333 : BitVec 32 := 0#32
  let c0_i32_334 : BitVec 32 := 0#32
  ![v522.toNat, 0, 0]
def k0_cond12 (v50 : BitVec 32) : BitVec 1 :=
  let c0_i32_32 : BitVec 32 := 0#32
  let v51 : BitVec 1 := Scalar.cmpi .sgt v50 c0_i32_32
  let v52 : BitVec 32 := Scalar.extui v51
  let c0_i32_33 : BitVec 32 := 0#32
  let v53 : BitVec 1 := Scalar.cmpi .ne v52 c0_i32_33
  v53

def k0_chk11 (i : grid0.Coords) (v50 : BitVec 32) (v522 : BitVec 32) : Prop :=
  (∀ (k0_h1 : k0_cond1 i = 1#1), ∀ (k0_h12 : k0_cond12 v50 = 1#1), ∀ a, (k0_off11 v522) a + S512x8x128.size a ≤ S81920x8x128.size a) ∧
  (∀ (k0_h1 : k0_cond1 i = 1#1), ∀ (k0_h12 : k0_cond12 v50 = 1#1), ∀ (hinb : ∀ a, (k0_off11 v522) a + S512x8x128.size a ≤ S81920x8x128.size a), (Rect.unit (s := S81920x8x128) (k0_off11 v522) S512x8x128.size hinb).WholeWords (EltTy.packing .bf16))
theorem k0_off11_inb : ∀ (i : grid0.Coords) (v50 : BitVec 32) (v522 : BitVec 32) (k0_hw11 : k0_chk11 i v50 v522), ∀ (k0_h1 : k0_cond1 i = 1#1), ∀ (k0_h12 : k0_cond12 v50 = 1#1), ∀ a, (k0_off11 v522) a + S512x8x128.size a ≤ S81920x8x128.size a := fun i v50 v522 k0_hw11 k0_h1 k0_h12 => k0_hw11.1 k0_h1 k0_h12
theorem k0_off11_wordsbf16 : ∀ (i : grid0.Coords) (v50 : BitVec 32) (v522 : BitVec 32) (k0_hw11 : k0_chk11 i v50 v522), ∀ (k0_h1 : k0_cond1 i = 1#1), ∀ (k0_h12 : k0_cond12 v50 = 1#1), (Rect.unit (s := S81920x8x128) (k0_off11 v522) S512x8x128.size (k0_off11_inb i v50 v522 k0_hw11 k0_h1 k0_h12)).WholeWords (EltTy.packing .bf16) := fun i v50 v522 k0_hw11 k0_h1 k0_h12 => k0_hw11.2 k0_h1 k0_h12 (k0_off11_inb i v50 v522 k0_hw11 k0_h1 k0_h12)

def k0_off12 (v522 : BitVec 32) : Fin 3 → Nat :=
  let c0_i32_333 : BitVec 32 := 0#32
  let c0_i32_334 : BitVec 32 := 0#32
  ![v522.toNat, 0, 0]
def k0_cond13 (v54 : BitVec 32) : BitVec 1 :=
  let c0_i32_34 : BitVec 32 := 0#32
  let v55 : BitVec 1 := Scalar.cmpi .sgt v54 c0_i32_34
  let v56 : BitVec 32 := Scalar.extui v55
  let c0_i32_35 : BitVec 32 := 0#32
  let v57 : BitVec 1 := Scalar.cmpi .ne v56 c0_i32_35
  v57

def k0_chk12 (i : grid0.Coords) (v54 : BitVec 32) (v522 : BitVec 32) : Prop :=
  (∀ (k0_h1 : k0_cond1 i = 1#1), ∀ (k0_h13 : k0_cond13 v54 = 1#1), ∀ a, (k0_off12 v522) a + S512x8x128.size a ≤ S81920x8x128.size a) ∧
  (∀ (k0_h1 : k0_cond1 i = 1#1), ∀ (k0_h13 : k0_cond13 v54 = 1#1), ∀ (hinb : ∀ a, (k0_off12 v522) a + S512x8x128.size a ≤ S81920x8x128.size a), (Rect.unit (s := S81920x8x128) (k0_off12 v522) S512x8x128.size hinb).WholeWords (EltTy.packing .bf16))
theorem k0_off12_inb : ∀ (i : grid0.Coords) (v54 : BitVec 32) (v522 : BitVec 32) (k0_hw12 : k0_chk12 i v54 v522), ∀ (k0_h1 : k0_cond1 i = 1#1), ∀ (k0_h13 : k0_cond13 v54 = 1#1), ∀ a, (k0_off12 v522) a + S512x8x128.size a ≤ S81920x8x128.size a := fun i v54 v522 k0_hw12 k0_h1 k0_h13 => k0_hw12.1 k0_h1 k0_h13
theorem k0_off12_wordsbf16 : ∀ (i : grid0.Coords) (v54 : BitVec 32) (v522 : BitVec 32) (k0_hw12 : k0_chk12 i v54 v522), ∀ (k0_h1 : k0_cond1 i = 1#1), ∀ (k0_h13 : k0_cond13 v54 = 1#1), (Rect.unit (s := S81920x8x128) (k0_off12 v522) S512x8x128.size (k0_off12_inb i v54 v522 k0_hw12 k0_h1 k0_h13)).WholeWords (EltTy.packing .bf16) := fun i v54 v522 k0_hw12 k0_h1 k0_h13 => k0_hw12.2 k0_h1 k0_h13 (k0_off12_inb i v54 v522 k0_hw12 k0_h1 k0_h13)

def k0_off13 (v522 : BitVec 32) : Fin 3 → Nat :=
  let c0_i32_333 : BitVec 32 := 0#32
  let c0_i32_334 : BitVec 32 := 0#32
  ![v522.toNat, 0, 0]
def k0_cond14 (v58 : BitVec 32) : BitVec 1 :=
  let c0_i32_36 : BitVec 32 := 0#32
  let v59 : BitVec 1 := Scalar.cmpi .sgt v58 c0_i32_36
  let v60 : BitVec 32 := Scalar.extui v59
  let c0_i32_37 : BitVec 32 := 0#32
  let v61 : BitVec 1 := Scalar.cmpi .ne v60 c0_i32_37
  v61

def k0_chk13 (i : grid0.Coords) (v58 : BitVec 32) (v522 : BitVec 32) : Prop :=
  (∀ (k0_h1 : k0_cond1 i = 1#1), ∀ (k0_h14 : k0_cond14 v58 = 1#1), ∀ a, (k0_off13 v522) a + S512x8x128.size a ≤ S81920x8x128.size a) ∧
  (∀ (k0_h1 : k0_cond1 i = 1#1), ∀ (k0_h14 : k0_cond14 v58 = 1#1), ∀ (hinb : ∀ a, (k0_off13 v522) a + S512x8x128.size a ≤ S81920x8x128.size a), (Rect.unit (s := S81920x8x128) (k0_off13 v522) S512x8x128.size hinb).WholeWords (EltTy.packing .bf16))
theorem k0_off13_inb : ∀ (i : grid0.Coords) (v58 : BitVec 32) (v522 : BitVec 32) (k0_hw13 : k0_chk13 i v58 v522), ∀ (k0_h1 : k0_cond1 i = 1#1), ∀ (k0_h14 : k0_cond14 v58 = 1#1), ∀ a, (k0_off13 v522) a + S512x8x128.size a ≤ S81920x8x128.size a := fun i v58 v522 k0_hw13 k0_h1 k0_h14 => k0_hw13.1 k0_h1 k0_h14
theorem k0_off13_wordsbf16 : ∀ (i : grid0.Coords) (v58 : BitVec 32) (v522 : BitVec 32) (k0_hw13 : k0_chk13 i v58 v522), ∀ (k0_h1 : k0_cond1 i = 1#1), ∀ (k0_h14 : k0_cond14 v58 = 1#1), (Rect.unit (s := S81920x8x128) (k0_off13 v522) S512x8x128.size (k0_off13_inb i v58 v522 k0_hw13 k0_h1 k0_h14)).WholeWords (EltTy.packing .bf16) := fun i v58 v522 k0_hw13 k0_h1 k0_h14 => k0_hw13.2 k0_h1 k0_h14 (k0_off13_inb i v58 v522 k0_hw13 k0_h1 k0_h14)

def k0_off14 (v522 : BitVec 32) : Fin 3 → Nat :=
  let c0_i32_333 : BitVec 32 := 0#32
  let c0_i32_334 : BitVec 32 := 0#32
  ![v522.toNat, 0, 0]
def k0_cond15 (v62 : BitVec 32) : BitVec 1 :=
  let c0_i32_38 : BitVec 32 := 0#32
  let v63 : BitVec 1 := Scalar.cmpi .sgt v62 c0_i32_38
  let v64 : BitVec 32 := Scalar.extui v63
  let c0_i32_39 : BitVec 32 := 0#32
  let v65 : BitVec 1 := Scalar.cmpi .ne v64 c0_i32_39
  v65

def k0_chk14 (i : grid0.Coords) (v62 : BitVec 32) (v522 : BitVec 32) : Prop :=
  (∀ (k0_h1 : k0_cond1 i = 1#1), ∀ (k0_h15 : k0_cond15 v62 = 1#1), ∀ a, (k0_off14 v522) a + S512x8x128.size a ≤ S81920x8x128.size a) ∧
  (∀ (k0_h1 : k0_cond1 i = 1#1), ∀ (k0_h15 : k0_cond15 v62 = 1#1), ∀ (hinb : ∀ a, (k0_off14 v522) a + S512x8x128.size a ≤ S81920x8x128.size a), (Rect.unit (s := S81920x8x128) (k0_off14 v522) S512x8x128.size hinb).WholeWords (EltTy.packing .bf16))
theorem k0_off14_inb : ∀ (i : grid0.Coords) (v62 : BitVec 32) (v522 : BitVec 32) (k0_hw14 : k0_chk14 i v62 v522), ∀ (k0_h1 : k0_cond1 i = 1#1), ∀ (k0_h15 : k0_cond15 v62 = 1#1), ∀ a, (k0_off14 v522) a + S512x8x128.size a ≤ S81920x8x128.size a := fun i v62 v522 k0_hw14 k0_h1 k0_h15 => k0_hw14.1 k0_h1 k0_h15
theorem k0_off14_wordsbf16 : ∀ (i : grid0.Coords) (v62 : BitVec 32) (v522 : BitVec 32) (k0_hw14 : k0_chk14 i v62 v522), ∀ (k0_h1 : k0_cond1 i = 1#1), ∀ (k0_h15 : k0_cond15 v62 = 1#1), (Rect.unit (s := S81920x8x128) (k0_off14 v522) S512x8x128.size (k0_off14_inb i v62 v522 k0_hw14 k0_h1 k0_h15)).WholeWords (EltTy.packing .bf16) := fun i v62 v522 k0_hw14 k0_h1 k0_h15 => k0_hw14.2 k0_h1 k0_h15 (k0_off14_inb i v62 v522 k0_hw14 k0_h1 k0_h15)

def k0_off15 (v522 : BitVec 32) : Fin 3 → Nat :=
  let c0_i32_333 : BitVec 32 := 0#32
  let c0_i32_334 : BitVec 32 := 0#32
  ![v522.toNat, 0, 0]
def k0_cond16 (v66 : BitVec 32) : BitVec 1 :=
  let c0_i32_40 : BitVec 32 := 0#32
  let v67 : BitVec 1 := Scalar.cmpi .sgt v66 c0_i32_40
  let v68 : BitVec 32 := Scalar.extui v67
  let c0_i32_41 : BitVec 32 := 0#32
  let v69 : BitVec 1 := Scalar.cmpi .ne v68 c0_i32_41
  v69

def k0_chk15 (i : grid0.Coords) (v66 : BitVec 32) (v522 : BitVec 32) : Prop :=
  (∀ (k0_h1 : k0_cond1 i = 1#1), ∀ (k0_h16 : k0_cond16 v66 = 1#1), ∀ a, (k0_off15 v522) a + S512x8x128.size a ≤ S81920x8x128.size a) ∧
  (∀ (k0_h1 : k0_cond1 i = 1#1), ∀ (k0_h16 : k0_cond16 v66 = 1#1), ∀ (hinb : ∀ a, (k0_off15 v522) a + S512x8x128.size a ≤ S81920x8x128.size a), (Rect.unit (s := S81920x8x128) (k0_off15 v522) S512x8x128.size hinb).WholeWords (EltTy.packing .bf16))
theorem k0_off15_inb : ∀ (i : grid0.Coords) (v66 : BitVec 32) (v522 : BitVec 32) (k0_hw15 : k0_chk15 i v66 v522), ∀ (k0_h1 : k0_cond1 i = 1#1), ∀ (k0_h16 : k0_cond16 v66 = 1#1), ∀ a, (k0_off15 v522) a + S512x8x128.size a ≤ S81920x8x128.size a := fun i v66 v522 k0_hw15 k0_h1 k0_h16 => k0_hw15.1 k0_h1 k0_h16
theorem k0_off15_wordsbf16 : ∀ (i : grid0.Coords) (v66 : BitVec 32) (v522 : BitVec 32) (k0_hw15 : k0_chk15 i v66 v522), ∀ (k0_h1 : k0_cond1 i = 1#1), ∀ (k0_h16 : k0_cond16 v66 = 1#1), (Rect.unit (s := S81920x8x128) (k0_off15 v522) S512x8x128.size (k0_off15_inb i v66 v522 k0_hw15 k0_h1 k0_h16)).WholeWords (EltTy.packing .bf16) := fun i v66 v522 k0_hw15 k0_h1 k0_h16 => k0_hw15.2 k0_h1 k0_h16 (k0_off15_inb i v66 v522 k0_hw15 k0_h1 k0_h16)

def k0_off16 (v522 : BitVec 32) : Fin 3 → Nat :=
  let c0_i32_333 : BitVec 32 := 0#32
  let c0_i32_334 : BitVec 32 := 0#32
  ![v522.toNat, 0, 0]
def k0_cond17 (v70 : BitVec 32) : BitVec 1 :=
  let c0_i32_42 : BitVec 32 := 0#32
  let v71 : BitVec 1 := Scalar.cmpi .sgt v70 c0_i32_42
  let v72 : BitVec 32 := Scalar.extui v71
  let c0_i32_43 : BitVec 32 := 0#32
  let v73 : BitVec 1 := Scalar.cmpi .ne v72 c0_i32_43
  v73

def k0_chk16 (i : grid0.Coords) (v70 : BitVec 32) (v522 : BitVec 32) : Prop :=
  (∀ (k0_h1 : k0_cond1 i = 1#1), ∀ (k0_h17 : k0_cond17 v70 = 1#1), ∀ a, (k0_off16 v522) a + S512x8x128.size a ≤ S81920x8x128.size a) ∧
  (∀ (k0_h1 : k0_cond1 i = 1#1), ∀ (k0_h17 : k0_cond17 v70 = 1#1), ∀ (hinb : ∀ a, (k0_off16 v522) a + S512x8x128.size a ≤ S81920x8x128.size a), (Rect.unit (s := S81920x8x128) (k0_off16 v522) S512x8x128.size hinb).WholeWords (EltTy.packing .bf16))
theorem k0_off16_inb : ∀ (i : grid0.Coords) (v70 : BitVec 32) (v522 : BitVec 32) (k0_hw16 : k0_chk16 i v70 v522), ∀ (k0_h1 : k0_cond1 i = 1#1), ∀ (k0_h17 : k0_cond17 v70 = 1#1), ∀ a, (k0_off16 v522) a + S512x8x128.size a ≤ S81920x8x128.size a := fun i v70 v522 k0_hw16 k0_h1 k0_h17 => k0_hw16.1 k0_h1 k0_h17
theorem k0_off16_wordsbf16 : ∀ (i : grid0.Coords) (v70 : BitVec 32) (v522 : BitVec 32) (k0_hw16 : k0_chk16 i v70 v522), ∀ (k0_h1 : k0_cond1 i = 1#1), ∀ (k0_h17 : k0_cond17 v70 = 1#1), (Rect.unit (s := S81920x8x128) (k0_off16 v522) S512x8x128.size (k0_off16_inb i v70 v522 k0_hw16 k0_h1 k0_h17)).WholeWords (EltTy.packing .bf16) := fun i v70 v522 k0_hw16 k0_h1 k0_h17 => k0_hw16.2 k0_h1 k0_h17 (k0_off16_inb i v70 v522 k0_hw16 k0_h1 k0_h17)

def k0_off17 (v522 : BitVec 32) : Fin 3 → Nat :=
  let c0_i32_333 : BitVec 32 := 0#32
  let c0_i32_334 : BitVec 32 := 0#32
  ![v522.toNat, 0, 0]
def k0_cond18 (v74 : BitVec 32) : BitVec 1 :=
  let c0_i32_44 : BitVec 32 := 0#32
  let v75 : BitVec 1 := Scalar.cmpi .sgt v74 c0_i32_44
  let v76 : BitVec 32 := Scalar.extui v75
  let c0_i32_45 : BitVec 32 := 0#32
  let v77 : BitVec 1 := Scalar.cmpi .ne v76 c0_i32_45
  v77

def k0_chk17 (i : grid0.Coords) (v74 : BitVec 32) (v522 : BitVec 32) : Prop :=
  (∀ (k0_h1 : k0_cond1 i = 1#1), ∀ (k0_h18 : k0_cond18 v74 = 1#1), ∀ a, (k0_off17 v522) a + S512x8x128.size a ≤ S81920x8x128.size a) ∧
  (∀ (k0_h1 : k0_cond1 i = 1#1), ∀ (k0_h18 : k0_cond18 v74 = 1#1), ∀ (hinb : ∀ a, (k0_off17 v522) a + S512x8x128.size a ≤ S81920x8x128.size a), (Rect.unit (s := S81920x8x128) (k0_off17 v522) S512x8x128.size hinb).WholeWords (EltTy.packing .bf16))
theorem k0_off17_inb : ∀ (i : grid0.Coords) (v74 : BitVec 32) (v522 : BitVec 32) (k0_hw17 : k0_chk17 i v74 v522), ∀ (k0_h1 : k0_cond1 i = 1#1), ∀ (k0_h18 : k0_cond18 v74 = 1#1), ∀ a, (k0_off17 v522) a + S512x8x128.size a ≤ S81920x8x128.size a := fun i v74 v522 k0_hw17 k0_h1 k0_h18 => k0_hw17.1 k0_h1 k0_h18
theorem k0_off17_wordsbf16 : ∀ (i : grid0.Coords) (v74 : BitVec 32) (v522 : BitVec 32) (k0_hw17 : k0_chk17 i v74 v522), ∀ (k0_h1 : k0_cond1 i = 1#1), ∀ (k0_h18 : k0_cond18 v74 = 1#1), (Rect.unit (s := S81920x8x128) (k0_off17 v522) S512x8x128.size (k0_off17_inb i v74 v522 k0_hw17 k0_h1 k0_h18)).WholeWords (EltTy.packing .bf16) := fun i v74 v522 k0_hw17 k0_h1 k0_h18 => k0_hw17.2 k0_h1 k0_h18 (k0_off17_inb i v74 v522 k0_hw17 k0_h1 k0_h18)

def k0_off18 (v522 : BitVec 32) : Fin 3 → Nat :=
  let c0_i32_333 : BitVec 32 := 0#32
  let c0_i32_334 : BitVec 32 := 0#32
  ![v522.toNat, 0, 0]
def k0_cond19 (v78 : BitVec 32) : BitVec 1 :=
  let c0_i32_46 : BitVec 32 := 0#32
  let v79 : BitVec 1 := Scalar.cmpi .sgt v78 c0_i32_46
  let v80 : BitVec 32 := Scalar.extui v79
  let c0_i32_47 : BitVec 32 := 0#32
  let v81 : BitVec 1 := Scalar.cmpi .ne v80 c0_i32_47
  v81

def k0_chk18 (i : grid0.Coords) (v78 : BitVec 32) (v522 : BitVec 32) : Prop :=
  (∀ (k0_h1 : k0_cond1 i = 1#1), ∀ (k0_h19 : k0_cond19 v78 = 1#1), ∀ a, (k0_off18 v522) a + S512x8x128.size a ≤ S81920x8x128.size a) ∧
  (∀ (k0_h1 : k0_cond1 i = 1#1), ∀ (k0_h19 : k0_cond19 v78 = 1#1), ∀ (hinb : ∀ a, (k0_off18 v522) a + S512x8x128.size a ≤ S81920x8x128.size a), (Rect.unit (s := S81920x8x128) (k0_off18 v522) S512x8x128.size hinb).WholeWords (EltTy.packing .bf16))
theorem k0_off18_inb : ∀ (i : grid0.Coords) (v78 : BitVec 32) (v522 : BitVec 32) (k0_hw18 : k0_chk18 i v78 v522), ∀ (k0_h1 : k0_cond1 i = 1#1), ∀ (k0_h19 : k0_cond19 v78 = 1#1), ∀ a, (k0_off18 v522) a + S512x8x128.size a ≤ S81920x8x128.size a := fun i v78 v522 k0_hw18 k0_h1 k0_h19 => k0_hw18.1 k0_h1 k0_h19
theorem k0_off18_wordsbf16 : ∀ (i : grid0.Coords) (v78 : BitVec 32) (v522 : BitVec 32) (k0_hw18 : k0_chk18 i v78 v522), ∀ (k0_h1 : k0_cond1 i = 1#1), ∀ (k0_h19 : k0_cond19 v78 = 1#1), (Rect.unit (s := S81920x8x128) (k0_off18 v522) S512x8x128.size (k0_off18_inb i v78 v522 k0_hw18 k0_h1 k0_h19)).WholeWords (EltTy.packing .bf16) := fun i v78 v522 k0_hw18 k0_h1 k0_h19 => k0_hw18.2 k0_h1 k0_h19 (k0_off18_inb i v78 v522 k0_hw18 k0_h1 k0_h19)

def k0_off19 (v522 : BitVec 32) : Fin 3 → Nat :=
  let c0_i32_333 : BitVec 32 := 0#32
  let c0_i32_334 : BitVec 32 := 0#32
  ![v522.toNat, 0, 0]
def k0_cond20 (v82 : BitVec 32) : BitVec 1 :=
  let c0_i32_48 : BitVec 32 := 0#32
  let v83 : BitVec 1 := Scalar.cmpi .sgt v82 c0_i32_48
  let v84 : BitVec 32 := Scalar.extui v83
  let c0_i32_49 : BitVec 32 := 0#32
  let v85 : BitVec 1 := Scalar.cmpi .ne v84 c0_i32_49
  v85

def k0_chk19 (i : grid0.Coords) (v82 : BitVec 32) (v522 : BitVec 32) : Prop :=
  (∀ (k0_h1 : k0_cond1 i = 1#1), ∀ (k0_h20 : k0_cond20 v82 = 1#1), ∀ a, (k0_off19 v522) a + S512x8x128.size a ≤ S81920x8x128.size a) ∧
  (∀ (k0_h1 : k0_cond1 i = 1#1), ∀ (k0_h20 : k0_cond20 v82 = 1#1), ∀ (hinb : ∀ a, (k0_off19 v522) a + S512x8x128.size a ≤ S81920x8x128.size a), (Rect.unit (s := S81920x8x128) (k0_off19 v522) S512x8x128.size hinb).WholeWords (EltTy.packing .bf16))
theorem k0_off19_inb : ∀ (i : grid0.Coords) (v82 : BitVec 32) (v522 : BitVec 32) (k0_hw19 : k0_chk19 i v82 v522), ∀ (k0_h1 : k0_cond1 i = 1#1), ∀ (k0_h20 : k0_cond20 v82 = 1#1), ∀ a, (k0_off19 v522) a + S512x8x128.size a ≤ S81920x8x128.size a := fun i v82 v522 k0_hw19 k0_h1 k0_h20 => k0_hw19.1 k0_h1 k0_h20
theorem k0_off19_wordsbf16 : ∀ (i : grid0.Coords) (v82 : BitVec 32) (v522 : BitVec 32) (k0_hw19 : k0_chk19 i v82 v522), ∀ (k0_h1 : k0_cond1 i = 1#1), ∀ (k0_h20 : k0_cond20 v82 = 1#1), (Rect.unit (s := S81920x8x128) (k0_off19 v522) S512x8x128.size (k0_off19_inb i v82 v522 k0_hw19 k0_h1 k0_h20)).WholeWords (EltTy.packing .bf16) := fun i v82 v522 k0_hw19 k0_h1 k0_h20 => k0_hw19.2 k0_h1 k0_h20 (k0_off19_inb i v82 v522 k0_hw19 k0_h1 k0_h20)

def k0_off20 (v522 : BitVec 32) : Fin 3 → Nat :=
  let c0_i32_333 : BitVec 32 := 0#32
  let c0_i32_334 : BitVec 32 := 0#32
  ![v522.toNat, 0, 0]
def k0_cond21 (v86 : BitVec 32) : BitVec 1 :=
  let c0_i32_50 : BitVec 32 := 0#32
  let v87 : BitVec 1 := Scalar.cmpi .sgt v86 c0_i32_50
  let v88 : BitVec 32 := Scalar.extui v87
  let c0_i32_51 : BitVec 32 := 0#32
  let v89 : BitVec 1 := Scalar.cmpi .ne v88 c0_i32_51
  v89

def k0_chk20 (i : grid0.Coords) (v86 : BitVec 32) (v522 : BitVec 32) : Prop :=
  (∀ (k0_h1 : k0_cond1 i = 1#1), ∀ (k0_h21 : k0_cond21 v86 = 1#1), ∀ a, (k0_off20 v522) a + S512x8x128.size a ≤ S81920x8x128.size a) ∧
  (∀ (k0_h1 : k0_cond1 i = 1#1), ∀ (k0_h21 : k0_cond21 v86 = 1#1), ∀ (hinb : ∀ a, (k0_off20 v522) a + S512x8x128.size a ≤ S81920x8x128.size a), (Rect.unit (s := S81920x8x128) (k0_off20 v522) S512x8x128.size hinb).WholeWords (EltTy.packing .bf16))
theorem k0_off20_inb : ∀ (i : grid0.Coords) (v86 : BitVec 32) (v522 : BitVec 32) (k0_hw20 : k0_chk20 i v86 v522), ∀ (k0_h1 : k0_cond1 i = 1#1), ∀ (k0_h21 : k0_cond21 v86 = 1#1), ∀ a, (k0_off20 v522) a + S512x8x128.size a ≤ S81920x8x128.size a := fun i v86 v522 k0_hw20 k0_h1 k0_h21 => k0_hw20.1 k0_h1 k0_h21
theorem k0_off20_wordsbf16 : ∀ (i : grid0.Coords) (v86 : BitVec 32) (v522 : BitVec 32) (k0_hw20 : k0_chk20 i v86 v522), ∀ (k0_h1 : k0_cond1 i = 1#1), ∀ (k0_h21 : k0_cond21 v86 = 1#1), (Rect.unit (s := S81920x8x128) (k0_off20 v522) S512x8x128.size (k0_off20_inb i v86 v522 k0_hw20 k0_h1 k0_h21)).WholeWords (EltTy.packing .bf16) := fun i v86 v522 k0_hw20 k0_h1 k0_h21 => k0_hw20.2 k0_h1 k0_h21 (k0_off20_inb i v86 v522 k0_hw20 k0_h1 k0_h21)

def k0_off21 (v522 : BitVec 32) : Fin 3 → Nat :=
  let c0_i32_333 : BitVec 32 := 0#32
  let c0_i32_334 : BitVec 32 := 0#32
  ![v522.toNat, 0, 0]
def k0_cond22 (v90 : BitVec 32) : BitVec 1 :=
  let c0_i32_52 : BitVec 32 := 0#32
  let v91 : BitVec 1 := Scalar.cmpi .sgt v90 c0_i32_52
  let v92 : BitVec 32 := Scalar.extui v91
  let c0_i32_53 : BitVec 32 := 0#32
  let v93 : BitVec 1 := Scalar.cmpi .ne v92 c0_i32_53
  v93

def k0_chk21 (i : grid0.Coords) (v90 : BitVec 32) (v522 : BitVec 32) : Prop :=
  (∀ (k0_h1 : k0_cond1 i = 1#1), ∀ (k0_h22 : k0_cond22 v90 = 1#1), ∀ a, (k0_off21 v522) a + S512x8x128.size a ≤ S81920x8x128.size a) ∧
  (∀ (k0_h1 : k0_cond1 i = 1#1), ∀ (k0_h22 : k0_cond22 v90 = 1#1), ∀ (hinb : ∀ a, (k0_off21 v522) a + S512x8x128.size a ≤ S81920x8x128.size a), (Rect.unit (s := S81920x8x128) (k0_off21 v522) S512x8x128.size hinb).WholeWords (EltTy.packing .bf16))
theorem k0_off21_inb : ∀ (i : grid0.Coords) (v90 : BitVec 32) (v522 : BitVec 32) (k0_hw21 : k0_chk21 i v90 v522), ∀ (k0_h1 : k0_cond1 i = 1#1), ∀ (k0_h22 : k0_cond22 v90 = 1#1), ∀ a, (k0_off21 v522) a + S512x8x128.size a ≤ S81920x8x128.size a := fun i v90 v522 k0_hw21 k0_h1 k0_h22 => k0_hw21.1 k0_h1 k0_h22
theorem k0_off21_wordsbf16 : ∀ (i : grid0.Coords) (v90 : BitVec 32) (v522 : BitVec 32) (k0_hw21 : k0_chk21 i v90 v522), ∀ (k0_h1 : k0_cond1 i = 1#1), ∀ (k0_h22 : k0_cond22 v90 = 1#1), (Rect.unit (s := S81920x8x128) (k0_off21 v522) S512x8x128.size (k0_off21_inb i v90 v522 k0_hw21 k0_h1 k0_h22)).WholeWords (EltTy.packing .bf16) := fun i v90 v522 k0_hw21 k0_h1 k0_h22 => k0_hw21.2 k0_h1 k0_h22 (k0_off21_inb i v90 v522 k0_hw21 k0_h1 k0_h22)

def k0_off22 (v522 : BitVec 32) : Fin 3 → Nat :=
  let c0_i32_333 : BitVec 32 := 0#32
  let c0_i32_334 : BitVec 32 := 0#32
  ![v522.toNat, 0, 0]
def k0_cond23 (v94 : BitVec 32) : BitVec 1 :=
  let c0_i32_54 : BitVec 32 := 0#32
  let v95 : BitVec 1 := Scalar.cmpi .sgt v94 c0_i32_54
  let v96 : BitVec 32 := Scalar.extui v95
  let c0_i32_55 : BitVec 32 := 0#32
  let v97 : BitVec 1 := Scalar.cmpi .ne v96 c0_i32_55
  v97

def k0_chk22 (i : grid0.Coords) (v94 : BitVec 32) (v522 : BitVec 32) : Prop :=
  (∀ (k0_h1 : k0_cond1 i = 1#1), ∀ (k0_h23 : k0_cond23 v94 = 1#1), ∀ a, (k0_off22 v522) a + S512x8x128.size a ≤ S81920x8x128.size a) ∧
  (∀ (k0_h1 : k0_cond1 i = 1#1), ∀ (k0_h23 : k0_cond23 v94 = 1#1), ∀ (hinb : ∀ a, (k0_off22 v522) a + S512x8x128.size a ≤ S81920x8x128.size a), (Rect.unit (s := S81920x8x128) (k0_off22 v522) S512x8x128.size hinb).WholeWords (EltTy.packing .bf16))
theorem k0_off22_inb : ∀ (i : grid0.Coords) (v94 : BitVec 32) (v522 : BitVec 32) (k0_hw22 : k0_chk22 i v94 v522), ∀ (k0_h1 : k0_cond1 i = 1#1), ∀ (k0_h23 : k0_cond23 v94 = 1#1), ∀ a, (k0_off22 v522) a + S512x8x128.size a ≤ S81920x8x128.size a := fun i v94 v522 k0_hw22 k0_h1 k0_h23 => k0_hw22.1 k0_h1 k0_h23
theorem k0_off22_wordsbf16 : ∀ (i : grid0.Coords) (v94 : BitVec 32) (v522 : BitVec 32) (k0_hw22 : k0_chk22 i v94 v522), ∀ (k0_h1 : k0_cond1 i = 1#1), ∀ (k0_h23 : k0_cond23 v94 = 1#1), (Rect.unit (s := S81920x8x128) (k0_off22 v522) S512x8x128.size (k0_off22_inb i v94 v522 k0_hw22 k0_h1 k0_h23)).WholeWords (EltTy.packing .bf16) := fun i v94 v522 k0_hw22 k0_h1 k0_h23 => k0_hw22.2 k0_h1 k0_h23 (k0_off22_inb i v94 v522 k0_hw22 k0_h1 k0_h23)

def k0_off23 (v522 : BitVec 32) : Fin 3 → Nat :=
  let c0_i32_333 : BitVec 32 := 0#32
  let c0_i32_334 : BitVec 32 := 0#32
  ![v522.toNat, 0, 0]
def k0_cond24 (v98 : BitVec 32) : BitVec 1 :=
  let c0_i32_56 : BitVec 32 := 0#32
  let v99 : BitVec 1 := Scalar.cmpi .sgt v98 c0_i32_56
  let v100 : BitVec 32 := Scalar.extui v99
  let c0_i32_57 : BitVec 32 := 0#32
  let v101 : BitVec 1 := Scalar.cmpi .ne v100 c0_i32_57
  v101

def k0_chk23 (i : grid0.Coords) (v98 : BitVec 32) (v522 : BitVec 32) : Prop :=
  (∀ (k0_h1 : k0_cond1 i = 1#1), ∀ (k0_h24 : k0_cond24 v98 = 1#1), ∀ a, (k0_off23 v522) a + S512x8x128.size a ≤ S81920x8x128.size a) ∧
  (∀ (k0_h1 : k0_cond1 i = 1#1), ∀ (k0_h24 : k0_cond24 v98 = 1#1), ∀ (hinb : ∀ a, (k0_off23 v522) a + S512x8x128.size a ≤ S81920x8x128.size a), (Rect.unit (s := S81920x8x128) (k0_off23 v522) S512x8x128.size hinb).WholeWords (EltTy.packing .bf16))
theorem k0_off23_inb : ∀ (i : grid0.Coords) (v98 : BitVec 32) (v522 : BitVec 32) (k0_hw23 : k0_chk23 i v98 v522), ∀ (k0_h1 : k0_cond1 i = 1#1), ∀ (k0_h24 : k0_cond24 v98 = 1#1), ∀ a, (k0_off23 v522) a + S512x8x128.size a ≤ S81920x8x128.size a := fun i v98 v522 k0_hw23 k0_h1 k0_h24 => k0_hw23.1 k0_h1 k0_h24
theorem k0_off23_wordsbf16 : ∀ (i : grid0.Coords) (v98 : BitVec 32) (v522 : BitVec 32) (k0_hw23 : k0_chk23 i v98 v522), ∀ (k0_h1 : k0_cond1 i = 1#1), ∀ (k0_h24 : k0_cond24 v98 = 1#1), (Rect.unit (s := S81920x8x128) (k0_off23 v522) S512x8x128.size (k0_off23_inb i v98 v522 k0_hw23 k0_h1 k0_h24)).WholeWords (EltTy.packing .bf16) := fun i v98 v522 k0_hw23 k0_h1 k0_h24 => k0_hw23.2 k0_h1 k0_h24 (k0_off23_inb i v98 v522 k0_hw23 k0_h1 k0_h24)

def k0_off24 (v522 : BitVec 32) : Fin 3 → Nat :=
  let c0_i32_333 : BitVec 32 := 0#32
  let c0_i32_334 : BitVec 32 := 0#32
  ![v522.toNat, 0, 0]
def k0_cond25 (v102 : BitVec 32) : BitVec 1 :=
  let c0_i32_58 : BitVec 32 := 0#32
  let v103 : BitVec 1 := Scalar.cmpi .sgt v102 c0_i32_58
  let v104 : BitVec 32 := Scalar.extui v103
  let c0_i32_59 : BitVec 32 := 0#32
  let v105 : BitVec 1 := Scalar.cmpi .ne v104 c0_i32_59
  v105

def k0_chk24 (i : grid0.Coords) (v102 : BitVec 32) (v522 : BitVec 32) : Prop :=
  (∀ (k0_h1 : k0_cond1 i = 1#1), ∀ (k0_h25 : k0_cond25 v102 = 1#1), ∀ a, (k0_off24 v522) a + S512x8x128.size a ≤ S81920x8x128.size a) ∧
  (∀ (k0_h1 : k0_cond1 i = 1#1), ∀ (k0_h25 : k0_cond25 v102 = 1#1), ∀ (hinb : ∀ a, (k0_off24 v522) a + S512x8x128.size a ≤ S81920x8x128.size a), (Rect.unit (s := S81920x8x128) (k0_off24 v522) S512x8x128.size hinb).WholeWords (EltTy.packing .bf16))
theorem k0_off24_inb : ∀ (i : grid0.Coords) (v102 : BitVec 32) (v522 : BitVec 32) (k0_hw24 : k0_chk24 i v102 v522), ∀ (k0_h1 : k0_cond1 i = 1#1), ∀ (k0_h25 : k0_cond25 v102 = 1#1), ∀ a, (k0_off24 v522) a + S512x8x128.size a ≤ S81920x8x128.size a := fun i v102 v522 k0_hw24 k0_h1 k0_h25 => k0_hw24.1 k0_h1 k0_h25
theorem k0_off24_wordsbf16 : ∀ (i : grid0.Coords) (v102 : BitVec 32) (v522 : BitVec 32) (k0_hw24 : k0_chk24 i v102 v522), ∀ (k0_h1 : k0_cond1 i = 1#1), ∀ (k0_h25 : k0_cond25 v102 = 1#1), (Rect.unit (s := S81920x8x128) (k0_off24 v522) S512x8x128.size (k0_off24_inb i v102 v522 k0_hw24 k0_h1 k0_h25)).WholeWords (EltTy.packing .bf16) := fun i v102 v522 k0_hw24 k0_h1 k0_h25 => k0_hw24.2 k0_h1 k0_h25 (k0_off24_inb i v102 v522 k0_hw24 k0_h1 k0_h25)

def k0_off25 (v522 : BitVec 32) : Fin 3 → Nat :=
  let c0_i32_333 : BitVec 32 := 0#32
  let c0_i32_334 : BitVec 32 := 0#32
  ![v522.toNat, 0, 0]
def k0_cond26 (v106 : BitVec 32) : BitVec 1 :=
  let c0_i32_60 : BitVec 32 := 0#32
  let v107 : BitVec 1 := Scalar.cmpi .sgt v106 c0_i32_60
  let v108 : BitVec 32 := Scalar.extui v107
  let c0_i32_61 : BitVec 32 := 0#32
  let v109 : BitVec 1 := Scalar.cmpi .ne v108 c0_i32_61
  v109

def k0_chk25 (i : grid0.Coords) (v106 : BitVec 32) (v522 : BitVec 32) : Prop :=
  (∀ (k0_h1 : k0_cond1 i = 1#1), ∀ (k0_h26 : k0_cond26 v106 = 1#1), ∀ a, (k0_off25 v522) a + S512x8x128.size a ≤ S81920x8x128.size a) ∧
  (∀ (k0_h1 : k0_cond1 i = 1#1), ∀ (k0_h26 : k0_cond26 v106 = 1#1), ∀ (hinb : ∀ a, (k0_off25 v522) a + S512x8x128.size a ≤ S81920x8x128.size a), (Rect.unit (s := S81920x8x128) (k0_off25 v522) S512x8x128.size hinb).WholeWords (EltTy.packing .bf16))
theorem k0_off25_inb : ∀ (i : grid0.Coords) (v106 : BitVec 32) (v522 : BitVec 32) (k0_hw25 : k0_chk25 i v106 v522), ∀ (k0_h1 : k0_cond1 i = 1#1), ∀ (k0_h26 : k0_cond26 v106 = 1#1), ∀ a, (k0_off25 v522) a + S512x8x128.size a ≤ S81920x8x128.size a := fun i v106 v522 k0_hw25 k0_h1 k0_h26 => k0_hw25.1 k0_h1 k0_h26
theorem k0_off25_wordsbf16 : ∀ (i : grid0.Coords) (v106 : BitVec 32) (v522 : BitVec 32) (k0_hw25 : k0_chk25 i v106 v522), ∀ (k0_h1 : k0_cond1 i = 1#1), ∀ (k0_h26 : k0_cond26 v106 = 1#1), (Rect.unit (s := S81920x8x128) (k0_off25 v522) S512x8x128.size (k0_off25_inb i v106 v522 k0_hw25 k0_h1 k0_h26)).WholeWords (EltTy.packing .bf16) := fun i v106 v522 k0_hw25 k0_h1 k0_h26 => k0_hw25.2 k0_h1 k0_h26 (k0_off25_inb i v106 v522 k0_hw25 k0_h1 k0_h26)

def k0_off26 (v522 : BitVec 32) : Fin 3 → Nat :=
  let c0_i32_333 : BitVec 32 := 0#32
  let c0_i32_334 : BitVec 32 := 0#32
  ![v522.toNat, 0, 0]
def k0_cond27 (v110 : BitVec 32) : BitVec 1 :=
  let c0_i32_62 : BitVec 32 := 0#32
  let v111 : BitVec 1 := Scalar.cmpi .sgt v110 c0_i32_62
  let v112 : BitVec 32 := Scalar.extui v111
  let c0_i32_63 : BitVec 32 := 0#32
  let v113 : BitVec 1 := Scalar.cmpi .ne v112 c0_i32_63
  v113

def k0_chk26 (i : grid0.Coords) (v110 : BitVec 32) (v522 : BitVec 32) : Prop :=
  (∀ (k0_h1 : k0_cond1 i = 1#1), ∀ (k0_h27 : k0_cond27 v110 = 1#1), ∀ a, (k0_off26 v522) a + S512x8x128.size a ≤ S81920x8x128.size a) ∧
  (∀ (k0_h1 : k0_cond1 i = 1#1), ∀ (k0_h27 : k0_cond27 v110 = 1#1), ∀ (hinb : ∀ a, (k0_off26 v522) a + S512x8x128.size a ≤ S81920x8x128.size a), (Rect.unit (s := S81920x8x128) (k0_off26 v522) S512x8x128.size hinb).WholeWords (EltTy.packing .bf16))
theorem k0_off26_inb : ∀ (i : grid0.Coords) (v110 : BitVec 32) (v522 : BitVec 32) (k0_hw26 : k0_chk26 i v110 v522), ∀ (k0_h1 : k0_cond1 i = 1#1), ∀ (k0_h27 : k0_cond27 v110 = 1#1), ∀ a, (k0_off26 v522) a + S512x8x128.size a ≤ S81920x8x128.size a := fun i v110 v522 k0_hw26 k0_h1 k0_h27 => k0_hw26.1 k0_h1 k0_h27
theorem k0_off26_wordsbf16 : ∀ (i : grid0.Coords) (v110 : BitVec 32) (v522 : BitVec 32) (k0_hw26 : k0_chk26 i v110 v522), ∀ (k0_h1 : k0_cond1 i = 1#1), ∀ (k0_h27 : k0_cond27 v110 = 1#1), (Rect.unit (s := S81920x8x128) (k0_off26 v522) S512x8x128.size (k0_off26_inb i v110 v522 k0_hw26 k0_h1 k0_h27)).WholeWords (EltTy.packing .bf16) := fun i v110 v522 k0_hw26 k0_h1 k0_h27 => k0_hw26.2 k0_h1 k0_h27 (k0_off26_inb i v110 v522 k0_hw26 k0_h1 k0_h27)

def k0_off27 (v522 : BitVec 32) : Fin 3 → Nat :=
  let c0_i32_333 : BitVec 32 := 0#32
  let c0_i32_334 : BitVec 32 := 0#32
  ![v522.toNat, 0, 0]
def k0_cond28 (v114 : BitVec 32) : BitVec 1 :=
  let c0_i32_64 : BitVec 32 := 0#32
  let v115 : BitVec 1 := Scalar.cmpi .sgt v114 c0_i32_64
  let v116 : BitVec 32 := Scalar.extui v115
  let c0_i32_65 : BitVec 32 := 0#32
  let v117 : BitVec 1 := Scalar.cmpi .ne v116 c0_i32_65
  v117

def k0_chk27 (i : grid0.Coords) (v114 : BitVec 32) (v522 : BitVec 32) : Prop :=
  (∀ (k0_h1 : k0_cond1 i = 1#1), ∀ (k0_h28 : k0_cond28 v114 = 1#1), ∀ a, (k0_off27 v522) a + S512x8x128.size a ≤ S81920x8x128.size a) ∧
  (∀ (k0_h1 : k0_cond1 i = 1#1), ∀ (k0_h28 : k0_cond28 v114 = 1#1), ∀ (hinb : ∀ a, (k0_off27 v522) a + S512x8x128.size a ≤ S81920x8x128.size a), (Rect.unit (s := S81920x8x128) (k0_off27 v522) S512x8x128.size hinb).WholeWords (EltTy.packing .bf16))
theorem k0_off27_inb : ∀ (i : grid0.Coords) (v114 : BitVec 32) (v522 : BitVec 32) (k0_hw27 : k0_chk27 i v114 v522), ∀ (k0_h1 : k0_cond1 i = 1#1), ∀ (k0_h28 : k0_cond28 v114 = 1#1), ∀ a, (k0_off27 v522) a + S512x8x128.size a ≤ S81920x8x128.size a := fun i v114 v522 k0_hw27 k0_h1 k0_h28 => k0_hw27.1 k0_h1 k0_h28
theorem k0_off27_wordsbf16 : ∀ (i : grid0.Coords) (v114 : BitVec 32) (v522 : BitVec 32) (k0_hw27 : k0_chk27 i v114 v522), ∀ (k0_h1 : k0_cond1 i = 1#1), ∀ (k0_h28 : k0_cond28 v114 = 1#1), (Rect.unit (s := S81920x8x128) (k0_off27 v522) S512x8x128.size (k0_off27_inb i v114 v522 k0_hw27 k0_h1 k0_h28)).WholeWords (EltTy.packing .bf16) := fun i v114 v522 k0_hw27 k0_h1 k0_h28 => k0_hw27.2 k0_h1 k0_h28 (k0_off27_inb i v114 v522 k0_hw27 k0_h1 k0_h28)

def k0_off28 (v522 : BitVec 32) : Fin 3 → Nat :=
  let c0_i32_333 : BitVec 32 := 0#32
  let c0_i32_334 : BitVec 32 := 0#32
  ![v522.toNat, 0, 0]
def k0_cond29 (v118 : BitVec 32) : BitVec 1 :=
  let c0_i32_66 : BitVec 32 := 0#32
  let v119 : BitVec 1 := Scalar.cmpi .sgt v118 c0_i32_66
  let v120 : BitVec 32 := Scalar.extui v119
  let c0_i32_67 : BitVec 32 := 0#32
  let v121 : BitVec 1 := Scalar.cmpi .ne v120 c0_i32_67
  v121

def k0_chk28 (i : grid0.Coords) (v118 : BitVec 32) (v522 : BitVec 32) : Prop :=
  (∀ (k0_h1 : k0_cond1 i = 1#1), ∀ (k0_h29 : k0_cond29 v118 = 1#1), ∀ a, (k0_off28 v522) a + S512x8x128.size a ≤ S81920x8x128.size a) ∧
  (∀ (k0_h1 : k0_cond1 i = 1#1), ∀ (k0_h29 : k0_cond29 v118 = 1#1), ∀ (hinb : ∀ a, (k0_off28 v522) a + S512x8x128.size a ≤ S81920x8x128.size a), (Rect.unit (s := S81920x8x128) (k0_off28 v522) S512x8x128.size hinb).WholeWords (EltTy.packing .bf16))
theorem k0_off28_inb : ∀ (i : grid0.Coords) (v118 : BitVec 32) (v522 : BitVec 32) (k0_hw28 : k0_chk28 i v118 v522), ∀ (k0_h1 : k0_cond1 i = 1#1), ∀ (k0_h29 : k0_cond29 v118 = 1#1), ∀ a, (k0_off28 v522) a + S512x8x128.size a ≤ S81920x8x128.size a := fun i v118 v522 k0_hw28 k0_h1 k0_h29 => k0_hw28.1 k0_h1 k0_h29
theorem k0_off28_wordsbf16 : ∀ (i : grid0.Coords) (v118 : BitVec 32) (v522 : BitVec 32) (k0_hw28 : k0_chk28 i v118 v522), ∀ (k0_h1 : k0_cond1 i = 1#1), ∀ (k0_h29 : k0_cond29 v118 = 1#1), (Rect.unit (s := S81920x8x128) (k0_off28 v522) S512x8x128.size (k0_off28_inb i v118 v522 k0_hw28 k0_h1 k0_h29)).WholeWords (EltTy.packing .bf16) := fun i v118 v522 k0_hw28 k0_h1 k0_h29 => k0_hw28.2 k0_h1 k0_h29 (k0_off28_inb i v118 v522 k0_hw28 k0_h1 k0_h29)

def k0_off29 (v522 : BitVec 32) : Fin 3 → Nat :=
  let c0_i32_333 : BitVec 32 := 0#32
  let c0_i32_334 : BitVec 32 := 0#32
  ![v522.toNat, 0, 0]
def k0_cond30 (v122 : BitVec 32) : BitVec 1 :=
  let c0_i32_68 : BitVec 32 := 0#32
  let v123 : BitVec 1 := Scalar.cmpi .sgt v122 c0_i32_68
  let v124 : BitVec 32 := Scalar.extui v123
  let c0_i32_69 : BitVec 32 := 0#32
  let v125 : BitVec 1 := Scalar.cmpi .ne v124 c0_i32_69
  v125

def k0_chk29 (i : grid0.Coords) (v122 : BitVec 32) (v522 : BitVec 32) : Prop :=
  (∀ (k0_h1 : k0_cond1 i = 1#1), ∀ (k0_h30 : k0_cond30 v122 = 1#1), ∀ a, (k0_off29 v522) a + S512x8x128.size a ≤ S81920x8x128.size a) ∧
  (∀ (k0_h1 : k0_cond1 i = 1#1), ∀ (k0_h30 : k0_cond30 v122 = 1#1), ∀ (hinb : ∀ a, (k0_off29 v522) a + S512x8x128.size a ≤ S81920x8x128.size a), (Rect.unit (s := S81920x8x128) (k0_off29 v522) S512x8x128.size hinb).WholeWords (EltTy.packing .bf16))
theorem k0_off29_inb : ∀ (i : grid0.Coords) (v122 : BitVec 32) (v522 : BitVec 32) (k0_hw29 : k0_chk29 i v122 v522), ∀ (k0_h1 : k0_cond1 i = 1#1), ∀ (k0_h30 : k0_cond30 v122 = 1#1), ∀ a, (k0_off29 v522) a + S512x8x128.size a ≤ S81920x8x128.size a := fun i v122 v522 k0_hw29 k0_h1 k0_h30 => k0_hw29.1 k0_h1 k0_h30
theorem k0_off29_wordsbf16 : ∀ (i : grid0.Coords) (v122 : BitVec 32) (v522 : BitVec 32) (k0_hw29 : k0_chk29 i v122 v522), ∀ (k0_h1 : k0_cond1 i = 1#1), ∀ (k0_h30 : k0_cond30 v122 = 1#1), (Rect.unit (s := S81920x8x128) (k0_off29 v522) S512x8x128.size (k0_off29_inb i v122 v522 k0_hw29 k0_h1 k0_h30)).WholeWords (EltTy.packing .bf16) := fun i v122 v522 k0_hw29 k0_h1 k0_h30 => k0_hw29.2 k0_h1 k0_h30 (k0_off29_inb i v122 v522 k0_hw29 k0_h1 k0_h30)

def k0_off30 (v522 : BitVec 32) : Fin 3 → Nat :=
  let c0_i32_333 : BitVec 32 := 0#32
  let c0_i32_334 : BitVec 32 := 0#32
  ![v522.toNat, 0, 0]
def k0_cond31 (v126 : BitVec 32) : BitVec 1 :=
  let c0_i32_70 : BitVec 32 := 0#32
  let v127 : BitVec 1 := Scalar.cmpi .sgt v126 c0_i32_70
  let v128 : BitVec 32 := Scalar.extui v127
  let c0_i32_71 : BitVec 32 := 0#32
  let v129 : BitVec 1 := Scalar.cmpi .ne v128 c0_i32_71
  v129

def k0_chk30 (i : grid0.Coords) (v126 : BitVec 32) (v522 : BitVec 32) : Prop :=
  (∀ (k0_h1 : k0_cond1 i = 1#1), ∀ (k0_h31 : k0_cond31 v126 = 1#1), ∀ a, (k0_off30 v522) a + S512x8x128.size a ≤ S81920x8x128.size a) ∧
  (∀ (k0_h1 : k0_cond1 i = 1#1), ∀ (k0_h31 : k0_cond31 v126 = 1#1), ∀ (hinb : ∀ a, (k0_off30 v522) a + S512x8x128.size a ≤ S81920x8x128.size a), (Rect.unit (s := S81920x8x128) (k0_off30 v522) S512x8x128.size hinb).WholeWords (EltTy.packing .bf16))
theorem k0_off30_inb : ∀ (i : grid0.Coords) (v126 : BitVec 32) (v522 : BitVec 32) (k0_hw30 : k0_chk30 i v126 v522), ∀ (k0_h1 : k0_cond1 i = 1#1), ∀ (k0_h31 : k0_cond31 v126 = 1#1), ∀ a, (k0_off30 v522) a + S512x8x128.size a ≤ S81920x8x128.size a := fun i v126 v522 k0_hw30 k0_h1 k0_h31 => k0_hw30.1 k0_h1 k0_h31
theorem k0_off30_wordsbf16 : ∀ (i : grid0.Coords) (v126 : BitVec 32) (v522 : BitVec 32) (k0_hw30 : k0_chk30 i v126 v522), ∀ (k0_h1 : k0_cond1 i = 1#1), ∀ (k0_h31 : k0_cond31 v126 = 1#1), (Rect.unit (s := S81920x8x128) (k0_off30 v522) S512x8x128.size (k0_off30_inb i v126 v522 k0_hw30 k0_h1 k0_h31)).WholeWords (EltTy.packing .bf16) := fun i v126 v522 k0_hw30 k0_h1 k0_h31 => k0_hw30.2 k0_h1 k0_h31 (k0_off30_inb i v126 v522 k0_hw30 k0_h1 k0_h31)

def k0_off31 (v522 : BitVec 32) : Fin 3 → Nat :=
  let c0_i32_333 : BitVec 32 := 0#32
  let c0_i32_334 : BitVec 32 := 0#32
  ![v522.toNat, 0, 0]
def k0_cond32 (v130 : BitVec 32) : BitVec 1 :=
  let c0_i32_72 : BitVec 32 := 0#32
  let v131 : BitVec 1 := Scalar.cmpi .sgt v130 c0_i32_72
  let v132 : BitVec 32 := Scalar.extui v131
  let c0_i32_73 : BitVec 32 := 0#32
  let v133 : BitVec 1 := Scalar.cmpi .ne v132 c0_i32_73
  v133

def k0_chk31 (i : grid0.Coords) (v130 : BitVec 32) (v522 : BitVec 32) : Prop :=
  (∀ (k0_h1 : k0_cond1 i = 1#1), ∀ (k0_h32 : k0_cond32 v130 = 1#1), ∀ a, (k0_off31 v522) a + S512x8x128.size a ≤ S81920x8x128.size a) ∧
  (∀ (k0_h1 : k0_cond1 i = 1#1), ∀ (k0_h32 : k0_cond32 v130 = 1#1), ∀ (hinb : ∀ a, (k0_off31 v522) a + S512x8x128.size a ≤ S81920x8x128.size a), (Rect.unit (s := S81920x8x128) (k0_off31 v522) S512x8x128.size hinb).WholeWords (EltTy.packing .bf16))
theorem k0_off31_inb : ∀ (i : grid0.Coords) (v130 : BitVec 32) (v522 : BitVec 32) (k0_hw31 : k0_chk31 i v130 v522), ∀ (k0_h1 : k0_cond1 i = 1#1), ∀ (k0_h32 : k0_cond32 v130 = 1#1), ∀ a, (k0_off31 v522) a + S512x8x128.size a ≤ S81920x8x128.size a := fun i v130 v522 k0_hw31 k0_h1 k0_h32 => k0_hw31.1 k0_h1 k0_h32
theorem k0_off31_wordsbf16 : ∀ (i : grid0.Coords) (v130 : BitVec 32) (v522 : BitVec 32) (k0_hw31 : k0_chk31 i v130 v522), ∀ (k0_h1 : k0_cond1 i = 1#1), ∀ (k0_h32 : k0_cond32 v130 = 1#1), (Rect.unit (s := S81920x8x128) (k0_off31 v522) S512x8x128.size (k0_off31_inb i v130 v522 k0_hw31 k0_h1 k0_h32)).WholeWords (EltTy.packing .bf16) := fun i v130 v522 k0_hw31 k0_h1 k0_h32 => k0_hw31.2 k0_h1 k0_h32 (k0_off31_inb i v130 v522 k0_hw31 k0_h1 k0_h32)

def k0_off32 (v522 : BitVec 32) : Fin 3 → Nat :=
  let c0_i32_333 : BitVec 32 := 0#32
  let c0_i32_334 : BitVec 32 := 0#32
  ![v522.toNat, 0, 0]
def k0_cond33 (v134 : BitVec 32) : BitVec 1 :=
  let c0_i32_74 : BitVec 32 := 0#32
  let v135 : BitVec 1 := Scalar.cmpi .sgt v134 c0_i32_74
  let v136 : BitVec 32 := Scalar.extui v135
  let c0_i32_75 : BitVec 32 := 0#32
  let v137 : BitVec 1 := Scalar.cmpi .ne v136 c0_i32_75
  v137

def k0_chk32 (i : grid0.Coords) (v134 : BitVec 32) (v522 : BitVec 32) : Prop :=
  (∀ (k0_h1 : k0_cond1 i = 1#1), ∀ (k0_h33 : k0_cond33 v134 = 1#1), ∀ a, (k0_off32 v522) a + S512x8x128.size a ≤ S81920x8x128.size a) ∧
  (∀ (k0_h1 : k0_cond1 i = 1#1), ∀ (k0_h33 : k0_cond33 v134 = 1#1), ∀ (hinb : ∀ a, (k0_off32 v522) a + S512x8x128.size a ≤ S81920x8x128.size a), (Rect.unit (s := S81920x8x128) (k0_off32 v522) S512x8x128.size hinb).WholeWords (EltTy.packing .bf16))
theorem k0_off32_inb : ∀ (i : grid0.Coords) (v134 : BitVec 32) (v522 : BitVec 32) (k0_hw32 : k0_chk32 i v134 v522), ∀ (k0_h1 : k0_cond1 i = 1#1), ∀ (k0_h33 : k0_cond33 v134 = 1#1), ∀ a, (k0_off32 v522) a + S512x8x128.size a ≤ S81920x8x128.size a := fun i v134 v522 k0_hw32 k0_h1 k0_h33 => k0_hw32.1 k0_h1 k0_h33
theorem k0_off32_wordsbf16 : ∀ (i : grid0.Coords) (v134 : BitVec 32) (v522 : BitVec 32) (k0_hw32 : k0_chk32 i v134 v522), ∀ (k0_h1 : k0_cond1 i = 1#1), ∀ (k0_h33 : k0_cond33 v134 = 1#1), (Rect.unit (s := S81920x8x128) (k0_off32 v522) S512x8x128.size (k0_off32_inb i v134 v522 k0_hw32 k0_h1 k0_h33)).WholeWords (EltTy.packing .bf16) := fun i v134 v522 k0_hw32 k0_h1 k0_h33 => k0_hw32.2 k0_h1 k0_h33 (k0_off32_inb i v134 v522 k0_hw32 k0_h1 k0_h33)

def k0_off33 (v522 : BitVec 32) : Fin 3 → Nat :=
  let c0_i32_333 : BitVec 32 := 0#32
  let c0_i32_334 : BitVec 32 := 0#32
  ![v522.toNat, 0, 0]
def k0_cond34 (v138 : BitVec 32) : BitVec 1 :=
  let c0_i32_76 : BitVec 32 := 0#32
  let v139 : BitVec 1 := Scalar.cmpi .sgt v138 c0_i32_76
  let v140 : BitVec 32 := Scalar.extui v139
  let c0_i32_77 : BitVec 32 := 0#32
  let v141 : BitVec 1 := Scalar.cmpi .ne v140 c0_i32_77
  v141

def k0_chk33 (i : grid0.Coords) (v138 : BitVec 32) (v522 : BitVec 32) : Prop :=
  (∀ (k0_h1 : k0_cond1 i = 1#1), ∀ (k0_h34 : k0_cond34 v138 = 1#1), ∀ a, (k0_off33 v522) a + S512x8x128.size a ≤ S81920x8x128.size a) ∧
  (∀ (k0_h1 : k0_cond1 i = 1#1), ∀ (k0_h34 : k0_cond34 v138 = 1#1), ∀ (hinb : ∀ a, (k0_off33 v522) a + S512x8x128.size a ≤ S81920x8x128.size a), (Rect.unit (s := S81920x8x128) (k0_off33 v522) S512x8x128.size hinb).WholeWords (EltTy.packing .bf16))
theorem k0_off33_inb : ∀ (i : grid0.Coords) (v138 : BitVec 32) (v522 : BitVec 32) (k0_hw33 : k0_chk33 i v138 v522), ∀ (k0_h1 : k0_cond1 i = 1#1), ∀ (k0_h34 : k0_cond34 v138 = 1#1), ∀ a, (k0_off33 v522) a + S512x8x128.size a ≤ S81920x8x128.size a := fun i v138 v522 k0_hw33 k0_h1 k0_h34 => k0_hw33.1 k0_h1 k0_h34
theorem k0_off33_wordsbf16 : ∀ (i : grid0.Coords) (v138 : BitVec 32) (v522 : BitVec 32) (k0_hw33 : k0_chk33 i v138 v522), ∀ (k0_h1 : k0_cond1 i = 1#1), ∀ (k0_h34 : k0_cond34 v138 = 1#1), (Rect.unit (s := S81920x8x128) (k0_off33 v522) S512x8x128.size (k0_off33_inb i v138 v522 k0_hw33 k0_h1 k0_h34)).WholeWords (EltTy.packing .bf16) := fun i v138 v522 k0_hw33 k0_h1 k0_h34 => k0_hw33.2 k0_h1 k0_h34 (k0_off33_inb i v138 v522 k0_hw33 k0_h1 k0_h34)

def k0_off34 (v522 : BitVec 32) : Fin 3 → Nat :=
  let c0_i32_333 : BitVec 32 := 0#32
  let c0_i32_334 : BitVec 32 := 0#32
  ![v522.toNat, 0, 0]
def k0_cond35 (v142 : BitVec 32) : BitVec 1 :=
  let c0_i32_78 : BitVec 32 := 0#32
  let v143 : BitVec 1 := Scalar.cmpi .sgt v142 c0_i32_78
  let v144 : BitVec 32 := Scalar.extui v143
  let c0_i32_79 : BitVec 32 := 0#32
  let v145 : BitVec 1 := Scalar.cmpi .ne v144 c0_i32_79
  v145

def k0_chk34 (i : grid0.Coords) (v142 : BitVec 32) (v522 : BitVec 32) : Prop :=
  (∀ (k0_h1 : k0_cond1 i = 1#1), ∀ (k0_h35 : k0_cond35 v142 = 1#1), ∀ a, (k0_off34 v522) a + S512x8x128.size a ≤ S81920x8x128.size a) ∧
  (∀ (k0_h1 : k0_cond1 i = 1#1), ∀ (k0_h35 : k0_cond35 v142 = 1#1), ∀ (hinb : ∀ a, (k0_off34 v522) a + S512x8x128.size a ≤ S81920x8x128.size a), (Rect.unit (s := S81920x8x128) (k0_off34 v522) S512x8x128.size hinb).WholeWords (EltTy.packing .bf16))
theorem k0_off34_inb : ∀ (i : grid0.Coords) (v142 : BitVec 32) (v522 : BitVec 32) (k0_hw34 : k0_chk34 i v142 v522), ∀ (k0_h1 : k0_cond1 i = 1#1), ∀ (k0_h35 : k0_cond35 v142 = 1#1), ∀ a, (k0_off34 v522) a + S512x8x128.size a ≤ S81920x8x128.size a := fun i v142 v522 k0_hw34 k0_h1 k0_h35 => k0_hw34.1 k0_h1 k0_h35
theorem k0_off34_wordsbf16 : ∀ (i : grid0.Coords) (v142 : BitVec 32) (v522 : BitVec 32) (k0_hw34 : k0_chk34 i v142 v522), ∀ (k0_h1 : k0_cond1 i = 1#1), ∀ (k0_h35 : k0_cond35 v142 = 1#1), (Rect.unit (s := S81920x8x128) (k0_off34 v522) S512x8x128.size (k0_off34_inb i v142 v522 k0_hw34 k0_h1 k0_h35)).WholeWords (EltTy.packing .bf16) := fun i v142 v522 k0_hw34 k0_h1 k0_h35 => k0_hw34.2 k0_h1 k0_h35 (k0_off34_inb i v142 v522 k0_hw34 k0_h1 k0_h35)

def k0_off35 (v522 : BitVec 32) : Fin 3 → Nat :=
  let c0_i32_333 : BitVec 32 := 0#32
  let c0_i32_334 : BitVec 32 := 0#32
  ![v522.toNat, 0, 0]
def k0_cond36 (v146 : BitVec 32) : BitVec 1 :=
  let c0_i32_80 : BitVec 32 := 0#32
  let v147 : BitVec 1 := Scalar.cmpi .sgt v146 c0_i32_80
  let v148 : BitVec 32 := Scalar.extui v147
  let c0_i32_81 : BitVec 32 := 0#32
  let v149 : BitVec 1 := Scalar.cmpi .ne v148 c0_i32_81
  v149

def k0_chk35 (i : grid0.Coords) (v146 : BitVec 32) (v522 : BitVec 32) : Prop :=
  (∀ (k0_h1 : k0_cond1 i = 1#1), ∀ (k0_h36 : k0_cond36 v146 = 1#1), ∀ a, (k0_off35 v522) a + S512x8x128.size a ≤ S81920x8x128.size a) ∧
  (∀ (k0_h1 : k0_cond1 i = 1#1), ∀ (k0_h36 : k0_cond36 v146 = 1#1), ∀ (hinb : ∀ a, (k0_off35 v522) a + S512x8x128.size a ≤ S81920x8x128.size a), (Rect.unit (s := S81920x8x128) (k0_off35 v522) S512x8x128.size hinb).WholeWords (EltTy.packing .bf16))
theorem k0_off35_inb : ∀ (i : grid0.Coords) (v146 : BitVec 32) (v522 : BitVec 32) (k0_hw35 : k0_chk35 i v146 v522), ∀ (k0_h1 : k0_cond1 i = 1#1), ∀ (k0_h36 : k0_cond36 v146 = 1#1), ∀ a, (k0_off35 v522) a + S512x8x128.size a ≤ S81920x8x128.size a := fun i v146 v522 k0_hw35 k0_h1 k0_h36 => k0_hw35.1 k0_h1 k0_h36
theorem k0_off35_wordsbf16 : ∀ (i : grid0.Coords) (v146 : BitVec 32) (v522 : BitVec 32) (k0_hw35 : k0_chk35 i v146 v522), ∀ (k0_h1 : k0_cond1 i = 1#1), ∀ (k0_h36 : k0_cond36 v146 = 1#1), (Rect.unit (s := S81920x8x128) (k0_off35 v522) S512x8x128.size (k0_off35_inb i v146 v522 k0_hw35 k0_h1 k0_h36)).WholeWords (EltTy.packing .bf16) := fun i v146 v522 k0_hw35 k0_h1 k0_h36 => k0_hw35.2 k0_h1 k0_h36 (k0_off35_inb i v146 v522 k0_hw35 k0_h1 k0_h36)

def k0_off36 (v522 : BitVec 32) : Fin 3 → Nat :=
  let c0_i32_333 : BitVec 32 := 0#32
  let c0_i32_334 : BitVec 32 := 0#32
  ![v522.toNat, 0, 0]
def k0_cond37 (v150 : BitVec 32) : BitVec 1 :=
  let c0_i32_82 : BitVec 32 := 0#32
  let v151 : BitVec 1 := Scalar.cmpi .sgt v150 c0_i32_82
  let v152 : BitVec 32 := Scalar.extui v151
  let c0_i32_83 : BitVec 32 := 0#32
  let v153 : BitVec 1 := Scalar.cmpi .ne v152 c0_i32_83
  v153

def k0_chk36 (i : grid0.Coords) (v150 : BitVec 32) (v522 : BitVec 32) : Prop :=
  (∀ (k0_h1 : k0_cond1 i = 1#1), ∀ (k0_h37 : k0_cond37 v150 = 1#1), ∀ a, (k0_off36 v522) a + S512x8x128.size a ≤ S81920x8x128.size a) ∧
  (∀ (k0_h1 : k0_cond1 i = 1#1), ∀ (k0_h37 : k0_cond37 v150 = 1#1), ∀ (hinb : ∀ a, (k0_off36 v522) a + S512x8x128.size a ≤ S81920x8x128.size a), (Rect.unit (s := S81920x8x128) (k0_off36 v522) S512x8x128.size hinb).WholeWords (EltTy.packing .bf16))
theorem k0_off36_inb : ∀ (i : grid0.Coords) (v150 : BitVec 32) (v522 : BitVec 32) (k0_hw36 : k0_chk36 i v150 v522), ∀ (k0_h1 : k0_cond1 i = 1#1), ∀ (k0_h37 : k0_cond37 v150 = 1#1), ∀ a, (k0_off36 v522) a + S512x8x128.size a ≤ S81920x8x128.size a := fun i v150 v522 k0_hw36 k0_h1 k0_h37 => k0_hw36.1 k0_h1 k0_h37
theorem k0_off36_wordsbf16 : ∀ (i : grid0.Coords) (v150 : BitVec 32) (v522 : BitVec 32) (k0_hw36 : k0_chk36 i v150 v522), ∀ (k0_h1 : k0_cond1 i = 1#1), ∀ (k0_h37 : k0_cond37 v150 = 1#1), (Rect.unit (s := S81920x8x128) (k0_off36 v522) S512x8x128.size (k0_off36_inb i v150 v522 k0_hw36 k0_h1 k0_h37)).WholeWords (EltTy.packing .bf16) := fun i v150 v522 k0_hw36 k0_h1 k0_h37 => k0_hw36.2 k0_h1 k0_h37 (k0_off36_inb i v150 v522 k0_hw36 k0_h1 k0_h37)

def k0_off37 (v522 : BitVec 32) : Fin 3 → Nat :=
  let c0_i32_333 : BitVec 32 := 0#32
  let c0_i32_334 : BitVec 32 := 0#32
  ![v522.toNat, 0, 0]
def k0_cond38 (v154 : BitVec 32) : BitVec 1 :=
  let c0_i32_84 : BitVec 32 := 0#32
  let v155 : BitVec 1 := Scalar.cmpi .sgt v154 c0_i32_84
  let v156 : BitVec 32 := Scalar.extui v155
  let c0_i32_85 : BitVec 32 := 0#32
  let v157 : BitVec 1 := Scalar.cmpi .ne v156 c0_i32_85
  v157

def k0_chk37 (i : grid0.Coords) (v154 : BitVec 32) (v522 : BitVec 32) : Prop :=
  (∀ (k0_h1 : k0_cond1 i = 1#1), ∀ (k0_h38 : k0_cond38 v154 = 1#1), ∀ a, (k0_off37 v522) a + S512x8x128.size a ≤ S81920x8x128.size a) ∧
  (∀ (k0_h1 : k0_cond1 i = 1#1), ∀ (k0_h38 : k0_cond38 v154 = 1#1), ∀ (hinb : ∀ a, (k0_off37 v522) a + S512x8x128.size a ≤ S81920x8x128.size a), (Rect.unit (s := S81920x8x128) (k0_off37 v522) S512x8x128.size hinb).WholeWords (EltTy.packing .bf16))
theorem k0_off37_inb : ∀ (i : grid0.Coords) (v154 : BitVec 32) (v522 : BitVec 32) (k0_hw37 : k0_chk37 i v154 v522), ∀ (k0_h1 : k0_cond1 i = 1#1), ∀ (k0_h38 : k0_cond38 v154 = 1#1), ∀ a, (k0_off37 v522) a + S512x8x128.size a ≤ S81920x8x128.size a := fun i v154 v522 k0_hw37 k0_h1 k0_h38 => k0_hw37.1 k0_h1 k0_h38
theorem k0_off37_wordsbf16 : ∀ (i : grid0.Coords) (v154 : BitVec 32) (v522 : BitVec 32) (k0_hw37 : k0_chk37 i v154 v522), ∀ (k0_h1 : k0_cond1 i = 1#1), ∀ (k0_h38 : k0_cond38 v154 = 1#1), (Rect.unit (s := S81920x8x128) (k0_off37 v522) S512x8x128.size (k0_off37_inb i v154 v522 k0_hw37 k0_h1 k0_h38)).WholeWords (EltTy.packing .bf16) := fun i v154 v522 k0_hw37 k0_h1 k0_h38 => k0_hw37.2 k0_h1 k0_h38 (k0_off37_inb i v154 v522 k0_hw37 k0_h1 k0_h38)

def k0_off38 (v522 : BitVec 32) : Fin 3 → Nat :=
  let c0_i32_333 : BitVec 32 := 0#32
  let c0_i32_334 : BitVec 32 := 0#32
  ![v522.toNat, 0, 0]
def k0_cond39 (v158 : BitVec 32) : BitVec 1 :=
  let c0_i32_86 : BitVec 32 := 0#32
  let v159 : BitVec 1 := Scalar.cmpi .sgt v158 c0_i32_86
  let v160 : BitVec 32 := Scalar.extui v159
  let c0_i32_87 : BitVec 32 := 0#32
  let v161 : BitVec 1 := Scalar.cmpi .ne v160 c0_i32_87
  v161

def k0_chk38 (i : grid0.Coords) (v158 : BitVec 32) (v522 : BitVec 32) : Prop :=
  (∀ (k0_h1 : k0_cond1 i = 1#1), ∀ (k0_h39 : k0_cond39 v158 = 1#1), ∀ a, (k0_off38 v522) a + S512x8x128.size a ≤ S81920x8x128.size a) ∧
  (∀ (k0_h1 : k0_cond1 i = 1#1), ∀ (k0_h39 : k0_cond39 v158 = 1#1), ∀ (hinb : ∀ a, (k0_off38 v522) a + S512x8x128.size a ≤ S81920x8x128.size a), (Rect.unit (s := S81920x8x128) (k0_off38 v522) S512x8x128.size hinb).WholeWords (EltTy.packing .bf16))
theorem k0_off38_inb : ∀ (i : grid0.Coords) (v158 : BitVec 32) (v522 : BitVec 32) (k0_hw38 : k0_chk38 i v158 v522), ∀ (k0_h1 : k0_cond1 i = 1#1), ∀ (k0_h39 : k0_cond39 v158 = 1#1), ∀ a, (k0_off38 v522) a + S512x8x128.size a ≤ S81920x8x128.size a := fun i v158 v522 k0_hw38 k0_h1 k0_h39 => k0_hw38.1 k0_h1 k0_h39
theorem k0_off38_wordsbf16 : ∀ (i : grid0.Coords) (v158 : BitVec 32) (v522 : BitVec 32) (k0_hw38 : k0_chk38 i v158 v522), ∀ (k0_h1 : k0_cond1 i = 1#1), ∀ (k0_h39 : k0_cond39 v158 = 1#1), (Rect.unit (s := S81920x8x128) (k0_off38 v522) S512x8x128.size (k0_off38_inb i v158 v522 k0_hw38 k0_h1 k0_h39)).WholeWords (EltTy.packing .bf16) := fun i v158 v522 k0_hw38 k0_h1 k0_h39 => k0_hw38.2 k0_h1 k0_h39 (k0_off38_inb i v158 v522 k0_hw38 k0_h1 k0_h39)

def k0_off39 (v522 : BitVec 32) : Fin 3 → Nat :=
  let c0_i32_333 : BitVec 32 := 0#32
  let c0_i32_334 : BitVec 32 := 0#32
  ![v522.toNat, 0, 0]
def k0_cond40 (v162 : BitVec 32) : BitVec 1 :=
  let c0_i32_88 : BitVec 32 := 0#32
  let v163 : BitVec 1 := Scalar.cmpi .sgt v162 c0_i32_88
  let v164 : BitVec 32 := Scalar.extui v163
  let c0_i32_89 : BitVec 32 := 0#32
  let v165 : BitVec 1 := Scalar.cmpi .ne v164 c0_i32_89
  v165

def k0_chk39 (i : grid0.Coords) (v162 : BitVec 32) (v522 : BitVec 32) : Prop :=
  (∀ (k0_h1 : k0_cond1 i = 1#1), ∀ (k0_h40 : k0_cond40 v162 = 1#1), ∀ a, (k0_off39 v522) a + S512x8x128.size a ≤ S81920x8x128.size a) ∧
  (∀ (k0_h1 : k0_cond1 i = 1#1), ∀ (k0_h40 : k0_cond40 v162 = 1#1), ∀ (hinb : ∀ a, (k0_off39 v522) a + S512x8x128.size a ≤ S81920x8x128.size a), (Rect.unit (s := S81920x8x128) (k0_off39 v522) S512x8x128.size hinb).WholeWords (EltTy.packing .bf16))
theorem k0_off39_inb : ∀ (i : grid0.Coords) (v162 : BitVec 32) (v522 : BitVec 32) (k0_hw39 : k0_chk39 i v162 v522), ∀ (k0_h1 : k0_cond1 i = 1#1), ∀ (k0_h40 : k0_cond40 v162 = 1#1), ∀ a, (k0_off39 v522) a + S512x8x128.size a ≤ S81920x8x128.size a := fun i v162 v522 k0_hw39 k0_h1 k0_h40 => k0_hw39.1 k0_h1 k0_h40
theorem k0_off39_wordsbf16 : ∀ (i : grid0.Coords) (v162 : BitVec 32) (v522 : BitVec 32) (k0_hw39 : k0_chk39 i v162 v522), ∀ (k0_h1 : k0_cond1 i = 1#1), ∀ (k0_h40 : k0_cond40 v162 = 1#1), (Rect.unit (s := S81920x8x128) (k0_off39 v522) S512x8x128.size (k0_off39_inb i v162 v522 k0_hw39 k0_h1 k0_h40)).WholeWords (EltTy.packing .bf16) := fun i v162 v522 k0_hw39 k0_h1 k0_h40 => k0_hw39.2 k0_h1 k0_h40 (k0_off39_inb i v162 v522 k0_hw39 k0_h1 k0_h40)

def k0_off40 (v522 : BitVec 32) : Fin 3 → Nat :=
  let c0_i32_333 : BitVec 32 := 0#32
  let c0_i32_334 : BitVec 32 := 0#32
  ![v522.toNat, 0, 0]
def k0_cond41 (v166 : BitVec 32) : BitVec 1 :=
  let c0_i32_90 : BitVec 32 := 0#32
  let v167 : BitVec 1 := Scalar.cmpi .sgt v166 c0_i32_90
  let v168 : BitVec 32 := Scalar.extui v167
  let c0_i32_91 : BitVec 32 := 0#32
  let v169 : BitVec 1 := Scalar.cmpi .ne v168 c0_i32_91
  v169

def k0_chk40 (i : grid0.Coords) (v166 : BitVec 32) (v522 : BitVec 32) : Prop :=
  (∀ (k0_h1 : k0_cond1 i = 1#1), ∀ (k0_h41 : k0_cond41 v166 = 1#1), ∀ a, (k0_off40 v522) a + S512x8x128.size a ≤ S81920x8x128.size a) ∧
  (∀ (k0_h1 : k0_cond1 i = 1#1), ∀ (k0_h41 : k0_cond41 v166 = 1#1), ∀ (hinb : ∀ a, (k0_off40 v522) a + S512x8x128.size a ≤ S81920x8x128.size a), (Rect.unit (s := S81920x8x128) (k0_off40 v522) S512x8x128.size hinb).WholeWords (EltTy.packing .bf16))
theorem k0_off40_inb : ∀ (i : grid0.Coords) (v166 : BitVec 32) (v522 : BitVec 32) (k0_hw40 : k0_chk40 i v166 v522), ∀ (k0_h1 : k0_cond1 i = 1#1), ∀ (k0_h41 : k0_cond41 v166 = 1#1), ∀ a, (k0_off40 v522) a + S512x8x128.size a ≤ S81920x8x128.size a := fun i v166 v522 k0_hw40 k0_h1 k0_h41 => k0_hw40.1 k0_h1 k0_h41
theorem k0_off40_wordsbf16 : ∀ (i : grid0.Coords) (v166 : BitVec 32) (v522 : BitVec 32) (k0_hw40 : k0_chk40 i v166 v522), ∀ (k0_h1 : k0_cond1 i = 1#1), ∀ (k0_h41 : k0_cond41 v166 = 1#1), (Rect.unit (s := S81920x8x128) (k0_off40 v522) S512x8x128.size (k0_off40_inb i v166 v522 k0_hw40 k0_h1 k0_h41)).WholeWords (EltTy.packing .bf16) := fun i v166 v522 k0_hw40 k0_h1 k0_h41 => k0_hw40.2 k0_h1 k0_h41 (k0_off40_inb i v166 v522 k0_hw40 k0_h1 k0_h41)

def k0_off41 (v522 : BitVec 32) : Fin 3 → Nat :=
  let c0_i32_333 : BitVec 32 := 0#32
  let c0_i32_334 : BitVec 32 := 0#32
  ![v522.toNat, 0, 0]
def k0_cond42 (v170 : BitVec 32) : BitVec 1 :=
  let c0_i32_92 : BitVec 32 := 0#32
  let v171 : BitVec 1 := Scalar.cmpi .sgt v170 c0_i32_92
  let v172 : BitVec 32 := Scalar.extui v171
  let c0_i32_93 : BitVec 32 := 0#32
  let v173 : BitVec 1 := Scalar.cmpi .ne v172 c0_i32_93
  v173

def k0_chk41 (i : grid0.Coords) (v170 : BitVec 32) (v522 : BitVec 32) : Prop :=
  (∀ (k0_h1 : k0_cond1 i = 1#1), ∀ (k0_h42 : k0_cond42 v170 = 1#1), ∀ a, (k0_off41 v522) a + S512x8x128.size a ≤ S81920x8x128.size a) ∧
  (∀ (k0_h1 : k0_cond1 i = 1#1), ∀ (k0_h42 : k0_cond42 v170 = 1#1), ∀ (hinb : ∀ a, (k0_off41 v522) a + S512x8x128.size a ≤ S81920x8x128.size a), (Rect.unit (s := S81920x8x128) (k0_off41 v522) S512x8x128.size hinb).WholeWords (EltTy.packing .bf16))
theorem k0_off41_inb : ∀ (i : grid0.Coords) (v170 : BitVec 32) (v522 : BitVec 32) (k0_hw41 : k0_chk41 i v170 v522), ∀ (k0_h1 : k0_cond1 i = 1#1), ∀ (k0_h42 : k0_cond42 v170 = 1#1), ∀ a, (k0_off41 v522) a + S512x8x128.size a ≤ S81920x8x128.size a := fun i v170 v522 k0_hw41 k0_h1 k0_h42 => k0_hw41.1 k0_h1 k0_h42
theorem k0_off41_wordsbf16 : ∀ (i : grid0.Coords) (v170 : BitVec 32) (v522 : BitVec 32) (k0_hw41 : k0_chk41 i v170 v522), ∀ (k0_h1 : k0_cond1 i = 1#1), ∀ (k0_h42 : k0_cond42 v170 = 1#1), (Rect.unit (s := S81920x8x128) (k0_off41 v522) S512x8x128.size (k0_off41_inb i v170 v522 k0_hw41 k0_h1 k0_h42)).WholeWords (EltTy.packing .bf16) := fun i v170 v522 k0_hw41 k0_h1 k0_h42 => k0_hw41.2 k0_h1 k0_h42 (k0_off41_inb i v170 v522 k0_hw41 k0_h1 k0_h42)

def k0_off42 (v522 : BitVec 32) : Fin 3 → Nat :=
  let c0_i32_333 : BitVec 32 := 0#32
  let c0_i32_334 : BitVec 32 := 0#32
  ![v522.toNat, 0, 0]
def k0_cond43 (v174 : BitVec 32) : BitVec 1 :=
  let c0_i32_94 : BitVec 32 := 0#32
  let v175 : BitVec 1 := Scalar.cmpi .sgt v174 c0_i32_94
  let v176 : BitVec 32 := Scalar.extui v175
  let c0_i32_95 : BitVec 32 := 0#32
  let v177 : BitVec 1 := Scalar.cmpi .ne v176 c0_i32_95
  v177

def k0_chk42 (i : grid0.Coords) (v174 : BitVec 32) (v522 : BitVec 32) : Prop :=
  (∀ (k0_h1 : k0_cond1 i = 1#1), ∀ (k0_h43 : k0_cond43 v174 = 1#1), ∀ a, (k0_off42 v522) a + S512x8x128.size a ≤ S81920x8x128.size a) ∧
  (∀ (k0_h1 : k0_cond1 i = 1#1), ∀ (k0_h43 : k0_cond43 v174 = 1#1), ∀ (hinb : ∀ a, (k0_off42 v522) a + S512x8x128.size a ≤ S81920x8x128.size a), (Rect.unit (s := S81920x8x128) (k0_off42 v522) S512x8x128.size hinb).WholeWords (EltTy.packing .bf16))
theorem k0_off42_inb : ∀ (i : grid0.Coords) (v174 : BitVec 32) (v522 : BitVec 32) (k0_hw42 : k0_chk42 i v174 v522), ∀ (k0_h1 : k0_cond1 i = 1#1), ∀ (k0_h43 : k0_cond43 v174 = 1#1), ∀ a, (k0_off42 v522) a + S512x8x128.size a ≤ S81920x8x128.size a := fun i v174 v522 k0_hw42 k0_h1 k0_h43 => k0_hw42.1 k0_h1 k0_h43
theorem k0_off42_wordsbf16 : ∀ (i : grid0.Coords) (v174 : BitVec 32) (v522 : BitVec 32) (k0_hw42 : k0_chk42 i v174 v522), ∀ (k0_h1 : k0_cond1 i = 1#1), ∀ (k0_h43 : k0_cond43 v174 = 1#1), (Rect.unit (s := S81920x8x128) (k0_off42 v522) S512x8x128.size (k0_off42_inb i v174 v522 k0_hw42 k0_h1 k0_h43)).WholeWords (EltTy.packing .bf16) := fun i v174 v522 k0_hw42 k0_h1 k0_h43 => k0_hw42.2 k0_h1 k0_h43 (k0_off42_inb i v174 v522 k0_hw42 k0_h1 k0_h43)

def k0_off43 (v522 : BitVec 32) : Fin 3 → Nat :=
  let c0_i32_333 : BitVec 32 := 0#32
  let c0_i32_334 : BitVec 32 := 0#32
  ![v522.toNat, 0, 0]
def k0_cond44 (v178 : BitVec 32) : BitVec 1 :=
  let c0_i32_96 : BitVec 32 := 0#32
  let v179 : BitVec 1 := Scalar.cmpi .sgt v178 c0_i32_96
  let v180 : BitVec 32 := Scalar.extui v179
  let c0_i32_97 : BitVec 32 := 0#32
  let v181 : BitVec 1 := Scalar.cmpi .ne v180 c0_i32_97
  v181

def k0_chk43 (i : grid0.Coords) (v178 : BitVec 32) (v522 : BitVec 32) : Prop :=
  (∀ (k0_h1 : k0_cond1 i = 1#1), ∀ (k0_h44 : k0_cond44 v178 = 1#1), ∀ a, (k0_off43 v522) a + S512x8x128.size a ≤ S81920x8x128.size a) ∧
  (∀ (k0_h1 : k0_cond1 i = 1#1), ∀ (k0_h44 : k0_cond44 v178 = 1#1), ∀ (hinb : ∀ a, (k0_off43 v522) a + S512x8x128.size a ≤ S81920x8x128.size a), (Rect.unit (s := S81920x8x128) (k0_off43 v522) S512x8x128.size hinb).WholeWords (EltTy.packing .bf16))
theorem k0_off43_inb : ∀ (i : grid0.Coords) (v178 : BitVec 32) (v522 : BitVec 32) (k0_hw43 : k0_chk43 i v178 v522), ∀ (k0_h1 : k0_cond1 i = 1#1), ∀ (k0_h44 : k0_cond44 v178 = 1#1), ∀ a, (k0_off43 v522) a + S512x8x128.size a ≤ S81920x8x128.size a := fun i v178 v522 k0_hw43 k0_h1 k0_h44 => k0_hw43.1 k0_h1 k0_h44
theorem k0_off43_wordsbf16 : ∀ (i : grid0.Coords) (v178 : BitVec 32) (v522 : BitVec 32) (k0_hw43 : k0_chk43 i v178 v522), ∀ (k0_h1 : k0_cond1 i = 1#1), ∀ (k0_h44 : k0_cond44 v178 = 1#1), (Rect.unit (s := S81920x8x128) (k0_off43 v522) S512x8x128.size (k0_off43_inb i v178 v522 k0_hw43 k0_h1 k0_h44)).WholeWords (EltTy.packing .bf16) := fun i v178 v522 k0_hw43 k0_h1 k0_h44 => k0_hw43.2 k0_h1 k0_h44 (k0_off43_inb i v178 v522 k0_hw43 k0_h1 k0_h44)

def k0_off44 (v522 : BitVec 32) : Fin 3 → Nat :=
  let c0_i32_333 : BitVec 32 := 0#32
  let c0_i32_334 : BitVec 32 := 0#32
  ![v522.toNat, 0, 0]
def k0_cond45 (v182 : BitVec 32) : BitVec 1 :=
  let c0_i32_98 : BitVec 32 := 0#32
  let v183 : BitVec 1 := Scalar.cmpi .sgt v182 c0_i32_98
  let v184 : BitVec 32 := Scalar.extui v183
  let c0_i32_99 : BitVec 32 := 0#32
  let v185 : BitVec 1 := Scalar.cmpi .ne v184 c0_i32_99
  v185

def k0_chk44 (i : grid0.Coords) (v182 : BitVec 32) (v522 : BitVec 32) : Prop :=
  (∀ (k0_h1 : k0_cond1 i = 1#1), ∀ (k0_h45 : k0_cond45 v182 = 1#1), ∀ a, (k0_off44 v522) a + S512x8x128.size a ≤ S81920x8x128.size a) ∧
  (∀ (k0_h1 : k0_cond1 i = 1#1), ∀ (k0_h45 : k0_cond45 v182 = 1#1), ∀ (hinb : ∀ a, (k0_off44 v522) a + S512x8x128.size a ≤ S81920x8x128.size a), (Rect.unit (s := S81920x8x128) (k0_off44 v522) S512x8x128.size hinb).WholeWords (EltTy.packing .bf16))
theorem k0_off44_inb : ∀ (i : grid0.Coords) (v182 : BitVec 32) (v522 : BitVec 32) (k0_hw44 : k0_chk44 i v182 v522), ∀ (k0_h1 : k0_cond1 i = 1#1), ∀ (k0_h45 : k0_cond45 v182 = 1#1), ∀ a, (k0_off44 v522) a + S512x8x128.size a ≤ S81920x8x128.size a := fun i v182 v522 k0_hw44 k0_h1 k0_h45 => k0_hw44.1 k0_h1 k0_h45
theorem k0_off44_wordsbf16 : ∀ (i : grid0.Coords) (v182 : BitVec 32) (v522 : BitVec 32) (k0_hw44 : k0_chk44 i v182 v522), ∀ (k0_h1 : k0_cond1 i = 1#1), ∀ (k0_h45 : k0_cond45 v182 = 1#1), (Rect.unit (s := S81920x8x128) (k0_off44 v522) S512x8x128.size (k0_off44_inb i v182 v522 k0_hw44 k0_h1 k0_h45)).WholeWords (EltTy.packing .bf16) := fun i v182 v522 k0_hw44 k0_h1 k0_h45 => k0_hw44.2 k0_h1 k0_h45 (k0_off44_inb i v182 v522 k0_hw44 k0_h1 k0_h45)

def k0_off45 (v522 : BitVec 32) : Fin 3 → Nat :=
  let c0_i32_333 : BitVec 32 := 0#32
  let c0_i32_334 : BitVec 32 := 0#32
  ![v522.toNat, 0, 0]
def k0_cond46 (v186 : BitVec 32) : BitVec 1 :=
  let c0_i32_100 : BitVec 32 := 0#32
  let v187 : BitVec 1 := Scalar.cmpi .sgt v186 c0_i32_100
  let v188 : BitVec 32 := Scalar.extui v187
  let c0_i32_101 : BitVec 32 := 0#32
  let v189 : BitVec 1 := Scalar.cmpi .ne v188 c0_i32_101
  v189

def k0_chk45 (i : grid0.Coords) (v186 : BitVec 32) (v522 : BitVec 32) : Prop :=
  (∀ (k0_h1 : k0_cond1 i = 1#1), ∀ (k0_h46 : k0_cond46 v186 = 1#1), ∀ a, (k0_off45 v522) a + S512x8x128.size a ≤ S81920x8x128.size a) ∧
  (∀ (k0_h1 : k0_cond1 i = 1#1), ∀ (k0_h46 : k0_cond46 v186 = 1#1), ∀ (hinb : ∀ a, (k0_off45 v522) a + S512x8x128.size a ≤ S81920x8x128.size a), (Rect.unit (s := S81920x8x128) (k0_off45 v522) S512x8x128.size hinb).WholeWords (EltTy.packing .bf16))
theorem k0_off45_inb : ∀ (i : grid0.Coords) (v186 : BitVec 32) (v522 : BitVec 32) (k0_hw45 : k0_chk45 i v186 v522), ∀ (k0_h1 : k0_cond1 i = 1#1), ∀ (k0_h46 : k0_cond46 v186 = 1#1), ∀ a, (k0_off45 v522) a + S512x8x128.size a ≤ S81920x8x128.size a := fun i v186 v522 k0_hw45 k0_h1 k0_h46 => k0_hw45.1 k0_h1 k0_h46
theorem k0_off45_wordsbf16 : ∀ (i : grid0.Coords) (v186 : BitVec 32) (v522 : BitVec 32) (k0_hw45 : k0_chk45 i v186 v522), ∀ (k0_h1 : k0_cond1 i = 1#1), ∀ (k0_h46 : k0_cond46 v186 = 1#1), (Rect.unit (s := S81920x8x128) (k0_off45 v522) S512x8x128.size (k0_off45_inb i v186 v522 k0_hw45 k0_h1 k0_h46)).WholeWords (EltTy.packing .bf16) := fun i v186 v522 k0_hw45 k0_h1 k0_h46 => k0_hw45.2 k0_h1 k0_h46 (k0_off45_inb i v186 v522 k0_hw45 k0_h1 k0_h46)

def k0_off46 (v522 : BitVec 32) : Fin 3 → Nat :=
  let c0_i32_333 : BitVec 32 := 0#32
  let c0_i32_334 : BitVec 32 := 0#32
  ![v522.toNat, 0, 0]
def k0_cond47 (v190 : BitVec 32) : BitVec 1 :=
  let c0_i32_102 : BitVec 32 := 0#32
  let v191 : BitVec 1 := Scalar.cmpi .sgt v190 c0_i32_102
  let v192 : BitVec 32 := Scalar.extui v191
  let c0_i32_103 : BitVec 32 := 0#32
  let v193 : BitVec 1 := Scalar.cmpi .ne v192 c0_i32_103
  v193

def k0_chk46 (i : grid0.Coords) (v190 : BitVec 32) (v522 : BitVec 32) : Prop :=
  (∀ (k0_h1 : k0_cond1 i = 1#1), ∀ (k0_h47 : k0_cond47 v190 = 1#1), ∀ a, (k0_off46 v522) a + S512x8x128.size a ≤ S81920x8x128.size a) ∧
  (∀ (k0_h1 : k0_cond1 i = 1#1), ∀ (k0_h47 : k0_cond47 v190 = 1#1), ∀ (hinb : ∀ a, (k0_off46 v522) a + S512x8x128.size a ≤ S81920x8x128.size a), (Rect.unit (s := S81920x8x128) (k0_off46 v522) S512x8x128.size hinb).WholeWords (EltTy.packing .bf16))
theorem k0_off46_inb : ∀ (i : grid0.Coords) (v190 : BitVec 32) (v522 : BitVec 32) (k0_hw46 : k0_chk46 i v190 v522), ∀ (k0_h1 : k0_cond1 i = 1#1), ∀ (k0_h47 : k0_cond47 v190 = 1#1), ∀ a, (k0_off46 v522) a + S512x8x128.size a ≤ S81920x8x128.size a := fun i v190 v522 k0_hw46 k0_h1 k0_h47 => k0_hw46.1 k0_h1 k0_h47
theorem k0_off46_wordsbf16 : ∀ (i : grid0.Coords) (v190 : BitVec 32) (v522 : BitVec 32) (k0_hw46 : k0_chk46 i v190 v522), ∀ (k0_h1 : k0_cond1 i = 1#1), ∀ (k0_h47 : k0_cond47 v190 = 1#1), (Rect.unit (s := S81920x8x128) (k0_off46 v522) S512x8x128.size (k0_off46_inb i v190 v522 k0_hw46 k0_h1 k0_h47)).WholeWords (EltTy.packing .bf16) := fun i v190 v522 k0_hw46 k0_h1 k0_h47 => k0_hw46.2 k0_h1 k0_h47 (k0_off46_inb i v190 v522 k0_hw46 k0_h1 k0_h47)

def k0_off47 (v522 : BitVec 32) : Fin 3 → Nat :=
  let c0_i32_333 : BitVec 32 := 0#32
  let c0_i32_334 : BitVec 32 := 0#32
  ![v522.toNat, 0, 0]
def k0_cond48 (v194 : BitVec 32) : BitVec 1 :=
  let c0_i32_104 : BitVec 32 := 0#32
  let v195 : BitVec 1 := Scalar.cmpi .sgt v194 c0_i32_104
  let v196 : BitVec 32 := Scalar.extui v195
  let c0_i32_105 : BitVec 32 := 0#32
  let v197 : BitVec 1 := Scalar.cmpi .ne v196 c0_i32_105
  v197

def k0_chk47 (i : grid0.Coords) (v194 : BitVec 32) (v522 : BitVec 32) : Prop :=
  (∀ (k0_h1 : k0_cond1 i = 1#1), ∀ (k0_h48 : k0_cond48 v194 = 1#1), ∀ a, (k0_off47 v522) a + S512x8x128.size a ≤ S81920x8x128.size a) ∧
  (∀ (k0_h1 : k0_cond1 i = 1#1), ∀ (k0_h48 : k0_cond48 v194 = 1#1), ∀ (hinb : ∀ a, (k0_off47 v522) a + S512x8x128.size a ≤ S81920x8x128.size a), (Rect.unit (s := S81920x8x128) (k0_off47 v522) S512x8x128.size hinb).WholeWords (EltTy.packing .bf16))
theorem k0_off47_inb : ∀ (i : grid0.Coords) (v194 : BitVec 32) (v522 : BitVec 32) (k0_hw47 : k0_chk47 i v194 v522), ∀ (k0_h1 : k0_cond1 i = 1#1), ∀ (k0_h48 : k0_cond48 v194 = 1#1), ∀ a, (k0_off47 v522) a + S512x8x128.size a ≤ S81920x8x128.size a := fun i v194 v522 k0_hw47 k0_h1 k0_h48 => k0_hw47.1 k0_h1 k0_h48
theorem k0_off47_wordsbf16 : ∀ (i : grid0.Coords) (v194 : BitVec 32) (v522 : BitVec 32) (k0_hw47 : k0_chk47 i v194 v522), ∀ (k0_h1 : k0_cond1 i = 1#1), ∀ (k0_h48 : k0_cond48 v194 = 1#1), (Rect.unit (s := S81920x8x128) (k0_off47 v522) S512x8x128.size (k0_off47_inb i v194 v522 k0_hw47 k0_h1 k0_h48)).WholeWords (EltTy.packing .bf16) := fun i v194 v522 k0_hw47 k0_h1 k0_h48 => k0_hw47.2 k0_h1 k0_h48 (k0_off47_inb i v194 v522 k0_hw47 k0_h1 k0_h48)

def k0_off48 (v522 : BitVec 32) : Fin 3 → Nat :=
  let c0_i32_333 : BitVec 32 := 0#32
  let c0_i32_334 : BitVec 32 := 0#32
  ![v522.toNat, 0, 0]
def k0_cond49 (v198 : BitVec 32) : BitVec 1 :=
  let c0_i32_106 : BitVec 32 := 0#32
  let v199 : BitVec 1 := Scalar.cmpi .sgt v198 c0_i32_106
  let v200 : BitVec 32 := Scalar.extui v199
  let c0_i32_107 : BitVec 32 := 0#32
  let v201 : BitVec 1 := Scalar.cmpi .ne v200 c0_i32_107
  v201

def k0_chk48 (i : grid0.Coords) (v198 : BitVec 32) (v522 : BitVec 32) : Prop :=
  (∀ (k0_h1 : k0_cond1 i = 1#1), ∀ (k0_h49 : k0_cond49 v198 = 1#1), ∀ a, (k0_off48 v522) a + S512x8x128.size a ≤ S81920x8x128.size a) ∧
  (∀ (k0_h1 : k0_cond1 i = 1#1), ∀ (k0_h49 : k0_cond49 v198 = 1#1), ∀ (hinb : ∀ a, (k0_off48 v522) a + S512x8x128.size a ≤ S81920x8x128.size a), (Rect.unit (s := S81920x8x128) (k0_off48 v522) S512x8x128.size hinb).WholeWords (EltTy.packing .bf16))
theorem k0_off48_inb : ∀ (i : grid0.Coords) (v198 : BitVec 32) (v522 : BitVec 32) (k0_hw48 : k0_chk48 i v198 v522), ∀ (k0_h1 : k0_cond1 i = 1#1), ∀ (k0_h49 : k0_cond49 v198 = 1#1), ∀ a, (k0_off48 v522) a + S512x8x128.size a ≤ S81920x8x128.size a := fun i v198 v522 k0_hw48 k0_h1 k0_h49 => k0_hw48.1 k0_h1 k0_h49
theorem k0_off48_wordsbf16 : ∀ (i : grid0.Coords) (v198 : BitVec 32) (v522 : BitVec 32) (k0_hw48 : k0_chk48 i v198 v522), ∀ (k0_h1 : k0_cond1 i = 1#1), ∀ (k0_h49 : k0_cond49 v198 = 1#1), (Rect.unit (s := S81920x8x128) (k0_off48 v522) S512x8x128.size (k0_off48_inb i v198 v522 k0_hw48 k0_h1 k0_h49)).WholeWords (EltTy.packing .bf16) := fun i v198 v522 k0_hw48 k0_h1 k0_h49 => k0_hw48.2 k0_h1 k0_h49 (k0_off48_inb i v198 v522 k0_hw48 k0_h1 k0_h49)

def k0_off49 (v522 : BitVec 32) : Fin 3 → Nat :=
  let c0_i32_333 : BitVec 32 := 0#32
  let c0_i32_334 : BitVec 32 := 0#32
  ![v522.toNat, 0, 0]
def k0_cond50 (v202 : BitVec 32) : BitVec 1 :=
  let c0_i32_108 : BitVec 32 := 0#32
  let v203 : BitVec 1 := Scalar.cmpi .sgt v202 c0_i32_108
  let v204 : BitVec 32 := Scalar.extui v203
  let c0_i32_109 : BitVec 32 := 0#32
  let v205 : BitVec 1 := Scalar.cmpi .ne v204 c0_i32_109
  v205

def k0_chk49 (i : grid0.Coords) (v202 : BitVec 32) (v522 : BitVec 32) : Prop :=
  (∀ (k0_h1 : k0_cond1 i = 1#1), ∀ (k0_h50 : k0_cond50 v202 = 1#1), ∀ a, (k0_off49 v522) a + S512x8x128.size a ≤ S81920x8x128.size a) ∧
  (∀ (k0_h1 : k0_cond1 i = 1#1), ∀ (k0_h50 : k0_cond50 v202 = 1#1), ∀ (hinb : ∀ a, (k0_off49 v522) a + S512x8x128.size a ≤ S81920x8x128.size a), (Rect.unit (s := S81920x8x128) (k0_off49 v522) S512x8x128.size hinb).WholeWords (EltTy.packing .bf16))
theorem k0_off49_inb : ∀ (i : grid0.Coords) (v202 : BitVec 32) (v522 : BitVec 32) (k0_hw49 : k0_chk49 i v202 v522), ∀ (k0_h1 : k0_cond1 i = 1#1), ∀ (k0_h50 : k0_cond50 v202 = 1#1), ∀ a, (k0_off49 v522) a + S512x8x128.size a ≤ S81920x8x128.size a := fun i v202 v522 k0_hw49 k0_h1 k0_h50 => k0_hw49.1 k0_h1 k0_h50
theorem k0_off49_wordsbf16 : ∀ (i : grid0.Coords) (v202 : BitVec 32) (v522 : BitVec 32) (k0_hw49 : k0_chk49 i v202 v522), ∀ (k0_h1 : k0_cond1 i = 1#1), ∀ (k0_h50 : k0_cond50 v202 = 1#1), (Rect.unit (s := S81920x8x128) (k0_off49 v522) S512x8x128.size (k0_off49_inb i v202 v522 k0_hw49 k0_h1 k0_h50)).WholeWords (EltTy.packing .bf16) := fun i v202 v522 k0_hw49 k0_h1 k0_h50 => k0_hw49.2 k0_h1 k0_h50 (k0_off49_inb i v202 v522 k0_hw49 k0_h1 k0_h50)

def k0_off50 (v522 : BitVec 32) : Fin 3 → Nat :=
  let c0_i32_333 : BitVec 32 := 0#32
  let c0_i32_334 : BitVec 32 := 0#32
  ![v522.toNat, 0, 0]
def k0_cond51 (v206 : BitVec 32) : BitVec 1 :=
  let c0_i32_110 : BitVec 32 := 0#32
  let v207 : BitVec 1 := Scalar.cmpi .sgt v206 c0_i32_110
  let v208 : BitVec 32 := Scalar.extui v207
  let c0_i32_111 : BitVec 32 := 0#32
  let v209 : BitVec 1 := Scalar.cmpi .ne v208 c0_i32_111
  v209

def k0_chk50 (i : grid0.Coords) (v206 : BitVec 32) (v522 : BitVec 32) : Prop :=
  (∀ (k0_h1 : k0_cond1 i = 1#1), ∀ (k0_h51 : k0_cond51 v206 = 1#1), ∀ a, (k0_off50 v522) a + S512x8x128.size a ≤ S81920x8x128.size a) ∧
  (∀ (k0_h1 : k0_cond1 i = 1#1), ∀ (k0_h51 : k0_cond51 v206 = 1#1), ∀ (hinb : ∀ a, (k0_off50 v522) a + S512x8x128.size a ≤ S81920x8x128.size a), (Rect.unit (s := S81920x8x128) (k0_off50 v522) S512x8x128.size hinb).WholeWords (EltTy.packing .bf16))
theorem k0_off50_inb : ∀ (i : grid0.Coords) (v206 : BitVec 32) (v522 : BitVec 32) (k0_hw50 : k0_chk50 i v206 v522), ∀ (k0_h1 : k0_cond1 i = 1#1), ∀ (k0_h51 : k0_cond51 v206 = 1#1), ∀ a, (k0_off50 v522) a + S512x8x128.size a ≤ S81920x8x128.size a := fun i v206 v522 k0_hw50 k0_h1 k0_h51 => k0_hw50.1 k0_h1 k0_h51
theorem k0_off50_wordsbf16 : ∀ (i : grid0.Coords) (v206 : BitVec 32) (v522 : BitVec 32) (k0_hw50 : k0_chk50 i v206 v522), ∀ (k0_h1 : k0_cond1 i = 1#1), ∀ (k0_h51 : k0_cond51 v206 = 1#1), (Rect.unit (s := S81920x8x128) (k0_off50 v522) S512x8x128.size (k0_off50_inb i v206 v522 k0_hw50 k0_h1 k0_h51)).WholeWords (EltTy.packing .bf16) := fun i v206 v522 k0_hw50 k0_h1 k0_h51 => k0_hw50.2 k0_h1 k0_h51 (k0_off50_inb i v206 v522 k0_hw50 k0_h1 k0_h51)

def k0_off51 (v522 : BitVec 32) : Fin 3 → Nat :=
  let c0_i32_333 : BitVec 32 := 0#32
  let c0_i32_334 : BitVec 32 := 0#32
  ![v522.toNat, 0, 0]
def k0_cond52 (v210 : BitVec 32) : BitVec 1 :=
  let c0_i32_112 : BitVec 32 := 0#32
  let v211 : BitVec 1 := Scalar.cmpi .sgt v210 c0_i32_112
  let v212 : BitVec 32 := Scalar.extui v211
  let c0_i32_113 : BitVec 32 := 0#32
  let v213 : BitVec 1 := Scalar.cmpi .ne v212 c0_i32_113
  v213

def k0_chk51 (i : grid0.Coords) (v210 : BitVec 32) (v522 : BitVec 32) : Prop :=
  (∀ (k0_h1 : k0_cond1 i = 1#1), ∀ (k0_h52 : k0_cond52 v210 = 1#1), ∀ a, (k0_off51 v522) a + S512x8x128.size a ≤ S81920x8x128.size a) ∧
  (∀ (k0_h1 : k0_cond1 i = 1#1), ∀ (k0_h52 : k0_cond52 v210 = 1#1), ∀ (hinb : ∀ a, (k0_off51 v522) a + S512x8x128.size a ≤ S81920x8x128.size a), (Rect.unit (s := S81920x8x128) (k0_off51 v522) S512x8x128.size hinb).WholeWords (EltTy.packing .bf16))
theorem k0_off51_inb : ∀ (i : grid0.Coords) (v210 : BitVec 32) (v522 : BitVec 32) (k0_hw51 : k0_chk51 i v210 v522), ∀ (k0_h1 : k0_cond1 i = 1#1), ∀ (k0_h52 : k0_cond52 v210 = 1#1), ∀ a, (k0_off51 v522) a + S512x8x128.size a ≤ S81920x8x128.size a := fun i v210 v522 k0_hw51 k0_h1 k0_h52 => k0_hw51.1 k0_h1 k0_h52
theorem k0_off51_wordsbf16 : ∀ (i : grid0.Coords) (v210 : BitVec 32) (v522 : BitVec 32) (k0_hw51 : k0_chk51 i v210 v522), ∀ (k0_h1 : k0_cond1 i = 1#1), ∀ (k0_h52 : k0_cond52 v210 = 1#1), (Rect.unit (s := S81920x8x128) (k0_off51 v522) S512x8x128.size (k0_off51_inb i v210 v522 k0_hw51 k0_h1 k0_h52)).WholeWords (EltTy.packing .bf16) := fun i v210 v522 k0_hw51 k0_h1 k0_h52 => k0_hw51.2 k0_h1 k0_h52 (k0_off51_inb i v210 v522 k0_hw51 k0_h1 k0_h52)

def k0_off52 (v522 : BitVec 32) : Fin 3 → Nat :=
  let c0_i32_333 : BitVec 32 := 0#32
  let c0_i32_334 : BitVec 32 := 0#32
  ![v522.toNat, 0, 0]
def k0_cond53 (v214 : BitVec 32) : BitVec 1 :=
  let c0_i32_114 : BitVec 32 := 0#32
  let v215 : BitVec 1 := Scalar.cmpi .sgt v214 c0_i32_114
  let v216 : BitVec 32 := Scalar.extui v215
  let c0_i32_115 : BitVec 32 := 0#32
  let v217 : BitVec 1 := Scalar.cmpi .ne v216 c0_i32_115
  v217

def k0_chk52 (i : grid0.Coords) (v214 : BitVec 32) (v522 : BitVec 32) : Prop :=
  (∀ (k0_h1 : k0_cond1 i = 1#1), ∀ (k0_h53 : k0_cond53 v214 = 1#1), ∀ a, (k0_off52 v522) a + S512x8x128.size a ≤ S81920x8x128.size a) ∧
  (∀ (k0_h1 : k0_cond1 i = 1#1), ∀ (k0_h53 : k0_cond53 v214 = 1#1), ∀ (hinb : ∀ a, (k0_off52 v522) a + S512x8x128.size a ≤ S81920x8x128.size a), (Rect.unit (s := S81920x8x128) (k0_off52 v522) S512x8x128.size hinb).WholeWords (EltTy.packing .bf16))
theorem k0_off52_inb : ∀ (i : grid0.Coords) (v214 : BitVec 32) (v522 : BitVec 32) (k0_hw52 : k0_chk52 i v214 v522), ∀ (k0_h1 : k0_cond1 i = 1#1), ∀ (k0_h53 : k0_cond53 v214 = 1#1), ∀ a, (k0_off52 v522) a + S512x8x128.size a ≤ S81920x8x128.size a := fun i v214 v522 k0_hw52 k0_h1 k0_h53 => k0_hw52.1 k0_h1 k0_h53
theorem k0_off52_wordsbf16 : ∀ (i : grid0.Coords) (v214 : BitVec 32) (v522 : BitVec 32) (k0_hw52 : k0_chk52 i v214 v522), ∀ (k0_h1 : k0_cond1 i = 1#1), ∀ (k0_h53 : k0_cond53 v214 = 1#1), (Rect.unit (s := S81920x8x128) (k0_off52 v522) S512x8x128.size (k0_off52_inb i v214 v522 k0_hw52 k0_h1 k0_h53)).WholeWords (EltTy.packing .bf16) := fun i v214 v522 k0_hw52 k0_h1 k0_h53 => k0_hw52.2 k0_h1 k0_h53 (k0_off52_inb i v214 v522 k0_hw52 k0_h1 k0_h53)

def k0_off53 (v522 : BitVec 32) : Fin 3 → Nat :=
  let c0_i32_333 : BitVec 32 := 0#32
  let c0_i32_334 : BitVec 32 := 0#32
  ![v522.toNat, 0, 0]
def k0_cond54 (v218 : BitVec 32) : BitVec 1 :=
  let c0_i32_116 : BitVec 32 := 0#32
  let v219 : BitVec 1 := Scalar.cmpi .sgt v218 c0_i32_116
  let v220 : BitVec 32 := Scalar.extui v219
  let c0_i32_117 : BitVec 32 := 0#32
  let v221 : BitVec 1 := Scalar.cmpi .ne v220 c0_i32_117
  v221

def k0_chk53 (i : grid0.Coords) (v218 : BitVec 32) (v522 : BitVec 32) : Prop :=
  (∀ (k0_h1 : k0_cond1 i = 1#1), ∀ (k0_h54 : k0_cond54 v218 = 1#1), ∀ a, (k0_off53 v522) a + S512x8x128.size a ≤ S81920x8x128.size a) ∧
  (∀ (k0_h1 : k0_cond1 i = 1#1), ∀ (k0_h54 : k0_cond54 v218 = 1#1), ∀ (hinb : ∀ a, (k0_off53 v522) a + S512x8x128.size a ≤ S81920x8x128.size a), (Rect.unit (s := S81920x8x128) (k0_off53 v522) S512x8x128.size hinb).WholeWords (EltTy.packing .bf16))
theorem k0_off53_inb : ∀ (i : grid0.Coords) (v218 : BitVec 32) (v522 : BitVec 32) (k0_hw53 : k0_chk53 i v218 v522), ∀ (k0_h1 : k0_cond1 i = 1#1), ∀ (k0_h54 : k0_cond54 v218 = 1#1), ∀ a, (k0_off53 v522) a + S512x8x128.size a ≤ S81920x8x128.size a := fun i v218 v522 k0_hw53 k0_h1 k0_h54 => k0_hw53.1 k0_h1 k0_h54
theorem k0_off53_wordsbf16 : ∀ (i : grid0.Coords) (v218 : BitVec 32) (v522 : BitVec 32) (k0_hw53 : k0_chk53 i v218 v522), ∀ (k0_h1 : k0_cond1 i = 1#1), ∀ (k0_h54 : k0_cond54 v218 = 1#1), (Rect.unit (s := S81920x8x128) (k0_off53 v522) S512x8x128.size (k0_off53_inb i v218 v522 k0_hw53 k0_h1 k0_h54)).WholeWords (EltTy.packing .bf16) := fun i v218 v522 k0_hw53 k0_h1 k0_h54 => k0_hw53.2 k0_h1 k0_h54 (k0_off53_inb i v218 v522 k0_hw53 k0_h1 k0_h54)

def k0_off54 (v522 : BitVec 32) : Fin 3 → Nat :=
  let c0_i32_333 : BitVec 32 := 0#32
  let c0_i32_334 : BitVec 32 := 0#32
  ![v522.toNat, 0, 0]
def k0_cond55 (v222 : BitVec 32) : BitVec 1 :=
  let c0_i32_118 : BitVec 32 := 0#32
  let v223 : BitVec 1 := Scalar.cmpi .sgt v222 c0_i32_118
  let v224 : BitVec 32 := Scalar.extui v223
  let c0_i32_119 : BitVec 32 := 0#32
  let v225 : BitVec 1 := Scalar.cmpi .ne v224 c0_i32_119
  v225

def k0_chk54 (i : grid0.Coords) (v222 : BitVec 32) (v522 : BitVec 32) : Prop :=
  (∀ (k0_h1 : k0_cond1 i = 1#1), ∀ (k0_h55 : k0_cond55 v222 = 1#1), ∀ a, (k0_off54 v522) a + S512x8x128.size a ≤ S81920x8x128.size a) ∧
  (∀ (k0_h1 : k0_cond1 i = 1#1), ∀ (k0_h55 : k0_cond55 v222 = 1#1), ∀ (hinb : ∀ a, (k0_off54 v522) a + S512x8x128.size a ≤ S81920x8x128.size a), (Rect.unit (s := S81920x8x128) (k0_off54 v522) S512x8x128.size hinb).WholeWords (EltTy.packing .bf16))
theorem k0_off54_inb : ∀ (i : grid0.Coords) (v222 : BitVec 32) (v522 : BitVec 32) (k0_hw54 : k0_chk54 i v222 v522), ∀ (k0_h1 : k0_cond1 i = 1#1), ∀ (k0_h55 : k0_cond55 v222 = 1#1), ∀ a, (k0_off54 v522) a + S512x8x128.size a ≤ S81920x8x128.size a := fun i v222 v522 k0_hw54 k0_h1 k0_h55 => k0_hw54.1 k0_h1 k0_h55
theorem k0_off54_wordsbf16 : ∀ (i : grid0.Coords) (v222 : BitVec 32) (v522 : BitVec 32) (k0_hw54 : k0_chk54 i v222 v522), ∀ (k0_h1 : k0_cond1 i = 1#1), ∀ (k0_h55 : k0_cond55 v222 = 1#1), (Rect.unit (s := S81920x8x128) (k0_off54 v522) S512x8x128.size (k0_off54_inb i v222 v522 k0_hw54 k0_h1 k0_h55)).WholeWords (EltTy.packing .bf16) := fun i v222 v522 k0_hw54 k0_h1 k0_h55 => k0_hw54.2 k0_h1 k0_h55 (k0_off54_inb i v222 v522 k0_hw54 k0_h1 k0_h55)

def k0_off55 (v522 : BitVec 32) : Fin 3 → Nat :=
  let c0_i32_333 : BitVec 32 := 0#32
  let c0_i32_334 : BitVec 32 := 0#32
  ![v522.toNat, 0, 0]
def k0_cond56 (v226 : BitVec 32) : BitVec 1 :=
  let c0_i32_120 : BitVec 32 := 0#32
  let v227 : BitVec 1 := Scalar.cmpi .sgt v226 c0_i32_120
  let v228 : BitVec 32 := Scalar.extui v227
  let c0_i32_121 : BitVec 32 := 0#32
  let v229 : BitVec 1 := Scalar.cmpi .ne v228 c0_i32_121
  v229

def k0_chk55 (i : grid0.Coords) (v226 : BitVec 32) (v522 : BitVec 32) : Prop :=
  (∀ (k0_h1 : k0_cond1 i = 1#1), ∀ (k0_h56 : k0_cond56 v226 = 1#1), ∀ a, (k0_off55 v522) a + S512x8x128.size a ≤ S81920x8x128.size a) ∧
  (∀ (k0_h1 : k0_cond1 i = 1#1), ∀ (k0_h56 : k0_cond56 v226 = 1#1), ∀ (hinb : ∀ a, (k0_off55 v522) a + S512x8x128.size a ≤ S81920x8x128.size a), (Rect.unit (s := S81920x8x128) (k0_off55 v522) S512x8x128.size hinb).WholeWords (EltTy.packing .bf16))
theorem k0_off55_inb : ∀ (i : grid0.Coords) (v226 : BitVec 32) (v522 : BitVec 32) (k0_hw55 : k0_chk55 i v226 v522), ∀ (k0_h1 : k0_cond1 i = 1#1), ∀ (k0_h56 : k0_cond56 v226 = 1#1), ∀ a, (k0_off55 v522) a + S512x8x128.size a ≤ S81920x8x128.size a := fun i v226 v522 k0_hw55 k0_h1 k0_h56 => k0_hw55.1 k0_h1 k0_h56
theorem k0_off55_wordsbf16 : ∀ (i : grid0.Coords) (v226 : BitVec 32) (v522 : BitVec 32) (k0_hw55 : k0_chk55 i v226 v522), ∀ (k0_h1 : k0_cond1 i = 1#1), ∀ (k0_h56 : k0_cond56 v226 = 1#1), (Rect.unit (s := S81920x8x128) (k0_off55 v522) S512x8x128.size (k0_off55_inb i v226 v522 k0_hw55 k0_h1 k0_h56)).WholeWords (EltTy.packing .bf16) := fun i v226 v522 k0_hw55 k0_h1 k0_h56 => k0_hw55.2 k0_h1 k0_h56 (k0_off55_inb i v226 v522 k0_hw55 k0_h1 k0_h56)

def k0_off56 (v522 : BitVec 32) : Fin 3 → Nat :=
  let c0_i32_333 : BitVec 32 := 0#32
  let c0_i32_334 : BitVec 32 := 0#32
  ![v522.toNat, 0, 0]
def k0_cond57 (v230 : BitVec 32) : BitVec 1 :=
  let c0_i32_122 : BitVec 32 := 0#32
  let v231 : BitVec 1 := Scalar.cmpi .sgt v230 c0_i32_122
  let v232 : BitVec 32 := Scalar.extui v231
  let c0_i32_123 : BitVec 32 := 0#32
  let v233 : BitVec 1 := Scalar.cmpi .ne v232 c0_i32_123
  v233

def k0_chk56 (i : grid0.Coords) (v230 : BitVec 32) (v522 : BitVec 32) : Prop :=
  (∀ (k0_h1 : k0_cond1 i = 1#1), ∀ (k0_h57 : k0_cond57 v230 = 1#1), ∀ a, (k0_off56 v522) a + S512x8x128.size a ≤ S81920x8x128.size a) ∧
  (∀ (k0_h1 : k0_cond1 i = 1#1), ∀ (k0_h57 : k0_cond57 v230 = 1#1), ∀ (hinb : ∀ a, (k0_off56 v522) a + S512x8x128.size a ≤ S81920x8x128.size a), (Rect.unit (s := S81920x8x128) (k0_off56 v522) S512x8x128.size hinb).WholeWords (EltTy.packing .bf16))
theorem k0_off56_inb : ∀ (i : grid0.Coords) (v230 : BitVec 32) (v522 : BitVec 32) (k0_hw56 : k0_chk56 i v230 v522), ∀ (k0_h1 : k0_cond1 i = 1#1), ∀ (k0_h57 : k0_cond57 v230 = 1#1), ∀ a, (k0_off56 v522) a + S512x8x128.size a ≤ S81920x8x128.size a := fun i v230 v522 k0_hw56 k0_h1 k0_h57 => k0_hw56.1 k0_h1 k0_h57
theorem k0_off56_wordsbf16 : ∀ (i : grid0.Coords) (v230 : BitVec 32) (v522 : BitVec 32) (k0_hw56 : k0_chk56 i v230 v522), ∀ (k0_h1 : k0_cond1 i = 1#1), ∀ (k0_h57 : k0_cond57 v230 = 1#1), (Rect.unit (s := S81920x8x128) (k0_off56 v522) S512x8x128.size (k0_off56_inb i v230 v522 k0_hw56 k0_h1 k0_h57)).WholeWords (EltTy.packing .bf16) := fun i v230 v522 k0_hw56 k0_h1 k0_h57 => k0_hw56.2 k0_h1 k0_h57 (k0_off56_inb i v230 v522 k0_hw56 k0_h1 k0_h57)

def k0_off57 (v522 : BitVec 32) : Fin 3 → Nat :=
  let c0_i32_333 : BitVec 32 := 0#32
  let c0_i32_334 : BitVec 32 := 0#32
  ![v522.toNat, 0, 0]
def k0_cond58 (v234 : BitVec 32) : BitVec 1 :=
  let c0_i32_124 : BitVec 32 := 0#32
  let v235 : BitVec 1 := Scalar.cmpi .sgt v234 c0_i32_124
  let v236 : BitVec 32 := Scalar.extui v235
  let c0_i32_125 : BitVec 32 := 0#32
  let v237 : BitVec 1 := Scalar.cmpi .ne v236 c0_i32_125
  v237

def k0_chk57 (i : grid0.Coords) (v234 : BitVec 32) (v522 : BitVec 32) : Prop :=
  (∀ (k0_h1 : k0_cond1 i = 1#1), ∀ (k0_h58 : k0_cond58 v234 = 1#1), ∀ a, (k0_off57 v522) a + S512x8x128.size a ≤ S81920x8x128.size a) ∧
  (∀ (k0_h1 : k0_cond1 i = 1#1), ∀ (k0_h58 : k0_cond58 v234 = 1#1), ∀ (hinb : ∀ a, (k0_off57 v522) a + S512x8x128.size a ≤ S81920x8x128.size a), (Rect.unit (s := S81920x8x128) (k0_off57 v522) S512x8x128.size hinb).WholeWords (EltTy.packing .bf16))
theorem k0_off57_inb : ∀ (i : grid0.Coords) (v234 : BitVec 32) (v522 : BitVec 32) (k0_hw57 : k0_chk57 i v234 v522), ∀ (k0_h1 : k0_cond1 i = 1#1), ∀ (k0_h58 : k0_cond58 v234 = 1#1), ∀ a, (k0_off57 v522) a + S512x8x128.size a ≤ S81920x8x128.size a := fun i v234 v522 k0_hw57 k0_h1 k0_h58 => k0_hw57.1 k0_h1 k0_h58
theorem k0_off57_wordsbf16 : ∀ (i : grid0.Coords) (v234 : BitVec 32) (v522 : BitVec 32) (k0_hw57 : k0_chk57 i v234 v522), ∀ (k0_h1 : k0_cond1 i = 1#1), ∀ (k0_h58 : k0_cond58 v234 = 1#1), (Rect.unit (s := S81920x8x128) (k0_off57 v522) S512x8x128.size (k0_off57_inb i v234 v522 k0_hw57 k0_h1 k0_h58)).WholeWords (EltTy.packing .bf16) := fun i v234 v522 k0_hw57 k0_h1 k0_h58 => k0_hw57.2 k0_h1 k0_h58 (k0_off57_inb i v234 v522 k0_hw57 k0_h1 k0_h58)

def k0_off58 (v522 : BitVec 32) : Fin 3 → Nat :=
  let c0_i32_333 : BitVec 32 := 0#32
  let c0_i32_334 : BitVec 32 := 0#32
  ![v522.toNat, 0, 0]
def k0_cond59 (v238 : BitVec 32) : BitVec 1 :=
  let c0_i32_126 : BitVec 32 := 0#32
  let v239 : BitVec 1 := Scalar.cmpi .sgt v238 c0_i32_126
  let v240 : BitVec 32 := Scalar.extui v239
  let c0_i32_127 : BitVec 32 := 0#32
  let v241 : BitVec 1 := Scalar.cmpi .ne v240 c0_i32_127
  v241

def k0_chk58 (i : grid0.Coords) (v238 : BitVec 32) (v522 : BitVec 32) : Prop :=
  (∀ (k0_h1 : k0_cond1 i = 1#1), ∀ (k0_h59 : k0_cond59 v238 = 1#1), ∀ a, (k0_off58 v522) a + S512x8x128.size a ≤ S81920x8x128.size a) ∧
  (∀ (k0_h1 : k0_cond1 i = 1#1), ∀ (k0_h59 : k0_cond59 v238 = 1#1), ∀ (hinb : ∀ a, (k0_off58 v522) a + S512x8x128.size a ≤ S81920x8x128.size a), (Rect.unit (s := S81920x8x128) (k0_off58 v522) S512x8x128.size hinb).WholeWords (EltTy.packing .bf16))
theorem k0_off58_inb : ∀ (i : grid0.Coords) (v238 : BitVec 32) (v522 : BitVec 32) (k0_hw58 : k0_chk58 i v238 v522), ∀ (k0_h1 : k0_cond1 i = 1#1), ∀ (k0_h59 : k0_cond59 v238 = 1#1), ∀ a, (k0_off58 v522) a + S512x8x128.size a ≤ S81920x8x128.size a := fun i v238 v522 k0_hw58 k0_h1 k0_h59 => k0_hw58.1 k0_h1 k0_h59
theorem k0_off58_wordsbf16 : ∀ (i : grid0.Coords) (v238 : BitVec 32) (v522 : BitVec 32) (k0_hw58 : k0_chk58 i v238 v522), ∀ (k0_h1 : k0_cond1 i = 1#1), ∀ (k0_h59 : k0_cond59 v238 = 1#1), (Rect.unit (s := S81920x8x128) (k0_off58 v522) S512x8x128.size (k0_off58_inb i v238 v522 k0_hw58 k0_h1 k0_h59)).WholeWords (EltTy.packing .bf16) := fun i v238 v522 k0_hw58 k0_h1 k0_h59 => k0_hw58.2 k0_h1 k0_h59 (k0_off58_inb i v238 v522 k0_hw58 k0_h1 k0_h59)

def k0_off59 (v522 : BitVec 32) : Fin 3 → Nat :=
  let c0_i32_333 : BitVec 32 := 0#32
  let c0_i32_334 : BitVec 32 := 0#32
  ![v522.toNat, 0, 0]
def k0_cond60 (v242 : BitVec 32) : BitVec 1 :=
  let c0_i32_128 : BitVec 32 := 0#32
  let v243 : BitVec 1 := Scalar.cmpi .sgt v242 c0_i32_128
  let v244 : BitVec 32 := Scalar.extui v243
  let c0_i32_129 : BitVec 32 := 0#32
  let v245 : BitVec 1 := Scalar.cmpi .ne v244 c0_i32_129
  v245

def k0_chk59 (i : grid0.Coords) (v242 : BitVec 32) (v522 : BitVec 32) : Prop :=
  (∀ (k0_h1 : k0_cond1 i = 1#1), ∀ (k0_h60 : k0_cond60 v242 = 1#1), ∀ a, (k0_off59 v522) a + S512x8x128.size a ≤ S81920x8x128.size a) ∧
  (∀ (k0_h1 : k0_cond1 i = 1#1), ∀ (k0_h60 : k0_cond60 v242 = 1#1), ∀ (hinb : ∀ a, (k0_off59 v522) a + S512x8x128.size a ≤ S81920x8x128.size a), (Rect.unit (s := S81920x8x128) (k0_off59 v522) S512x8x128.size hinb).WholeWords (EltTy.packing .bf16))
theorem k0_off59_inb : ∀ (i : grid0.Coords) (v242 : BitVec 32) (v522 : BitVec 32) (k0_hw59 : k0_chk59 i v242 v522), ∀ (k0_h1 : k0_cond1 i = 1#1), ∀ (k0_h60 : k0_cond60 v242 = 1#1), ∀ a, (k0_off59 v522) a + S512x8x128.size a ≤ S81920x8x128.size a := fun i v242 v522 k0_hw59 k0_h1 k0_h60 => k0_hw59.1 k0_h1 k0_h60
theorem k0_off59_wordsbf16 : ∀ (i : grid0.Coords) (v242 : BitVec 32) (v522 : BitVec 32) (k0_hw59 : k0_chk59 i v242 v522), ∀ (k0_h1 : k0_cond1 i = 1#1), ∀ (k0_h60 : k0_cond60 v242 = 1#1), (Rect.unit (s := S81920x8x128) (k0_off59 v522) S512x8x128.size (k0_off59_inb i v242 v522 k0_hw59 k0_h1 k0_h60)).WholeWords (EltTy.packing .bf16) := fun i v242 v522 k0_hw59 k0_h1 k0_h60 => k0_hw59.2 k0_h1 k0_h60 (k0_off59_inb i v242 v522 k0_hw59 k0_h1 k0_h60)

def k0_off60 (v522 : BitVec 32) : Fin 3 → Nat :=
  let c0_i32_333 : BitVec 32 := 0#32
  let c0_i32_334 : BitVec 32 := 0#32
  ![v522.toNat, 0, 0]
def k0_cond61 (v246 : BitVec 32) : BitVec 1 :=
  let c0_i32_130 : BitVec 32 := 0#32
  let v247 : BitVec 1 := Scalar.cmpi .sgt v246 c0_i32_130
  let v248 : BitVec 32 := Scalar.extui v247
  let c0_i32_131 : BitVec 32 := 0#32
  let v249 : BitVec 1 := Scalar.cmpi .ne v248 c0_i32_131
  v249

def k0_chk60 (i : grid0.Coords) (v246 : BitVec 32) (v522 : BitVec 32) : Prop :=
  (∀ (k0_h1 : k0_cond1 i = 1#1), ∀ (k0_h61 : k0_cond61 v246 = 1#1), ∀ a, (k0_off60 v522) a + S512x8x128.size a ≤ S81920x8x128.size a) ∧
  (∀ (k0_h1 : k0_cond1 i = 1#1), ∀ (k0_h61 : k0_cond61 v246 = 1#1), ∀ (hinb : ∀ a, (k0_off60 v522) a + S512x8x128.size a ≤ S81920x8x128.size a), (Rect.unit (s := S81920x8x128) (k0_off60 v522) S512x8x128.size hinb).WholeWords (EltTy.packing .bf16))
theorem k0_off60_inb : ∀ (i : grid0.Coords) (v246 : BitVec 32) (v522 : BitVec 32) (k0_hw60 : k0_chk60 i v246 v522), ∀ (k0_h1 : k0_cond1 i = 1#1), ∀ (k0_h61 : k0_cond61 v246 = 1#1), ∀ a, (k0_off60 v522) a + S512x8x128.size a ≤ S81920x8x128.size a := fun i v246 v522 k0_hw60 k0_h1 k0_h61 => k0_hw60.1 k0_h1 k0_h61
theorem k0_off60_wordsbf16 : ∀ (i : grid0.Coords) (v246 : BitVec 32) (v522 : BitVec 32) (k0_hw60 : k0_chk60 i v246 v522), ∀ (k0_h1 : k0_cond1 i = 1#1), ∀ (k0_h61 : k0_cond61 v246 = 1#1), (Rect.unit (s := S81920x8x128) (k0_off60 v522) S512x8x128.size (k0_off60_inb i v246 v522 k0_hw60 k0_h1 k0_h61)).WholeWords (EltTy.packing .bf16) := fun i v246 v522 k0_hw60 k0_h1 k0_h61 => k0_hw60.2 k0_h1 k0_h61 (k0_off60_inb i v246 v522 k0_hw60 k0_h1 k0_h61)

def k0_off61 (v522 : BitVec 32) : Fin 3 → Nat :=
  let c0_i32_333 : BitVec 32 := 0#32
  let c0_i32_334 : BitVec 32 := 0#32
  ![v522.toNat, 0, 0]
def k0_cond62 (v250 : BitVec 32) : BitVec 1 :=
  let c0_i32_132 : BitVec 32 := 0#32
  let v251 : BitVec 1 := Scalar.cmpi .sgt v250 c0_i32_132
  let v252 : BitVec 32 := Scalar.extui v251
  let c0_i32_133 : BitVec 32 := 0#32
  let v253 : BitVec 1 := Scalar.cmpi .ne v252 c0_i32_133
  v253

def k0_chk61 (i : grid0.Coords) (v250 : BitVec 32) (v522 : BitVec 32) : Prop :=
  (∀ (k0_h1 : k0_cond1 i = 1#1), ∀ (k0_h62 : k0_cond62 v250 = 1#1), ∀ a, (k0_off61 v522) a + S512x8x128.size a ≤ S81920x8x128.size a) ∧
  (∀ (k0_h1 : k0_cond1 i = 1#1), ∀ (k0_h62 : k0_cond62 v250 = 1#1), ∀ (hinb : ∀ a, (k0_off61 v522) a + S512x8x128.size a ≤ S81920x8x128.size a), (Rect.unit (s := S81920x8x128) (k0_off61 v522) S512x8x128.size hinb).WholeWords (EltTy.packing .bf16))
theorem k0_off61_inb : ∀ (i : grid0.Coords) (v250 : BitVec 32) (v522 : BitVec 32) (k0_hw61 : k0_chk61 i v250 v522), ∀ (k0_h1 : k0_cond1 i = 1#1), ∀ (k0_h62 : k0_cond62 v250 = 1#1), ∀ a, (k0_off61 v522) a + S512x8x128.size a ≤ S81920x8x128.size a := fun i v250 v522 k0_hw61 k0_h1 k0_h62 => k0_hw61.1 k0_h1 k0_h62
theorem k0_off61_wordsbf16 : ∀ (i : grid0.Coords) (v250 : BitVec 32) (v522 : BitVec 32) (k0_hw61 : k0_chk61 i v250 v522), ∀ (k0_h1 : k0_cond1 i = 1#1), ∀ (k0_h62 : k0_cond62 v250 = 1#1), (Rect.unit (s := S81920x8x128) (k0_off61 v522) S512x8x128.size (k0_off61_inb i v250 v522 k0_hw61 k0_h1 k0_h62)).WholeWords (EltTy.packing .bf16) := fun i v250 v522 k0_hw61 k0_h1 k0_h62 => k0_hw61.2 k0_h1 k0_h62 (k0_off61_inb i v250 v522 k0_hw61 k0_h1 k0_h62)

def k0_off62 (v522 : BitVec 32) : Fin 3 → Nat :=
  let c0_i32_333 : BitVec 32 := 0#32
  let c0_i32_334 : BitVec 32 := 0#32
  ![v522.toNat, 0, 0]
def k0_cond63 (v254 : BitVec 32) : BitVec 1 :=
  let c0_i32_134 : BitVec 32 := 0#32
  let v255 : BitVec 1 := Scalar.cmpi .sgt v254 c0_i32_134
  let v256 : BitVec 32 := Scalar.extui v255
  let c0_i32_135 : BitVec 32 := 0#32
  let v257 : BitVec 1 := Scalar.cmpi .ne v256 c0_i32_135
  v257

def k0_chk62 (i : grid0.Coords) (v254 : BitVec 32) (v522 : BitVec 32) : Prop :=
  (∀ (k0_h1 : k0_cond1 i = 1#1), ∀ (k0_h63 : k0_cond63 v254 = 1#1), ∀ a, (k0_off62 v522) a + S512x8x128.size a ≤ S81920x8x128.size a) ∧
  (∀ (k0_h1 : k0_cond1 i = 1#1), ∀ (k0_h63 : k0_cond63 v254 = 1#1), ∀ (hinb : ∀ a, (k0_off62 v522) a + S512x8x128.size a ≤ S81920x8x128.size a), (Rect.unit (s := S81920x8x128) (k0_off62 v522) S512x8x128.size hinb).WholeWords (EltTy.packing .bf16))
theorem k0_off62_inb : ∀ (i : grid0.Coords) (v254 : BitVec 32) (v522 : BitVec 32) (k0_hw62 : k0_chk62 i v254 v522), ∀ (k0_h1 : k0_cond1 i = 1#1), ∀ (k0_h63 : k0_cond63 v254 = 1#1), ∀ a, (k0_off62 v522) a + S512x8x128.size a ≤ S81920x8x128.size a := fun i v254 v522 k0_hw62 k0_h1 k0_h63 => k0_hw62.1 k0_h1 k0_h63
theorem k0_off62_wordsbf16 : ∀ (i : grid0.Coords) (v254 : BitVec 32) (v522 : BitVec 32) (k0_hw62 : k0_chk62 i v254 v522), ∀ (k0_h1 : k0_cond1 i = 1#1), ∀ (k0_h63 : k0_cond63 v254 = 1#1), (Rect.unit (s := S81920x8x128) (k0_off62 v522) S512x8x128.size (k0_off62_inb i v254 v522 k0_hw62 k0_h1 k0_h63)).WholeWords (EltTy.packing .bf16) := fun i v254 v522 k0_hw62 k0_h1 k0_h63 => k0_hw62.2 k0_h1 k0_h63 (k0_off62_inb i v254 v522 k0_hw62 k0_h1 k0_h63)

def k0_off63 (v522 : BitVec 32) : Fin 3 → Nat :=
  let c0_i32_333 : BitVec 32 := 0#32
  let c0_i32_334 : BitVec 32 := 0#32
  ![v522.toNat, 0, 0]
def k0_cond64 (v258 : BitVec 32) : BitVec 1 :=
  let c0_i32_136 : BitVec 32 := 0#32
  let v259 : BitVec 1 := Scalar.cmpi .sgt v258 c0_i32_136
  let v260 : BitVec 32 := Scalar.extui v259
  let c0_i32_137 : BitVec 32 := 0#32
  let v261 : BitVec 1 := Scalar.cmpi .ne v260 c0_i32_137
  v261

def k0_chk63 (i : grid0.Coords) (v258 : BitVec 32) (v522 : BitVec 32) : Prop :=
  (∀ (k0_h1 : k0_cond1 i = 1#1), ∀ (k0_h64 : k0_cond64 v258 = 1#1), ∀ a, (k0_off63 v522) a + S512x8x128.size a ≤ S81920x8x128.size a) ∧
  (∀ (k0_h1 : k0_cond1 i = 1#1), ∀ (k0_h64 : k0_cond64 v258 = 1#1), ∀ (hinb : ∀ a, (k0_off63 v522) a + S512x8x128.size a ≤ S81920x8x128.size a), (Rect.unit (s := S81920x8x128) (k0_off63 v522) S512x8x128.size hinb).WholeWords (EltTy.packing .bf16))
theorem k0_off63_inb : ∀ (i : grid0.Coords) (v258 : BitVec 32) (v522 : BitVec 32) (k0_hw63 : k0_chk63 i v258 v522), ∀ (k0_h1 : k0_cond1 i = 1#1), ∀ (k0_h64 : k0_cond64 v258 = 1#1), ∀ a, (k0_off63 v522) a + S512x8x128.size a ≤ S81920x8x128.size a := fun i v258 v522 k0_hw63 k0_h1 k0_h64 => k0_hw63.1 k0_h1 k0_h64
theorem k0_off63_wordsbf16 : ∀ (i : grid0.Coords) (v258 : BitVec 32) (v522 : BitVec 32) (k0_hw63 : k0_chk63 i v258 v522), ∀ (k0_h1 : k0_cond1 i = 1#1), ∀ (k0_h64 : k0_cond64 v258 = 1#1), (Rect.unit (s := S81920x8x128) (k0_off63 v522) S512x8x128.size (k0_off63_inb i v258 v522 k0_hw63 k0_h1 k0_h64)).WholeWords (EltTy.packing .bf16) := fun i v258 v522 k0_hw63 k0_h1 k0_h64 => k0_hw63.2 k0_h1 k0_h64 (k0_off63_inb i v258 v522 k0_hw63 k0_h1 k0_h64)

def k0_off64 (v522 : BitVec 32) : Fin 3 → Nat :=
  let c0_i32_333 : BitVec 32 := 0#32
  let c0_i32_334 : BitVec 32 := 0#32
  ![v522.toNat, 0, 0]
def k0_cond65 (v262 : BitVec 32) : BitVec 1 :=
  let c0_i32_138 : BitVec 32 := 0#32
  let v263 : BitVec 1 := Scalar.cmpi .sgt v262 c0_i32_138
  let v264 : BitVec 32 := Scalar.extui v263
  let c0_i32_139 : BitVec 32 := 0#32
  let v265 : BitVec 1 := Scalar.cmpi .ne v264 c0_i32_139
  v265

def k0_chk64 (i : grid0.Coords) (v262 : BitVec 32) (v522 : BitVec 32) : Prop :=
  (∀ (k0_h1 : k0_cond1 i = 1#1), ∀ (k0_h65 : k0_cond65 v262 = 1#1), ∀ a, (k0_off64 v522) a + S512x8x128.size a ≤ S81920x8x128.size a) ∧
  (∀ (k0_h1 : k0_cond1 i = 1#1), ∀ (k0_h65 : k0_cond65 v262 = 1#1), ∀ (hinb : ∀ a, (k0_off64 v522) a + S512x8x128.size a ≤ S81920x8x128.size a), (Rect.unit (s := S81920x8x128) (k0_off64 v522) S512x8x128.size hinb).WholeWords (EltTy.packing .bf16))
theorem k0_off64_inb : ∀ (i : grid0.Coords) (v262 : BitVec 32) (v522 : BitVec 32) (k0_hw64 : k0_chk64 i v262 v522), ∀ (k0_h1 : k0_cond1 i = 1#1), ∀ (k0_h65 : k0_cond65 v262 = 1#1), ∀ a, (k0_off64 v522) a + S512x8x128.size a ≤ S81920x8x128.size a := fun i v262 v522 k0_hw64 k0_h1 k0_h65 => k0_hw64.1 k0_h1 k0_h65
theorem k0_off64_wordsbf16 : ∀ (i : grid0.Coords) (v262 : BitVec 32) (v522 : BitVec 32) (k0_hw64 : k0_chk64 i v262 v522), ∀ (k0_h1 : k0_cond1 i = 1#1), ∀ (k0_h65 : k0_cond65 v262 = 1#1), (Rect.unit (s := S81920x8x128) (k0_off64 v522) S512x8x128.size (k0_off64_inb i v262 v522 k0_hw64 k0_h1 k0_h65)).WholeWords (EltTy.packing .bf16) := fun i v262 v522 k0_hw64 k0_h1 k0_h65 => k0_hw64.2 k0_h1 k0_h65 (k0_off64_inb i v262 v522 k0_hw64 k0_h1 k0_h65)

def k0_off65 (v522 : BitVec 32) : Fin 3 → Nat :=
  let c0_i32_333 : BitVec 32 := 0#32
  let c0_i32_334 : BitVec 32 := 0#32
  ![v522.toNat, 0, 0]
def k0_cond66 (v266 : BitVec 32) : BitVec 1 :=
  let c0_i32_141 : BitVec 32 := 0#32
  let v267 : BitVec 1 := Scalar.cmpi .sgt v266 c0_i32_141
  let v268 : BitVec 32 := Scalar.extui v267
  let c0_i32_142 : BitVec 32 := 0#32
  let v269 : BitVec 1 := Scalar.cmpi .ne v268 c0_i32_142
  v269

def k0_chk65 (i : grid0.Coords) (v266 : BitVec 32) (v522 : BitVec 32) : Prop :=
  (∀ (k0_h1 : k0_cond1 i = 1#1), ∀ (k0_h66 : k0_cond66 v266 = 1#1), ∀ a, (k0_off65 v522) a + S512x8x128.size a ≤ S81920x8x128.size a) ∧
  (∀ (k0_h1 : k0_cond1 i = 1#1), ∀ (k0_h66 : k0_cond66 v266 = 1#1), ∀ (hinb : ∀ a, (k0_off65 v522) a + S512x8x128.size a ≤ S81920x8x128.size a), (Rect.unit (s := S81920x8x128) (k0_off65 v522) S512x8x128.size hinb).WholeWords (EltTy.packing .bf16))
theorem k0_off65_inb : ∀ (i : grid0.Coords) (v266 : BitVec 32) (v522 : BitVec 32) (k0_hw65 : k0_chk65 i v266 v522), ∀ (k0_h1 : k0_cond1 i = 1#1), ∀ (k0_h66 : k0_cond66 v266 = 1#1), ∀ a, (k0_off65 v522) a + S512x8x128.size a ≤ S81920x8x128.size a := fun i v266 v522 k0_hw65 k0_h1 k0_h66 => k0_hw65.1 k0_h1 k0_h66
theorem k0_off65_wordsbf16 : ∀ (i : grid0.Coords) (v266 : BitVec 32) (v522 : BitVec 32) (k0_hw65 : k0_chk65 i v266 v522), ∀ (k0_h1 : k0_cond1 i = 1#1), ∀ (k0_h66 : k0_cond66 v266 = 1#1), (Rect.unit (s := S81920x8x128) (k0_off65 v522) S512x8x128.size (k0_off65_inb i v266 v522 k0_hw65 k0_h1 k0_h66)).WholeWords (EltTy.packing .bf16) := fun i v266 v522 k0_hw65 k0_h1 k0_h66 => k0_hw65.2 k0_h1 k0_h66 (k0_off65_inb i v266 v522 k0_hw65 k0_h1 k0_h66)

def k0_off66 (v522 : BitVec 32) : Fin 3 → Nat :=
  let c0_i32_333 : BitVec 32 := 0#32
  let c0_i32_334 : BitVec 32 := 0#32
  ![v522.toNat, 0, 0]
def k0_cond67 (v270 : BitVec 32) : BitVec 1 :=
  let c0_i32_144 : BitVec 32 := 0#32
  let v271 : BitVec 1 := Scalar.cmpi .sgt v270 c0_i32_144
  let v272 : BitVec 32 := Scalar.extui v271
  let c0_i32_145 : BitVec 32 := 0#32
  let v273 : BitVec 1 := Scalar.cmpi .ne v272 c0_i32_145
  v273

def k0_chk66 (i : grid0.Coords) (v270 : BitVec 32) (v522 : BitVec 32) : Prop :=
  (∀ (k0_h1 : k0_cond1 i = 1#1), ∀ (k0_h67 : k0_cond67 v270 = 1#1), ∀ a, (k0_off66 v522) a + S512x8x128.size a ≤ S81920x8x128.size a) ∧
  (∀ (k0_h1 : k0_cond1 i = 1#1), ∀ (k0_h67 : k0_cond67 v270 = 1#1), ∀ (hinb : ∀ a, (k0_off66 v522) a + S512x8x128.size a ≤ S81920x8x128.size a), (Rect.unit (s := S81920x8x128) (k0_off66 v522) S512x8x128.size hinb).WholeWords (EltTy.packing .bf16))
theorem k0_off66_inb : ∀ (i : grid0.Coords) (v270 : BitVec 32) (v522 : BitVec 32) (k0_hw66 : k0_chk66 i v270 v522), ∀ (k0_h1 : k0_cond1 i = 1#1), ∀ (k0_h67 : k0_cond67 v270 = 1#1), ∀ a, (k0_off66 v522) a + S512x8x128.size a ≤ S81920x8x128.size a := fun i v270 v522 k0_hw66 k0_h1 k0_h67 => k0_hw66.1 k0_h1 k0_h67
theorem k0_off66_wordsbf16 : ∀ (i : grid0.Coords) (v270 : BitVec 32) (v522 : BitVec 32) (k0_hw66 : k0_chk66 i v270 v522), ∀ (k0_h1 : k0_cond1 i = 1#1), ∀ (k0_h67 : k0_cond67 v270 = 1#1), (Rect.unit (s := S81920x8x128) (k0_off66 v522) S512x8x128.size (k0_off66_inb i v270 v522 k0_hw66 k0_h1 k0_h67)).WholeWords (EltTy.packing .bf16) := fun i v270 v522 k0_hw66 k0_h1 k0_h67 => k0_hw66.2 k0_h1 k0_h67 (k0_off66_inb i v270 v522 k0_hw66 k0_h1 k0_h67)

def k0_off67 (v522 : BitVec 32) : Fin 3 → Nat :=
  let c0_i32_333 : BitVec 32 := 0#32
  let c0_i32_334 : BitVec 32 := 0#32
  ![v522.toNat, 0, 0]
def k0_cond68 (v274 : BitVec 32) : BitVec 1 :=
  let c0_i32_147 : BitVec 32 := 0#32
  let v275 : BitVec 1 := Scalar.cmpi .sgt v274 c0_i32_147
  let v276 : BitVec 32 := Scalar.extui v275
  let c0_i32_148 : BitVec 32 := 0#32
  let v277 : BitVec 1 := Scalar.cmpi .ne v276 c0_i32_148
  v277

def k0_chk67 (i : grid0.Coords) (v274 : BitVec 32) (v522 : BitVec 32) : Prop :=
  (∀ (k0_h1 : k0_cond1 i = 1#1), ∀ (k0_h68 : k0_cond68 v274 = 1#1), ∀ a, (k0_off67 v522) a + S512x8x128.size a ≤ S81920x8x128.size a) ∧
  (∀ (k0_h1 : k0_cond1 i = 1#1), ∀ (k0_h68 : k0_cond68 v274 = 1#1), ∀ (hinb : ∀ a, (k0_off67 v522) a + S512x8x128.size a ≤ S81920x8x128.size a), (Rect.unit (s := S81920x8x128) (k0_off67 v522) S512x8x128.size hinb).WholeWords (EltTy.packing .bf16))
theorem k0_off67_inb : ∀ (i : grid0.Coords) (v274 : BitVec 32) (v522 : BitVec 32) (k0_hw67 : k0_chk67 i v274 v522), ∀ (k0_h1 : k0_cond1 i = 1#1), ∀ (k0_h68 : k0_cond68 v274 = 1#1), ∀ a, (k0_off67 v522) a + S512x8x128.size a ≤ S81920x8x128.size a := fun i v274 v522 k0_hw67 k0_h1 k0_h68 => k0_hw67.1 k0_h1 k0_h68
theorem k0_off67_wordsbf16 : ∀ (i : grid0.Coords) (v274 : BitVec 32) (v522 : BitVec 32) (k0_hw67 : k0_chk67 i v274 v522), ∀ (k0_h1 : k0_cond1 i = 1#1), ∀ (k0_h68 : k0_cond68 v274 = 1#1), (Rect.unit (s := S81920x8x128) (k0_off67 v522) S512x8x128.size (k0_off67_inb i v274 v522 k0_hw67 k0_h1 k0_h68)).WholeWords (EltTy.packing .bf16) := fun i v274 v522 k0_hw67 k0_h1 k0_h68 => k0_hw67.2 k0_h1 k0_h68 (k0_off67_inb i v274 v522 k0_hw67 k0_h1 k0_h68)

def k0_off68 (v522 : BitVec 32) : Fin 3 → Nat :=
  let c0_i32_333 : BitVec 32 := 0#32
  let c0_i32_334 : BitVec 32 := 0#32
  ![v522.toNat, 0, 0]
def k0_cond69 (v278 : BitVec 32) : BitVec 1 :=
  let c0_i32_150 : BitVec 32 := 0#32
  let v279 : BitVec 1 := Scalar.cmpi .sgt v278 c0_i32_150
  let v280 : BitVec 32 := Scalar.extui v279
  let c0_i32_151 : BitVec 32 := 0#32
  let v281 : BitVec 1 := Scalar.cmpi .ne v280 c0_i32_151
  v281

def k0_chk68 (i : grid0.Coords) (v278 : BitVec 32) (v522 : BitVec 32) : Prop :=
  (∀ (k0_h1 : k0_cond1 i = 1#1), ∀ (k0_h69 : k0_cond69 v278 = 1#1), ∀ a, (k0_off68 v522) a + S512x8x128.size a ≤ S81920x8x128.size a) ∧
  (∀ (k0_h1 : k0_cond1 i = 1#1), ∀ (k0_h69 : k0_cond69 v278 = 1#1), ∀ (hinb : ∀ a, (k0_off68 v522) a + S512x8x128.size a ≤ S81920x8x128.size a), (Rect.unit (s := S81920x8x128) (k0_off68 v522) S512x8x128.size hinb).WholeWords (EltTy.packing .bf16))
theorem k0_off68_inb : ∀ (i : grid0.Coords) (v278 : BitVec 32) (v522 : BitVec 32) (k0_hw68 : k0_chk68 i v278 v522), ∀ (k0_h1 : k0_cond1 i = 1#1), ∀ (k0_h69 : k0_cond69 v278 = 1#1), ∀ a, (k0_off68 v522) a + S512x8x128.size a ≤ S81920x8x128.size a := fun i v278 v522 k0_hw68 k0_h1 k0_h69 => k0_hw68.1 k0_h1 k0_h69
theorem k0_off68_wordsbf16 : ∀ (i : grid0.Coords) (v278 : BitVec 32) (v522 : BitVec 32) (k0_hw68 : k0_chk68 i v278 v522), ∀ (k0_h1 : k0_cond1 i = 1#1), ∀ (k0_h69 : k0_cond69 v278 = 1#1), (Rect.unit (s := S81920x8x128) (k0_off68 v522) S512x8x128.size (k0_off68_inb i v278 v522 k0_hw68 k0_h1 k0_h69)).WholeWords (EltTy.packing .bf16) := fun i v278 v522 k0_hw68 k0_h1 k0_h69 => k0_hw68.2 k0_h1 k0_h69 (k0_off68_inb i v278 v522 k0_hw68 k0_h1 k0_h69)

def k0_off69 (v522 : BitVec 32) : Fin 3 → Nat :=
  let c0_i32_333 : BitVec 32 := 0#32
  let c0_i32_334 : BitVec 32 := 0#32
  ![v522.toNat, 0, 0]
def k0_cond70 (v282 : BitVec 32) : BitVec 1 :=
  let c0_i32_153 : BitVec 32 := 0#32
  let v283 : BitVec 1 := Scalar.cmpi .sgt v282 c0_i32_153
  let v284 : BitVec 32 := Scalar.extui v283
  let c0_i32_154 : BitVec 32 := 0#32
  let v285 : BitVec 1 := Scalar.cmpi .ne v284 c0_i32_154
  v285

def k0_chk69 (i : grid0.Coords) (v282 : BitVec 32) (v522 : BitVec 32) : Prop :=
  (∀ (k0_h1 : k0_cond1 i = 1#1), ∀ (k0_h70 : k0_cond70 v282 = 1#1), ∀ a, (k0_off69 v522) a + S512x8x128.size a ≤ S81920x8x128.size a) ∧
  (∀ (k0_h1 : k0_cond1 i = 1#1), ∀ (k0_h70 : k0_cond70 v282 = 1#1), ∀ (hinb : ∀ a, (k0_off69 v522) a + S512x8x128.size a ≤ S81920x8x128.size a), (Rect.unit (s := S81920x8x128) (k0_off69 v522) S512x8x128.size hinb).WholeWords (EltTy.packing .bf16))
theorem k0_off69_inb : ∀ (i : grid0.Coords) (v282 : BitVec 32) (v522 : BitVec 32) (k0_hw69 : k0_chk69 i v282 v522), ∀ (k0_h1 : k0_cond1 i = 1#1), ∀ (k0_h70 : k0_cond70 v282 = 1#1), ∀ a, (k0_off69 v522) a + S512x8x128.size a ≤ S81920x8x128.size a := fun i v282 v522 k0_hw69 k0_h1 k0_h70 => k0_hw69.1 k0_h1 k0_h70
theorem k0_off69_wordsbf16 : ∀ (i : grid0.Coords) (v282 : BitVec 32) (v522 : BitVec 32) (k0_hw69 : k0_chk69 i v282 v522), ∀ (k0_h1 : k0_cond1 i = 1#1), ∀ (k0_h70 : k0_cond70 v282 = 1#1), (Rect.unit (s := S81920x8x128) (k0_off69 v522) S512x8x128.size (k0_off69_inb i v282 v522 k0_hw69 k0_h1 k0_h70)).WholeWords (EltTy.packing .bf16) := fun i v282 v522 k0_hw69 k0_h1 k0_h70 => k0_hw69.2 k0_h1 k0_h70 (k0_off69_inb i v282 v522 k0_hw69 k0_h1 k0_h70)

def k0_off70 (v522 : BitVec 32) : Fin 3 → Nat :=
  let c0_i32_333 : BitVec 32 := 0#32
  let c0_i32_334 : BitVec 32 := 0#32
  ![v522.toNat, 0, 0]
def k0_cond71 (v286 : BitVec 32) : BitVec 1 :=
  let c0_i32_156 : BitVec 32 := 0#32
  let v287 : BitVec 1 := Scalar.cmpi .sgt v286 c0_i32_156
  let v288 : BitVec 32 := Scalar.extui v287
  let c0_i32_157 : BitVec 32 := 0#32
  let v289 : BitVec 1 := Scalar.cmpi .ne v288 c0_i32_157
  v289

def k0_chk70 (i : grid0.Coords) (v286 : BitVec 32) (v522 : BitVec 32) : Prop :=
  (∀ (k0_h1 : k0_cond1 i = 1#1), ∀ (k0_h71 : k0_cond71 v286 = 1#1), ∀ a, (k0_off70 v522) a + S512x8x128.size a ≤ S81920x8x128.size a) ∧
  (∀ (k0_h1 : k0_cond1 i = 1#1), ∀ (k0_h71 : k0_cond71 v286 = 1#1), ∀ (hinb : ∀ a, (k0_off70 v522) a + S512x8x128.size a ≤ S81920x8x128.size a), (Rect.unit (s := S81920x8x128) (k0_off70 v522) S512x8x128.size hinb).WholeWords (EltTy.packing .bf16))
theorem k0_off70_inb : ∀ (i : grid0.Coords) (v286 : BitVec 32) (v522 : BitVec 32) (k0_hw70 : k0_chk70 i v286 v522), ∀ (k0_h1 : k0_cond1 i = 1#1), ∀ (k0_h71 : k0_cond71 v286 = 1#1), ∀ a, (k0_off70 v522) a + S512x8x128.size a ≤ S81920x8x128.size a := fun i v286 v522 k0_hw70 k0_h1 k0_h71 => k0_hw70.1 k0_h1 k0_h71
theorem k0_off70_wordsbf16 : ∀ (i : grid0.Coords) (v286 : BitVec 32) (v522 : BitVec 32) (k0_hw70 : k0_chk70 i v286 v522), ∀ (k0_h1 : k0_cond1 i = 1#1), ∀ (k0_h71 : k0_cond71 v286 = 1#1), (Rect.unit (s := S81920x8x128) (k0_off70 v522) S512x8x128.size (k0_off70_inb i v286 v522 k0_hw70 k0_h1 k0_h71)).WholeWords (EltTy.packing .bf16) := fun i v286 v522 k0_hw70 k0_h1 k0_h71 => k0_hw70.2 k0_h1 k0_h71 (k0_off70_inb i v286 v522 k0_hw70 k0_h1 k0_h71)

def k0_off71 (v522 : BitVec 32) : Fin 3 → Nat :=
  let c0_i32_333 : BitVec 32 := 0#32
  let c0_i32_334 : BitVec 32 := 0#32
  ![v522.toNat, 0, 0]
def k0_cond72 (v290 : BitVec 32) : BitVec 1 :=
  let c0_i32_159 : BitVec 32 := 0#32
  let v291 : BitVec 1 := Scalar.cmpi .sgt v290 c0_i32_159
  let v292 : BitVec 32 := Scalar.extui v291
  let c0_i32_160 : BitVec 32 := 0#32
  let v293 : BitVec 1 := Scalar.cmpi .ne v292 c0_i32_160
  v293

def k0_chk71 (i : grid0.Coords) (v290 : BitVec 32) (v522 : BitVec 32) : Prop :=
  (∀ (k0_h1 : k0_cond1 i = 1#1), ∀ (k0_h72 : k0_cond72 v290 = 1#1), ∀ a, (k0_off71 v522) a + S512x8x128.size a ≤ S81920x8x128.size a) ∧
  (∀ (k0_h1 : k0_cond1 i = 1#1), ∀ (k0_h72 : k0_cond72 v290 = 1#1), ∀ (hinb : ∀ a, (k0_off71 v522) a + S512x8x128.size a ≤ S81920x8x128.size a), (Rect.unit (s := S81920x8x128) (k0_off71 v522) S512x8x128.size hinb).WholeWords (EltTy.packing .bf16))
theorem k0_off71_inb : ∀ (i : grid0.Coords) (v290 : BitVec 32) (v522 : BitVec 32) (k0_hw71 : k0_chk71 i v290 v522), ∀ (k0_h1 : k0_cond1 i = 1#1), ∀ (k0_h72 : k0_cond72 v290 = 1#1), ∀ a, (k0_off71 v522) a + S512x8x128.size a ≤ S81920x8x128.size a := fun i v290 v522 k0_hw71 k0_h1 k0_h72 => k0_hw71.1 k0_h1 k0_h72
theorem k0_off71_wordsbf16 : ∀ (i : grid0.Coords) (v290 : BitVec 32) (v522 : BitVec 32) (k0_hw71 : k0_chk71 i v290 v522), ∀ (k0_h1 : k0_cond1 i = 1#1), ∀ (k0_h72 : k0_cond72 v290 = 1#1), (Rect.unit (s := S81920x8x128) (k0_off71 v522) S512x8x128.size (k0_off71_inb i v290 v522 k0_hw71 k0_h1 k0_h72)).WholeWords (EltTy.packing .bf16) := fun i v290 v522 k0_hw71 k0_h1 k0_h72 => k0_hw71.2 k0_h1 k0_h72 (k0_off71_inb i v290 v522 k0_hw71 k0_h1 k0_h72)

def k0_off72 (v522 : BitVec 32) : Fin 3 → Nat :=
  let c0_i32_333 : BitVec 32 := 0#32
  let c0_i32_334 : BitVec 32 := 0#32
  ![v522.toNat, 0, 0]
def k0_cond73 (v294 : BitVec 32) : BitVec 1 :=
  let c0_i32_162 : BitVec 32 := 0#32
  let v295 : BitVec 1 := Scalar.cmpi .sgt v294 c0_i32_162
  let v296 : BitVec 32 := Scalar.extui v295
  let c0_i32_163 : BitVec 32 := 0#32
  let v297 : BitVec 1 := Scalar.cmpi .ne v296 c0_i32_163
  v297

def k0_chk72 (i : grid0.Coords) (v294 : BitVec 32) (v522 : BitVec 32) : Prop :=
  (∀ (k0_h1 : k0_cond1 i = 1#1), ∀ (k0_h73 : k0_cond73 v294 = 1#1), ∀ a, (k0_off72 v522) a + S512x8x128.size a ≤ S81920x8x128.size a) ∧
  (∀ (k0_h1 : k0_cond1 i = 1#1), ∀ (k0_h73 : k0_cond73 v294 = 1#1), ∀ (hinb : ∀ a, (k0_off72 v522) a + S512x8x128.size a ≤ S81920x8x128.size a), (Rect.unit (s := S81920x8x128) (k0_off72 v522) S512x8x128.size hinb).WholeWords (EltTy.packing .bf16))
theorem k0_off72_inb : ∀ (i : grid0.Coords) (v294 : BitVec 32) (v522 : BitVec 32) (k0_hw72 : k0_chk72 i v294 v522), ∀ (k0_h1 : k0_cond1 i = 1#1), ∀ (k0_h73 : k0_cond73 v294 = 1#1), ∀ a, (k0_off72 v522) a + S512x8x128.size a ≤ S81920x8x128.size a := fun i v294 v522 k0_hw72 k0_h1 k0_h73 => k0_hw72.1 k0_h1 k0_h73
theorem k0_off72_wordsbf16 : ∀ (i : grid0.Coords) (v294 : BitVec 32) (v522 : BitVec 32) (k0_hw72 : k0_chk72 i v294 v522), ∀ (k0_h1 : k0_cond1 i = 1#1), ∀ (k0_h73 : k0_cond73 v294 = 1#1), (Rect.unit (s := S81920x8x128) (k0_off72 v522) S512x8x128.size (k0_off72_inb i v294 v522 k0_hw72 k0_h1 k0_h73)).WholeWords (EltTy.packing .bf16) := fun i v294 v522 k0_hw72 k0_h1 k0_h73 => k0_hw72.2 k0_h1 k0_h73 (k0_off72_inb i v294 v522 k0_hw72 k0_h1 k0_h73)

def k0_off73 (v522 : BitVec 32) : Fin 3 → Nat :=
  let c0_i32_333 : BitVec 32 := 0#32
  let c0_i32_334 : BitVec 32 := 0#32
  ![v522.toNat, 0, 0]
def k0_cond74 (v298 : BitVec 32) : BitVec 1 :=
  let c0_i32_165 : BitVec 32 := 0#32
  let v299 : BitVec 1 := Scalar.cmpi .sgt v298 c0_i32_165
  let v300 : BitVec 32 := Scalar.extui v299
  let c0_i32_166 : BitVec 32 := 0#32
  let v301 : BitVec 1 := Scalar.cmpi .ne v300 c0_i32_166
  v301

def k0_chk73 (i : grid0.Coords) (v298 : BitVec 32) (v522 : BitVec 32) : Prop :=
  (∀ (k0_h1 : k0_cond1 i = 1#1), ∀ (k0_h74 : k0_cond74 v298 = 1#1), ∀ a, (k0_off73 v522) a + S512x8x128.size a ≤ S81920x8x128.size a) ∧
  (∀ (k0_h1 : k0_cond1 i = 1#1), ∀ (k0_h74 : k0_cond74 v298 = 1#1), ∀ (hinb : ∀ a, (k0_off73 v522) a + S512x8x128.size a ≤ S81920x8x128.size a), (Rect.unit (s := S81920x8x128) (k0_off73 v522) S512x8x128.size hinb).WholeWords (EltTy.packing .bf16))
theorem k0_off73_inb : ∀ (i : grid0.Coords) (v298 : BitVec 32) (v522 : BitVec 32) (k0_hw73 : k0_chk73 i v298 v522), ∀ (k0_h1 : k0_cond1 i = 1#1), ∀ (k0_h74 : k0_cond74 v298 = 1#1), ∀ a, (k0_off73 v522) a + S512x8x128.size a ≤ S81920x8x128.size a := fun i v298 v522 k0_hw73 k0_h1 k0_h74 => k0_hw73.1 k0_h1 k0_h74
theorem k0_off73_wordsbf16 : ∀ (i : grid0.Coords) (v298 : BitVec 32) (v522 : BitVec 32) (k0_hw73 : k0_chk73 i v298 v522), ∀ (k0_h1 : k0_cond1 i = 1#1), ∀ (k0_h74 : k0_cond74 v298 = 1#1), (Rect.unit (s := S81920x8x128) (k0_off73 v522) S512x8x128.size (k0_off73_inb i v298 v522 k0_hw73 k0_h1 k0_h74)).WholeWords (EltTy.packing .bf16) := fun i v298 v522 k0_hw73 k0_h1 k0_h74 => k0_hw73.2 k0_h1 k0_h74 (k0_off73_inb i v298 v522 k0_hw73 k0_h1 k0_h74)

def k0_off74 (v522 : BitVec 32) : Fin 3 → Nat :=
  let c0_i32_333 : BitVec 32 := 0#32
  let c0_i32_334 : BitVec 32 := 0#32
  ![v522.toNat, 0, 0]
def k0_cond75 (v302 : BitVec 32) : BitVec 1 :=
  let c0_i32_168 : BitVec 32 := 0#32
  let v303 : BitVec 1 := Scalar.cmpi .sgt v302 c0_i32_168
  let v304 : BitVec 32 := Scalar.extui v303
  let c0_i32_169 : BitVec 32 := 0#32
  let v305 : BitVec 1 := Scalar.cmpi .ne v304 c0_i32_169
  v305

def k0_chk74 (i : grid0.Coords) (v302 : BitVec 32) (v522 : BitVec 32) : Prop :=
  (∀ (k0_h1 : k0_cond1 i = 1#1), ∀ (k0_h75 : k0_cond75 v302 = 1#1), ∀ a, (k0_off74 v522) a + S512x8x128.size a ≤ S81920x8x128.size a) ∧
  (∀ (k0_h1 : k0_cond1 i = 1#1), ∀ (k0_h75 : k0_cond75 v302 = 1#1), ∀ (hinb : ∀ a, (k0_off74 v522) a + S512x8x128.size a ≤ S81920x8x128.size a), (Rect.unit (s := S81920x8x128) (k0_off74 v522) S512x8x128.size hinb).WholeWords (EltTy.packing .bf16))
theorem k0_off74_inb : ∀ (i : grid0.Coords) (v302 : BitVec 32) (v522 : BitVec 32) (k0_hw74 : k0_chk74 i v302 v522), ∀ (k0_h1 : k0_cond1 i = 1#1), ∀ (k0_h75 : k0_cond75 v302 = 1#1), ∀ a, (k0_off74 v522) a + S512x8x128.size a ≤ S81920x8x128.size a := fun i v302 v522 k0_hw74 k0_h1 k0_h75 => k0_hw74.1 k0_h1 k0_h75
theorem k0_off74_wordsbf16 : ∀ (i : grid0.Coords) (v302 : BitVec 32) (v522 : BitVec 32) (k0_hw74 : k0_chk74 i v302 v522), ∀ (k0_h1 : k0_cond1 i = 1#1), ∀ (k0_h75 : k0_cond75 v302 = 1#1), (Rect.unit (s := S81920x8x128) (k0_off74 v522) S512x8x128.size (k0_off74_inb i v302 v522 k0_hw74 k0_h1 k0_h75)).WholeWords (EltTy.packing .bf16) := fun i v302 v522 k0_hw74 k0_h1 k0_h75 => k0_hw74.2 k0_h1 k0_h75 (k0_off74_inb i v302 v522 k0_hw74 k0_h1 k0_h75)

def k0_off75 (v522 : BitVec 32) : Fin 3 → Nat :=
  let c0_i32_333 : BitVec 32 := 0#32
  let c0_i32_334 : BitVec 32 := 0#32
  ![v522.toNat, 0, 0]
def k0_cond76 (v306 : BitVec 32) : BitVec 1 :=
  let c0_i32_171 : BitVec 32 := 0#32
  let v307 : BitVec 1 := Scalar.cmpi .sgt v306 c0_i32_171
  let v308 : BitVec 32 := Scalar.extui v307
  let c0_i32_172 : BitVec 32 := 0#32
  let v309 : BitVec 1 := Scalar.cmpi .ne v308 c0_i32_172
  v309

def k0_chk75 (i : grid0.Coords) (v306 : BitVec 32) (v522 : BitVec 32) : Prop :=
  (∀ (k0_h1 : k0_cond1 i = 1#1), ∀ (k0_h76 : k0_cond76 v306 = 1#1), ∀ a, (k0_off75 v522) a + S512x8x128.size a ≤ S81920x8x128.size a) ∧
  (∀ (k0_h1 : k0_cond1 i = 1#1), ∀ (k0_h76 : k0_cond76 v306 = 1#1), ∀ (hinb : ∀ a, (k0_off75 v522) a + S512x8x128.size a ≤ S81920x8x128.size a), (Rect.unit (s := S81920x8x128) (k0_off75 v522) S512x8x128.size hinb).WholeWords (EltTy.packing .bf16))
theorem k0_off75_inb : ∀ (i : grid0.Coords) (v306 : BitVec 32) (v522 : BitVec 32) (k0_hw75 : k0_chk75 i v306 v522), ∀ (k0_h1 : k0_cond1 i = 1#1), ∀ (k0_h76 : k0_cond76 v306 = 1#1), ∀ a, (k0_off75 v522) a + S512x8x128.size a ≤ S81920x8x128.size a := fun i v306 v522 k0_hw75 k0_h1 k0_h76 => k0_hw75.1 k0_h1 k0_h76
theorem k0_off75_wordsbf16 : ∀ (i : grid0.Coords) (v306 : BitVec 32) (v522 : BitVec 32) (k0_hw75 : k0_chk75 i v306 v522), ∀ (k0_h1 : k0_cond1 i = 1#1), ∀ (k0_h76 : k0_cond76 v306 = 1#1), (Rect.unit (s := S81920x8x128) (k0_off75 v522) S512x8x128.size (k0_off75_inb i v306 v522 k0_hw75 k0_h1 k0_h76)).WholeWords (EltTy.packing .bf16) := fun i v306 v522 k0_hw75 k0_h1 k0_h76 => k0_hw75.2 k0_h1 k0_h76 (k0_off75_inb i v306 v522 k0_hw75 k0_h1 k0_h76)

def k0_off76 (v522 : BitVec 32) : Fin 3 → Nat :=
  let c0_i32_333 : BitVec 32 := 0#32
  let c0_i32_334 : BitVec 32 := 0#32
  ![v522.toNat, 0, 0]
def k0_cond77 (v310 : BitVec 32) : BitVec 1 :=
  let c0_i32_174 : BitVec 32 := 0#32
  let v311 : BitVec 1 := Scalar.cmpi .sgt v310 c0_i32_174
  let v312 : BitVec 32 := Scalar.extui v311
  let c0_i32_175 : BitVec 32 := 0#32
  let v313 : BitVec 1 := Scalar.cmpi .ne v312 c0_i32_175
  v313

def k0_chk76 (i : grid0.Coords) (v310 : BitVec 32) (v522 : BitVec 32) : Prop :=
  (∀ (k0_h1 : k0_cond1 i = 1#1), ∀ (k0_h77 : k0_cond77 v310 = 1#1), ∀ a, (k0_off76 v522) a + S512x8x128.size a ≤ S81920x8x128.size a) ∧
  (∀ (k0_h1 : k0_cond1 i = 1#1), ∀ (k0_h77 : k0_cond77 v310 = 1#1), ∀ (hinb : ∀ a, (k0_off76 v522) a + S512x8x128.size a ≤ S81920x8x128.size a), (Rect.unit (s := S81920x8x128) (k0_off76 v522) S512x8x128.size hinb).WholeWords (EltTy.packing .bf16))
theorem k0_off76_inb : ∀ (i : grid0.Coords) (v310 : BitVec 32) (v522 : BitVec 32) (k0_hw76 : k0_chk76 i v310 v522), ∀ (k0_h1 : k0_cond1 i = 1#1), ∀ (k0_h77 : k0_cond77 v310 = 1#1), ∀ a, (k0_off76 v522) a + S512x8x128.size a ≤ S81920x8x128.size a := fun i v310 v522 k0_hw76 k0_h1 k0_h77 => k0_hw76.1 k0_h1 k0_h77
theorem k0_off76_wordsbf16 : ∀ (i : grid0.Coords) (v310 : BitVec 32) (v522 : BitVec 32) (k0_hw76 : k0_chk76 i v310 v522), ∀ (k0_h1 : k0_cond1 i = 1#1), ∀ (k0_h77 : k0_cond77 v310 = 1#1), (Rect.unit (s := S81920x8x128) (k0_off76 v522) S512x8x128.size (k0_off76_inb i v310 v522 k0_hw76 k0_h1 k0_h77)).WholeWords (EltTy.packing .bf16) := fun i v310 v522 k0_hw76 k0_h1 k0_h77 => k0_hw76.2 k0_h1 k0_h77 (k0_off76_inb i v310 v522 k0_hw76 k0_h1 k0_h77)

def k0_off77 (v522 : BitVec 32) : Fin 3 → Nat :=
  let c0_i32_333 : BitVec 32 := 0#32
  let c0_i32_334 : BitVec 32 := 0#32
  ![v522.toNat, 0, 0]
def k0_cond78 (v314 : BitVec 32) : BitVec 1 :=
  let c0_i32_177 : BitVec 32 := 0#32
  let v315 : BitVec 1 := Scalar.cmpi .sgt v314 c0_i32_177
  let v316 : BitVec 32 := Scalar.extui v315
  let c0_i32_178 : BitVec 32 := 0#32
  let v317 : BitVec 1 := Scalar.cmpi .ne v316 c0_i32_178
  v317

def k0_chk77 (i : grid0.Coords) (v314 : BitVec 32) (v522 : BitVec 32) : Prop :=
  (∀ (k0_h1 : k0_cond1 i = 1#1), ∀ (k0_h78 : k0_cond78 v314 = 1#1), ∀ a, (k0_off77 v522) a + S512x8x128.size a ≤ S81920x8x128.size a) ∧
  (∀ (k0_h1 : k0_cond1 i = 1#1), ∀ (k0_h78 : k0_cond78 v314 = 1#1), ∀ (hinb : ∀ a, (k0_off77 v522) a + S512x8x128.size a ≤ S81920x8x128.size a), (Rect.unit (s := S81920x8x128) (k0_off77 v522) S512x8x128.size hinb).WholeWords (EltTy.packing .bf16))
theorem k0_off77_inb : ∀ (i : grid0.Coords) (v314 : BitVec 32) (v522 : BitVec 32) (k0_hw77 : k0_chk77 i v314 v522), ∀ (k0_h1 : k0_cond1 i = 1#1), ∀ (k0_h78 : k0_cond78 v314 = 1#1), ∀ a, (k0_off77 v522) a + S512x8x128.size a ≤ S81920x8x128.size a := fun i v314 v522 k0_hw77 k0_h1 k0_h78 => k0_hw77.1 k0_h1 k0_h78
theorem k0_off77_wordsbf16 : ∀ (i : grid0.Coords) (v314 : BitVec 32) (v522 : BitVec 32) (k0_hw77 : k0_chk77 i v314 v522), ∀ (k0_h1 : k0_cond1 i = 1#1), ∀ (k0_h78 : k0_cond78 v314 = 1#1), (Rect.unit (s := S81920x8x128) (k0_off77 v522) S512x8x128.size (k0_off77_inb i v314 v522 k0_hw77 k0_h1 k0_h78)).WholeWords (EltTy.packing .bf16) := fun i v314 v522 k0_hw77 k0_h1 k0_h78 => k0_hw77.2 k0_h1 k0_h78 (k0_off77_inb i v314 v522 k0_hw77 k0_h1 k0_h78)

def k0_off78 (v522 : BitVec 32) : Fin 3 → Nat :=
  let c0_i32_333 : BitVec 32 := 0#32
  let c0_i32_334 : BitVec 32 := 0#32
  ![v522.toNat, 0, 0]
def k0_cond79 (v318 : BitVec 32) : BitVec 1 :=
  let c0_i32_180 : BitVec 32 := 0#32
  let v319 : BitVec 1 := Scalar.cmpi .sgt v318 c0_i32_180
  let v320 : BitVec 32 := Scalar.extui v319
  let c0_i32_181 : BitVec 32 := 0#32
  let v321 : BitVec 1 := Scalar.cmpi .ne v320 c0_i32_181
  v321

def k0_chk78 (i : grid0.Coords) (v318 : BitVec 32) (v522 : BitVec 32) : Prop :=
  (∀ (k0_h1 : k0_cond1 i = 1#1), ∀ (k0_h79 : k0_cond79 v318 = 1#1), ∀ a, (k0_off78 v522) a + S512x8x128.size a ≤ S81920x8x128.size a) ∧
  (∀ (k0_h1 : k0_cond1 i = 1#1), ∀ (k0_h79 : k0_cond79 v318 = 1#1), ∀ (hinb : ∀ a, (k0_off78 v522) a + S512x8x128.size a ≤ S81920x8x128.size a), (Rect.unit (s := S81920x8x128) (k0_off78 v522) S512x8x128.size hinb).WholeWords (EltTy.packing .bf16))
theorem k0_off78_inb : ∀ (i : grid0.Coords) (v318 : BitVec 32) (v522 : BitVec 32) (k0_hw78 : k0_chk78 i v318 v522), ∀ (k0_h1 : k0_cond1 i = 1#1), ∀ (k0_h79 : k0_cond79 v318 = 1#1), ∀ a, (k0_off78 v522) a + S512x8x128.size a ≤ S81920x8x128.size a := fun i v318 v522 k0_hw78 k0_h1 k0_h79 => k0_hw78.1 k0_h1 k0_h79
theorem k0_off78_wordsbf16 : ∀ (i : grid0.Coords) (v318 : BitVec 32) (v522 : BitVec 32) (k0_hw78 : k0_chk78 i v318 v522), ∀ (k0_h1 : k0_cond1 i = 1#1), ∀ (k0_h79 : k0_cond79 v318 = 1#1), (Rect.unit (s := S81920x8x128) (k0_off78 v522) S512x8x128.size (k0_off78_inb i v318 v522 k0_hw78 k0_h1 k0_h79)).WholeWords (EltTy.packing .bf16) := fun i v318 v522 k0_hw78 k0_h1 k0_h79 => k0_hw78.2 k0_h1 k0_h79 (k0_off78_inb i v318 v522 k0_hw78 k0_h1 k0_h79)

def k0_off79 (v522 : BitVec 32) : Fin 3 → Nat :=
  let c0_i32_333 : BitVec 32 := 0#32
  let c0_i32_334 : BitVec 32 := 0#32
  ![v522.toNat, 0, 0]
def k0_cond80 (v322 : BitVec 32) : BitVec 1 :=
  let c0_i32_183 : BitVec 32 := 0#32
  let v323 : BitVec 1 := Scalar.cmpi .sgt v322 c0_i32_183
  let v324 : BitVec 32 := Scalar.extui v323
  let c0_i32_184 : BitVec 32 := 0#32
  let v325 : BitVec 1 := Scalar.cmpi .ne v324 c0_i32_184
  v325

def k0_chk79 (i : grid0.Coords) (v322 : BitVec 32) (v522 : BitVec 32) : Prop :=
  (∀ (k0_h1 : k0_cond1 i = 1#1), ∀ (k0_h80 : k0_cond80 v322 = 1#1), ∀ a, (k0_off79 v522) a + S512x8x128.size a ≤ S81920x8x128.size a) ∧
  (∀ (k0_h1 : k0_cond1 i = 1#1), ∀ (k0_h80 : k0_cond80 v322 = 1#1), ∀ (hinb : ∀ a, (k0_off79 v522) a + S512x8x128.size a ≤ S81920x8x128.size a), (Rect.unit (s := S81920x8x128) (k0_off79 v522) S512x8x128.size hinb).WholeWords (EltTy.packing .bf16))
theorem k0_off79_inb : ∀ (i : grid0.Coords) (v322 : BitVec 32) (v522 : BitVec 32) (k0_hw79 : k0_chk79 i v322 v522), ∀ (k0_h1 : k0_cond1 i = 1#1), ∀ (k0_h80 : k0_cond80 v322 = 1#1), ∀ a, (k0_off79 v522) a + S512x8x128.size a ≤ S81920x8x128.size a := fun i v322 v522 k0_hw79 k0_h1 k0_h80 => k0_hw79.1 k0_h1 k0_h80
theorem k0_off79_wordsbf16 : ∀ (i : grid0.Coords) (v322 : BitVec 32) (v522 : BitVec 32) (k0_hw79 : k0_chk79 i v322 v522), ∀ (k0_h1 : k0_cond1 i = 1#1), ∀ (k0_h80 : k0_cond80 v322 = 1#1), (Rect.unit (s := S81920x8x128) (k0_off79 v522) S512x8x128.size (k0_off79_inb i v322 v522 k0_hw79 k0_h1 k0_h80)).WholeWords (EltTy.packing .bf16) := fun i v322 v522 k0_hw79 k0_h1 k0_h80 => k0_hw79.2 k0_h1 k0_h80 (k0_off79_inb i v322 v522 k0_hw79 k0_h1 k0_h80)

def k0_off80 (v522 : BitVec 32) : Fin 3 → Nat :=
  let c0_i32_333 : BitVec 32 := 0#32
  let c0_i32_334 : BitVec 32 := 0#32
  ![v522.toNat, 0, 0]
def k0_cond81 (v326 : BitVec 32) : BitVec 1 :=
  let c0_i32_186 : BitVec 32 := 0#32
  let v327 : BitVec 1 := Scalar.cmpi .sgt v326 c0_i32_186
  let v328 : BitVec 32 := Scalar.extui v327
  let c0_i32_187 : BitVec 32 := 0#32
  let v329 : BitVec 1 := Scalar.cmpi .ne v328 c0_i32_187
  v329

def k0_chk80 (i : grid0.Coords) (v326 : BitVec 32) (v522 : BitVec 32) : Prop :=
  (∀ (k0_h1 : k0_cond1 i = 1#1), ∀ (k0_h81 : k0_cond81 v326 = 1#1), ∀ a, (k0_off80 v522) a + S512x8x128.size a ≤ S81920x8x128.size a) ∧
  (∀ (k0_h1 : k0_cond1 i = 1#1), ∀ (k0_h81 : k0_cond81 v326 = 1#1), ∀ (hinb : ∀ a, (k0_off80 v522) a + S512x8x128.size a ≤ S81920x8x128.size a), (Rect.unit (s := S81920x8x128) (k0_off80 v522) S512x8x128.size hinb).WholeWords (EltTy.packing .bf16))
theorem k0_off80_inb : ∀ (i : grid0.Coords) (v326 : BitVec 32) (v522 : BitVec 32) (k0_hw80 : k0_chk80 i v326 v522), ∀ (k0_h1 : k0_cond1 i = 1#1), ∀ (k0_h81 : k0_cond81 v326 = 1#1), ∀ a, (k0_off80 v522) a + S512x8x128.size a ≤ S81920x8x128.size a := fun i v326 v522 k0_hw80 k0_h1 k0_h81 => k0_hw80.1 k0_h1 k0_h81
theorem k0_off80_wordsbf16 : ∀ (i : grid0.Coords) (v326 : BitVec 32) (v522 : BitVec 32) (k0_hw80 : k0_chk80 i v326 v522), ∀ (k0_h1 : k0_cond1 i = 1#1), ∀ (k0_h81 : k0_cond81 v326 = 1#1), (Rect.unit (s := S81920x8x128) (k0_off80 v522) S512x8x128.size (k0_off80_inb i v326 v522 k0_hw80 k0_h1 k0_h81)).WholeWords (EltTy.packing .bf16) := fun i v326 v522 k0_hw80 k0_h1 k0_h81 => k0_hw80.2 k0_h1 k0_h81 (k0_off80_inb i v326 v522 k0_hw80 k0_h1 k0_h81)

def k0_off81 (v522 : BitVec 32) : Fin 3 → Nat :=
  let c0_i32_333 : BitVec 32 := 0#32
  let c0_i32_334 : BitVec 32 := 0#32
  ![v522.toNat, 0, 0]
def k0_cond82 (v330 : BitVec 32) : BitVec 1 :=
  let c0_i32_189 : BitVec 32 := 0#32
  let v331 : BitVec 1 := Scalar.cmpi .sgt v330 c0_i32_189
  let v332 : BitVec 32 := Scalar.extui v331
  let c0_i32_190 : BitVec 32 := 0#32
  let v333 : BitVec 1 := Scalar.cmpi .ne v332 c0_i32_190
  v333

def k0_chk81 (i : grid0.Coords) (v330 : BitVec 32) (v522 : BitVec 32) : Prop :=
  (∀ (k0_h1 : k0_cond1 i = 1#1), ∀ (k0_h82 : k0_cond82 v330 = 1#1), ∀ a, (k0_off81 v522) a + S512x8x128.size a ≤ S81920x8x128.size a) ∧
  (∀ (k0_h1 : k0_cond1 i = 1#1), ∀ (k0_h82 : k0_cond82 v330 = 1#1), ∀ (hinb : ∀ a, (k0_off81 v522) a + S512x8x128.size a ≤ S81920x8x128.size a), (Rect.unit (s := S81920x8x128) (k0_off81 v522) S512x8x128.size hinb).WholeWords (EltTy.packing .bf16))
theorem k0_off81_inb : ∀ (i : grid0.Coords) (v330 : BitVec 32) (v522 : BitVec 32) (k0_hw81 : k0_chk81 i v330 v522), ∀ (k0_h1 : k0_cond1 i = 1#1), ∀ (k0_h82 : k0_cond82 v330 = 1#1), ∀ a, (k0_off81 v522) a + S512x8x128.size a ≤ S81920x8x128.size a := fun i v330 v522 k0_hw81 k0_h1 k0_h82 => k0_hw81.1 k0_h1 k0_h82
theorem k0_off81_wordsbf16 : ∀ (i : grid0.Coords) (v330 : BitVec 32) (v522 : BitVec 32) (k0_hw81 : k0_chk81 i v330 v522), ∀ (k0_h1 : k0_cond1 i = 1#1), ∀ (k0_h82 : k0_cond82 v330 = 1#1), (Rect.unit (s := S81920x8x128) (k0_off81 v522) S512x8x128.size (k0_off81_inb i v330 v522 k0_hw81 k0_h1 k0_h82)).WholeWords (EltTy.packing .bf16) := fun i v330 v522 k0_hw81 k0_h1 k0_h82 => k0_hw81.2 k0_h1 k0_h82 (k0_off81_inb i v330 v522 k0_hw81 k0_h1 k0_h82)

def k0_off82 (v522 : BitVec 32) : Fin 3 → Nat :=
  let c0_i32_333 : BitVec 32 := 0#32
  let c0_i32_334 : BitVec 32 := 0#32
  ![v522.toNat, 0, 0]
def k0_cond83 (v334 : BitVec 32) : BitVec 1 :=
  let c0_i32_192 : BitVec 32 := 0#32
  let v335 : BitVec 1 := Scalar.cmpi .sgt v334 c0_i32_192
  let v336 : BitVec 32 := Scalar.extui v335
  let c0_i32_193 : BitVec 32 := 0#32
  let v337 : BitVec 1 := Scalar.cmpi .ne v336 c0_i32_193
  v337

def k0_chk82 (i : grid0.Coords) (v334 : BitVec 32) (v522 : BitVec 32) : Prop :=
  (∀ (k0_h1 : k0_cond1 i = 1#1), ∀ (k0_h83 : k0_cond83 v334 = 1#1), ∀ a, (k0_off82 v522) a + S512x8x128.size a ≤ S81920x8x128.size a) ∧
  (∀ (k0_h1 : k0_cond1 i = 1#1), ∀ (k0_h83 : k0_cond83 v334 = 1#1), ∀ (hinb : ∀ a, (k0_off82 v522) a + S512x8x128.size a ≤ S81920x8x128.size a), (Rect.unit (s := S81920x8x128) (k0_off82 v522) S512x8x128.size hinb).WholeWords (EltTy.packing .bf16))
theorem k0_off82_inb : ∀ (i : grid0.Coords) (v334 : BitVec 32) (v522 : BitVec 32) (k0_hw82 : k0_chk82 i v334 v522), ∀ (k0_h1 : k0_cond1 i = 1#1), ∀ (k0_h83 : k0_cond83 v334 = 1#1), ∀ a, (k0_off82 v522) a + S512x8x128.size a ≤ S81920x8x128.size a := fun i v334 v522 k0_hw82 k0_h1 k0_h83 => k0_hw82.1 k0_h1 k0_h83
theorem k0_off82_wordsbf16 : ∀ (i : grid0.Coords) (v334 : BitVec 32) (v522 : BitVec 32) (k0_hw82 : k0_chk82 i v334 v522), ∀ (k0_h1 : k0_cond1 i = 1#1), ∀ (k0_h83 : k0_cond83 v334 = 1#1), (Rect.unit (s := S81920x8x128) (k0_off82 v522) S512x8x128.size (k0_off82_inb i v334 v522 k0_hw82 k0_h1 k0_h83)).WholeWords (EltTy.packing .bf16) := fun i v334 v522 k0_hw82 k0_h1 k0_h83 => k0_hw82.2 k0_h1 k0_h83 (k0_off82_inb i v334 v522 k0_hw82 k0_h1 k0_h83)

def k0_off83 (v522 : BitVec 32) : Fin 3 → Nat :=
  let c0_i32_333 : BitVec 32 := 0#32
  let c0_i32_334 : BitVec 32 := 0#32
  ![v522.toNat, 0, 0]
def k0_cond84 (v338 : BitVec 32) : BitVec 1 :=
  let c0_i32_195 : BitVec 32 := 0#32
  let v339 : BitVec 1 := Scalar.cmpi .sgt v338 c0_i32_195
  let v340 : BitVec 32 := Scalar.extui v339
  let c0_i32_196 : BitVec 32 := 0#32
  let v341 : BitVec 1 := Scalar.cmpi .ne v340 c0_i32_196
  v341

def k0_chk83 (i : grid0.Coords) (v338 : BitVec 32) (v522 : BitVec 32) : Prop :=
  (∀ (k0_h1 : k0_cond1 i = 1#1), ∀ (k0_h84 : k0_cond84 v338 = 1#1), ∀ a, (k0_off83 v522) a + S512x8x128.size a ≤ S81920x8x128.size a) ∧
  (∀ (k0_h1 : k0_cond1 i = 1#1), ∀ (k0_h84 : k0_cond84 v338 = 1#1), ∀ (hinb : ∀ a, (k0_off83 v522) a + S512x8x128.size a ≤ S81920x8x128.size a), (Rect.unit (s := S81920x8x128) (k0_off83 v522) S512x8x128.size hinb).WholeWords (EltTy.packing .bf16))
theorem k0_off83_inb : ∀ (i : grid0.Coords) (v338 : BitVec 32) (v522 : BitVec 32) (k0_hw83 : k0_chk83 i v338 v522), ∀ (k0_h1 : k0_cond1 i = 1#1), ∀ (k0_h84 : k0_cond84 v338 = 1#1), ∀ a, (k0_off83 v522) a + S512x8x128.size a ≤ S81920x8x128.size a := fun i v338 v522 k0_hw83 k0_h1 k0_h84 => k0_hw83.1 k0_h1 k0_h84
theorem k0_off83_wordsbf16 : ∀ (i : grid0.Coords) (v338 : BitVec 32) (v522 : BitVec 32) (k0_hw83 : k0_chk83 i v338 v522), ∀ (k0_h1 : k0_cond1 i = 1#1), ∀ (k0_h84 : k0_cond84 v338 = 1#1), (Rect.unit (s := S81920x8x128) (k0_off83 v522) S512x8x128.size (k0_off83_inb i v338 v522 k0_hw83 k0_h1 k0_h84)).WholeWords (EltTy.packing .bf16) := fun i v338 v522 k0_hw83 k0_h1 k0_h84 => k0_hw83.2 k0_h1 k0_h84 (k0_off83_inb i v338 v522 k0_hw83 k0_h1 k0_h84)

def k0_off84 (v522 : BitVec 32) : Fin 3 → Nat :=
  let c0_i32_333 : BitVec 32 := 0#32
  let c0_i32_334 : BitVec 32 := 0#32
  ![v522.toNat, 0, 0]
def k0_cond85 (v342 : BitVec 32) : BitVec 1 :=
  let c0_i32_198 : BitVec 32 := 0#32
  let v343 : BitVec 1 := Scalar.cmpi .sgt v342 c0_i32_198
  let v344 : BitVec 32 := Scalar.extui v343
  let c0_i32_199 : BitVec 32 := 0#32
  let v345 : BitVec 1 := Scalar.cmpi .ne v344 c0_i32_199
  v345

def k0_chk84 (i : grid0.Coords) (v342 : BitVec 32) (v522 : BitVec 32) : Prop :=
  (∀ (k0_h1 : k0_cond1 i = 1#1), ∀ (k0_h85 : k0_cond85 v342 = 1#1), ∀ a, (k0_off84 v522) a + S512x8x128.size a ≤ S81920x8x128.size a) ∧
  (∀ (k0_h1 : k0_cond1 i = 1#1), ∀ (k0_h85 : k0_cond85 v342 = 1#1), ∀ (hinb : ∀ a, (k0_off84 v522) a + S512x8x128.size a ≤ S81920x8x128.size a), (Rect.unit (s := S81920x8x128) (k0_off84 v522) S512x8x128.size hinb).WholeWords (EltTy.packing .bf16))
theorem k0_off84_inb : ∀ (i : grid0.Coords) (v342 : BitVec 32) (v522 : BitVec 32) (k0_hw84 : k0_chk84 i v342 v522), ∀ (k0_h1 : k0_cond1 i = 1#1), ∀ (k0_h85 : k0_cond85 v342 = 1#1), ∀ a, (k0_off84 v522) a + S512x8x128.size a ≤ S81920x8x128.size a := fun i v342 v522 k0_hw84 k0_h1 k0_h85 => k0_hw84.1 k0_h1 k0_h85
theorem k0_off84_wordsbf16 : ∀ (i : grid0.Coords) (v342 : BitVec 32) (v522 : BitVec 32) (k0_hw84 : k0_chk84 i v342 v522), ∀ (k0_h1 : k0_cond1 i = 1#1), ∀ (k0_h85 : k0_cond85 v342 = 1#1), (Rect.unit (s := S81920x8x128) (k0_off84 v522) S512x8x128.size (k0_off84_inb i v342 v522 k0_hw84 k0_h1 k0_h85)).WholeWords (EltTy.packing .bf16) := fun i v342 v522 k0_hw84 k0_h1 k0_h85 => k0_hw84.2 k0_h1 k0_h85 (k0_off84_inb i v342 v522 k0_hw84 k0_h1 k0_h85)

def k0_off85 (v522 : BitVec 32) : Fin 3 → Nat :=
  let c0_i32_333 : BitVec 32 := 0#32
  let c0_i32_334 : BitVec 32 := 0#32
  ![v522.toNat, 0, 0]
def k0_cond86 (v346 : BitVec 32) : BitVec 1 :=
  let c0_i32_201 : BitVec 32 := 0#32
  let v347 : BitVec 1 := Scalar.cmpi .sgt v346 c0_i32_201
  let v348 : BitVec 32 := Scalar.extui v347
  let c0_i32_202 : BitVec 32 := 0#32
  let v349 : BitVec 1 := Scalar.cmpi .ne v348 c0_i32_202
  v349

def k0_chk85 (i : grid0.Coords) (v346 : BitVec 32) (v522 : BitVec 32) : Prop :=
  (∀ (k0_h1 : k0_cond1 i = 1#1), ∀ (k0_h86 : k0_cond86 v346 = 1#1), ∀ a, (k0_off85 v522) a + S512x8x128.size a ≤ S81920x8x128.size a) ∧
  (∀ (k0_h1 : k0_cond1 i = 1#1), ∀ (k0_h86 : k0_cond86 v346 = 1#1), ∀ (hinb : ∀ a, (k0_off85 v522) a + S512x8x128.size a ≤ S81920x8x128.size a), (Rect.unit (s := S81920x8x128) (k0_off85 v522) S512x8x128.size hinb).WholeWords (EltTy.packing .bf16))
theorem k0_off85_inb : ∀ (i : grid0.Coords) (v346 : BitVec 32) (v522 : BitVec 32) (k0_hw85 : k0_chk85 i v346 v522), ∀ (k0_h1 : k0_cond1 i = 1#1), ∀ (k0_h86 : k0_cond86 v346 = 1#1), ∀ a, (k0_off85 v522) a + S512x8x128.size a ≤ S81920x8x128.size a := fun i v346 v522 k0_hw85 k0_h1 k0_h86 => k0_hw85.1 k0_h1 k0_h86
theorem k0_off85_wordsbf16 : ∀ (i : grid0.Coords) (v346 : BitVec 32) (v522 : BitVec 32) (k0_hw85 : k0_chk85 i v346 v522), ∀ (k0_h1 : k0_cond1 i = 1#1), ∀ (k0_h86 : k0_cond86 v346 = 1#1), (Rect.unit (s := S81920x8x128) (k0_off85 v522) S512x8x128.size (k0_off85_inb i v346 v522 k0_hw85 k0_h1 k0_h86)).WholeWords (EltTy.packing .bf16) := fun i v346 v522 k0_hw85 k0_h1 k0_h86 => k0_hw85.2 k0_h1 k0_h86 (k0_off85_inb i v346 v522 k0_hw85 k0_h1 k0_h86)

def k0_off86 (v522 : BitVec 32) : Fin 3 → Nat :=
  let c0_i32_333 : BitVec 32 := 0#32
  let c0_i32_334 : BitVec 32 := 0#32
  ![v522.toNat, 0, 0]
def k0_cond87 (v350 : BitVec 32) : BitVec 1 :=
  let c0_i32_204 : BitVec 32 := 0#32
  let v351 : BitVec 1 := Scalar.cmpi .sgt v350 c0_i32_204
  let v352 : BitVec 32 := Scalar.extui v351
  let c0_i32_205 : BitVec 32 := 0#32
  let v353 : BitVec 1 := Scalar.cmpi .ne v352 c0_i32_205
  v353

def k0_chk86 (i : grid0.Coords) (v350 : BitVec 32) (v522 : BitVec 32) : Prop :=
  (∀ (k0_h1 : k0_cond1 i = 1#1), ∀ (k0_h87 : k0_cond87 v350 = 1#1), ∀ a, (k0_off86 v522) a + S512x8x128.size a ≤ S81920x8x128.size a) ∧
  (∀ (k0_h1 : k0_cond1 i = 1#1), ∀ (k0_h87 : k0_cond87 v350 = 1#1), ∀ (hinb : ∀ a, (k0_off86 v522) a + S512x8x128.size a ≤ S81920x8x128.size a), (Rect.unit (s := S81920x8x128) (k0_off86 v522) S512x8x128.size hinb).WholeWords (EltTy.packing .bf16))
theorem k0_off86_inb : ∀ (i : grid0.Coords) (v350 : BitVec 32) (v522 : BitVec 32) (k0_hw86 : k0_chk86 i v350 v522), ∀ (k0_h1 : k0_cond1 i = 1#1), ∀ (k0_h87 : k0_cond87 v350 = 1#1), ∀ a, (k0_off86 v522) a + S512x8x128.size a ≤ S81920x8x128.size a := fun i v350 v522 k0_hw86 k0_h1 k0_h87 => k0_hw86.1 k0_h1 k0_h87
theorem k0_off86_wordsbf16 : ∀ (i : grid0.Coords) (v350 : BitVec 32) (v522 : BitVec 32) (k0_hw86 : k0_chk86 i v350 v522), ∀ (k0_h1 : k0_cond1 i = 1#1), ∀ (k0_h87 : k0_cond87 v350 = 1#1), (Rect.unit (s := S81920x8x128) (k0_off86 v522) S512x8x128.size (k0_off86_inb i v350 v522 k0_hw86 k0_h1 k0_h87)).WholeWords (EltTy.packing .bf16) := fun i v350 v522 k0_hw86 k0_h1 k0_h87 => k0_hw86.2 k0_h1 k0_h87 (k0_off86_inb i v350 v522 k0_hw86 k0_h1 k0_h87)

def k0_off87 (v522 : BitVec 32) : Fin 3 → Nat :=
  let c0_i32_333 : BitVec 32 := 0#32
  let c0_i32_334 : BitVec 32 := 0#32
  ![v522.toNat, 0, 0]
def k0_cond88 (v354 : BitVec 32) : BitVec 1 :=
  let c0_i32_207 : BitVec 32 := 0#32
  let v355 : BitVec 1 := Scalar.cmpi .sgt v354 c0_i32_207
  let v356 : BitVec 32 := Scalar.extui v355
  let c0_i32_208 : BitVec 32 := 0#32
  let v357 : BitVec 1 := Scalar.cmpi .ne v356 c0_i32_208
  v357

def k0_chk87 (i : grid0.Coords) (v354 : BitVec 32) (v522 : BitVec 32) : Prop :=
  (∀ (k0_h1 : k0_cond1 i = 1#1), ∀ (k0_h88 : k0_cond88 v354 = 1#1), ∀ a, (k0_off87 v522) a + S512x8x128.size a ≤ S81920x8x128.size a) ∧
  (∀ (k0_h1 : k0_cond1 i = 1#1), ∀ (k0_h88 : k0_cond88 v354 = 1#1), ∀ (hinb : ∀ a, (k0_off87 v522) a + S512x8x128.size a ≤ S81920x8x128.size a), (Rect.unit (s := S81920x8x128) (k0_off87 v522) S512x8x128.size hinb).WholeWords (EltTy.packing .bf16))
theorem k0_off87_inb : ∀ (i : grid0.Coords) (v354 : BitVec 32) (v522 : BitVec 32) (k0_hw87 : k0_chk87 i v354 v522), ∀ (k0_h1 : k0_cond1 i = 1#1), ∀ (k0_h88 : k0_cond88 v354 = 1#1), ∀ a, (k0_off87 v522) a + S512x8x128.size a ≤ S81920x8x128.size a := fun i v354 v522 k0_hw87 k0_h1 k0_h88 => k0_hw87.1 k0_h1 k0_h88
theorem k0_off87_wordsbf16 : ∀ (i : grid0.Coords) (v354 : BitVec 32) (v522 : BitVec 32) (k0_hw87 : k0_chk87 i v354 v522), ∀ (k0_h1 : k0_cond1 i = 1#1), ∀ (k0_h88 : k0_cond88 v354 = 1#1), (Rect.unit (s := S81920x8x128) (k0_off87 v522) S512x8x128.size (k0_off87_inb i v354 v522 k0_hw87 k0_h1 k0_h88)).WholeWords (EltTy.packing .bf16) := fun i v354 v522 k0_hw87 k0_h1 k0_h88 => k0_hw87.2 k0_h1 k0_h88 (k0_off87_inb i v354 v522 k0_hw87 k0_h1 k0_h88)

def k0_off88 (v522 : BitVec 32) : Fin 3 → Nat :=
  let c0_i32_333 : BitVec 32 := 0#32
  let c0_i32_334 : BitVec 32 := 0#32
  ![v522.toNat, 0, 0]
def k0_cond89 (v358 : BitVec 32) : BitVec 1 :=
  let c0_i32_210 : BitVec 32 := 0#32
  let v359 : BitVec 1 := Scalar.cmpi .sgt v358 c0_i32_210
  let v360 : BitVec 32 := Scalar.extui v359
  let c0_i32_211 : BitVec 32 := 0#32
  let v361 : BitVec 1 := Scalar.cmpi .ne v360 c0_i32_211
  v361

def k0_chk88 (i : grid0.Coords) (v358 : BitVec 32) (v522 : BitVec 32) : Prop :=
  (∀ (k0_h1 : k0_cond1 i = 1#1), ∀ (k0_h89 : k0_cond89 v358 = 1#1), ∀ a, (k0_off88 v522) a + S512x8x128.size a ≤ S81920x8x128.size a) ∧
  (∀ (k0_h1 : k0_cond1 i = 1#1), ∀ (k0_h89 : k0_cond89 v358 = 1#1), ∀ (hinb : ∀ a, (k0_off88 v522) a + S512x8x128.size a ≤ S81920x8x128.size a), (Rect.unit (s := S81920x8x128) (k0_off88 v522) S512x8x128.size hinb).WholeWords (EltTy.packing .bf16))
theorem k0_off88_inb : ∀ (i : grid0.Coords) (v358 : BitVec 32) (v522 : BitVec 32) (k0_hw88 : k0_chk88 i v358 v522), ∀ (k0_h1 : k0_cond1 i = 1#1), ∀ (k0_h89 : k0_cond89 v358 = 1#1), ∀ a, (k0_off88 v522) a + S512x8x128.size a ≤ S81920x8x128.size a := fun i v358 v522 k0_hw88 k0_h1 k0_h89 => k0_hw88.1 k0_h1 k0_h89
theorem k0_off88_wordsbf16 : ∀ (i : grid0.Coords) (v358 : BitVec 32) (v522 : BitVec 32) (k0_hw88 : k0_chk88 i v358 v522), ∀ (k0_h1 : k0_cond1 i = 1#1), ∀ (k0_h89 : k0_cond89 v358 = 1#1), (Rect.unit (s := S81920x8x128) (k0_off88 v522) S512x8x128.size (k0_off88_inb i v358 v522 k0_hw88 k0_h1 k0_h89)).WholeWords (EltTy.packing .bf16) := fun i v358 v522 k0_hw88 k0_h1 k0_h89 => k0_hw88.2 k0_h1 k0_h89 (k0_off88_inb i v358 v522 k0_hw88 k0_h1 k0_h89)

def k0_off89 (v522 : BitVec 32) : Fin 3 → Nat :=
  let c0_i32_333 : BitVec 32 := 0#32
  let c0_i32_334 : BitVec 32 := 0#32
  ![v522.toNat, 0, 0]
def k0_cond90 (v362 : BitVec 32) : BitVec 1 :=
  let c0_i32_213 : BitVec 32 := 0#32
  let v363 : BitVec 1 := Scalar.cmpi .sgt v362 c0_i32_213
  let v364 : BitVec 32 := Scalar.extui v363
  let c0_i32_214 : BitVec 32 := 0#32
  let v365 : BitVec 1 := Scalar.cmpi .ne v364 c0_i32_214
  v365

def k0_chk89 (i : grid0.Coords) (v362 : BitVec 32) (v522 : BitVec 32) : Prop :=
  (∀ (k0_h1 : k0_cond1 i = 1#1), ∀ (k0_h90 : k0_cond90 v362 = 1#1), ∀ a, (k0_off89 v522) a + S512x8x128.size a ≤ S81920x8x128.size a) ∧
  (∀ (k0_h1 : k0_cond1 i = 1#1), ∀ (k0_h90 : k0_cond90 v362 = 1#1), ∀ (hinb : ∀ a, (k0_off89 v522) a + S512x8x128.size a ≤ S81920x8x128.size a), (Rect.unit (s := S81920x8x128) (k0_off89 v522) S512x8x128.size hinb).WholeWords (EltTy.packing .bf16))
theorem k0_off89_inb : ∀ (i : grid0.Coords) (v362 : BitVec 32) (v522 : BitVec 32) (k0_hw89 : k0_chk89 i v362 v522), ∀ (k0_h1 : k0_cond1 i = 1#1), ∀ (k0_h90 : k0_cond90 v362 = 1#1), ∀ a, (k0_off89 v522) a + S512x8x128.size a ≤ S81920x8x128.size a := fun i v362 v522 k0_hw89 k0_h1 k0_h90 => k0_hw89.1 k0_h1 k0_h90
theorem k0_off89_wordsbf16 : ∀ (i : grid0.Coords) (v362 : BitVec 32) (v522 : BitVec 32) (k0_hw89 : k0_chk89 i v362 v522), ∀ (k0_h1 : k0_cond1 i = 1#1), ∀ (k0_h90 : k0_cond90 v362 = 1#1), (Rect.unit (s := S81920x8x128) (k0_off89 v522) S512x8x128.size (k0_off89_inb i v362 v522 k0_hw89 k0_h1 k0_h90)).WholeWords (EltTy.packing .bf16) := fun i v362 v522 k0_hw89 k0_h1 k0_h90 => k0_hw89.2 k0_h1 k0_h90 (k0_off89_inb i v362 v522 k0_hw89 k0_h1 k0_h90)

def k0_off90 (v522 : BitVec 32) : Fin 3 → Nat :=
  let c0_i32_333 : BitVec 32 := 0#32
  let c0_i32_334 : BitVec 32 := 0#32
  ![v522.toNat, 0, 0]
def k0_cond91 (v366 : BitVec 32) : BitVec 1 :=
  let c0_i32_216 : BitVec 32 := 0#32
  let v367 : BitVec 1 := Scalar.cmpi .sgt v366 c0_i32_216
  let v368 : BitVec 32 := Scalar.extui v367
  let c0_i32_217 : BitVec 32 := 0#32
  let v369 : BitVec 1 := Scalar.cmpi .ne v368 c0_i32_217
  v369

def k0_chk90 (i : grid0.Coords) (v366 : BitVec 32) (v522 : BitVec 32) : Prop :=
  (∀ (k0_h1 : k0_cond1 i = 1#1), ∀ (k0_h91 : k0_cond91 v366 = 1#1), ∀ a, (k0_off90 v522) a + S512x8x128.size a ≤ S81920x8x128.size a) ∧
  (∀ (k0_h1 : k0_cond1 i = 1#1), ∀ (k0_h91 : k0_cond91 v366 = 1#1), ∀ (hinb : ∀ a, (k0_off90 v522) a + S512x8x128.size a ≤ S81920x8x128.size a), (Rect.unit (s := S81920x8x128) (k0_off90 v522) S512x8x128.size hinb).WholeWords (EltTy.packing .bf16))
theorem k0_off90_inb : ∀ (i : grid0.Coords) (v366 : BitVec 32) (v522 : BitVec 32) (k0_hw90 : k0_chk90 i v366 v522), ∀ (k0_h1 : k0_cond1 i = 1#1), ∀ (k0_h91 : k0_cond91 v366 = 1#1), ∀ a, (k0_off90 v522) a + S512x8x128.size a ≤ S81920x8x128.size a := fun i v366 v522 k0_hw90 k0_h1 k0_h91 => k0_hw90.1 k0_h1 k0_h91
theorem k0_off90_wordsbf16 : ∀ (i : grid0.Coords) (v366 : BitVec 32) (v522 : BitVec 32) (k0_hw90 : k0_chk90 i v366 v522), ∀ (k0_h1 : k0_cond1 i = 1#1), ∀ (k0_h91 : k0_cond91 v366 = 1#1), (Rect.unit (s := S81920x8x128) (k0_off90 v522) S512x8x128.size (k0_off90_inb i v366 v522 k0_hw90 k0_h1 k0_h91)).WholeWords (EltTy.packing .bf16) := fun i v366 v522 k0_hw90 k0_h1 k0_h91 => k0_hw90.2 k0_h1 k0_h91 (k0_off90_inb i v366 v522 k0_hw90 k0_h1 k0_h91)

def k0_off91 (v522 : BitVec 32) : Fin 3 → Nat :=
  let c0_i32_333 : BitVec 32 := 0#32
  let c0_i32_334 : BitVec 32 := 0#32
  ![v522.toNat, 0, 0]
def k0_cond92 (v370 : BitVec 32) : BitVec 1 :=
  let c0_i32_219 : BitVec 32 := 0#32
  let v371 : BitVec 1 := Scalar.cmpi .sgt v370 c0_i32_219
  let v372 : BitVec 32 := Scalar.extui v371
  let c0_i32_220 : BitVec 32 := 0#32
  let v373 : BitVec 1 := Scalar.cmpi .ne v372 c0_i32_220
  v373

def k0_chk91 (i : grid0.Coords) (v370 : BitVec 32) (v522 : BitVec 32) : Prop :=
  (∀ (k0_h1 : k0_cond1 i = 1#1), ∀ (k0_h92 : k0_cond92 v370 = 1#1), ∀ a, (k0_off91 v522) a + S512x8x128.size a ≤ S81920x8x128.size a) ∧
  (∀ (k0_h1 : k0_cond1 i = 1#1), ∀ (k0_h92 : k0_cond92 v370 = 1#1), ∀ (hinb : ∀ a, (k0_off91 v522) a + S512x8x128.size a ≤ S81920x8x128.size a), (Rect.unit (s := S81920x8x128) (k0_off91 v522) S512x8x128.size hinb).WholeWords (EltTy.packing .bf16))
theorem k0_off91_inb : ∀ (i : grid0.Coords) (v370 : BitVec 32) (v522 : BitVec 32) (k0_hw91 : k0_chk91 i v370 v522), ∀ (k0_h1 : k0_cond1 i = 1#1), ∀ (k0_h92 : k0_cond92 v370 = 1#1), ∀ a, (k0_off91 v522) a + S512x8x128.size a ≤ S81920x8x128.size a := fun i v370 v522 k0_hw91 k0_h1 k0_h92 => k0_hw91.1 k0_h1 k0_h92
theorem k0_off91_wordsbf16 : ∀ (i : grid0.Coords) (v370 : BitVec 32) (v522 : BitVec 32) (k0_hw91 : k0_chk91 i v370 v522), ∀ (k0_h1 : k0_cond1 i = 1#1), ∀ (k0_h92 : k0_cond92 v370 = 1#1), (Rect.unit (s := S81920x8x128) (k0_off91 v522) S512x8x128.size (k0_off91_inb i v370 v522 k0_hw91 k0_h1 k0_h92)).WholeWords (EltTy.packing .bf16) := fun i v370 v522 k0_hw91 k0_h1 k0_h92 => k0_hw91.2 k0_h1 k0_h92 (k0_off91_inb i v370 v522 k0_hw91 k0_h1 k0_h92)

def k0_off92 (v522 : BitVec 32) : Fin 3 → Nat :=
  let c0_i32_333 : BitVec 32 := 0#32
  let c0_i32_334 : BitVec 32 := 0#32
  ![v522.toNat, 0, 0]
def k0_cond93 (v374 : BitVec 32) : BitVec 1 :=
  let c0_i32_222 : BitVec 32 := 0#32
  let v375 : BitVec 1 := Scalar.cmpi .sgt v374 c0_i32_222
  let v376 : BitVec 32 := Scalar.extui v375
  let c0_i32_223 : BitVec 32 := 0#32
  let v377 : BitVec 1 := Scalar.cmpi .ne v376 c0_i32_223
  v377

def k0_chk92 (i : grid0.Coords) (v374 : BitVec 32) (v522 : BitVec 32) : Prop :=
  (∀ (k0_h1 : k0_cond1 i = 1#1), ∀ (k0_h93 : k0_cond93 v374 = 1#1), ∀ a, (k0_off92 v522) a + S512x8x128.size a ≤ S81920x8x128.size a) ∧
  (∀ (k0_h1 : k0_cond1 i = 1#1), ∀ (k0_h93 : k0_cond93 v374 = 1#1), ∀ (hinb : ∀ a, (k0_off92 v522) a + S512x8x128.size a ≤ S81920x8x128.size a), (Rect.unit (s := S81920x8x128) (k0_off92 v522) S512x8x128.size hinb).WholeWords (EltTy.packing .bf16))
theorem k0_off92_inb : ∀ (i : grid0.Coords) (v374 : BitVec 32) (v522 : BitVec 32) (k0_hw92 : k0_chk92 i v374 v522), ∀ (k0_h1 : k0_cond1 i = 1#1), ∀ (k0_h93 : k0_cond93 v374 = 1#1), ∀ a, (k0_off92 v522) a + S512x8x128.size a ≤ S81920x8x128.size a := fun i v374 v522 k0_hw92 k0_h1 k0_h93 => k0_hw92.1 k0_h1 k0_h93
theorem k0_off92_wordsbf16 : ∀ (i : grid0.Coords) (v374 : BitVec 32) (v522 : BitVec 32) (k0_hw92 : k0_chk92 i v374 v522), ∀ (k0_h1 : k0_cond1 i = 1#1), ∀ (k0_h93 : k0_cond93 v374 = 1#1), (Rect.unit (s := S81920x8x128) (k0_off92 v522) S512x8x128.size (k0_off92_inb i v374 v522 k0_hw92 k0_h1 k0_h93)).WholeWords (EltTy.packing .bf16) := fun i v374 v522 k0_hw92 k0_h1 k0_h93 => k0_hw92.2 k0_h1 k0_h93 (k0_off92_inb i v374 v522 k0_hw92 k0_h1 k0_h93)

def k0_off93 (v522 : BitVec 32) : Fin 3 → Nat :=
  let c0_i32_333 : BitVec 32 := 0#32
  let c0_i32_334 : BitVec 32 := 0#32
  ![v522.toNat, 0, 0]
def k0_cond94 (v378 : BitVec 32) : BitVec 1 :=
  let c0_i32_225 : BitVec 32 := 0#32
  let v379 : BitVec 1 := Scalar.cmpi .sgt v378 c0_i32_225
  let v380 : BitVec 32 := Scalar.extui v379
  let c0_i32_226 : BitVec 32 := 0#32
  let v381 : BitVec 1 := Scalar.cmpi .ne v380 c0_i32_226
  v381

def k0_chk93 (i : grid0.Coords) (v378 : BitVec 32) (v522 : BitVec 32) : Prop :=
  (∀ (k0_h1 : k0_cond1 i = 1#1), ∀ (k0_h94 : k0_cond94 v378 = 1#1), ∀ a, (k0_off93 v522) a + S512x8x128.size a ≤ S81920x8x128.size a) ∧
  (∀ (k0_h1 : k0_cond1 i = 1#1), ∀ (k0_h94 : k0_cond94 v378 = 1#1), ∀ (hinb : ∀ a, (k0_off93 v522) a + S512x8x128.size a ≤ S81920x8x128.size a), (Rect.unit (s := S81920x8x128) (k0_off93 v522) S512x8x128.size hinb).WholeWords (EltTy.packing .bf16))
theorem k0_off93_inb : ∀ (i : grid0.Coords) (v378 : BitVec 32) (v522 : BitVec 32) (k0_hw93 : k0_chk93 i v378 v522), ∀ (k0_h1 : k0_cond1 i = 1#1), ∀ (k0_h94 : k0_cond94 v378 = 1#1), ∀ a, (k0_off93 v522) a + S512x8x128.size a ≤ S81920x8x128.size a := fun i v378 v522 k0_hw93 k0_h1 k0_h94 => k0_hw93.1 k0_h1 k0_h94
theorem k0_off93_wordsbf16 : ∀ (i : grid0.Coords) (v378 : BitVec 32) (v522 : BitVec 32) (k0_hw93 : k0_chk93 i v378 v522), ∀ (k0_h1 : k0_cond1 i = 1#1), ∀ (k0_h94 : k0_cond94 v378 = 1#1), (Rect.unit (s := S81920x8x128) (k0_off93 v522) S512x8x128.size (k0_off93_inb i v378 v522 k0_hw93 k0_h1 k0_h94)).WholeWords (EltTy.packing .bf16) := fun i v378 v522 k0_hw93 k0_h1 k0_h94 => k0_hw93.2 k0_h1 k0_h94 (k0_off93_inb i v378 v522 k0_hw93 k0_h1 k0_h94)

def k0_off94 (v522 : BitVec 32) : Fin 3 → Nat :=
  let c0_i32_333 : BitVec 32 := 0#32
  let c0_i32_334 : BitVec 32 := 0#32
  ![v522.toNat, 0, 0]
def k0_cond95 (v382 : BitVec 32) : BitVec 1 :=
  let c0_i32_228 : BitVec 32 := 0#32
  let v383 : BitVec 1 := Scalar.cmpi .sgt v382 c0_i32_228
  let v384 : BitVec 32 := Scalar.extui v383
  let c0_i32_229 : BitVec 32 := 0#32
  let v385 : BitVec 1 := Scalar.cmpi .ne v384 c0_i32_229
  v385

def k0_chk94 (i : grid0.Coords) (v382 : BitVec 32) (v522 : BitVec 32) : Prop :=
  (∀ (k0_h1 : k0_cond1 i = 1#1), ∀ (k0_h95 : k0_cond95 v382 = 1#1), ∀ a, (k0_off94 v522) a + S512x8x128.size a ≤ S81920x8x128.size a) ∧
  (∀ (k0_h1 : k0_cond1 i = 1#1), ∀ (k0_h95 : k0_cond95 v382 = 1#1), ∀ (hinb : ∀ a, (k0_off94 v522) a + S512x8x128.size a ≤ S81920x8x128.size a), (Rect.unit (s := S81920x8x128) (k0_off94 v522) S512x8x128.size hinb).WholeWords (EltTy.packing .bf16))
theorem k0_off94_inb : ∀ (i : grid0.Coords) (v382 : BitVec 32) (v522 : BitVec 32) (k0_hw94 : k0_chk94 i v382 v522), ∀ (k0_h1 : k0_cond1 i = 1#1), ∀ (k0_h95 : k0_cond95 v382 = 1#1), ∀ a, (k0_off94 v522) a + S512x8x128.size a ≤ S81920x8x128.size a := fun i v382 v522 k0_hw94 k0_h1 k0_h95 => k0_hw94.1 k0_h1 k0_h95
theorem k0_off94_wordsbf16 : ∀ (i : grid0.Coords) (v382 : BitVec 32) (v522 : BitVec 32) (k0_hw94 : k0_chk94 i v382 v522), ∀ (k0_h1 : k0_cond1 i = 1#1), ∀ (k0_h95 : k0_cond95 v382 = 1#1), (Rect.unit (s := S81920x8x128) (k0_off94 v522) S512x8x128.size (k0_off94_inb i v382 v522 k0_hw94 k0_h1 k0_h95)).WholeWords (EltTy.packing .bf16) := fun i v382 v522 k0_hw94 k0_h1 k0_h95 => k0_hw94.2 k0_h1 k0_h95 (k0_off94_inb i v382 v522 k0_hw94 k0_h1 k0_h95)

def k0_off95 (v522 : BitVec 32) : Fin 3 → Nat :=
  let c0_i32_333 : BitVec 32 := 0#32
  let c0_i32_334 : BitVec 32 := 0#32
  ![v522.toNat, 0, 0]
def k0_cond96 (v386 : BitVec 32) : BitVec 1 :=
  let c0_i32_231 : BitVec 32 := 0#32
  let v387 : BitVec 1 := Scalar.cmpi .sgt v386 c0_i32_231
  let v388 : BitVec 32 := Scalar.extui v387
  let c0_i32_232 : BitVec 32 := 0#32
  let v389 : BitVec 1 := Scalar.cmpi .ne v388 c0_i32_232
  v389

def k0_chk95 (i : grid0.Coords) (v386 : BitVec 32) (v522 : BitVec 32) : Prop :=
  (∀ (k0_h1 : k0_cond1 i = 1#1), ∀ (k0_h96 : k0_cond96 v386 = 1#1), ∀ a, (k0_off95 v522) a + S512x8x128.size a ≤ S81920x8x128.size a) ∧
  (∀ (k0_h1 : k0_cond1 i = 1#1), ∀ (k0_h96 : k0_cond96 v386 = 1#1), ∀ (hinb : ∀ a, (k0_off95 v522) a + S512x8x128.size a ≤ S81920x8x128.size a), (Rect.unit (s := S81920x8x128) (k0_off95 v522) S512x8x128.size hinb).WholeWords (EltTy.packing .bf16))
theorem k0_off95_inb : ∀ (i : grid0.Coords) (v386 : BitVec 32) (v522 : BitVec 32) (k0_hw95 : k0_chk95 i v386 v522), ∀ (k0_h1 : k0_cond1 i = 1#1), ∀ (k0_h96 : k0_cond96 v386 = 1#1), ∀ a, (k0_off95 v522) a + S512x8x128.size a ≤ S81920x8x128.size a := fun i v386 v522 k0_hw95 k0_h1 k0_h96 => k0_hw95.1 k0_h1 k0_h96
theorem k0_off95_wordsbf16 : ∀ (i : grid0.Coords) (v386 : BitVec 32) (v522 : BitVec 32) (k0_hw95 : k0_chk95 i v386 v522), ∀ (k0_h1 : k0_cond1 i = 1#1), ∀ (k0_h96 : k0_cond96 v386 = 1#1), (Rect.unit (s := S81920x8x128) (k0_off95 v522) S512x8x128.size (k0_off95_inb i v386 v522 k0_hw95 k0_h1 k0_h96)).WholeWords (EltTy.packing .bf16) := fun i v386 v522 k0_hw95 k0_h1 k0_h96 => k0_hw95.2 k0_h1 k0_h96 (k0_off95_inb i v386 v522 k0_hw95 k0_h1 k0_h96)

def k0_off96 (v522 : BitVec 32) : Fin 3 → Nat :=
  let c0_i32_333 : BitVec 32 := 0#32
  let c0_i32_334 : BitVec 32 := 0#32
  ![v522.toNat, 0, 0]
def k0_cond97 (v390 : BitVec 32) : BitVec 1 :=
  let c0_i32_234 : BitVec 32 := 0#32
  let v391 : BitVec 1 := Scalar.cmpi .sgt v390 c0_i32_234
  let v392 : BitVec 32 := Scalar.extui v391
  let c0_i32_235 : BitVec 32 := 0#32
  let v393 : BitVec 1 := Scalar.cmpi .ne v392 c0_i32_235
  v393

def k0_chk96 (i : grid0.Coords) (v390 : BitVec 32) (v522 : BitVec 32) : Prop :=
  (∀ (k0_h1 : k0_cond1 i = 1#1), ∀ (k0_h97 : k0_cond97 v390 = 1#1), ∀ a, (k0_off96 v522) a + S512x8x128.size a ≤ S81920x8x128.size a) ∧
  (∀ (k0_h1 : k0_cond1 i = 1#1), ∀ (k0_h97 : k0_cond97 v390 = 1#1), ∀ (hinb : ∀ a, (k0_off96 v522) a + S512x8x128.size a ≤ S81920x8x128.size a), (Rect.unit (s := S81920x8x128) (k0_off96 v522) S512x8x128.size hinb).WholeWords (EltTy.packing .bf16))
theorem k0_off96_inb : ∀ (i : grid0.Coords) (v390 : BitVec 32) (v522 : BitVec 32) (k0_hw96 : k0_chk96 i v390 v522), ∀ (k0_h1 : k0_cond1 i = 1#1), ∀ (k0_h97 : k0_cond97 v390 = 1#1), ∀ a, (k0_off96 v522) a + S512x8x128.size a ≤ S81920x8x128.size a := fun i v390 v522 k0_hw96 k0_h1 k0_h97 => k0_hw96.1 k0_h1 k0_h97
theorem k0_off96_wordsbf16 : ∀ (i : grid0.Coords) (v390 : BitVec 32) (v522 : BitVec 32) (k0_hw96 : k0_chk96 i v390 v522), ∀ (k0_h1 : k0_cond1 i = 1#1), ∀ (k0_h97 : k0_cond97 v390 = 1#1), (Rect.unit (s := S81920x8x128) (k0_off96 v522) S512x8x128.size (k0_off96_inb i v390 v522 k0_hw96 k0_h1 k0_h97)).WholeWords (EltTy.packing .bf16) := fun i v390 v522 k0_hw96 k0_h1 k0_h97 => k0_hw96.2 k0_h1 k0_h97 (k0_off96_inb i v390 v522 k0_hw96 k0_h1 k0_h97)

def k0_off97 (v522 : BitVec 32) : Fin 3 → Nat :=
  let c0_i32_333 : BitVec 32 := 0#32
  let c0_i32_334 : BitVec 32 := 0#32
  ![v522.toNat, 0, 0]
def k0_cond98 (v394 : BitVec 32) : BitVec 1 :=
  let c0_i32_237 : BitVec 32 := 0#32
  let v395 : BitVec 1 := Scalar.cmpi .sgt v394 c0_i32_237
  let v396 : BitVec 32 := Scalar.extui v395
  let c0_i32_238 : BitVec 32 := 0#32
  let v397 : BitVec 1 := Scalar.cmpi .ne v396 c0_i32_238
  v397

def k0_chk97 (i : grid0.Coords) (v394 : BitVec 32) (v522 : BitVec 32) : Prop :=
  (∀ (k0_h1 : k0_cond1 i = 1#1), ∀ (k0_h98 : k0_cond98 v394 = 1#1), ∀ a, (k0_off97 v522) a + S512x8x128.size a ≤ S81920x8x128.size a) ∧
  (∀ (k0_h1 : k0_cond1 i = 1#1), ∀ (k0_h98 : k0_cond98 v394 = 1#1), ∀ (hinb : ∀ a, (k0_off97 v522) a + S512x8x128.size a ≤ S81920x8x128.size a), (Rect.unit (s := S81920x8x128) (k0_off97 v522) S512x8x128.size hinb).WholeWords (EltTy.packing .bf16))
theorem k0_off97_inb : ∀ (i : grid0.Coords) (v394 : BitVec 32) (v522 : BitVec 32) (k0_hw97 : k0_chk97 i v394 v522), ∀ (k0_h1 : k0_cond1 i = 1#1), ∀ (k0_h98 : k0_cond98 v394 = 1#1), ∀ a, (k0_off97 v522) a + S512x8x128.size a ≤ S81920x8x128.size a := fun i v394 v522 k0_hw97 k0_h1 k0_h98 => k0_hw97.1 k0_h1 k0_h98
theorem k0_off97_wordsbf16 : ∀ (i : grid0.Coords) (v394 : BitVec 32) (v522 : BitVec 32) (k0_hw97 : k0_chk97 i v394 v522), ∀ (k0_h1 : k0_cond1 i = 1#1), ∀ (k0_h98 : k0_cond98 v394 = 1#1), (Rect.unit (s := S81920x8x128) (k0_off97 v522) S512x8x128.size (k0_off97_inb i v394 v522 k0_hw97 k0_h1 k0_h98)).WholeWords (EltTy.packing .bf16) := fun i v394 v522 k0_hw97 k0_h1 k0_h98 => k0_hw97.2 k0_h1 k0_h98 (k0_off97_inb i v394 v522 k0_hw97 k0_h1 k0_h98)

def k0_off98 (v522 : BitVec 32) : Fin 3 → Nat :=
  let c0_i32_333 : BitVec 32 := 0#32
  let c0_i32_334 : BitVec 32 := 0#32
  ![v522.toNat, 0, 0]
def k0_cond99 (v398 : BitVec 32) : BitVec 1 :=
  let c0_i32_240 : BitVec 32 := 0#32
  let v399 : BitVec 1 := Scalar.cmpi .sgt v398 c0_i32_240
  let v400 : BitVec 32 := Scalar.extui v399
  let c0_i32_241 : BitVec 32 := 0#32
  let v401 : BitVec 1 := Scalar.cmpi .ne v400 c0_i32_241
  v401

def k0_chk98 (i : grid0.Coords) (v398 : BitVec 32) (v522 : BitVec 32) : Prop :=
  (∀ (k0_h1 : k0_cond1 i = 1#1), ∀ (k0_h99 : k0_cond99 v398 = 1#1), ∀ a, (k0_off98 v522) a + S512x8x128.size a ≤ S81920x8x128.size a) ∧
  (∀ (k0_h1 : k0_cond1 i = 1#1), ∀ (k0_h99 : k0_cond99 v398 = 1#1), ∀ (hinb : ∀ a, (k0_off98 v522) a + S512x8x128.size a ≤ S81920x8x128.size a), (Rect.unit (s := S81920x8x128) (k0_off98 v522) S512x8x128.size hinb).WholeWords (EltTy.packing .bf16))
theorem k0_off98_inb : ∀ (i : grid0.Coords) (v398 : BitVec 32) (v522 : BitVec 32) (k0_hw98 : k0_chk98 i v398 v522), ∀ (k0_h1 : k0_cond1 i = 1#1), ∀ (k0_h99 : k0_cond99 v398 = 1#1), ∀ a, (k0_off98 v522) a + S512x8x128.size a ≤ S81920x8x128.size a := fun i v398 v522 k0_hw98 k0_h1 k0_h99 => k0_hw98.1 k0_h1 k0_h99
theorem k0_off98_wordsbf16 : ∀ (i : grid0.Coords) (v398 : BitVec 32) (v522 : BitVec 32) (k0_hw98 : k0_chk98 i v398 v522), ∀ (k0_h1 : k0_cond1 i = 1#1), ∀ (k0_h99 : k0_cond99 v398 = 1#1), (Rect.unit (s := S81920x8x128) (k0_off98 v522) S512x8x128.size (k0_off98_inb i v398 v522 k0_hw98 k0_h1 k0_h99)).WholeWords (EltTy.packing .bf16) := fun i v398 v522 k0_hw98 k0_h1 k0_h99 => k0_hw98.2 k0_h1 k0_h99 (k0_off98_inb i v398 v522 k0_hw98 k0_h1 k0_h99)

def k0_off99 (v522 : BitVec 32) : Fin 3 → Nat :=
  let c0_i32_333 : BitVec 32 := 0#32
  let c0_i32_334 : BitVec 32 := 0#32
  ![v522.toNat, 0, 0]
def k0_cond100 (v402 : BitVec 32) : BitVec 1 :=
  let c0_i32_243 : BitVec 32 := 0#32
  let v403 : BitVec 1 := Scalar.cmpi .sgt v402 c0_i32_243
  let v404 : BitVec 32 := Scalar.extui v403
  let c0_i32_244 : BitVec 32 := 0#32
  let v405 : BitVec 1 := Scalar.cmpi .ne v404 c0_i32_244
  v405

def k0_chk99 (i : grid0.Coords) (v402 : BitVec 32) (v522 : BitVec 32) : Prop :=
  (∀ (k0_h1 : k0_cond1 i = 1#1), ∀ (k0_h100 : k0_cond100 v402 = 1#1), ∀ a, (k0_off99 v522) a + S512x8x128.size a ≤ S81920x8x128.size a) ∧
  (∀ (k0_h1 : k0_cond1 i = 1#1), ∀ (k0_h100 : k0_cond100 v402 = 1#1), ∀ (hinb : ∀ a, (k0_off99 v522) a + S512x8x128.size a ≤ S81920x8x128.size a), (Rect.unit (s := S81920x8x128) (k0_off99 v522) S512x8x128.size hinb).WholeWords (EltTy.packing .bf16))
theorem k0_off99_inb : ∀ (i : grid0.Coords) (v402 : BitVec 32) (v522 : BitVec 32) (k0_hw99 : k0_chk99 i v402 v522), ∀ (k0_h1 : k0_cond1 i = 1#1), ∀ (k0_h100 : k0_cond100 v402 = 1#1), ∀ a, (k0_off99 v522) a + S512x8x128.size a ≤ S81920x8x128.size a := fun i v402 v522 k0_hw99 k0_h1 k0_h100 => k0_hw99.1 k0_h1 k0_h100
theorem k0_off99_wordsbf16 : ∀ (i : grid0.Coords) (v402 : BitVec 32) (v522 : BitVec 32) (k0_hw99 : k0_chk99 i v402 v522), ∀ (k0_h1 : k0_cond1 i = 1#1), ∀ (k0_h100 : k0_cond100 v402 = 1#1), (Rect.unit (s := S81920x8x128) (k0_off99 v522) S512x8x128.size (k0_off99_inb i v402 v522 k0_hw99 k0_h1 k0_h100)).WholeWords (EltTy.packing .bf16) := fun i v402 v522 k0_hw99 k0_h1 k0_h100 => k0_hw99.2 k0_h1 k0_h100 (k0_off99_inb i v402 v522 k0_hw99 k0_h1 k0_h100)

def k0_off100 (v522 : BitVec 32) : Fin 3 → Nat :=
  let c0_i32_333 : BitVec 32 := 0#32
  let c0_i32_334 : BitVec 32 := 0#32
  ![v522.toNat, 0, 0]
def k0_cond101 (v406 : BitVec 32) : BitVec 1 :=
  let c0_i32_246 : BitVec 32 := 0#32
  let v407 : BitVec 1 := Scalar.cmpi .sgt v406 c0_i32_246
  let v408 : BitVec 32 := Scalar.extui v407
  let c0_i32_247 : BitVec 32 := 0#32
  let v409 : BitVec 1 := Scalar.cmpi .ne v408 c0_i32_247
  v409

def k0_chk100 (i : grid0.Coords) (v406 : BitVec 32) (v522 : BitVec 32) : Prop :=
  (∀ (k0_h1 : k0_cond1 i = 1#1), ∀ (k0_h101 : k0_cond101 v406 = 1#1), ∀ a, (k0_off100 v522) a + S512x8x128.size a ≤ S81920x8x128.size a) ∧
  (∀ (k0_h1 : k0_cond1 i = 1#1), ∀ (k0_h101 : k0_cond101 v406 = 1#1), ∀ (hinb : ∀ a, (k0_off100 v522) a + S512x8x128.size a ≤ S81920x8x128.size a), (Rect.unit (s := S81920x8x128) (k0_off100 v522) S512x8x128.size hinb).WholeWords (EltTy.packing .bf16))
theorem k0_off100_inb : ∀ (i : grid0.Coords) (v406 : BitVec 32) (v522 : BitVec 32) (k0_hw100 : k0_chk100 i v406 v522), ∀ (k0_h1 : k0_cond1 i = 1#1), ∀ (k0_h101 : k0_cond101 v406 = 1#1), ∀ a, (k0_off100 v522) a + S512x8x128.size a ≤ S81920x8x128.size a := fun i v406 v522 k0_hw100 k0_h1 k0_h101 => k0_hw100.1 k0_h1 k0_h101
theorem k0_off100_wordsbf16 : ∀ (i : grid0.Coords) (v406 : BitVec 32) (v522 : BitVec 32) (k0_hw100 : k0_chk100 i v406 v522), ∀ (k0_h1 : k0_cond1 i = 1#1), ∀ (k0_h101 : k0_cond101 v406 = 1#1), (Rect.unit (s := S81920x8x128) (k0_off100 v522) S512x8x128.size (k0_off100_inb i v406 v522 k0_hw100 k0_h1 k0_h101)).WholeWords (EltTy.packing .bf16) := fun i v406 v522 k0_hw100 k0_h1 k0_h101 => k0_hw100.2 k0_h1 k0_h101 (k0_off100_inb i v406 v522 k0_hw100 k0_h1 k0_h101)

def k0_off101 (v522 : BitVec 32) : Fin 3 → Nat :=
  let c0_i32_333 : BitVec 32 := 0#32
  let c0_i32_334 : BitVec 32 := 0#32
  ![v522.toNat, 0, 0]
def k0_cond102 (v410 : BitVec 32) : BitVec 1 :=
  let c0_i32_249 : BitVec 32 := 0#32
  let v411 : BitVec 1 := Scalar.cmpi .sgt v410 c0_i32_249
  let v412 : BitVec 32 := Scalar.extui v411
  let c0_i32_250 : BitVec 32 := 0#32
  let v413 : BitVec 1 := Scalar.cmpi .ne v412 c0_i32_250
  v413

def k0_chk101 (i : grid0.Coords) (v410 : BitVec 32) (v522 : BitVec 32) : Prop :=
  (∀ (k0_h1 : k0_cond1 i = 1#1), ∀ (k0_h102 : k0_cond102 v410 = 1#1), ∀ a, (k0_off101 v522) a + S512x8x128.size a ≤ S81920x8x128.size a) ∧
  (∀ (k0_h1 : k0_cond1 i = 1#1), ∀ (k0_h102 : k0_cond102 v410 = 1#1), ∀ (hinb : ∀ a, (k0_off101 v522) a + S512x8x128.size a ≤ S81920x8x128.size a), (Rect.unit (s := S81920x8x128) (k0_off101 v522) S512x8x128.size hinb).WholeWords (EltTy.packing .bf16))
theorem k0_off101_inb : ∀ (i : grid0.Coords) (v410 : BitVec 32) (v522 : BitVec 32) (k0_hw101 : k0_chk101 i v410 v522), ∀ (k0_h1 : k0_cond1 i = 1#1), ∀ (k0_h102 : k0_cond102 v410 = 1#1), ∀ a, (k0_off101 v522) a + S512x8x128.size a ≤ S81920x8x128.size a := fun i v410 v522 k0_hw101 k0_h1 k0_h102 => k0_hw101.1 k0_h1 k0_h102
theorem k0_off101_wordsbf16 : ∀ (i : grid0.Coords) (v410 : BitVec 32) (v522 : BitVec 32) (k0_hw101 : k0_chk101 i v410 v522), ∀ (k0_h1 : k0_cond1 i = 1#1), ∀ (k0_h102 : k0_cond102 v410 = 1#1), (Rect.unit (s := S81920x8x128) (k0_off101 v522) S512x8x128.size (k0_off101_inb i v410 v522 k0_hw101 k0_h1 k0_h102)).WholeWords (EltTy.packing .bf16) := fun i v410 v522 k0_hw101 k0_h1 k0_h102 => k0_hw101.2 k0_h1 k0_h102 (k0_off101_inb i v410 v522 k0_hw101 k0_h1 k0_h102)

def k0_off102 (v522 : BitVec 32) : Fin 3 → Nat :=
  let c0_i32_333 : BitVec 32 := 0#32
  let c0_i32_334 : BitVec 32 := 0#32
  ![v522.toNat, 0, 0]
def k0_cond103 (v414 : BitVec 32) : BitVec 1 :=
  let c0_i32_252 : BitVec 32 := 0#32
  let v415 : BitVec 1 := Scalar.cmpi .sgt v414 c0_i32_252
  let v416 : BitVec 32 := Scalar.extui v415
  let c0_i32_253 : BitVec 32 := 0#32
  let v417 : BitVec 1 := Scalar.cmpi .ne v416 c0_i32_253
  v417

def k0_chk102 (i : grid0.Coords) (v414 : BitVec 32) (v522 : BitVec 32) : Prop :=
  (∀ (k0_h1 : k0_cond1 i = 1#1), ∀ (k0_h103 : k0_cond103 v414 = 1#1), ∀ a, (k0_off102 v522) a + S512x8x128.size a ≤ S81920x8x128.size a) ∧
  (∀ (k0_h1 : k0_cond1 i = 1#1), ∀ (k0_h103 : k0_cond103 v414 = 1#1), ∀ (hinb : ∀ a, (k0_off102 v522) a + S512x8x128.size a ≤ S81920x8x128.size a), (Rect.unit (s := S81920x8x128) (k0_off102 v522) S512x8x128.size hinb).WholeWords (EltTy.packing .bf16))
theorem k0_off102_inb : ∀ (i : grid0.Coords) (v414 : BitVec 32) (v522 : BitVec 32) (k0_hw102 : k0_chk102 i v414 v522), ∀ (k0_h1 : k0_cond1 i = 1#1), ∀ (k0_h103 : k0_cond103 v414 = 1#1), ∀ a, (k0_off102 v522) a + S512x8x128.size a ≤ S81920x8x128.size a := fun i v414 v522 k0_hw102 k0_h1 k0_h103 => k0_hw102.1 k0_h1 k0_h103
theorem k0_off102_wordsbf16 : ∀ (i : grid0.Coords) (v414 : BitVec 32) (v522 : BitVec 32) (k0_hw102 : k0_chk102 i v414 v522), ∀ (k0_h1 : k0_cond1 i = 1#1), ∀ (k0_h103 : k0_cond103 v414 = 1#1), (Rect.unit (s := S81920x8x128) (k0_off102 v522) S512x8x128.size (k0_off102_inb i v414 v522 k0_hw102 k0_h1 k0_h103)).WholeWords (EltTy.packing .bf16) := fun i v414 v522 k0_hw102 k0_h1 k0_h103 => k0_hw102.2 k0_h1 k0_h103 (k0_off102_inb i v414 v522 k0_hw102 k0_h1 k0_h103)

def k0_off103 (v522 : BitVec 32) : Fin 3 → Nat :=
  let c0_i32_333 : BitVec 32 := 0#32
  let c0_i32_334 : BitVec 32 := 0#32
  ![v522.toNat, 0, 0]
def k0_cond104 (v418 : BitVec 32) : BitVec 1 :=
  let c0_i32_255 : BitVec 32 := 0#32
  let v419 : BitVec 1 := Scalar.cmpi .sgt v418 c0_i32_255
  let v420 : BitVec 32 := Scalar.extui v419
  let c0_i32_256 : BitVec 32 := 0#32
  let v421 : BitVec 1 := Scalar.cmpi .ne v420 c0_i32_256
  v421

def k0_chk103 (i : grid0.Coords) (v418 : BitVec 32) (v522 : BitVec 32) : Prop :=
  (∀ (k0_h1 : k0_cond1 i = 1#1), ∀ (k0_h104 : k0_cond104 v418 = 1#1), ∀ a, (k0_off103 v522) a + S512x8x128.size a ≤ S81920x8x128.size a) ∧
  (∀ (k0_h1 : k0_cond1 i = 1#1), ∀ (k0_h104 : k0_cond104 v418 = 1#1), ∀ (hinb : ∀ a, (k0_off103 v522) a + S512x8x128.size a ≤ S81920x8x128.size a), (Rect.unit (s := S81920x8x128) (k0_off103 v522) S512x8x128.size hinb).WholeWords (EltTy.packing .bf16))
theorem k0_off103_inb : ∀ (i : grid0.Coords) (v418 : BitVec 32) (v522 : BitVec 32) (k0_hw103 : k0_chk103 i v418 v522), ∀ (k0_h1 : k0_cond1 i = 1#1), ∀ (k0_h104 : k0_cond104 v418 = 1#1), ∀ a, (k0_off103 v522) a + S512x8x128.size a ≤ S81920x8x128.size a := fun i v418 v522 k0_hw103 k0_h1 k0_h104 => k0_hw103.1 k0_h1 k0_h104
theorem k0_off103_wordsbf16 : ∀ (i : grid0.Coords) (v418 : BitVec 32) (v522 : BitVec 32) (k0_hw103 : k0_chk103 i v418 v522), ∀ (k0_h1 : k0_cond1 i = 1#1), ∀ (k0_h104 : k0_cond104 v418 = 1#1), (Rect.unit (s := S81920x8x128) (k0_off103 v522) S512x8x128.size (k0_off103_inb i v418 v522 k0_hw103 k0_h1 k0_h104)).WholeWords (EltTy.packing .bf16) := fun i v418 v522 k0_hw103 k0_h1 k0_h104 => k0_hw103.2 k0_h1 k0_h104 (k0_off103_inb i v418 v522 k0_hw103 k0_h1 k0_h104)

def k0_off104 (v522 : BitVec 32) : Fin 3 → Nat :=
  let c0_i32_333 : BitVec 32 := 0#32
  let c0_i32_334 : BitVec 32 := 0#32
  ![v522.toNat, 0, 0]
def k0_cond105 (v422 : BitVec 32) : BitVec 1 :=
  let c0_i32_258 : BitVec 32 := 0#32
  let v423 : BitVec 1 := Scalar.cmpi .sgt v422 c0_i32_258
  let v424 : BitVec 32 := Scalar.extui v423
  let c0_i32_259 : BitVec 32 := 0#32
  let v425 : BitVec 1 := Scalar.cmpi .ne v424 c0_i32_259
  v425

def k0_chk104 (i : grid0.Coords) (v422 : BitVec 32) (v522 : BitVec 32) : Prop :=
  (∀ (k0_h1 : k0_cond1 i = 1#1), ∀ (k0_h105 : k0_cond105 v422 = 1#1), ∀ a, (k0_off104 v522) a + S512x8x128.size a ≤ S81920x8x128.size a) ∧
  (∀ (k0_h1 : k0_cond1 i = 1#1), ∀ (k0_h105 : k0_cond105 v422 = 1#1), ∀ (hinb : ∀ a, (k0_off104 v522) a + S512x8x128.size a ≤ S81920x8x128.size a), (Rect.unit (s := S81920x8x128) (k0_off104 v522) S512x8x128.size hinb).WholeWords (EltTy.packing .bf16))
theorem k0_off104_inb : ∀ (i : grid0.Coords) (v422 : BitVec 32) (v522 : BitVec 32) (k0_hw104 : k0_chk104 i v422 v522), ∀ (k0_h1 : k0_cond1 i = 1#1), ∀ (k0_h105 : k0_cond105 v422 = 1#1), ∀ a, (k0_off104 v522) a + S512x8x128.size a ≤ S81920x8x128.size a := fun i v422 v522 k0_hw104 k0_h1 k0_h105 => k0_hw104.1 k0_h1 k0_h105
theorem k0_off104_wordsbf16 : ∀ (i : grid0.Coords) (v422 : BitVec 32) (v522 : BitVec 32) (k0_hw104 : k0_chk104 i v422 v522), ∀ (k0_h1 : k0_cond1 i = 1#1), ∀ (k0_h105 : k0_cond105 v422 = 1#1), (Rect.unit (s := S81920x8x128) (k0_off104 v522) S512x8x128.size (k0_off104_inb i v422 v522 k0_hw104 k0_h1 k0_h105)).WholeWords (EltTy.packing .bf16) := fun i v422 v522 k0_hw104 k0_h1 k0_h105 => k0_hw104.2 k0_h1 k0_h105 (k0_off104_inb i v422 v522 k0_hw104 k0_h1 k0_h105)

def k0_off105 (v522 : BitVec 32) : Fin 3 → Nat :=
  let c0_i32_333 : BitVec 32 := 0#32
  let c0_i32_334 : BitVec 32 := 0#32
  ![v522.toNat, 0, 0]
def k0_cond106 (v426 : BitVec 32) : BitVec 1 :=
  let c0_i32_261 : BitVec 32 := 0#32
  let v427 : BitVec 1 := Scalar.cmpi .sgt v426 c0_i32_261
  let v428 : BitVec 32 := Scalar.extui v427
  let c0_i32_262 : BitVec 32 := 0#32
  let v429 : BitVec 1 := Scalar.cmpi .ne v428 c0_i32_262
  v429

def k0_chk105 (i : grid0.Coords) (v426 : BitVec 32) (v522 : BitVec 32) : Prop :=
  (∀ (k0_h1 : k0_cond1 i = 1#1), ∀ (k0_h106 : k0_cond106 v426 = 1#1), ∀ a, (k0_off105 v522) a + S512x8x128.size a ≤ S81920x8x128.size a) ∧
  (∀ (k0_h1 : k0_cond1 i = 1#1), ∀ (k0_h106 : k0_cond106 v426 = 1#1), ∀ (hinb : ∀ a, (k0_off105 v522) a + S512x8x128.size a ≤ S81920x8x128.size a), (Rect.unit (s := S81920x8x128) (k0_off105 v522) S512x8x128.size hinb).WholeWords (EltTy.packing .bf16))
theorem k0_off105_inb : ∀ (i : grid0.Coords) (v426 : BitVec 32) (v522 : BitVec 32) (k0_hw105 : k0_chk105 i v426 v522), ∀ (k0_h1 : k0_cond1 i = 1#1), ∀ (k0_h106 : k0_cond106 v426 = 1#1), ∀ a, (k0_off105 v522) a + S512x8x128.size a ≤ S81920x8x128.size a := fun i v426 v522 k0_hw105 k0_h1 k0_h106 => k0_hw105.1 k0_h1 k0_h106
theorem k0_off105_wordsbf16 : ∀ (i : grid0.Coords) (v426 : BitVec 32) (v522 : BitVec 32) (k0_hw105 : k0_chk105 i v426 v522), ∀ (k0_h1 : k0_cond1 i = 1#1), ∀ (k0_h106 : k0_cond106 v426 = 1#1), (Rect.unit (s := S81920x8x128) (k0_off105 v522) S512x8x128.size (k0_off105_inb i v426 v522 k0_hw105 k0_h1 k0_h106)).WholeWords (EltTy.packing .bf16) := fun i v426 v522 k0_hw105 k0_h1 k0_h106 => k0_hw105.2 k0_h1 k0_h106 (k0_off105_inb i v426 v522 k0_hw105 k0_h1 k0_h106)

def k0_off106 (v522 : BitVec 32) : Fin 3 → Nat :=
  let c0_i32_333 : BitVec 32 := 0#32
  let c0_i32_334 : BitVec 32 := 0#32
  ![v522.toNat, 0, 0]
def k0_cond107 (v430 : BitVec 32) : BitVec 1 :=
  let c0_i32_264 : BitVec 32 := 0#32
  let v431 : BitVec 1 := Scalar.cmpi .sgt v430 c0_i32_264
  let v432 : BitVec 32 := Scalar.extui v431
  let c0_i32_265 : BitVec 32 := 0#32
  let v433 : BitVec 1 := Scalar.cmpi .ne v432 c0_i32_265
  v433

def k0_chk106 (i : grid0.Coords) (v430 : BitVec 32) (v522 : BitVec 32) : Prop :=
  (∀ (k0_h1 : k0_cond1 i = 1#1), ∀ (k0_h107 : k0_cond107 v430 = 1#1), ∀ a, (k0_off106 v522) a + S512x8x128.size a ≤ S81920x8x128.size a) ∧
  (∀ (k0_h1 : k0_cond1 i = 1#1), ∀ (k0_h107 : k0_cond107 v430 = 1#1), ∀ (hinb : ∀ a, (k0_off106 v522) a + S512x8x128.size a ≤ S81920x8x128.size a), (Rect.unit (s := S81920x8x128) (k0_off106 v522) S512x8x128.size hinb).WholeWords (EltTy.packing .bf16))
theorem k0_off106_inb : ∀ (i : grid0.Coords) (v430 : BitVec 32) (v522 : BitVec 32) (k0_hw106 : k0_chk106 i v430 v522), ∀ (k0_h1 : k0_cond1 i = 1#1), ∀ (k0_h107 : k0_cond107 v430 = 1#1), ∀ a, (k0_off106 v522) a + S512x8x128.size a ≤ S81920x8x128.size a := fun i v430 v522 k0_hw106 k0_h1 k0_h107 => k0_hw106.1 k0_h1 k0_h107
theorem k0_off106_wordsbf16 : ∀ (i : grid0.Coords) (v430 : BitVec 32) (v522 : BitVec 32) (k0_hw106 : k0_chk106 i v430 v522), ∀ (k0_h1 : k0_cond1 i = 1#1), ∀ (k0_h107 : k0_cond107 v430 = 1#1), (Rect.unit (s := S81920x8x128) (k0_off106 v522) S512x8x128.size (k0_off106_inb i v430 v522 k0_hw106 k0_h1 k0_h107)).WholeWords (EltTy.packing .bf16) := fun i v430 v522 k0_hw106 k0_h1 k0_h107 => k0_hw106.2 k0_h1 k0_h107 (k0_off106_inb i v430 v522 k0_hw106 k0_h1 k0_h107)

def k0_off107 (v522 : BitVec 32) : Fin 3 → Nat :=
  let c0_i32_333 : BitVec 32 := 0#32
  let c0_i32_334 : BitVec 32 := 0#32
  ![v522.toNat, 0, 0]
def k0_cond108 (v434 : BitVec 32) : BitVec 1 :=
  let c0_i32_267 : BitVec 32 := 0#32
  let v435 : BitVec 1 := Scalar.cmpi .sgt v434 c0_i32_267
  let v436 : BitVec 32 := Scalar.extui v435
  let c0_i32_268 : BitVec 32 := 0#32
  let v437 : BitVec 1 := Scalar.cmpi .ne v436 c0_i32_268
  v437

def k0_chk107 (i : grid0.Coords) (v434 : BitVec 32) (v522 : BitVec 32) : Prop :=
  (∀ (k0_h1 : k0_cond1 i = 1#1), ∀ (k0_h108 : k0_cond108 v434 = 1#1), ∀ a, (k0_off107 v522) a + S512x8x128.size a ≤ S81920x8x128.size a) ∧
  (∀ (k0_h1 : k0_cond1 i = 1#1), ∀ (k0_h108 : k0_cond108 v434 = 1#1), ∀ (hinb : ∀ a, (k0_off107 v522) a + S512x8x128.size a ≤ S81920x8x128.size a), (Rect.unit (s := S81920x8x128) (k0_off107 v522) S512x8x128.size hinb).WholeWords (EltTy.packing .bf16))
theorem k0_off107_inb : ∀ (i : grid0.Coords) (v434 : BitVec 32) (v522 : BitVec 32) (k0_hw107 : k0_chk107 i v434 v522), ∀ (k0_h1 : k0_cond1 i = 1#1), ∀ (k0_h108 : k0_cond108 v434 = 1#1), ∀ a, (k0_off107 v522) a + S512x8x128.size a ≤ S81920x8x128.size a := fun i v434 v522 k0_hw107 k0_h1 k0_h108 => k0_hw107.1 k0_h1 k0_h108
theorem k0_off107_wordsbf16 : ∀ (i : grid0.Coords) (v434 : BitVec 32) (v522 : BitVec 32) (k0_hw107 : k0_chk107 i v434 v522), ∀ (k0_h1 : k0_cond1 i = 1#1), ∀ (k0_h108 : k0_cond108 v434 = 1#1), (Rect.unit (s := S81920x8x128) (k0_off107 v522) S512x8x128.size (k0_off107_inb i v434 v522 k0_hw107 k0_h1 k0_h108)).WholeWords (EltTy.packing .bf16) := fun i v434 v522 k0_hw107 k0_h1 k0_h108 => k0_hw107.2 k0_h1 k0_h108 (k0_off107_inb i v434 v522 k0_hw107 k0_h1 k0_h108)

def k0_off108 (v522 : BitVec 32) : Fin 3 → Nat :=
  let c0_i32_333 : BitVec 32 := 0#32
  let c0_i32_334 : BitVec 32 := 0#32
  ![v522.toNat, 0, 0]
def k0_cond109 (v438 : BitVec 32) : BitVec 1 :=
  let c0_i32_270 : BitVec 32 := 0#32
  let v439 : BitVec 1 := Scalar.cmpi .sgt v438 c0_i32_270
  let v440 : BitVec 32 := Scalar.extui v439
  let c0_i32_271 : BitVec 32 := 0#32
  let v441 : BitVec 1 := Scalar.cmpi .ne v440 c0_i32_271
  v441

def k0_chk108 (i : grid0.Coords) (v438 : BitVec 32) (v522 : BitVec 32) : Prop :=
  (∀ (k0_h1 : k0_cond1 i = 1#1), ∀ (k0_h109 : k0_cond109 v438 = 1#1), ∀ a, (k0_off108 v522) a + S512x8x128.size a ≤ S81920x8x128.size a) ∧
  (∀ (k0_h1 : k0_cond1 i = 1#1), ∀ (k0_h109 : k0_cond109 v438 = 1#1), ∀ (hinb : ∀ a, (k0_off108 v522) a + S512x8x128.size a ≤ S81920x8x128.size a), (Rect.unit (s := S81920x8x128) (k0_off108 v522) S512x8x128.size hinb).WholeWords (EltTy.packing .bf16))
theorem k0_off108_inb : ∀ (i : grid0.Coords) (v438 : BitVec 32) (v522 : BitVec 32) (k0_hw108 : k0_chk108 i v438 v522), ∀ (k0_h1 : k0_cond1 i = 1#1), ∀ (k0_h109 : k0_cond109 v438 = 1#1), ∀ a, (k0_off108 v522) a + S512x8x128.size a ≤ S81920x8x128.size a := fun i v438 v522 k0_hw108 k0_h1 k0_h109 => k0_hw108.1 k0_h1 k0_h109
theorem k0_off108_wordsbf16 : ∀ (i : grid0.Coords) (v438 : BitVec 32) (v522 : BitVec 32) (k0_hw108 : k0_chk108 i v438 v522), ∀ (k0_h1 : k0_cond1 i = 1#1), ∀ (k0_h109 : k0_cond109 v438 = 1#1), (Rect.unit (s := S81920x8x128) (k0_off108 v522) S512x8x128.size (k0_off108_inb i v438 v522 k0_hw108 k0_h1 k0_h109)).WholeWords (EltTy.packing .bf16) := fun i v438 v522 k0_hw108 k0_h1 k0_h109 => k0_hw108.2 k0_h1 k0_h109 (k0_off108_inb i v438 v522 k0_hw108 k0_h1 k0_h109)

def k0_off109 (v522 : BitVec 32) : Fin 3 → Nat :=
  let c0_i32_333 : BitVec 32 := 0#32
  let c0_i32_334 : BitVec 32 := 0#32
  ![v522.toNat, 0, 0]
def k0_cond110 (v442 : BitVec 32) : BitVec 1 :=
  let c0_i32_273 : BitVec 32 := 0#32
  let v443 : BitVec 1 := Scalar.cmpi .sgt v442 c0_i32_273
  let v444 : BitVec 32 := Scalar.extui v443
  let c0_i32_274 : BitVec 32 := 0#32
  let v445 : BitVec 1 := Scalar.cmpi .ne v444 c0_i32_274
  v445

def k0_chk109 (i : grid0.Coords) (v442 : BitVec 32) (v522 : BitVec 32) : Prop :=
  (∀ (k0_h1 : k0_cond1 i = 1#1), ∀ (k0_h110 : k0_cond110 v442 = 1#1), ∀ a, (k0_off109 v522) a + S512x8x128.size a ≤ S81920x8x128.size a) ∧
  (∀ (k0_h1 : k0_cond1 i = 1#1), ∀ (k0_h110 : k0_cond110 v442 = 1#1), ∀ (hinb : ∀ a, (k0_off109 v522) a + S512x8x128.size a ≤ S81920x8x128.size a), (Rect.unit (s := S81920x8x128) (k0_off109 v522) S512x8x128.size hinb).WholeWords (EltTy.packing .bf16))
theorem k0_off109_inb : ∀ (i : grid0.Coords) (v442 : BitVec 32) (v522 : BitVec 32) (k0_hw109 : k0_chk109 i v442 v522), ∀ (k0_h1 : k0_cond1 i = 1#1), ∀ (k0_h110 : k0_cond110 v442 = 1#1), ∀ a, (k0_off109 v522) a + S512x8x128.size a ≤ S81920x8x128.size a := fun i v442 v522 k0_hw109 k0_h1 k0_h110 => k0_hw109.1 k0_h1 k0_h110
theorem k0_off109_wordsbf16 : ∀ (i : grid0.Coords) (v442 : BitVec 32) (v522 : BitVec 32) (k0_hw109 : k0_chk109 i v442 v522), ∀ (k0_h1 : k0_cond1 i = 1#1), ∀ (k0_h110 : k0_cond110 v442 = 1#1), (Rect.unit (s := S81920x8x128) (k0_off109 v522) S512x8x128.size (k0_off109_inb i v442 v522 k0_hw109 k0_h1 k0_h110)).WholeWords (EltTy.packing .bf16) := fun i v442 v522 k0_hw109 k0_h1 k0_h110 => k0_hw109.2 k0_h1 k0_h110 (k0_off109_inb i v442 v522 k0_hw109 k0_h1 k0_h110)

def k0_off110 (v522 : BitVec 32) : Fin 3 → Nat :=
  let c0_i32_333 : BitVec 32 := 0#32
  let c0_i32_334 : BitVec 32 := 0#32
  ![v522.toNat, 0, 0]
def k0_cond111 (v446 : BitVec 32) : BitVec 1 :=
  let c0_i32_276 : BitVec 32 := 0#32
  let v447 : BitVec 1 := Scalar.cmpi .sgt v446 c0_i32_276
  let v448 : BitVec 32 := Scalar.extui v447
  let c0_i32_277 : BitVec 32 := 0#32
  let v449 : BitVec 1 := Scalar.cmpi .ne v448 c0_i32_277
  v449

def k0_chk110 (i : grid0.Coords) (v446 : BitVec 32) (v522 : BitVec 32) : Prop :=
  (∀ (k0_h1 : k0_cond1 i = 1#1), ∀ (k0_h111 : k0_cond111 v446 = 1#1), ∀ a, (k0_off110 v522) a + S512x8x128.size a ≤ S81920x8x128.size a) ∧
  (∀ (k0_h1 : k0_cond1 i = 1#1), ∀ (k0_h111 : k0_cond111 v446 = 1#1), ∀ (hinb : ∀ a, (k0_off110 v522) a + S512x8x128.size a ≤ S81920x8x128.size a), (Rect.unit (s := S81920x8x128) (k0_off110 v522) S512x8x128.size hinb).WholeWords (EltTy.packing .bf16))
theorem k0_off110_inb : ∀ (i : grid0.Coords) (v446 : BitVec 32) (v522 : BitVec 32) (k0_hw110 : k0_chk110 i v446 v522), ∀ (k0_h1 : k0_cond1 i = 1#1), ∀ (k0_h111 : k0_cond111 v446 = 1#1), ∀ a, (k0_off110 v522) a + S512x8x128.size a ≤ S81920x8x128.size a := fun i v446 v522 k0_hw110 k0_h1 k0_h111 => k0_hw110.1 k0_h1 k0_h111
theorem k0_off110_wordsbf16 : ∀ (i : grid0.Coords) (v446 : BitVec 32) (v522 : BitVec 32) (k0_hw110 : k0_chk110 i v446 v522), ∀ (k0_h1 : k0_cond1 i = 1#1), ∀ (k0_h111 : k0_cond111 v446 = 1#1), (Rect.unit (s := S81920x8x128) (k0_off110 v522) S512x8x128.size (k0_off110_inb i v446 v522 k0_hw110 k0_h1 k0_h111)).WholeWords (EltTy.packing .bf16) := fun i v446 v522 k0_hw110 k0_h1 k0_h111 => k0_hw110.2 k0_h1 k0_h111 (k0_off110_inb i v446 v522 k0_hw110 k0_h1 k0_h111)

def k0_off111 (v522 : BitVec 32) : Fin 3 → Nat :=
  let c0_i32_333 : BitVec 32 := 0#32
  let c0_i32_334 : BitVec 32 := 0#32
  ![v522.toNat, 0, 0]
def k0_cond112 (v450 : BitVec 32) : BitVec 1 :=
  let c0_i32_279 : BitVec 32 := 0#32
  let v451 : BitVec 1 := Scalar.cmpi .sgt v450 c0_i32_279
  let v452 : BitVec 32 := Scalar.extui v451
  let c0_i32_280 : BitVec 32 := 0#32
  let v453 : BitVec 1 := Scalar.cmpi .ne v452 c0_i32_280
  v453

def k0_chk111 (i : grid0.Coords) (v450 : BitVec 32) (v522 : BitVec 32) : Prop :=
  (∀ (k0_h1 : k0_cond1 i = 1#1), ∀ (k0_h112 : k0_cond112 v450 = 1#1), ∀ a, (k0_off111 v522) a + S512x8x128.size a ≤ S81920x8x128.size a) ∧
  (∀ (k0_h1 : k0_cond1 i = 1#1), ∀ (k0_h112 : k0_cond112 v450 = 1#1), ∀ (hinb : ∀ a, (k0_off111 v522) a + S512x8x128.size a ≤ S81920x8x128.size a), (Rect.unit (s := S81920x8x128) (k0_off111 v522) S512x8x128.size hinb).WholeWords (EltTy.packing .bf16))
theorem k0_off111_inb : ∀ (i : grid0.Coords) (v450 : BitVec 32) (v522 : BitVec 32) (k0_hw111 : k0_chk111 i v450 v522), ∀ (k0_h1 : k0_cond1 i = 1#1), ∀ (k0_h112 : k0_cond112 v450 = 1#1), ∀ a, (k0_off111 v522) a + S512x8x128.size a ≤ S81920x8x128.size a := fun i v450 v522 k0_hw111 k0_h1 k0_h112 => k0_hw111.1 k0_h1 k0_h112
theorem k0_off111_wordsbf16 : ∀ (i : grid0.Coords) (v450 : BitVec 32) (v522 : BitVec 32) (k0_hw111 : k0_chk111 i v450 v522), ∀ (k0_h1 : k0_cond1 i = 1#1), ∀ (k0_h112 : k0_cond112 v450 = 1#1), (Rect.unit (s := S81920x8x128) (k0_off111 v522) S512x8x128.size (k0_off111_inb i v450 v522 k0_hw111 k0_h1 k0_h112)).WholeWords (EltTy.packing .bf16) := fun i v450 v522 k0_hw111 k0_h1 k0_h112 => k0_hw111.2 k0_h1 k0_h112 (k0_off111_inb i v450 v522 k0_hw111 k0_h1 k0_h112)

def k0_off112 (v522 : BitVec 32) : Fin 3 → Nat :=
  let c0_i32_333 : BitVec 32 := 0#32
  let c0_i32_334 : BitVec 32 := 0#32
  ![v522.toNat, 0, 0]
def k0_cond113 (v454 : BitVec 32) : BitVec 1 :=
  let c0_i32_282 : BitVec 32 := 0#32
  let v455 : BitVec 1 := Scalar.cmpi .sgt v454 c0_i32_282
  let v456 : BitVec 32 := Scalar.extui v455
  let c0_i32_283 : BitVec 32 := 0#32
  let v457 : BitVec 1 := Scalar.cmpi .ne v456 c0_i32_283
  v457

def k0_chk112 (i : grid0.Coords) (v454 : BitVec 32) (v522 : BitVec 32) : Prop :=
  (∀ (k0_h1 : k0_cond1 i = 1#1), ∀ (k0_h113 : k0_cond113 v454 = 1#1), ∀ a, (k0_off112 v522) a + S512x8x128.size a ≤ S81920x8x128.size a) ∧
  (∀ (k0_h1 : k0_cond1 i = 1#1), ∀ (k0_h113 : k0_cond113 v454 = 1#1), ∀ (hinb : ∀ a, (k0_off112 v522) a + S512x8x128.size a ≤ S81920x8x128.size a), (Rect.unit (s := S81920x8x128) (k0_off112 v522) S512x8x128.size hinb).WholeWords (EltTy.packing .bf16))
theorem k0_off112_inb : ∀ (i : grid0.Coords) (v454 : BitVec 32) (v522 : BitVec 32) (k0_hw112 : k0_chk112 i v454 v522), ∀ (k0_h1 : k0_cond1 i = 1#1), ∀ (k0_h113 : k0_cond113 v454 = 1#1), ∀ a, (k0_off112 v522) a + S512x8x128.size a ≤ S81920x8x128.size a := fun i v454 v522 k0_hw112 k0_h1 k0_h113 => k0_hw112.1 k0_h1 k0_h113
theorem k0_off112_wordsbf16 : ∀ (i : grid0.Coords) (v454 : BitVec 32) (v522 : BitVec 32) (k0_hw112 : k0_chk112 i v454 v522), ∀ (k0_h1 : k0_cond1 i = 1#1), ∀ (k0_h113 : k0_cond113 v454 = 1#1), (Rect.unit (s := S81920x8x128) (k0_off112 v522) S512x8x128.size (k0_off112_inb i v454 v522 k0_hw112 k0_h1 k0_h113)).WholeWords (EltTy.packing .bf16) := fun i v454 v522 k0_hw112 k0_h1 k0_h113 => k0_hw112.2 k0_h1 k0_h113 (k0_off112_inb i v454 v522 k0_hw112 k0_h1 k0_h113)

def k0_off113 (v522 : BitVec 32) : Fin 3 → Nat :=
  let c0_i32_333 : BitVec 32 := 0#32
  let c0_i32_334 : BitVec 32 := 0#32
  ![v522.toNat, 0, 0]
def k0_cond114 (v458 : BitVec 32) : BitVec 1 :=
  let c0_i32_285 : BitVec 32 := 0#32
  let v459 : BitVec 1 := Scalar.cmpi .sgt v458 c0_i32_285
  let v460 : BitVec 32 := Scalar.extui v459
  let c0_i32_286 : BitVec 32 := 0#32
  let v461 : BitVec 1 := Scalar.cmpi .ne v460 c0_i32_286
  v461

def k0_chk113 (i : grid0.Coords) (v458 : BitVec 32) (v522 : BitVec 32) : Prop :=
  (∀ (k0_h1 : k0_cond1 i = 1#1), ∀ (k0_h114 : k0_cond114 v458 = 1#1), ∀ a, (k0_off113 v522) a + S512x8x128.size a ≤ S81920x8x128.size a) ∧
  (∀ (k0_h1 : k0_cond1 i = 1#1), ∀ (k0_h114 : k0_cond114 v458 = 1#1), ∀ (hinb : ∀ a, (k0_off113 v522) a + S512x8x128.size a ≤ S81920x8x128.size a), (Rect.unit (s := S81920x8x128) (k0_off113 v522) S512x8x128.size hinb).WholeWords (EltTy.packing .bf16))
theorem k0_off113_inb : ∀ (i : grid0.Coords) (v458 : BitVec 32) (v522 : BitVec 32) (k0_hw113 : k0_chk113 i v458 v522), ∀ (k0_h1 : k0_cond1 i = 1#1), ∀ (k0_h114 : k0_cond114 v458 = 1#1), ∀ a, (k0_off113 v522) a + S512x8x128.size a ≤ S81920x8x128.size a := fun i v458 v522 k0_hw113 k0_h1 k0_h114 => k0_hw113.1 k0_h1 k0_h114
theorem k0_off113_wordsbf16 : ∀ (i : grid0.Coords) (v458 : BitVec 32) (v522 : BitVec 32) (k0_hw113 : k0_chk113 i v458 v522), ∀ (k0_h1 : k0_cond1 i = 1#1), ∀ (k0_h114 : k0_cond114 v458 = 1#1), (Rect.unit (s := S81920x8x128) (k0_off113 v522) S512x8x128.size (k0_off113_inb i v458 v522 k0_hw113 k0_h1 k0_h114)).WholeWords (EltTy.packing .bf16) := fun i v458 v522 k0_hw113 k0_h1 k0_h114 => k0_hw113.2 k0_h1 k0_h114 (k0_off113_inb i v458 v522 k0_hw113 k0_h1 k0_h114)

def k0_off114 (v522 : BitVec 32) : Fin 3 → Nat :=
  let c0_i32_333 : BitVec 32 := 0#32
  let c0_i32_334 : BitVec 32 := 0#32
  ![v522.toNat, 0, 0]
def k0_cond115 (v462 : BitVec 32) : BitVec 1 :=
  let c0_i32_288 : BitVec 32 := 0#32
  let v463 : BitVec 1 := Scalar.cmpi .sgt v462 c0_i32_288
  let v464 : BitVec 32 := Scalar.extui v463
  let c0_i32_289 : BitVec 32 := 0#32
  let v465 : BitVec 1 := Scalar.cmpi .ne v464 c0_i32_289
  v465

def k0_chk114 (i : grid0.Coords) (v462 : BitVec 32) (v522 : BitVec 32) : Prop :=
  (∀ (k0_h1 : k0_cond1 i = 1#1), ∀ (k0_h115 : k0_cond115 v462 = 1#1), ∀ a, (k0_off114 v522) a + S512x8x128.size a ≤ S81920x8x128.size a) ∧
  (∀ (k0_h1 : k0_cond1 i = 1#1), ∀ (k0_h115 : k0_cond115 v462 = 1#1), ∀ (hinb : ∀ a, (k0_off114 v522) a + S512x8x128.size a ≤ S81920x8x128.size a), (Rect.unit (s := S81920x8x128) (k0_off114 v522) S512x8x128.size hinb).WholeWords (EltTy.packing .bf16))
theorem k0_off114_inb : ∀ (i : grid0.Coords) (v462 : BitVec 32) (v522 : BitVec 32) (k0_hw114 : k0_chk114 i v462 v522), ∀ (k0_h1 : k0_cond1 i = 1#1), ∀ (k0_h115 : k0_cond115 v462 = 1#1), ∀ a, (k0_off114 v522) a + S512x8x128.size a ≤ S81920x8x128.size a := fun i v462 v522 k0_hw114 k0_h1 k0_h115 => k0_hw114.1 k0_h1 k0_h115
theorem k0_off114_wordsbf16 : ∀ (i : grid0.Coords) (v462 : BitVec 32) (v522 : BitVec 32) (k0_hw114 : k0_chk114 i v462 v522), ∀ (k0_h1 : k0_cond1 i = 1#1), ∀ (k0_h115 : k0_cond115 v462 = 1#1), (Rect.unit (s := S81920x8x128) (k0_off114 v522) S512x8x128.size (k0_off114_inb i v462 v522 k0_hw114 k0_h1 k0_h115)).WholeWords (EltTy.packing .bf16) := fun i v462 v522 k0_hw114 k0_h1 k0_h115 => k0_hw114.2 k0_h1 k0_h115 (k0_off114_inb i v462 v522 k0_hw114 k0_h1 k0_h115)

def k0_off115 (v522 : BitVec 32) : Fin 3 → Nat :=
  let c0_i32_333 : BitVec 32 := 0#32
  let c0_i32_334 : BitVec 32 := 0#32
  ![v522.toNat, 0, 0]
def k0_cond116 (v466 : BitVec 32) : BitVec 1 :=
  let c0_i32_291 : BitVec 32 := 0#32
  let v467 : BitVec 1 := Scalar.cmpi .sgt v466 c0_i32_291
  let v468 : BitVec 32 := Scalar.extui v467
  let c0_i32_292 : BitVec 32 := 0#32
  let v469 : BitVec 1 := Scalar.cmpi .ne v468 c0_i32_292
  v469

def k0_chk115 (i : grid0.Coords) (v466 : BitVec 32) (v522 : BitVec 32) : Prop :=
  (∀ (k0_h1 : k0_cond1 i = 1#1), ∀ (k0_h116 : k0_cond116 v466 = 1#1), ∀ a, (k0_off115 v522) a + S512x8x128.size a ≤ S81920x8x128.size a) ∧
  (∀ (k0_h1 : k0_cond1 i = 1#1), ∀ (k0_h116 : k0_cond116 v466 = 1#1), ∀ (hinb : ∀ a, (k0_off115 v522) a + S512x8x128.size a ≤ S81920x8x128.size a), (Rect.unit (s := S81920x8x128) (k0_off115 v522) S512x8x128.size hinb).WholeWords (EltTy.packing .bf16))
theorem k0_off115_inb : ∀ (i : grid0.Coords) (v466 : BitVec 32) (v522 : BitVec 32) (k0_hw115 : k0_chk115 i v466 v522), ∀ (k0_h1 : k0_cond1 i = 1#1), ∀ (k0_h116 : k0_cond116 v466 = 1#1), ∀ a, (k0_off115 v522) a + S512x8x128.size a ≤ S81920x8x128.size a := fun i v466 v522 k0_hw115 k0_h1 k0_h116 => k0_hw115.1 k0_h1 k0_h116
theorem k0_off115_wordsbf16 : ∀ (i : grid0.Coords) (v466 : BitVec 32) (v522 : BitVec 32) (k0_hw115 : k0_chk115 i v466 v522), ∀ (k0_h1 : k0_cond1 i = 1#1), ∀ (k0_h116 : k0_cond116 v466 = 1#1), (Rect.unit (s := S81920x8x128) (k0_off115 v522) S512x8x128.size (k0_off115_inb i v466 v522 k0_hw115 k0_h1 k0_h116)).WholeWords (EltTy.packing .bf16) := fun i v466 v522 k0_hw115 k0_h1 k0_h116 => k0_hw115.2 k0_h1 k0_h116 (k0_off115_inb i v466 v522 k0_hw115 k0_h1 k0_h116)

def k0_off116 (v522 : BitVec 32) : Fin 3 → Nat :=
  let c0_i32_333 : BitVec 32 := 0#32
  let c0_i32_334 : BitVec 32 := 0#32
  ![v522.toNat, 0, 0]
def k0_cond117 (v470 : BitVec 32) : BitVec 1 :=
  let c0_i32_294 : BitVec 32 := 0#32
  let v471 : BitVec 1 := Scalar.cmpi .sgt v470 c0_i32_294
  let v472 : BitVec 32 := Scalar.extui v471
  let c0_i32_295 : BitVec 32 := 0#32
  let v473 : BitVec 1 := Scalar.cmpi .ne v472 c0_i32_295
  v473

def k0_chk116 (i : grid0.Coords) (v470 : BitVec 32) (v522 : BitVec 32) : Prop :=
  (∀ (k0_h1 : k0_cond1 i = 1#1), ∀ (k0_h117 : k0_cond117 v470 = 1#1), ∀ a, (k0_off116 v522) a + S512x8x128.size a ≤ S81920x8x128.size a) ∧
  (∀ (k0_h1 : k0_cond1 i = 1#1), ∀ (k0_h117 : k0_cond117 v470 = 1#1), ∀ (hinb : ∀ a, (k0_off116 v522) a + S512x8x128.size a ≤ S81920x8x128.size a), (Rect.unit (s := S81920x8x128) (k0_off116 v522) S512x8x128.size hinb).WholeWords (EltTy.packing .bf16))
theorem k0_off116_inb : ∀ (i : grid0.Coords) (v470 : BitVec 32) (v522 : BitVec 32) (k0_hw116 : k0_chk116 i v470 v522), ∀ (k0_h1 : k0_cond1 i = 1#1), ∀ (k0_h117 : k0_cond117 v470 = 1#1), ∀ a, (k0_off116 v522) a + S512x8x128.size a ≤ S81920x8x128.size a := fun i v470 v522 k0_hw116 k0_h1 k0_h117 => k0_hw116.1 k0_h1 k0_h117
theorem k0_off116_wordsbf16 : ∀ (i : grid0.Coords) (v470 : BitVec 32) (v522 : BitVec 32) (k0_hw116 : k0_chk116 i v470 v522), ∀ (k0_h1 : k0_cond1 i = 1#1), ∀ (k0_h117 : k0_cond117 v470 = 1#1), (Rect.unit (s := S81920x8x128) (k0_off116 v522) S512x8x128.size (k0_off116_inb i v470 v522 k0_hw116 k0_h1 k0_h117)).WholeWords (EltTy.packing .bf16) := fun i v470 v522 k0_hw116 k0_h1 k0_h117 => k0_hw116.2 k0_h1 k0_h117 (k0_off116_inb i v470 v522 k0_hw116 k0_h1 k0_h117)

def k0_off117 (v522 : BitVec 32) : Fin 3 → Nat :=
  let c0_i32_333 : BitVec 32 := 0#32
  let c0_i32_334 : BitVec 32 := 0#32
  ![v522.toNat, 0, 0]
def k0_cond118 (v474 : BitVec 32) : BitVec 1 :=
  let c0_i32_297 : BitVec 32 := 0#32
  let v475 : BitVec 1 := Scalar.cmpi .sgt v474 c0_i32_297
  let v476 : BitVec 32 := Scalar.extui v475
  let c0_i32_298 : BitVec 32 := 0#32
  let v477 : BitVec 1 := Scalar.cmpi .ne v476 c0_i32_298
  v477

def k0_chk117 (i : grid0.Coords) (v474 : BitVec 32) (v522 : BitVec 32) : Prop :=
  (∀ (k0_h1 : k0_cond1 i = 1#1), ∀ (k0_h118 : k0_cond118 v474 = 1#1), ∀ a, (k0_off117 v522) a + S512x8x128.size a ≤ S81920x8x128.size a) ∧
  (∀ (k0_h1 : k0_cond1 i = 1#1), ∀ (k0_h118 : k0_cond118 v474 = 1#1), ∀ (hinb : ∀ a, (k0_off117 v522) a + S512x8x128.size a ≤ S81920x8x128.size a), (Rect.unit (s := S81920x8x128) (k0_off117 v522) S512x8x128.size hinb).WholeWords (EltTy.packing .bf16))
theorem k0_off117_inb : ∀ (i : grid0.Coords) (v474 : BitVec 32) (v522 : BitVec 32) (k0_hw117 : k0_chk117 i v474 v522), ∀ (k0_h1 : k0_cond1 i = 1#1), ∀ (k0_h118 : k0_cond118 v474 = 1#1), ∀ a, (k0_off117 v522) a + S512x8x128.size a ≤ S81920x8x128.size a := fun i v474 v522 k0_hw117 k0_h1 k0_h118 => k0_hw117.1 k0_h1 k0_h118
theorem k0_off117_wordsbf16 : ∀ (i : grid0.Coords) (v474 : BitVec 32) (v522 : BitVec 32) (k0_hw117 : k0_chk117 i v474 v522), ∀ (k0_h1 : k0_cond1 i = 1#1), ∀ (k0_h118 : k0_cond118 v474 = 1#1), (Rect.unit (s := S81920x8x128) (k0_off117 v522) S512x8x128.size (k0_off117_inb i v474 v522 k0_hw117 k0_h1 k0_h118)).WholeWords (EltTy.packing .bf16) := fun i v474 v522 k0_hw117 k0_h1 k0_h118 => k0_hw117.2 k0_h1 k0_h118 (k0_off117_inb i v474 v522 k0_hw117 k0_h1 k0_h118)

def k0_off118 (v522 : BitVec 32) : Fin 3 → Nat :=
  let c0_i32_333 : BitVec 32 := 0#32
  let c0_i32_334 : BitVec 32 := 0#32
  ![v522.toNat, 0, 0]
def k0_cond119 (v478 : BitVec 32) : BitVec 1 :=
  let c0_i32_300 : BitVec 32 := 0#32
  let v479 : BitVec 1 := Scalar.cmpi .sgt v478 c0_i32_300
  let v480 : BitVec 32 := Scalar.extui v479
  let c0_i32_301 : BitVec 32 := 0#32
  let v481 : BitVec 1 := Scalar.cmpi .ne v480 c0_i32_301
  v481

def k0_chk118 (i : grid0.Coords) (v478 : BitVec 32) (v522 : BitVec 32) : Prop :=
  (∀ (k0_h1 : k0_cond1 i = 1#1), ∀ (k0_h119 : k0_cond119 v478 = 1#1), ∀ a, (k0_off118 v522) a + S512x8x128.size a ≤ S81920x8x128.size a) ∧
  (∀ (k0_h1 : k0_cond1 i = 1#1), ∀ (k0_h119 : k0_cond119 v478 = 1#1), ∀ (hinb : ∀ a, (k0_off118 v522) a + S512x8x128.size a ≤ S81920x8x128.size a), (Rect.unit (s := S81920x8x128) (k0_off118 v522) S512x8x128.size hinb).WholeWords (EltTy.packing .bf16))
theorem k0_off118_inb : ∀ (i : grid0.Coords) (v478 : BitVec 32) (v522 : BitVec 32) (k0_hw118 : k0_chk118 i v478 v522), ∀ (k0_h1 : k0_cond1 i = 1#1), ∀ (k0_h119 : k0_cond119 v478 = 1#1), ∀ a, (k0_off118 v522) a + S512x8x128.size a ≤ S81920x8x128.size a := fun i v478 v522 k0_hw118 k0_h1 k0_h119 => k0_hw118.1 k0_h1 k0_h119
theorem k0_off118_wordsbf16 : ∀ (i : grid0.Coords) (v478 : BitVec 32) (v522 : BitVec 32) (k0_hw118 : k0_chk118 i v478 v522), ∀ (k0_h1 : k0_cond1 i = 1#1), ∀ (k0_h119 : k0_cond119 v478 = 1#1), (Rect.unit (s := S81920x8x128) (k0_off118 v522) S512x8x128.size (k0_off118_inb i v478 v522 k0_hw118 k0_h1 k0_h119)).WholeWords (EltTy.packing .bf16) := fun i v478 v522 k0_hw118 k0_h1 k0_h119 => k0_hw118.2 k0_h1 k0_h119 (k0_off118_inb i v478 v522 k0_hw118 k0_h1 k0_h119)

def k0_off119 (v522 : BitVec 32) : Fin 3 → Nat :=
  let c0_i32_333 : BitVec 32 := 0#32
  let c0_i32_334 : BitVec 32 := 0#32
  ![v522.toNat, 0, 0]
def k0_cond120 (v482 : BitVec 32) : BitVec 1 :=
  let c0_i32_303 : BitVec 32 := 0#32
  let v483 : BitVec 1 := Scalar.cmpi .sgt v482 c0_i32_303
  let v484 : BitVec 32 := Scalar.extui v483
  let c0_i32_304 : BitVec 32 := 0#32
  let v485 : BitVec 1 := Scalar.cmpi .ne v484 c0_i32_304
  v485

def k0_chk119 (i : grid0.Coords) (v482 : BitVec 32) (v522 : BitVec 32) : Prop :=
  (∀ (k0_h1 : k0_cond1 i = 1#1), ∀ (k0_h120 : k0_cond120 v482 = 1#1), ∀ a, (k0_off119 v522) a + S512x8x128.size a ≤ S81920x8x128.size a) ∧
  (∀ (k0_h1 : k0_cond1 i = 1#1), ∀ (k0_h120 : k0_cond120 v482 = 1#1), ∀ (hinb : ∀ a, (k0_off119 v522) a + S512x8x128.size a ≤ S81920x8x128.size a), (Rect.unit (s := S81920x8x128) (k0_off119 v522) S512x8x128.size hinb).WholeWords (EltTy.packing .bf16))
theorem k0_off119_inb : ∀ (i : grid0.Coords) (v482 : BitVec 32) (v522 : BitVec 32) (k0_hw119 : k0_chk119 i v482 v522), ∀ (k0_h1 : k0_cond1 i = 1#1), ∀ (k0_h120 : k0_cond120 v482 = 1#1), ∀ a, (k0_off119 v522) a + S512x8x128.size a ≤ S81920x8x128.size a := fun i v482 v522 k0_hw119 k0_h1 k0_h120 => k0_hw119.1 k0_h1 k0_h120
theorem k0_off119_wordsbf16 : ∀ (i : grid0.Coords) (v482 : BitVec 32) (v522 : BitVec 32) (k0_hw119 : k0_chk119 i v482 v522), ∀ (k0_h1 : k0_cond1 i = 1#1), ∀ (k0_h120 : k0_cond120 v482 = 1#1), (Rect.unit (s := S81920x8x128) (k0_off119 v522) S512x8x128.size (k0_off119_inb i v482 v522 k0_hw119 k0_h1 k0_h120)).WholeWords (EltTy.packing .bf16) := fun i v482 v522 k0_hw119 k0_h1 k0_h120 => k0_hw119.2 k0_h1 k0_h120 (k0_off119_inb i v482 v522 k0_hw119 k0_h1 k0_h120)

def k0_off120 (v522 : BitVec 32) : Fin 3 → Nat :=
  let c0_i32_333 : BitVec 32 := 0#32
  let c0_i32_334 : BitVec 32 := 0#32
  ![v522.toNat, 0, 0]
def k0_cond121 (v486 : BitVec 32) : BitVec 1 :=
  let c0_i32_306 : BitVec 32 := 0#32
  let v487 : BitVec 1 := Scalar.cmpi .sgt v486 c0_i32_306
  let v488 : BitVec 32 := Scalar.extui v487
  let c0_i32_307 : BitVec 32 := 0#32
  let v489 : BitVec 1 := Scalar.cmpi .ne v488 c0_i32_307
  v489

def k0_chk120 (i : grid0.Coords) (v486 : BitVec 32) (v522 : BitVec 32) : Prop :=
  (∀ (k0_h1 : k0_cond1 i = 1#1), ∀ (k0_h121 : k0_cond121 v486 = 1#1), ∀ a, (k0_off120 v522) a + S512x8x128.size a ≤ S81920x8x128.size a) ∧
  (∀ (k0_h1 : k0_cond1 i = 1#1), ∀ (k0_h121 : k0_cond121 v486 = 1#1), ∀ (hinb : ∀ a, (k0_off120 v522) a + S512x8x128.size a ≤ S81920x8x128.size a), (Rect.unit (s := S81920x8x128) (k0_off120 v522) S512x8x128.size hinb).WholeWords (EltTy.packing .bf16))
theorem k0_off120_inb : ∀ (i : grid0.Coords) (v486 : BitVec 32) (v522 : BitVec 32) (k0_hw120 : k0_chk120 i v486 v522), ∀ (k0_h1 : k0_cond1 i = 1#1), ∀ (k0_h121 : k0_cond121 v486 = 1#1), ∀ a, (k0_off120 v522) a + S512x8x128.size a ≤ S81920x8x128.size a := fun i v486 v522 k0_hw120 k0_h1 k0_h121 => k0_hw120.1 k0_h1 k0_h121
theorem k0_off120_wordsbf16 : ∀ (i : grid0.Coords) (v486 : BitVec 32) (v522 : BitVec 32) (k0_hw120 : k0_chk120 i v486 v522), ∀ (k0_h1 : k0_cond1 i = 1#1), ∀ (k0_h121 : k0_cond121 v486 = 1#1), (Rect.unit (s := S81920x8x128) (k0_off120 v522) S512x8x128.size (k0_off120_inb i v486 v522 k0_hw120 k0_h1 k0_h121)).WholeWords (EltTy.packing .bf16) := fun i v486 v522 k0_hw120 k0_h1 k0_h121 => k0_hw120.2 k0_h1 k0_h121 (k0_off120_inb i v486 v522 k0_hw120 k0_h1 k0_h121)

def k0_off121 (v522 : BitVec 32) : Fin 3 → Nat :=
  let c0_i32_333 : BitVec 32 := 0#32
  let c0_i32_334 : BitVec 32 := 0#32
  ![v522.toNat, 0, 0]
def k0_cond122 (v490 : BitVec 32) : BitVec 1 :=
  let c0_i32_309 : BitVec 32 := 0#32
  let v491 : BitVec 1 := Scalar.cmpi .sgt v490 c0_i32_309
  let v492 : BitVec 32 := Scalar.extui v491
  let c0_i32_310 : BitVec 32 := 0#32
  let v493 : BitVec 1 := Scalar.cmpi .ne v492 c0_i32_310
  v493

def k0_chk121 (i : grid0.Coords) (v490 : BitVec 32) (v522 : BitVec 32) : Prop :=
  (∀ (k0_h1 : k0_cond1 i = 1#1), ∀ (k0_h122 : k0_cond122 v490 = 1#1), ∀ a, (k0_off121 v522) a + S512x8x128.size a ≤ S81920x8x128.size a) ∧
  (∀ (k0_h1 : k0_cond1 i = 1#1), ∀ (k0_h122 : k0_cond122 v490 = 1#1), ∀ (hinb : ∀ a, (k0_off121 v522) a + S512x8x128.size a ≤ S81920x8x128.size a), (Rect.unit (s := S81920x8x128) (k0_off121 v522) S512x8x128.size hinb).WholeWords (EltTy.packing .bf16))
theorem k0_off121_inb : ∀ (i : grid0.Coords) (v490 : BitVec 32) (v522 : BitVec 32) (k0_hw121 : k0_chk121 i v490 v522), ∀ (k0_h1 : k0_cond1 i = 1#1), ∀ (k0_h122 : k0_cond122 v490 = 1#1), ∀ a, (k0_off121 v522) a + S512x8x128.size a ≤ S81920x8x128.size a := fun i v490 v522 k0_hw121 k0_h1 k0_h122 => k0_hw121.1 k0_h1 k0_h122
theorem k0_off121_wordsbf16 : ∀ (i : grid0.Coords) (v490 : BitVec 32) (v522 : BitVec 32) (k0_hw121 : k0_chk121 i v490 v522), ∀ (k0_h1 : k0_cond1 i = 1#1), ∀ (k0_h122 : k0_cond122 v490 = 1#1), (Rect.unit (s := S81920x8x128) (k0_off121 v522) S512x8x128.size (k0_off121_inb i v490 v522 k0_hw121 k0_h1 k0_h122)).WholeWords (EltTy.packing .bf16) := fun i v490 v522 k0_hw121 k0_h1 k0_h122 => k0_hw121.2 k0_h1 k0_h122 (k0_off121_inb i v490 v522 k0_hw121 k0_h1 k0_h122)

def k0_off122 (v522 : BitVec 32) : Fin 3 → Nat :=
  let c0_i32_333 : BitVec 32 := 0#32
  let c0_i32_334 : BitVec 32 := 0#32
  ![v522.toNat, 0, 0]
def k0_cond123 (v494 : BitVec 32) : BitVec 1 :=
  let c0_i32_312 : BitVec 32 := 0#32
  let v495 : BitVec 1 := Scalar.cmpi .sgt v494 c0_i32_312
  let v496 : BitVec 32 := Scalar.extui v495
  let c0_i32_313 : BitVec 32 := 0#32
  let v497 : BitVec 1 := Scalar.cmpi .ne v496 c0_i32_313
  v497

def k0_chk122 (i : grid0.Coords) (v494 : BitVec 32) (v522 : BitVec 32) : Prop :=
  (∀ (k0_h1 : k0_cond1 i = 1#1), ∀ (k0_h123 : k0_cond123 v494 = 1#1), ∀ a, (k0_off122 v522) a + S512x8x128.size a ≤ S81920x8x128.size a) ∧
  (∀ (k0_h1 : k0_cond1 i = 1#1), ∀ (k0_h123 : k0_cond123 v494 = 1#1), ∀ (hinb : ∀ a, (k0_off122 v522) a + S512x8x128.size a ≤ S81920x8x128.size a), (Rect.unit (s := S81920x8x128) (k0_off122 v522) S512x8x128.size hinb).WholeWords (EltTy.packing .bf16))
theorem k0_off122_inb : ∀ (i : grid0.Coords) (v494 : BitVec 32) (v522 : BitVec 32) (k0_hw122 : k0_chk122 i v494 v522), ∀ (k0_h1 : k0_cond1 i = 1#1), ∀ (k0_h123 : k0_cond123 v494 = 1#1), ∀ a, (k0_off122 v522) a + S512x8x128.size a ≤ S81920x8x128.size a := fun i v494 v522 k0_hw122 k0_h1 k0_h123 => k0_hw122.1 k0_h1 k0_h123
theorem k0_off122_wordsbf16 : ∀ (i : grid0.Coords) (v494 : BitVec 32) (v522 : BitVec 32) (k0_hw122 : k0_chk122 i v494 v522), ∀ (k0_h1 : k0_cond1 i = 1#1), ∀ (k0_h123 : k0_cond123 v494 = 1#1), (Rect.unit (s := S81920x8x128) (k0_off122 v522) S512x8x128.size (k0_off122_inb i v494 v522 k0_hw122 k0_h1 k0_h123)).WholeWords (EltTy.packing .bf16) := fun i v494 v522 k0_hw122 k0_h1 k0_h123 => k0_hw122.2 k0_h1 k0_h123 (k0_off122_inb i v494 v522 k0_hw122 k0_h1 k0_h123)

def k0_off123 (v522 : BitVec 32) : Fin 3 → Nat :=
  let c0_i32_333 : BitVec 32 := 0#32
  let c0_i32_334 : BitVec 32 := 0#32
  ![v522.toNat, 0, 0]
def k0_cond124 (v498 : BitVec 32) : BitVec 1 :=
  let c0_i32_315 : BitVec 32 := 0#32
  let v499 : BitVec 1 := Scalar.cmpi .sgt v498 c0_i32_315
  let v500 : BitVec 32 := Scalar.extui v499
  let c0_i32_316 : BitVec 32 := 0#32
  let v501 : BitVec 1 := Scalar.cmpi .ne v500 c0_i32_316
  v501

def k0_chk123 (i : grid0.Coords) (v498 : BitVec 32) (v522 : BitVec 32) : Prop :=
  (∀ (k0_h1 : k0_cond1 i = 1#1), ∀ (k0_h124 : k0_cond124 v498 = 1#1), ∀ a, (k0_off123 v522) a + S512x8x128.size a ≤ S81920x8x128.size a) ∧
  (∀ (k0_h1 : k0_cond1 i = 1#1), ∀ (k0_h124 : k0_cond124 v498 = 1#1), ∀ (hinb : ∀ a, (k0_off123 v522) a + S512x8x128.size a ≤ S81920x8x128.size a), (Rect.unit (s := S81920x8x128) (k0_off123 v522) S512x8x128.size hinb).WholeWords (EltTy.packing .bf16))
theorem k0_off123_inb : ∀ (i : grid0.Coords) (v498 : BitVec 32) (v522 : BitVec 32) (k0_hw123 : k0_chk123 i v498 v522), ∀ (k0_h1 : k0_cond1 i = 1#1), ∀ (k0_h124 : k0_cond124 v498 = 1#1), ∀ a, (k0_off123 v522) a + S512x8x128.size a ≤ S81920x8x128.size a := fun i v498 v522 k0_hw123 k0_h1 k0_h124 => k0_hw123.1 k0_h1 k0_h124
theorem k0_off123_wordsbf16 : ∀ (i : grid0.Coords) (v498 : BitVec 32) (v522 : BitVec 32) (k0_hw123 : k0_chk123 i v498 v522), ∀ (k0_h1 : k0_cond1 i = 1#1), ∀ (k0_h124 : k0_cond124 v498 = 1#1), (Rect.unit (s := S81920x8x128) (k0_off123 v522) S512x8x128.size (k0_off123_inb i v498 v522 k0_hw123 k0_h1 k0_h124)).WholeWords (EltTy.packing .bf16) := fun i v498 v522 k0_hw123 k0_h1 k0_h124 => k0_hw123.2 k0_h1 k0_h124 (k0_off123_inb i v498 v522 k0_hw123 k0_h1 k0_h124)

def k0_off124 (v522 : BitVec 32) : Fin 3 → Nat :=
  let c0_i32_333 : BitVec 32 := 0#32
  let c0_i32_334 : BitVec 32 := 0#32
  ![v522.toNat, 0, 0]
def k0_cond125 (v502 : BitVec 32) : BitVec 1 :=
  let c0_i32_318 : BitVec 32 := 0#32
  let v503 : BitVec 1 := Scalar.cmpi .sgt v502 c0_i32_318
  let v504 : BitVec 32 := Scalar.extui v503
  let c0_i32_319 : BitVec 32 := 0#32
  let v505 : BitVec 1 := Scalar.cmpi .ne v504 c0_i32_319
  v505

def k0_chk124 (i : grid0.Coords) (v502 : BitVec 32) (v522 : BitVec 32) : Prop :=
  (∀ (k0_h1 : k0_cond1 i = 1#1), ∀ (k0_h125 : k0_cond125 v502 = 1#1), ∀ a, (k0_off124 v522) a + S512x8x128.size a ≤ S81920x8x128.size a) ∧
  (∀ (k0_h1 : k0_cond1 i = 1#1), ∀ (k0_h125 : k0_cond125 v502 = 1#1), ∀ (hinb : ∀ a, (k0_off124 v522) a + S512x8x128.size a ≤ S81920x8x128.size a), (Rect.unit (s := S81920x8x128) (k0_off124 v522) S512x8x128.size hinb).WholeWords (EltTy.packing .bf16))
theorem k0_off124_inb : ∀ (i : grid0.Coords) (v502 : BitVec 32) (v522 : BitVec 32) (k0_hw124 : k0_chk124 i v502 v522), ∀ (k0_h1 : k0_cond1 i = 1#1), ∀ (k0_h125 : k0_cond125 v502 = 1#1), ∀ a, (k0_off124 v522) a + S512x8x128.size a ≤ S81920x8x128.size a := fun i v502 v522 k0_hw124 k0_h1 k0_h125 => k0_hw124.1 k0_h1 k0_h125
theorem k0_off124_wordsbf16 : ∀ (i : grid0.Coords) (v502 : BitVec 32) (v522 : BitVec 32) (k0_hw124 : k0_chk124 i v502 v522), ∀ (k0_h1 : k0_cond1 i = 1#1), ∀ (k0_h125 : k0_cond125 v502 = 1#1), (Rect.unit (s := S81920x8x128) (k0_off124 v522) S512x8x128.size (k0_off124_inb i v502 v522 k0_hw124 k0_h1 k0_h125)).WholeWords (EltTy.packing .bf16) := fun i v502 v522 k0_hw124 k0_h1 k0_h125 => k0_hw124.2 k0_h1 k0_h125 (k0_off124_inb i v502 v522 k0_hw124 k0_h1 k0_h125)

def k0_off125 (v522 : BitVec 32) : Fin 3 → Nat :=
  let c0_i32_333 : BitVec 32 := 0#32
  let c0_i32_334 : BitVec 32 := 0#32
  ![v522.toNat, 0, 0]
def k0_cond126 (v506 : BitVec 32) : BitVec 1 :=
  let c0_i32_321 : BitVec 32 := 0#32
  let v507 : BitVec 1 := Scalar.cmpi .sgt v506 c0_i32_321
  let v508 : BitVec 32 := Scalar.extui v507
  let c0_i32_322 : BitVec 32 := 0#32
  let v509 : BitVec 1 := Scalar.cmpi .ne v508 c0_i32_322
  v509

def k0_chk125 (i : grid0.Coords) (v506 : BitVec 32) (v522 : BitVec 32) : Prop :=
  (∀ (k0_h1 : k0_cond1 i = 1#1), ∀ (k0_h126 : k0_cond126 v506 = 1#1), ∀ a, (k0_off125 v522) a + S512x8x128.size a ≤ S81920x8x128.size a) ∧
  (∀ (k0_h1 : k0_cond1 i = 1#1), ∀ (k0_h126 : k0_cond126 v506 = 1#1), ∀ (hinb : ∀ a, (k0_off125 v522) a + S512x8x128.size a ≤ S81920x8x128.size a), (Rect.unit (s := S81920x8x128) (k0_off125 v522) S512x8x128.size hinb).WholeWords (EltTy.packing .bf16))
theorem k0_off125_inb : ∀ (i : grid0.Coords) (v506 : BitVec 32) (v522 : BitVec 32) (k0_hw125 : k0_chk125 i v506 v522), ∀ (k0_h1 : k0_cond1 i = 1#1), ∀ (k0_h126 : k0_cond126 v506 = 1#1), ∀ a, (k0_off125 v522) a + S512x8x128.size a ≤ S81920x8x128.size a := fun i v506 v522 k0_hw125 k0_h1 k0_h126 => k0_hw125.1 k0_h1 k0_h126
theorem k0_off125_wordsbf16 : ∀ (i : grid0.Coords) (v506 : BitVec 32) (v522 : BitVec 32) (k0_hw125 : k0_chk125 i v506 v522), ∀ (k0_h1 : k0_cond1 i = 1#1), ∀ (k0_h126 : k0_cond126 v506 = 1#1), (Rect.unit (s := S81920x8x128) (k0_off125 v522) S512x8x128.size (k0_off125_inb i v506 v522 k0_hw125 k0_h1 k0_h126)).WholeWords (EltTy.packing .bf16) := fun i v506 v522 k0_hw125 k0_h1 k0_h126 => k0_hw125.2 k0_h1 k0_h126 (k0_off125_inb i v506 v522 k0_hw125 k0_h1 k0_h126)

def k0_off126 (v522 : BitVec 32) : Fin 3 → Nat :=
  let c0_i32_333 : BitVec 32 := 0#32
  let c0_i32_334 : BitVec 32 := 0#32
  ![v522.toNat, 0, 0]
def k0_cond127 (v510 : BitVec 32) : BitVec 1 :=
  let c0_i32_324 : BitVec 32 := 0#32
  let v511 : BitVec 1 := Scalar.cmpi .sgt v510 c0_i32_324
  let v512 : BitVec 32 := Scalar.extui v511
  let c0_i32_325 : BitVec 32 := 0#32
  let v513 : BitVec 1 := Scalar.cmpi .ne v512 c0_i32_325
  v513

def k0_chk126 (i : grid0.Coords) (v510 : BitVec 32) (v522 : BitVec 32) : Prop :=
  (∀ (k0_h1 : k0_cond1 i = 1#1), ∀ (k0_h127 : k0_cond127 v510 = 1#1), ∀ a, (k0_off126 v522) a + S512x8x128.size a ≤ S81920x8x128.size a) ∧
  (∀ (k0_h1 : k0_cond1 i = 1#1), ∀ (k0_h127 : k0_cond127 v510 = 1#1), ∀ (hinb : ∀ a, (k0_off126 v522) a + S512x8x128.size a ≤ S81920x8x128.size a), (Rect.unit (s := S81920x8x128) (k0_off126 v522) S512x8x128.size hinb).WholeWords (EltTy.packing .bf16))
theorem k0_off126_inb : ∀ (i : grid0.Coords) (v510 : BitVec 32) (v522 : BitVec 32) (k0_hw126 : k0_chk126 i v510 v522), ∀ (k0_h1 : k0_cond1 i = 1#1), ∀ (k0_h127 : k0_cond127 v510 = 1#1), ∀ a, (k0_off126 v522) a + S512x8x128.size a ≤ S81920x8x128.size a := fun i v510 v522 k0_hw126 k0_h1 k0_h127 => k0_hw126.1 k0_h1 k0_h127
theorem k0_off126_wordsbf16 : ∀ (i : grid0.Coords) (v510 : BitVec 32) (v522 : BitVec 32) (k0_hw126 : k0_chk126 i v510 v522), ∀ (k0_h1 : k0_cond1 i = 1#1), ∀ (k0_h127 : k0_cond127 v510 = 1#1), (Rect.unit (s := S81920x8x128) (k0_off126 v522) S512x8x128.size (k0_off126_inb i v510 v522 k0_hw126 k0_h1 k0_h127)).WholeWords (EltTy.packing .bf16) := fun i v510 v522 k0_hw126 k0_h1 k0_h127 => k0_hw126.2 k0_h1 k0_h127 (k0_off126_inb i v510 v522 k0_hw126 k0_h1 k0_h127)

def k0_off127 (v522 : BitVec 32) : Fin 3 → Nat :=
  let c0_i32_333 : BitVec 32 := 0#32
  let c0_i32_334 : BitVec 32 := 0#32
  ![v522.toNat, 0, 0]
def k0_cond128 (v514 : BitVec 32) : BitVec 1 :=
  let c0_i32_327 : BitVec 32 := 0#32
  let v515 : BitVec 1 := Scalar.cmpi .sgt v514 c0_i32_327
  let v516 : BitVec 32 := Scalar.extui v515
  let c0_i32_328 : BitVec 32 := 0#32
  let v517 : BitVec 1 := Scalar.cmpi .ne v516 c0_i32_328
  v517

def k0_chk127 (i : grid0.Coords) (v514 : BitVec 32) (v522 : BitVec 32) : Prop :=
  (∀ (k0_h1 : k0_cond1 i = 1#1), ∀ (k0_h128 : k0_cond128 v514 = 1#1), ∀ a, (k0_off127 v522) a + S512x8x128.size a ≤ S81920x8x128.size a) ∧
  (∀ (k0_h1 : k0_cond1 i = 1#1), ∀ (k0_h128 : k0_cond128 v514 = 1#1), ∀ (hinb : ∀ a, (k0_off127 v522) a + S512x8x128.size a ≤ S81920x8x128.size a), (Rect.unit (s := S81920x8x128) (k0_off127 v522) S512x8x128.size hinb).WholeWords (EltTy.packing .bf16))
theorem k0_off127_inb : ∀ (i : grid0.Coords) (v514 : BitVec 32) (v522 : BitVec 32) (k0_hw127 : k0_chk127 i v514 v522), ∀ (k0_h1 : k0_cond1 i = 1#1), ∀ (k0_h128 : k0_cond128 v514 = 1#1), ∀ a, (k0_off127 v522) a + S512x8x128.size a ≤ S81920x8x128.size a := fun i v514 v522 k0_hw127 k0_h1 k0_h128 => k0_hw127.1 k0_h1 k0_h128
theorem k0_off127_wordsbf16 : ∀ (i : grid0.Coords) (v514 : BitVec 32) (v522 : BitVec 32) (k0_hw127 : k0_chk127 i v514 v522), ∀ (k0_h1 : k0_cond1 i = 1#1), ∀ (k0_h128 : k0_cond128 v514 = 1#1), (Rect.unit (s := S81920x8x128) (k0_off127 v522) S512x8x128.size (k0_off127_inb i v514 v522 k0_hw127 k0_h1 k0_h128)).WholeWords (EltTy.packing .bf16) := fun i v514 v522 k0_hw127 k0_h1 k0_h128 => k0_hw127.2 k0_h1 k0_h128 (k0_off127_inb i v514 v522 k0_hw127 k0_h1 k0_h128)

def k0_off128 (v522 : BitVec 32) : Fin 3 → Nat :=
  let c0_i32_333 : BitVec 32 := 0#32
  let c0_i32_334 : BitVec 32 := 0#32
  ![v522.toNat, 0, 0]
def k0_cond129 (v518 : BitVec 32) : BitVec 1 :=
  let c0_i32_330 : BitVec 32 := 0#32
  let v519 : BitVec 1 := Scalar.cmpi .sgt v518 c0_i32_330
  let v520 : BitVec 32 := Scalar.extui v519
  let c0_i32_331 : BitVec 32 := 0#32
  let v521 : BitVec 1 := Scalar.cmpi .ne v520 c0_i32_331
  v521

def k0_chk128 (i : grid0.Coords) (v518 : BitVec 32) (v522 : BitVec 32) : Prop :=
  (∀ (k0_h1 : k0_cond1 i = 1#1), ∀ (k0_h129 : k0_cond129 v518 = 1#1), ∀ a, (k0_off128 v522) a + S512x8x128.size a ≤ S81920x8x128.size a) ∧
  (∀ (k0_h1 : k0_cond1 i = 1#1), ∀ (k0_h129 : k0_cond129 v518 = 1#1), ∀ (hinb : ∀ a, (k0_off128 v522) a + S512x8x128.size a ≤ S81920x8x128.size a), (Rect.unit (s := S81920x8x128) (k0_off128 v522) S512x8x128.size hinb).WholeWords (EltTy.packing .bf16))
theorem k0_off128_inb : ∀ (i : grid0.Coords) (v518 : BitVec 32) (v522 : BitVec 32) (k0_hw128 : k0_chk128 i v518 v522), ∀ (k0_h1 : k0_cond1 i = 1#1), ∀ (k0_h129 : k0_cond129 v518 = 1#1), ∀ a, (k0_off128 v522) a + S512x8x128.size a ≤ S81920x8x128.size a := fun i v518 v522 k0_hw128 k0_h1 k0_h129 => k0_hw128.1 k0_h1 k0_h129
theorem k0_off128_wordsbf16 : ∀ (i : grid0.Coords) (v518 : BitVec 32) (v522 : BitVec 32) (k0_hw128 : k0_chk128 i v518 v522), ∀ (k0_h1 : k0_cond1 i = 1#1), ∀ (k0_h129 : k0_cond129 v518 = 1#1), (Rect.unit (s := S81920x8x128) (k0_off128 v522) S512x8x128.size (k0_off128_inb i v518 v522 k0_hw128 k0_h1 k0_h129)).WholeWords (EltTy.packing .bf16) := fun i v518 v522 k0_hw128 k0_h1 k0_h129 => k0_hw128.2 k0_h1 k0_h129 (k0_off128_inb i v518 v522 k0_hw128 k0_h1 k0_h129)

@[reducible] def k0_t1_loop : Scf.Loop 32 :=
  let c0_i32_1 : BitVec 32 := 0#32
  let c2048_i32 : BitVec 32 := 2048#32
  let v3 : BitVec 32 := Scalar.addi c0_i32_1 c2048_i32
  let c1_i32 : BitVec 32 := 1#32
  ⟨c0_i32_1, v3, c1_i32⟩
def k0_off129 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let v6 : Index := Scalar.indexCast arg10
  ![v6.toNat]
def k0_off130 (v7 : BitVec 32) : Fin 3 → Nat :=
  let c0_i32_9 : BitVec 32 := 0#32
  let c0_i32_10 : BitVec 32 := 0#32
  ![v7.toNat, 0, 0]

def k0_off131 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let c0_i32_11 : BitVec 32 := 0#32
  let c0_i32_12 : BitVec 32 := 0#32
  ![arg10.toNat, 0, 0]

def k0_chk129 (v7 : BitVec 32) : Prop :=
  (∀ a, (k0_off130 v7) a + S1x8x128.size a ≤ S81920x8x128.size a) ∧
  (∀ (hinb : ∀ a, (k0_off130 v7) a + S1x8x128.size a ≤ S81920x8x128.size a), (Rect.unit (s := S81920x8x128) (k0_off130 v7) S1x8x128.size hinb).WholeWords (EltTy.packing .bf16))
theorem k0_off130_inb : ∀ (v7 : BitVec 32) (k0_hw129 : k0_chk129 v7), ∀ a, (k0_off130 v7) a + S1x8x128.size a ≤ S81920x8x128.size a := fun v7 k0_hw129 => k0_hw129.1
theorem k0_off130_wordsbf16 : ∀ (v7 : BitVec 32) (k0_hw129 : k0_chk129 v7), (Rect.unit (s := S81920x8x128) (k0_off130 v7) S1x8x128.size (k0_off130_inb v7 k0_hw129)).WholeWords (EltTy.packing .bf16) := fun v7 k0_hw129 => k0_hw129.2 (k0_off130_inb v7 k0_hw129)

def k0_off132 (k0_t1 : Fin k0_t1_loop.trips) : Fin 1 → Nat :=
  let c0_i32_1 : BitVec 32 := 0#32
  let c1_i32 : BitVec 32 := 1#32
  let arg10 : BitVec 32 := Scf.iv c0_i32_1 c1_i32 k0_t1
  let v12 : Index := Scalar.indexCast arg10
  ![v12.toNat]
def k0_off133 (v13 : BitVec 32) : Fin 3 → Nat :=
  let c0_i32_13 : BitVec 32 := 0#32
  let c0_i32_14 : BitVec 32 := 0#32
  ![v13.toNat, 0, 0]

def k0_off134 (k0_t1 : Fin k0_t1_loop.trips) : Fin 3 → Nat :=
  let c0_i32_1 : BitVec 32 := 0#32
  let c1_i32 : BitVec 32 := 1#32
  let arg10 : BitVec 32 := Scf.iv c0_i32_1 c1_i32 k0_t1
  let c0_i32_15 : BitVec 32 := 0#32
  let c0_i32_16 : BitVec 32 := 0#32
  ![arg10.toNat, 0, 0]

def k0_chk130 (v13 : BitVec 32) : Prop :=
  (∀ a, (k0_off133 v13) a + S1x8x128.size a ≤ S81920x8x128.size a) ∧
  (∀ (hinb : ∀ a, (k0_off133 v13) a + S1x8x128.size a ≤ S81920x8x128.size a), (Rect.unit (s := S81920x8x128) (k0_off133 v13) S1x8x128.size hinb).WholeWords (EltTy.packing .bf16))
theorem k0_off133_inb : ∀ (v13 : BitVec 32) (k0_hw130 : k0_chk130 v13), ∀ a, (k0_off133 v13) a + S1x8x128.size a ≤ S81920x8x128.size a := fun v13 k0_hw130 => k0_hw130.1
theorem k0_off133_wordsbf16 : ∀ (v13 : BitVec 32) (k0_hw130 : k0_chk130 v13), (Rect.unit (s := S81920x8x128) (k0_off133 v13) S1x8x128.size (k0_off133_inb v13 k0_hw130)).WholeWords (EltTy.packing .bf16) := fun v13 k0_hw130 => k0_hw130.2 (k0_off133_inb v13 k0_hw130)

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32768x8x128 : Shape := ⟨3, ![32768, 8, 128]⟩
abbrev S32768 : Shape := ⟨1, ![32768]⟩
abbrev S32 : Shape := ⟨1, ![32]⟩
abbrev S_ : Shape := ⟨0, ![]⟩
abbrev S81920x8x128 : Shape := ⟨3, ![81920, 8, 128]⟩
abbrev S32768x1 : Shape := ⟨2, ![32768, 1]⟩

abbrev nBuf : Space → Nat
  | .hbm => 24
  | .vmem => 0
  | .smem => 0
  | _ => 0

abbrev bufTy : (tb : Table) → Fin (tcTables nBuf tb) → BufTy
  | .hbm, ⟨0, _⟩ => ⟨S32768x8x128, .bf16⟩
  | .hbm, ⟨1, _⟩ => ⟨S32768, .i32⟩
  | .hbm, ⟨2, _⟩ => ⟨S32768, .i32⟩
  | .hbm, ⟨3, _⟩ => ⟨S32, .i32⟩
  | .hbm, ⟨4, _⟩ => ⟨S_, .bf16⟩
  | .hbm, ⟨5, _⟩ => ⟨S81920x8x128, .bf16⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S81920x8x128, .bf16⟩
  | .hbm, ⟨15, _⟩ => ⟨S_, .i32⟩
  | .hbm, ⟨16, _⟩ => ⟨S32768, .i32⟩
  | .hbm, ⟨17, _⟩ => ⟨S32768, .i1⟩
  | .hbm, ⟨18, _⟩ => ⟨S_, .i32⟩
  | .hbm, ⟨19, _⟩ => ⟨S32768, .i32⟩
  | .hbm, ⟨20, _⟩ => ⟨S32768, .i32⟩
  | .hbm, ⟨21, _⟩ => ⟨S32768, .i32⟩
  | .hbm, ⟨22, _⟩ => ⟨S32768x1, .i32⟩
  | .hbm, ⟨23, _⟩ => ⟨S81920x8x128, .bf16⟩
  | _, _ => ⟨S32768x8x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x11280 : Shape := ⟨2, ![1024, 11280]⟩
abbrev S32768x1024 : Shape := ⟨2, ![32768, 1024]⟩
abbrev S1024x2048 : Shape := ⟨2, ![1024, 2048]⟩
abbrev S1024x1024 : Shape := ⟨2, ![1024, 1024]⟩
abbrev S_ : Shape := ⟨0, ![]⟩
abbrev S1024x1 : Shape := ⟨2, ![1024, 1]⟩
abbrev S1024x512 : Shape := ⟨2, ![1024, 512]⟩
abbrev S1024x11264 : Shape := ⟨2, ![1024, 11264]⟩
abbrev S1024x16 : Shape := ⟨2, ![1024, 16]⟩
abbrev S1024x128 : Shape := ⟨2, ![1024, 128]⟩
abbrev S1x1024 : Shape := ⟨2, ![1, 1024]⟩
abbrev S32768x11264 : Shape := ⟨2, ![32768, 11264]⟩
abbrev S32768x128 : Shape := ⟨2, ![32768, 128]⟩
abbrev S2048x1024 : Shape := ⟨2, ![2048, 1024]⟩
abbrev S2048x128 : Shape := ⟨2, ![2048, 128]⟩
abbrev S2048 : Shape := ⟨1, ![2048]⟩
abbrev S2048x1 : Shape := ⟨2, ![2048, 1]⟩

abbrev nBuf : Space → Nat
  | .hbm => 39
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x11280, .f32⟩
  | .hbm, ⟨3, _⟩ => ⟨S1024, .i32⟩
  | .hbm, ⟨4, _⟩ => ⟨S1024, .i1⟩
  | .hbm, ⟨5, _⟩ => ⟨S1024, .i1⟩
  | .hbm, ⟨6, _⟩ => ⟨S32768x1024, .f32⟩
  | .hbm, ⟨7, _⟩ => ⟨S1024x2048, .f32⟩
  | .hbm, ⟨8, _⟩ => ⟨S1024x2048, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x1024, .f32⟩
  | .hbm, ⟨18, _⟩ => ⟨S1024x1024, .f32⟩
  | .hbm, ⟨19, _⟩ => ⟨S_, .i32⟩
  | .hbm, ⟨20, _⟩ => ⟨S1024, .i32⟩
  | .hbm, ⟨21, _⟩ => ⟨S1024, .i32⟩
  | .hbm, ⟨22, _⟩ => ⟨S1024, .i32⟩
  | .hbm, ⟨23, _⟩ => ⟨S1024x1, .i32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x512, .f32⟩
  | .hbm, ⟨28, _⟩ => ⟨S1024x512, .f32⟩
  | .hbm, ⟨29, _⟩ => ⟨S1024x11264, .f32⟩
  | .hbm, ⟨30, _⟩ => ⟨S1024x11264, .bf16⟩
  | .hbm, ⟨31, _⟩ => ⟨S1024x16, .f32⟩
  | .hbm, ⟨32, _⟩ => ⟨S_, .i32⟩
  | .hbm, ⟨33, _⟩ => ⟨S_, .f32⟩
  | .hbm, ⟨34, _⟩ => ⟨S1024x128, .f32⟩
  | .hbm, ⟨35, _⟩ => ⟨S1024x128, .bf16⟩
  | .hbm, ⟨36, _⟩ => ⟨S1x1024, .f32⟩
  | .hbm, ⟨37, _⟩ => ⟨S32768x11264, .bf16⟩
  | .hbm, ⟨38, _⟩ => ⟨S32768x128, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S2048x1024, .bf16⟩
  | .local _ .vmem, ⟨7, _⟩ => ⟨S2048x1024, .bf16⟩
  | .local _ .vmem, ⟨8, _⟩ => ⟨S2048x128, .f32⟩
  | .local _ .vmem, ⟨9, _⟩ => ⟨S2048x128, .f32⟩
  | .local _ .vmem, ⟨10, _⟩ => ⟨S2048x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_4 : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27_0 : Ref sig .tc := ⟨.hbm, 37, rfl⟩
abbrev main_v27_1 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8x4096x1024 : Shape := ⟨3, ![8, 4096, 1024]⟩
abbrev S1024 : Shape := ⟨1, ![1024]⟩
abbrev S1024x11280 : Shape := ⟨2, ![1024, 11280]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x11280 : Shape := ⟨2, ![32768, 11280]⟩
abbrev S32768x512 : Shape := ⟨2, ![32768, 512]⟩
abbrev S32768x16 : Shape := ⟨2, ![32768, 16]⟩
abbrev S32768x2048 : Shape := ⟨2, ![32768, 2048]⟩
abbrev S32768x4x128x2 : Shape := ⟨4, ![32768, 4, 128, 2]⟩
abbrev S32768x4x2x128 : Shape := ⟨4, ![32768, 4, 2, 128]⟩
abbrev S32768x11264 : Shape := ⟨2, ![32768, 11264]⟩
abbrev S32768x128 : Shape := ⟨2, ![32768, 128]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x11280, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x11280, .f32⟩
  | .hbm, ⟨21, _⟩ => ⟨S32768x512, .f32⟩
  | .hbm, ⟨22, _⟩ => ⟨S32768x512, .f32⟩
  | .hbm, ⟨23, _⟩ => ⟨S32768x1024, .f32⟩
  | .hbm, ⟨24, _⟩ => ⟨S32768x1024, .f32⟩
  | .hbm, ⟨25, _⟩ => ⟨S32768x16, .f32⟩
  | .hbm, ⟨26, _⟩ => ⟨S32768x1024, .f32⟩
  | .hbm, ⟨27, _⟩ => ⟨S32768x1024, .f32⟩
  | .hbm, ⟨28, _⟩ => ⟨S32768x2048, .f32⟩
  | .hbm, ⟨29, _⟩ => ⟨S32768x2048, .f32⟩
  | .hbm, ⟨30, _⟩ => ⟨S32768x1024, .f32⟩
  | .hbm, ⟨31, _⟩ => ⟨S32768x1024, .f32⟩
  | .hbm, ⟨32, _⟩ => ⟨S32768x4x128x2, .f32⟩
  | .hbm, ⟨33, _⟩ => ⟨S32768x4x2x128, .f32⟩
  | .hbm, ⟨34, _⟩ => ⟨S32768x1024, .f32⟩
  | .hbm, ⟨35, _⟩ => ⟨S32768x4x128x2, .f32⟩
  | .hbm, ⟨36, _⟩ => ⟨S32768x4x2x128, .f32⟩
  | .hbm, ⟨37, _⟩ => ⟨S32768x1024, .f32⟩
  | .hbm, ⟨38, _⟩ => ⟨S32768x11264, .f32⟩
  | .hbm, ⟨39, _⟩ => ⟨S32768x11264, .bf16⟩
  | .hbm, ⟨40, _⟩ => ⟨S_, .i32⟩
  | .hbm, ⟨41, _⟩ => ⟨S_, .f32⟩
  | .hbm, ⟨42, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_c : Ref sig .tc := ⟨.hbm, 40, rfl⟩
abbrev main_call0_v0 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel3.lean ====
abbrev S32768x1024 : Shape := ⟨2, ![32768, 1024]⟩
abbrev S32768x2048 : Shape := ⟨2, ![32768, 2048]⟩
abbrev S32768x11264 : Shape := ⟨2, ![32768, 11264]⟩
abbrev S8x4096x1024 : Shape := ⟨3, ![8, 4096, 1024]⟩
abbrev S1024x1024 : Shape := ⟨2, ![1024, 1024]⟩
abbrev S2048x1024 : Shape := ⟨2, ![2048, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S1024x4x8 : Shape := ⟨3, ![1024, 4, 8]⟩
abbrev S1024x32 : Shape := ⟨2, ![1024, 32]⟩
abbrev S1024x36 : Shape := ⟨2, ![1024, 36]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩
abbrev S32 : Shape := ⟨1, ![32]⟩
abbrev S36 : Shape := ⟨1, ![36]⟩
abbrev S128 : Shape := ⟨1, ![128]⟩
abbrev S1x128 : Shape := ⟨2, ![1, 128]⟩
abbrev S1x1024 : Shape := ⟨2, ![1, 1024]⟩
abbrev S512x512 : Shape := ⟨2, ![512, 512]⟩
abbrev S32768x8x128 : Shape := ⟨3, ![32768, 8, 128]⟩
abbrev S32768x8 : Shape := ⟨2, ![32768, 8]⟩
abbrev S8x32768 : Shape := ⟨2, ![8, 32768]⟩
abbrev S8x128 : Shape := ⟨2, ![8, 128]⟩
abbrev S512x1024 : Shape := ⟨2, ![512, 1024]⟩
abbrev S512x2048 : Shape := ⟨2, ![512, 2048]⟩
abbrev S512x8x128 : Shape := ⟨3, ![512, 8, 128]⟩
abbrev S512x8 : Shape := ⟨2, ![512, 8]⟩
abbrev S8x512 : Shape := ⟨2, ![8, 512]⟩
abbrev S512 : Shape := ⟨1, ![512]⟩
abbrev S512x1 : Shape := ⟨2, ![512, 1]⟩
abbrev S512x128 : Shape := ⟨2, ![512, 128]⟩
abbrev S128x512 : Shape := ⟨2, ![128, 512]⟩

abbrev nBuf : Space → Nat
  | .hbm => 53
  | .vmem => 27
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S32768x11264, .bf16⟩
  | .hbm, ⟨3, _⟩ => ⟨S8x4096x1024, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S4x1024x8, .f32⟩
  | .hbm, ⟨11, _⟩ => ⟨S4x8, .f32⟩
  | .hbm, ⟨12, _⟩ => ⟨S32768x1024, .f32⟩
  | .hbm, ⟨13, _⟩ => ⟨S1024x4x8, .f32⟩
  | .hbm, ⟨14, _⟩ => ⟨S1024x32, .f32⟩
  | .hbm, ⟨15, _⟩ => ⟨S1024x36, .f32⟩
  | .hbm, ⟨16, _⟩ => ⟨S_, .i32⟩
  | .hbm, ⟨17, _⟩ => ⟨S_, .f32⟩
  | .hbm, ⟨18, _⟩ => ⟨S1024x128, .f32⟩
  | .hbm, ⟨19, _⟩ => ⟨S1024x128, .bf16⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S1x1024x128, .bf16⟩
  | .hbm, ⟨24, _⟩ => ⟨S1x1024x128, .bf16⟩
  | .hbm, ⟨25, _⟩ => ⟨S2x1024x128, .bf16⟩
  | .hbm, ⟨26, _⟩ => ⟨S32, .f32⟩
  | .hbm, ⟨27, _⟩ => ⟨S36, .f32⟩
  | .hbm, ⟨28, _⟩ => ⟨S_, .i32⟩
  | .hbm, ⟨29, _⟩ => ⟨S_, .f32⟩
  | .hbm, ⟨30, _⟩ => ⟨S128, .f32⟩
  | .hbm, ⟨31, _⟩ => ⟨S1x128, .f32⟩
  | .hbm, ⟨32, _⟩ => ⟨S1024x1024, .bf16⟩
  | .hbm, ⟨33, _⟩ => ⟨S2048x1024, .bf16⟩
  | .hbm, ⟨34, _⟩ => ⟨S1024x1024, .bf16⟩
  | .hbm, ⟨35, _⟩ => ⟨S1x1024, .f32⟩
  | .hbm, ⟨36, _⟩ => ⟨S_, .f32⟩
  | .hbm, ⟨37, _⟩ => ⟨S512x512, .f32⟩
  | .hbm, ⟨38, _⟩ => ⟨S512x512, .i32⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S512x512, .bf16⟩
  | .hbm, ⟨48, _⟩ => ⟨S32768x1024, .f32⟩
  | .hbm, ⟨49, _⟩ => ⟨S32768x8x128, .bf16⟩
  | .hbm, ⟨50, _⟩ => ⟨S32768x8, .f32⟩
  | .hbm, ⟨51, _⟩ => ⟨S8x32768, .f32⟩
  | .hbm, ⟨52, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1x1024, .f32⟩
  | .local _ .vmem, ⟨14, _⟩ => ⟨S2x1024x128, .bf16⟩
  | .local _ .vmem, ⟨15, _⟩ => ⟨S1x128, .f32⟩
  | .local _ .vmem, ⟨16, _⟩ => ⟨S512x512, .bf16⟩
  | .local _ .vmem, ⟨17, _⟩ => ⟨S512x1024, .f32⟩
  | .local _ .vmem, ⟨18, _⟩ => ⟨S512x1024, .f32⟩
  | .local _ .vmem, ⟨19, _⟩ => ⟨S512x8x128, .bf16⟩
  | .local _ .vmem, ⟨20, _⟩ => ⟨S512x8x128, .bf16⟩
  | .local _ .vmem, ⟨21, _⟩ => ⟨S512x8, .f32⟩
  | .local _ .vmem, ⟨22, _⟩ => ⟨S512x8, .f32⟩
  | .local _ .vmem, ⟨23, _⟩ => ⟨S8x512, .f32⟩
  | .local _ .vmem, ⟨24, _⟩ => ⟨S8x512, .f32⟩
  | .local _ .vmem, ⟨25, _⟩ => ⟨S8x128, .f32⟩
  | .local _ .vmem, ⟨26, _⟩ => ⟨S8x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_call0_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_call2_v0 : Ref sig .tc := ⟨.hbm, 38, rfl⟩
abbrev main_call2_c : Ref sig .tc := ⟨.hbm, 39, rfl⟩
abbrev main_call2_v1 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_cst : Ref sig .tc := ⟨.hbm, 44, rfl⟩
abbrev main_call2_v5 : Ref sig .tc := ⟨.hbm, 45, rfl⟩
abbrev main_v21 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev main_v23_2 : Ref sig .tc := ⟨.hbm, 50, rfl⟩
abbrev main_v23_3 : Ref sig .tc := ⟨.hbm, 51, rfl⟩
abbrev main_v23_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x1024x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x8x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x8 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== Reference3Ideal.lean ====
abbrev S32768x1024 : Shape := ⟨2, ![32768, 1024]⟩
abbrev S32768x2048 : Shape := ⟨2, ![32768, 2048]⟩
abbrev S32768x11264 : Shape := ⟨2, ![32768, 11264]⟩
abbrev S8x4096x1024 : Shape := ⟨3, ![8, 4096, 1024]⟩
abbrev S1024x1024 : Shape := ⟨2, ![1024, 1024]⟩
abbrev S2048x1024 : Shape := ⟨2, ![2048, 1024]⟩
abbrev S1024 : Shape := ⟨1, ![1024]⟩
abbrev S1024x4 : Shape := ⟨2, ![1024, 4]⟩
abbrev S4 : Shape := ⟨1, ![4]⟩
abbrev S4x1024x8 : Shape := ⟨3, ![4, 1024, 8]⟩
abbrev S4x8 : Shape := ⟨2, ![4, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8x128 : Shape := ⟨3, ![32768, 8, 128]⟩

abbrev nBuf : Space → Nat
  | .hbm => 58
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x2048, .bf16⟩
  | .hbm, ⟨2, _⟩ => ⟨S32768x11264, .bf16⟩
  | .hbm, ⟨3, _⟩ => ⟨S8x4096x1024, .f32⟩
  | .hbm, ⟨4, _⟩ => ⟨S1024x1024, .f32⟩
  | .hbm, ⟨5, _⟩ => ⟨S2048x1024, .f32⟩
  | .hbm, ⟨6, _⟩ => ⟨S1024x1024, .f32⟩
  | .hbm, ⟨7, _⟩ => ⟨S1024, .f32⟩
  | .hbm, ⟨8, _⟩ => ⟨S1024x4, .f32⟩
  | .hbm, ⟨9, _⟩ => ⟨S4, .f32⟩
  | .hbm, ⟨10, _⟩ => ⟨S4x1024x8, .f32⟩
  | .hbm, ⟨11, _⟩ => ⟨S4x8, .f32⟩
  | .hbm, ⟨12, _⟩ => ⟨S32768x1024, .f32⟩
  | .hbm, ⟨13, _⟩ => ⟨S32768x1024, .f32⟩
  | .hbm, ⟨14, _⟩ => ⟨S32768x1024, .bf16⟩
  | .hbm, ⟨15, _⟩ => ⟨S32768x1024, .f32⟩
  | .hbm, ⟨16, _⟩ => ⟨S32768x1024, .bf16⟩
  | .hbm, ⟨17, _⟩ => ⟨S32768x1024, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | .hbm, ⟨56, _⟩ => ⟨S32768x1024, .bf16⟩
  | .hbm, ⟨57, _⟩ => ⟨S32768x8x128, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩

abbrev nD : Nat := 1
abbrev τ : Topo := Topo.v7x

variable {F : FTy → Type} [FloatOps F]
-- ==== Proof.MixBlock.lean ====
/- What the mix's body leaves in its first two results' buffers at any grid point. -/
module

public import proofs.«01_k».proof.Proof.Gen.Kernel3Ideal.Frame
public import proofs.«01_k».proof.Proof.Gen.Kernel3Ideal.Skeleton
public import Idealize.ShloMosaic.Lib.Pipeline.Value
public import Idealize.ShloMosaic.Lib.Tactic

@[expose] public section

set_option maxRecDepth 16384

noncomputable section

namespace Cert.Kernel3Ideal.Hand

open Idealize.ShloMosaic Idealize.ShloMosaic.TcCoe Idealize.ShloMosaic.Tactic Idealize.SL.Sem
open Cert.Kernel3Ideal Cert.Kernel3Ideal.Gen

variable {F : FTy → Type} [FloatOps F]
variable (m : (ℓ : Loc nD τ sig) → Buf (Elt F) ℓ)

theorem hz : (![0, 0] : Fin 2 → Nat) = fun _ => 0 := funext fun a => by fin_cases a <;> rfl
theorem hz3 : (![0, 0, 0] : Fin 3 → Nat) = fun _ => 0 := funext fun a => by fin_cases a <;> rfl

/-- The new residual rows and the normed tokens of a block, of the blocks read. -/
def outH (x0 : Vec F S512x1024 .bf16) (x1 : Vec F S512x2048 .bf16) (x2 x3 : Vec F S512x1024 .bf16) (x4 : Vec F S512x1024 .f32)
    (x5 : Vec F S1024x1024 .bf16) (x6 : Vec F S2048x1024 .bf16) (x7 : Vec F S1024x1024 .bf16) : Vec F S512x1024 .f32 :=
  k0_pay5 x0 x5 x1 x6 x2 x3 x4 x7
def outT (x0 : Vec F S512x1024 .bf16) (x1 : Vec F S512x2048 .bf16) (x2 x3 : Vec F S512x1024 .bf16) (x4 : Vec F S512x1024 .f32)
    (x5 : Vec F S1024x1024 .bf16) (x6 : Vec F S2048x1024 .bf16) (x7 : Vec F S1024x1024 .bf16) (x8 : Vec F S1x1024 .f32) : Vec F S512x8x128 .bf16 :=
  k0_pay9 (k0_pay5 x0 x5 x1 x6 x2 x3 x4 x7) (k0_pay6 x0 x5 x1 x6 x2 x3 x4 x7) k0_pay7 x8

theorem out_A_12 (c : Dev nD) (i : grid0.Coords) (arg1 : Memref sig .tc .vmem S512x1024 .bf16) (harg1 : arg1.IsWhole) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S2x1024x128 .bf16) (harg10 : arg10.IsWhole) (arg11 : Memref sig .tc .vmem S1x128 .f32) (harg11 : arg11.IsWhole) (arg12 : Memref sig .tc .vmem S512x512 .bf16) (harg12 : arg12.IsWhole) (arg13 : Memref sig .tc .vmem S512x1024 .f32) (harg13 : arg13.IsWhole) (arg14 : Memref sig .tc .vmem S512x8x128 .bf16) (harg14 : arg14.IsWhole) (arg15 : Memref sig .tc .vmem S512x8 .f32) (harg15 : arg15.IsWhole) (arg16 : Memref sig .tc .vmem S8x512 .f32) (harg16 : arg16.IsWhole) (arg17 : Memref sig .tc .vmem S8x128 .f32) (harg17 : arg17.IsWhole) (arg18 : Memref sig .tc .vmem S8x128 .f32) (harg18 : arg18.IsWhole) (hc0 : cond0_0 i)
    (x0 : Vec F S512x1024 .bf16) (x1 : Vec F S512x2048 .bf16) (x2 : Vec F S512x1024 .bf16) (x3 : Vec F S512x1024 .bf16) (x4 : Vec F S512x1024 .f32) (x5 : Vec F S1024x1024 .bf16) (x6 : Vec F S2048x1024 .bf16) (x7 : Vec F S1024x1024 .bf16) (x8 : Vec F S1x1024 .f32) (x9 : Vec F S2x1024x128 .bf16) (x10 : Vec F S1x128 .f32) (x11 : Vec F S512x512 .bf16) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = outH x0 x1 x2 x3 x4 x5 x6 x7 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_unit_zero hz]
  unfold outH
  simp only [View.readAt_eq_ld, Memref.IsWhole.read_unread, View.ld_unit_zero (S := S512x1024) hz, View.ld_unit_zero (S := S512x2048) hz,
    View.ld_unit_zero (S := S1024x1024) hz, View.ld_unit_zero (S := S2048x1024) hz, View.ld_unit_zero (S := S1x1024) hz]

theorem out_A_13 (c : Dev nD) (i : grid0.Coords) (arg1 : Memref sig .tc .vmem S512x1024 .bf16) (harg1 : arg1.IsWhole) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S2x1024x128 .bf16) (harg10 : arg10.IsWhole) (arg11 : Memref sig .tc .vmem S1x128 .f32) (harg11 : arg11.IsWhole) (arg12 : Memref sig .tc .vmem S512x512 .bf16) (harg12 : arg12.IsWhole) (arg13 : Memref sig .tc .vmem S512x1024 .f32) (harg13 : arg13.IsWhole) (arg14 : Memref sig .tc .vmem S512x8x128 .bf16) (harg14 : arg14.IsWhole) (arg15 : Memref sig .tc .vmem S512x8 .f32) (harg15 : arg15.IsWhole) (arg16 : Memref sig .tc .vmem S8x512 .f32) (harg16 : arg16.IsWhole) (arg17 : Memref sig .tc .vmem S8x128 .f32) (harg17 : arg17.IsWhole) (arg18 : Memref sig .tc .vmem S8x128 .f32) (harg18 : arg18.IsWhole) (hc0 : cond0_0 i)
    (x0 : Vec F S512x1024 .bf16) (x1 : Vec F S512x2048 .bf16) (x2 : Vec F S512x1024 .bf16) (x3 : Vec F S512x1024 .bf16) (x4 : Vec F S512x1024 .f32) (x5 : Vec F S1024x1024 .bf16) (x6 : Vec F S2048x1024 .bf16) (x7 : Vec F S1024x1024 .bf16) (x8 : Vec F S1x1024 .f32) (x9 : Vec F S2x1024x128 .bf16) (x10 : Vec F S1x128 .f32) (x11 : Vec F S512x512 .bf16) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 = outT x0 x1 x2 x3 x4 x5 x6 x7 x8 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11)]
  unfold kernelRun0_A
  dsimp only
  sl_unfold_words
  rw [View.canon_unit_zero hz3]
  unfold outT
  simp only [View.readAt_eq_ld, Memref.IsWhole.read_unread, View.ld_unit_zero (S := S512x1024) hz, View.ld_unit_zero (S := S512x2048) hz,
    View.ld_unit_zero (S := S1024x1024) hz, View.ld_unit_zero (S := S2048x1024) hz, View.ld_unit_zero (S := S1x1024) hz]

theorem out_B_12 (c : Dev nD) (i : grid0.Coords) (arg1 : Memref sig .tc .vmem S512x1024 .bf16) (harg1 : arg1.IsWhole) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S2x1024x128 .bf16) (harg10 : arg10.IsWhole) (arg11 : Memref sig .tc .vmem S1x128 .f32) (harg11 : arg11.IsWhole) (arg12 : Memref sig .tc .vmem S512x512 .bf16) (harg12 : arg12.IsWhole) (arg13 : Memref sig .tc .vmem S512x1024 .f32) (harg13 : arg13.IsWhole) (arg14 : Memref sig .tc .vmem S512x8x128 .bf16) (harg14 : arg14.IsWhole) (arg15 : Memref sig .tc .vmem S512x8 .f32) (harg15 : arg15.IsWhole) (arg16 : Memref sig .tc .vmem S8x512 .f32) (harg16 : arg16.IsWhole) (arg17 : Memref sig .tc .vmem S8x128 .f32) (harg17 : arg17.IsWhole) (arg18 : Memref sig .tc .vmem S8x128 .f32) (harg18 : arg18.IsWhole) (hc0 : ¬cond0_0 i)
    (x0 : Vec F S512x1024 .bf16) (x1 : Vec F S512x2048 .bf16) (x2 : Vec F S512x1024 .bf16) (x3 : Vec F S512x1024 .bf16) (x4 : Vec F S512x1024 .f32) (x5 : Vec F S1024x1024 .bf16) (x6 : Vec F S2048x1024 .bf16) (x7 : Vec F S1024x1024 .bf16) (x8 : Vec F S1x1024 .f32) (x9 : Vec F S2x1024x128 .bf16) (x10 : Vec F S1x128 .f32) (x11 : Vec F S512x512 .bf16) (xs0 : Vec F S8x128 .f32) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 = outH x0 x1 x2 x3 x4 x5 x6 x7 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0)]
  unfold kernelRun0_B
  dsimp only
  sl_unfold_words
  rw [View.canon_unit_zero hz]
  unfold outH
  simp only [View.readAt_eq_ld, Memref.IsWhole.read_unread, View.ld_unit_zero (S := S512x1024) hz, View.ld_unit_zero (S := S512x2048) hz,
    View.ld_unit_zero (S := S1024x1024) hz, View.ld_unit_zero (S := S2048x1024) hz, View.ld_unit_zero (S := S1x1024) hz]

theorem out_B_13 (c : Dev nD) (i : grid0.Coords) (arg1 : Memref sig .tc .vmem S512x1024 .bf16) (harg1 : arg1.IsWhole) (arg2 : Memref sig .tc .vmem S512x2048 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S1024x1024 .bf16) (harg6 : arg6.IsWhole) (arg7 : Memref sig .tc .vmem S2048x1024 .bf16) (harg7 : arg7.IsWhole) (arg8 : Memref sig .tc .vmem S1024x1024 .bf16) (harg8 : arg8.IsWhole) (arg9 : Memref sig .tc .vmem S1x1024 .f32) (harg9 : arg9.IsWhole) (arg10 : Memref sig .tc .vmem S2x1024x128 .bf16) (harg10 : arg10.IsWhole) (arg11 : Memref sig .tc .vmem S1x128 .f32) (harg11 : arg11.IsWhole) (arg12 : Memref sig .tc .vmem S512x512 .bf16) (harg12 : arg12.IsWhole) (arg13 : Memref sig .tc .vmem S512x1024 .f32) (harg13 : arg13.IsWhole) (arg14 : Memref sig .tc .vmem S512x8x128 .bf16) (harg14 : arg14.IsWhole) (arg15 : Memref sig .tc .vmem S512x8 .f32) (harg15 : arg15.IsWhole) (arg16 : Memref sig .tc .vmem S8x512 .f32) (harg16 : arg16.IsWhole) (arg17 : Memref sig .tc .vmem S8x128 .f32) (harg17 : arg17.IsWhole) (arg18 : Memref sig .tc .vmem S8x128 .f32) (harg18 : arg18.IsWhole) (hc0 : ¬cond0_0 i)
    (x0 : Vec F S512x1024 .bf16) (x1 : Vec F S512x2048 .bf16) (x2 : Vec F S512x1024 .bf16) (x3 : Vec F S512x1024 .bf16) (x4 : Vec F S512x1024 .f32) (x5 : Vec F S1024x1024 .bf16) (x6 : Vec F S2048x1024 .bf16) (x7 : Vec F S1024x1024 .bf16) (x8 : Vec F S1x1024 .f32) (x9 : Vec F S2x1024x128 .bf16) (x10 : Vec F S1x128 .f32) (x11 : Vec F S512x512 .bf16) (xs0 : Vec F S8x128 .f32) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0 = outT x0 x1 x2 x3 x4 x5 x6 x7 x8 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 x10 x11 xs0)]
  unfold kernelRun0_B
  dsimp only
  sl_unfold_words
  rw [View.canon_unit_zero hz3]
  unfold outT
  simp only [View.readAt_eq_ld, Memref.IsWhole.read_unread, View.ld_unit_zero (S := S512x1024) hz, View.ld_unit_zero (S := S512x2048) hz,
    View.ld_unit_zero (S := S1024x1024) hz, View.ld_unit_zero (S := S2048x1024) hz, View.ld_unit_zero (S := S1x1024) hz]

/-- The first result's block after point `t`. -/
theorem after_h (c : Dev nD) (t : Fin cfg0.N) : (dats m 0 c).after 12 t = outH (iblk m c 0 t) (iblk m c 1 t) (iblk m c 2 t) (iblk m c 3 t)
    (iblk m c 4 t) (iblk m c 5 t) (iblk m c 6 t) (iblk m c 7 t) := by
  rw [after0_12]
  by_cases h0 : t.val % 64 = 0
  · rw [outsAt0_A m c t h0]; dsimp only; rw [out_A_12]
  · rw [outsAt0_B m c t h0]; dsimp only; rw [out_B_12]

/-- The second result's block after point `t`. -/
theorem after_t (c : Dev nD) (t : Fin cfg0.N) : (dats m 0 c).after 13 t = outT (iblk m c 0 t) (iblk m c 1 t) (iblk m c 2 t) (iblk m c 3 t)
    (iblk m c 4 t) (iblk m c 5 t) (iblk m c 6 t) (iblk m c 7 t) (iblk m c 8 t) := by
  rw [after0_13]
  by_cases h0 : t.val % 64 = 0
  · rw [outsAt0_A m c t h0]; dsimp only; rw [out_A_13]
  · rw [outsAt0_B m c t h0]; dsimp only; rw [out_B_13]

end Cert.Kernel3Ideal.Hand
end
-- ==== Proof.InSpec.lean ====
/- The input projection in entries: which column of the weights each of its columns reads, a concatenation of ten
   pieces read at an entry, and a row's normalisation. -/
module

public import Idealize.ShloMosaic.Lib.Pipeline.Value
public import Idealize.ShloMosaic.Lib.KernelVsHost
public import Idealize.ShloMosaic.Lib.StackMember
public import Idealize.ShloMosaic.Lib.MatmulPlain
public import Idealize.ShloMosaic.Lib.ValueIdxCore

@[expose] public section

noncomputable section

namespace Cert.InProj

open Idealize.ShloMosaic Idealize.ShloMosaic.ValueIdx

abbrev M2 (a b : ℕ) : Shape := ⟨2, ![a, b]⟩

/-- The source of column `q` of the retention heads' columns, a head's even components before its odd ones. -/
def ev (q : ℕ) : ℕ := q / 256 * 256 + q % 128 * 2 + q % 256 / 128
theorem ev_lt {q : ℕ} (h : q < 1024) : ev q < 1024 := by unfold ev; omega

/-- The column of the weights that column `c` of the projection reads. -/
def src (c : ℕ) : ℕ :=
  if c < 4096 then 5136 + c else if c < 6144 then c - 3072 else if c < 7168 then 3088 + ev (c - 6144)
  else if c < 8192 then 4112 + ev (c - 7168) else if c < 10240 then 1040 + c else c - 10240
theorem src_lt {c : ℕ} (h : c < 11264) : src c < 11280 := by
  unfold src
  split
  · omega
  split
  · omega
  split
  · have := ev_lt (q := c - 6144) (by omega); omega
  split
  · have := ev_lt (q := c - 7168) (by omega); omega
  split <;> omega

section Concat
variable {α : Type} {R : ℕ}

theorem at_congr {A B : ℕ} (z : (M2 A B).Idx → α) (r : Fin A) {c c' : ℕ} (h : c < B) (h' : c' < B) (e : c = c') :
    z (ix2 r ⟨c, h⟩) = z (ix2 r ⟨c', h'⟩) := by subst e; rfl

/-- A piece of a concatenation along the columns, at its entries. -/
theorem piece {C n : ℕ} (xs : List ((s : Shape) × (s.Idx → α))) (h : Shape.Concatenates (xs.map (·.1)) (M2 R C) 1)
    (r : Fin R) (c : ℕ) (hc : c < C) (k : ℕ) (hk : k < xs.length) (x₁ : (M2 R n).Idx → α) (hx : xs[k] = ⟨M2 R n, x₁⟩) (pre : ℕ)
    (hpre : (((xs.take k).map (·.1)).map fun s => if h : s.rank = (M2 R C).rank then s.size ((1 : Fin 2).cast h.symm) else 0).sum = pre)
    (hle : pre ≤ c) (hlt : c - pre < n) :
    concatenate (M2 R C) 1 xs h (ix2 r ⟨c, hc⟩) = x₁ (ix2 r ⟨c - pre, hlt⟩) := by
  refine concatenate_apply_piece (t := M2 R C) 1 xs h (ix2 r ⟨c, hc⟩) k hk (M2 R n) x₁ hx rfl pre hpre (ix2 r ⟨c - pre, hlt⟩) ?_ ?_
  · intro b hb
    match b with
    | ⟨0, _⟩ => rfl
    | ⟨1, _⟩ => exact absurd rfl hb
  · show pre + (c - pre) = c
    omega

/-- Ten pieces side by side, each known by the columns it reads, are the columns `src` names. -/
theorem concat10 (z : (M2 R 11280).Idx → α) (p0 p1 : (M2 R 2048).Idx → α) (p2 p3 p4 p5 p6 p7 : (M2 R 1024).Idx → α)
    (p8 p9 : (M2 R 512).Idx → α)
    (h : Shape.Concatenates [M2 R 2048, M2 R 2048, M2 R 1024, M2 R 1024, M2 R 1024, M2 R 1024, M2 R 1024, M2 R 1024, M2 R 512, M2 R 512]
      (M2 R 11264) 1)
    (h0 : ∀ r j (hj : j < 2048), p0 (ix2 r ⟨j, hj⟩) = z (ix2 r ⟨5136 + j, by omega⟩))
    (h1 : ∀ r j (hj : j < 2048), p1 (ix2 r ⟨j, hj⟩) = z (ix2 r ⟨7184 + j, by omega⟩))
    (h2 : ∀ r j (hj : j < 1024), p2 (ix2 r ⟨j, hj⟩) = z (ix2 r ⟨1024 + j, by omega⟩))
    (h3 : ∀ r j (hj : j < 1024), p3 (ix2 r ⟨j, hj⟩) = z (ix2 r ⟨2048 + j, by omega⟩))
    (h4 : ∀ r j (hj : j < 1024), p4 (ix2 r ⟨j, hj⟩) = z (ix2 r ⟨3088 + ev j, by have := ev_lt hj; omega⟩))
    (h5 : ∀ r j (hj : j < 1024), p5 (ix2 r ⟨j, hj⟩) = z (ix2 r ⟨4112 + ev j, by have := ev_lt hj; omega⟩))
    (h6 : ∀ r j (hj : j < 1024), p6 (ix2 r ⟨j, hj⟩) = z (ix2 r ⟨9232 + j, by omega⟩))
    (h7 : ∀ r j (hj : j < 1024), p7 (ix2 r ⟨j, hj⟩) = z (ix2 r ⟨10256 + j, by omega⟩))
    (h8 : ∀ r j (hj : j < 512), p8 (ix2 r ⟨j, hj⟩) = z (ix2 r ⟨0 + j, by omega⟩))
    (h9 : ∀ r j (hj : j < 512), p9 (ix2 r ⟨j, hj⟩) = z (ix2 r ⟨512 + j, by omega⟩))
    (r : Fin R) (c : ℕ) (hc : c < 11264) :
    concatenate (M2 R 11264) 1 [⟨M2 R 2048, p0⟩, ⟨M2 R 2048, p1⟩, ⟨M2 R 1024, p2⟩, ⟨M2 R 1024, p3⟩, ⟨M2 R 1024, p4⟩,
      ⟨M2 R 1024, p5⟩, ⟨M2 R 1024, p6⟩, ⟨M2 R 1024, p7⟩, ⟨M2 R 512, p8⟩, ⟨M2 R 512, p9⟩] h (ix2 r ⟨c, hc⟩)
      = z (ix2 r ⟨src c, src_lt hc⟩) := by
  have Q := fun {n : ℕ} => piece (n := n) (C := 11264) ([⟨M2 R 2048, p0⟩, ⟨M2 R 2048, p1⟩, ⟨M2 R 1024, p2⟩, ⟨M2 R 1024, p3⟩,
    ⟨M2 R 1024, p4⟩, ⟨M2 R 1024, p5⟩, ⟨M2 R 1024, p6⟩, ⟨M2 R 1024, p7⟩, ⟨M2 R 512, p8⟩, ⟨M2 R 512, p9⟩] :
    List ((s : Shape) × (s.Idx → α))) h r c hc
  by_cases c0 : c < 2048
  · exact (Q 0 (by simp) p0 rfl 0 (by simp) (by omega) (by omega)).trans
      ((h0 _ _ _).trans (at_congr z r _ _ (by unfold src; rw [if_pos (by omega)]; omega)))
  by_cases c1 : c < 4096
  · exact (Q 1 (by simp) p1 rfl 2048 (by simp) (by omega) (by omega)).trans
      ((h1 _ _ _).trans (at_congr z r _ _ (by unfold src; rw [if_pos (by omega)]; omega)))
  by_cases c2 : c < 5120
  · exact (Q 2 (by simp) p2 rfl 4096 (by simp) (by omega) (by omega)).trans
      ((h2 _ _ _).trans (at_congr z r _ _ (by unfold src; rw [if_neg (by omega), if_pos (by omega)]; omega)))
  by_cases c3 : c < 6144
  · exact (Q 3 (by simp) p3 rfl 5120 (by simp) (by omega) (by omega)).trans
      ((h3 _ _ _).trans (at_congr z r _ _ (by unfold src; rw [if_neg (by omega), if_pos (by omega)]; omega)))
  by_cases c4 : c < 7168
  · exact (Q 4 (by simp) p4 rfl 6144 (by simp) (by omega) (by omega)).trans
      ((h4 _ _ _).trans (at_congr z r _ _ (by unfold src; rw [if_neg (by omega), if_neg (by omega), if_pos (by omega)])))
  by_cases c5 : c < 8192
  · exact (Q 5 (by simp) p5 rfl 7168 (by simp) (by omega) (by omega)).trans
      ((h5 _ _ _).trans (at_congr z r _ _ (by
        unfold src; rw [if_neg (by omega), if_neg (by omega), if_neg (by omega), if_pos (by omega)])))
  by_cases c6 : c < 9216
  · exact (Q 6 (by simp) p6 rfl 8192 (by simp) (by omega) (by omega)).trans
      ((h6 _ _ _).trans (at_congr z r _ _ (by
        unfold src; rw [if_neg (by omega), if_neg (by omega), if_neg (by omega), if_neg (by omega), if_pos (by omega)]; omega)))
  by_cases c7 : c < 10240
  · exact (Q 7 (by simp) p7 rfl 9216 (by simp) (by omega) (by omega)).trans
      ((h7 _ _ _).trans (at_congr z r _ _ (by
        unfold src; rw [if_neg (by omega), if_neg (by omega), if_neg (by omega), if_neg (by omega), if_pos (by omega)]; omega)))
  by_cases c8 : c < 10752
  · exact (Q 8 (by simp) p8 rfl 10240 (by simp) (by omega) (by omega)).trans
      ((h8 _ _ _).trans (at_congr z r _ _ (by
        unfold src; rw [if_neg (by omega), if_neg (by omega), if_neg (by omega), if_neg (by omega), if_neg (by omega)]; omega)))
  · exact (Q 9 (by simp) p9 rfl 10752 (by simp) (by omega) (by omega)).trans
      ((h9 _ _ _).trans (at_congr z r _ _ (by
        unfold src; rw [if_neg (by omega), if_neg (by omega), if_neg (by omega), if_neg (by omega), if_neg (by omega)]; omega)))

/-- A slice of columns, at its entries. -/
theorem cols {n B off : ℕ} (z : (M2 R B).Idx → α) (h : (M2 R B).Slices ![0, off] (M2 R n)) (hB : off + n ≤ B) (r : Fin R) (j : ℕ) (hj : j < n) :
    extractStridedSlice (M2 R n) ![0, off] z h (ix2 r ⟨j, hj⟩) = z (ix2 r ⟨off + j, by omega⟩) := by
  refine extractStridedSlice_apply _ z h _ _ fun a => ?_
  match a with
  | ⟨0, _⟩ => show r.val = 0 + r.val; omega
  | ⟨1, _⟩ => rfl

/-- Columns picked by an array of their numbers. -/
theorem pick (wf : GatherDims.WF (M2 R 1024) (M2 1024 1) (M2 R 1024) [0] [1] [] [1] [] 1 ![R, 1])
    (x : (M2 R 1024).Idx → α) (idx : IVec (M2 1024 1) 32) (r : Fin R) (j : ℕ) (hj : j < 1024) (v : ℕ) (hv : v < 1024)
    (e : (idx (ix2 ⟨j, hj⟩ 0)).toInt.toNat = v) :
    Host.gather ⟨[0], [1], [], [], [1], 1, ![R, 1], wf⟩ x idx (ix2 r ⟨j, hj⟩) = x (ix2 r ⟨v, hv⟩) := by
  unfold Host.gather
  congr 1
  funext a
  refine Fin.ext ?_
  generalize hd : (⟨[0], [1], [], [], [1], 1, ![R, 1], wf⟩ : GatherDims (M2 R 1024) (M2 1024 1) (M2 R 1024)) = d
  show d.start (ix2 r ⟨j, hj⟩) idx a + d.batchCoord (ix2 r ⟨j, hj⟩) a + d.offCoord (ix2 r ⟨j, hj⟩) a = _
  rw [GatherDims.batchCoord_eq_zero _ _ _ (by subst hd; exact List.not_mem_nil)]
  have h01 : a = 0 ∨ a = 1 := by
    match a with
    | ⟨0, _⟩ => exact Or.inl rfl
    | ⟨1, _⟩ => exact Or.inr rfl
  rcases h01 with rfl | rfl
  · subst hd
    unfold GatherDims.start
    rw [dif_neg (by simp)]
    show 0 + 0 + r.val = r.val
    omega
  · rw [GatherDims.offCoord_eq_zero _ _ _ (by subst hd; exact fun h => ((GatherDims.mem_sKept _ _).mp h).1 (List.mem_singleton.mpr rfl))]
    subst hd
    unfold GatherDims.start
    rw [dif_pos (List.mem_singleton.mpr rfl)]
    show min (idx _).toInt.toNat (1024 - 1) + 0 + 0 = v
    refine (congrArg (fun i => min (idx i).toInt.toNat (1024 - 1) + 0 + 0) (?_ : _ = ix2 ⟨j, hj⟩ 0)).trans ?_
    · funext b; refine Fin.ext ?_
      match b with
      | ⟨0, _⟩ => rfl
      | ⟨1, _⟩ => rfl
    · show min (idx (ix2 ⟨j, hj⟩ 0)).toInt.toNat (1024 - 1) + 0 + 0 = v
      rw [e]; omega
end Concat

/-! ## The normalised row -/

/-- The mean square of a row, and the factor its entries are scaled by. -/
def scale (row : Fin 1024 → EReal) : EReal :=
  FloatOps.rsqrt (F := Ideal) (φ := .f32) (FloatOps.addf (F := Ideal) (φ := .f32)
    (FloatOps.divf (F := Ideal) (φ := .f32) (∑ k, row k * row k) (FloatOps.ofBits (F := Ideal) .f32 0x44800000#32))
    (FloatOps.ofBits (F := Ideal) .f32 0x358637BD#32))
def unit (row nw : Fin 1024 → EReal) (k : Fin 1024) : EReal := row k * scale row * nw k

/-- The projection and its decay columns, entry by entry. -/
def rowOf (X : (M2 32768 1024).Idx → EReal) (nw : (⟨1, ![1024]⟩ : Shape).Idx → EReal) (r : Fin 32768) : Fin 1024 → EReal :=
  unit (fun k => X (ix2 r k)) (fun k => nw (ix1 k))
def proj (X : (M2 32768 1024).Idx → EReal) (nw : (⟨1, ![1024]⟩ : Shape).Idx → EReal) (w : (M2 1024 11280).Idx → EReal) :
    (M2 32768 11264).Idx → EReal :=
  fun i => ∑ k, rowOf X nw (i 0) k * w (ix2 k ⟨src (i 1).val, src_lt (i 1).isLt⟩)
def gate (X : (M2 32768 1024).Idx → EReal) (nw : (⟨1, ![1024]⟩ : Shape).Idx → EReal) (w : (M2 1024 11280).Idx → EReal) :
    (M2 32768 128).Idx → EReal :=
  fun i => if h : (i 1).val < 16 then ∑ k, rowOf X nw (i 0) k * w (ix2 k ⟨3072 + (i 1).val, by omega⟩) else 0

theorem gate_in (X : (M2 32768 1024).Idx → EReal) (nw : (⟨1, ![1024]⟩ : Shape).Idx → EReal) (w : (M2 1024 11280).Idx → EReal)
    (r : Fin 32768) (l : Fin 128) (h : l.val < 16) :
    gate X nw w (ix2 r l) = ∑ k, rowOf X nw r k * w (ix2 k ⟨3072 + l.val, by omega⟩) := dif_pos h
theorem gate_out (X : (M2 32768 1024).Idx → EReal) (nw : (⟨1, ![1024]⟩ : Shape).Idx → EReal) (w : (M2 1024 11280).Idx → EReal)
    (r : Fin 32768) (l : Fin 128) (h : ¬ l.val < 16) : gate X nw w (ix2 r l) = 0 := dif_neg h

theorem cast_self {s : Shape} {α : Type} (x : s.Idx → α) (h : s.ShapeCasts s) : shapeCast s x h = x :=
  funext fun j => shapeCast_apply x h j j rfl

end Cert.InProj
end
-- ==== Proof.MixSpec.lean ====
/- The mix of the two branches in entries: the gated sum of the branches' products, the new residual rows and the
   normed tokens in row tiles. -/
module

public import proofs.«01_k».proof.Proof.InSpec

@[expose] public section

noncomputable section

namespace Cert.Mix

open Idealize.ShloMosaic Idealize.ShloMosaic.ValueIdx Cert.InProj

variable (A : (M2 32768 1024).Idx → EReal) (B : (M2 32768 2048).Idx → EReal) (P : (M2 32768 11264).Idx → EReal)
variable (X : (M2 32768 1024).Idx → EReal) (wa : (M2 1024 1024).Idx → EReal) (wb : (M2 2048 1024).Idx → EReal)
variable (wo : (M2 1024 1024).Idx → EReal) (nw : (⟨1, ![1024]⟩ : Shape).Idx → EReal)

/-- The two branches' products, each under the logistic of its gate column. -/
def merged (r : Fin 32768) (k : Fin 1024) : EReal :=
  Ideal.logistic (P (ix2 r ⟨8192 + k.val, by omega⟩)) * (∑ l, A (ix2 r l) * wa (ix2 l k))
    + Ideal.logistic (P (ix2 r ⟨9216 + k.val, by omega⟩)) * (∑ l, B (ix2 r l) * wb (ix2 l k))

/-- The new residual rows. -/
def resid : (M2 32768 1024).Idx → EReal := fun i =>
  X (ix2 (i 0) (i 1)) + ∑ k, merged A B P wa wb (i 0) k * wo (ix2 k (i 1))

/-- The normed tokens, a row of 1024 as eight rows of 128. -/
def toks : (⟨3, ![32768, 8, 128]⟩ : Shape).Idx → EReal := fun i =>
  rowOf (resid A B P X wa wb wo) nw (i 0)
    ⟨(i 1).val * 128 + (i 2).val, by have h1 : (i 1).val < 8 := (i 1).isLt; have h2 : (i 2).val < 128 := (i 2).isLt; omega⟩

end Cert.Mix
end
-- ==== Proof.MixValue.lean ====
/- The mix's first two results, entry by entry. -/
module

public import proofs.«01_k».proof.Proof.MixBlock
public import proofs.«01_k».proof.Proof.MixSpec
public import Idealize.ShloMosaic.Lib.StableHlo.RunRead
public import Idealize.ShloMosaic.Lib.ValueLayoutCasts
public import Idealize.ShloMosaic.Lib.ValueLayout
public import Idealize.ShloMosaic.Lib.Pipeline.ValueKit.Geometry

@[expose] public section

set_option maxRecDepth 16384

noncomputable section

namespace Cert.Kernel3Ideal.Hand

open Idealize.ShloMosaic Idealize.ShloMosaic.TcCoe Idealize.ShloMosaic.Tactic Idealize.ShloMosaic.ValueIdx Idealize.SL.Sem
open Cert.Kernel3Ideal.Gen Cert.InProj Cert.Mix

variable (m : (ℓ : Loc nD τ sig) → Buf (Elt Ideal) ℓ) (ρ : Dev nD → PrngReg) (c : Dev nD)

abbrev aA : S32768x1024.Idx → EReal := m ((c.tc : Thread nD τ).loc main_arg0)
abbrev aB : S32768x2048.Idx → EReal := m ((c.tc : Thread nD τ).loc main_arg1)
abbrev aP : S32768x11264.Idx → EReal := m ((c.tc : Thread nD τ).loc main_arg2)
abbrev aX : S8x4096x1024.Idx → EReal := m ((c.tc : Thread nD τ).loc main_arg3)
abbrev X2 : S32768x1024.Idx → EReal := shapeCast S32768x1024 (aX m c) shapeCasts_S8x4096x1024_S32768x1024
abbrev aWa : S1024x1024.Idx → EReal := m ((c.tc : Thread nD τ).loc main_arg4)
abbrev aWb : S2048x1024.Idx → EReal := m ((c.tc : Thread nD τ).loc main_arg5)
abbrev aWo : S1024x1024.Idx → EReal := m ((c.tc : Thread nD τ).loc main_arg6)
abbrev aN : S1024.Idx → EReal := m ((c.tc : Thread nD τ).loc main_arg7)

/-! ## What the launch is handed -/

theorem V_v0 : V m c main_v0 = shapeCast S32768x1024 (m ((c.tc : Thread nD τ).loc main_arg3)) shapeCasts_S8x4096x1024_S32768x1024 := by
  simp only [V, hostOps0, hostOps0_1, hostOps0_2, hostOps0_3, hostOps0_4, List.flatten_cons, List.flatten_nil, List.append_nil, List.cons_append, List.nil_append]
  after_reads_simp
  rfl
theorem V_v16 : V m c main_v16 = truncf (F := Ideal) (φ := .f32) .bf16 (m ((c.tc : Thread nD τ).loc main_arg4)) bitsLt_bf16_f32 := by
  simp only [V, hostOps0, hostOps0_1, hostOps0_2, hostOps0_3, hostOps0_4, List.flatten_cons, List.flatten_nil, List.append_nil, List.cons_append, List.nil_append]
  after_reads_simp
theorem V_v17 : V m c main_v17 = truncf (F := Ideal) (φ := .f32) .bf16 (m ((c.tc : Thread nD τ).loc main_arg5)) bitsLt_bf16_f32 := by
  simp only [V, hostOps0, hostOps0_1, hostOps0_2, hostOps0_3, hostOps0_4, List.flatten_cons, List.flatten_nil, List.append_nil, List.cons_append, List.nil_append]
  after_reads_simp
theorem V_v18 : V m c main_v18 = truncf (F := Ideal) (φ := .f32) .bf16 (m ((c.tc : Thread nD τ).loc main_arg6)) bitsLt_bf16_f32 := by
  simp only [V, hostOps0, hostOps0_1, hostOps0_2, hostOps0_3, hostOps0_4, List.flatten_cons, List.flatten_nil, List.append_nil, List.cons_append, List.nil_append]
  after_reads_simp
theorem V_v19 : V m c main_v19 = shapeCast S1x1024 (m ((c.tc : Thread nD τ).loc main_arg7)) shapeCasts_S1024_S1x1024 := by
  simp only [V, hostOps0, hostOps0_1, hostOps0_2, hostOps0_3, hostOps0_4, List.flatten_cons, List.flatten_nil, List.append_nil, List.cons_append, List.nil_append]
  after_reads_simp
  rfl

/-! ## The body's values -/

theorem bcol (v : S512x1.Idx → EReal) (p : Fin 512) (k : Fin 1024) :
    broadcastTo S512x1024 v broadcasts_S512x1_S512x1024 (ix2 p k) = v (ix2 p 0) :=
  broadcastTo_apply (s := S512x1) (t := S512x1024) v _ _ _ fun a => by
    match a with
    | ⟨0, _⟩ => rfl
    | ⟨1, _⟩ => rfl
theorem brow (v : S1x1024.Idx → EReal) (p : Fin 512) (k : Fin 1024) :
    broadcastTo S512x1024 v broadcasts_S1x1024_S512x1024 (ix2 p k) = v (ix2 0 k) :=
  broadcastTo_apply (s := S1x1024) (t := S512x1024) v _ _ _ fun a => by
    match a with
    | ⟨0, _⟩ => rfl
    | ⟨1, _⟩ => rfl

theorem sq_sum (v : S512x1024.Idx → EReal) (p : Fin 512) :
    shapeCast S512x1 (multiReduction (F := Ideal) (φ := .f32) .add [1] S512 (mulf (F := Ideal) (φ := .f32) v v) 0x00000000#32
      reduces_S512x1024_S512 (.inl rfl) rfl) shapeCasts_S512_S512x1 (ix2 p 0) = ∑ k : Fin 1024, v (ix2 p k) * v (ix2 p k) := by
  refine (shapeCast_apply (s := S512) (t := S512x1) _ _ (ix2 p 0) (ix1 p) ?_).trans ?_
  · rw [Shape.rowMajor_val_one, Shape.rowMajor_val_two]
    show p.val = p.val * 1 + 0
    omega
  refine (Ideal.multiReduction_add_single _ _ _ _ _ _).trans (Finset.sum_congr rfl fun k _ => ?_)
  have e : (reduces_S512x1024_S512.lift (ix1 p) k : S512x1024.Idx) = ix2 p k := by
    funext a
    match a with
    | ⟨0, _⟩ => rfl
    | ⟨1, _⟩ => rfl
  rw [e]; rfl

/-- A block's gated sum of the two products. -/
def mergedB (x0 : S512x1024.Idx → EReal) (x1 : S512x2048.Idx → EReal) (x2 x3 : S512x1024.Idx → EReal) (x5 : S1024x1024.Idx → EReal)
    (x6 : S2048x1024.Idx → EReal) (p : Fin 512) (k : Fin 1024) : EReal :=
  Ideal.logistic (x2 (ix2 p k)) * (∑ l, x0 (ix2 p l) * x5 (ix2 l k))
    + Ideal.logistic (x3 (ix2 p k)) * (∑ l, x1 (ix2 p l) * x6 (ix2 l k))

theorem mm1 (x : S512x1024.Idx → EReal) (w : S1024x1024.Idx → EReal) (p : Fin 512) (j : Fin 1024) :
    matmul (F := Ideal) (φ₁ := .bf16) (φ₂ := .bf16) dot_S512x1024_S1024x1024_S512x1024_1_0_0_1_n_n none x w
      (constant S512x1024 .f32 0x00000000#32) (ix2 p j) = ∑ k, x (ix2 p k) * w (ix2 k j) := by
  refine (Ideal.matmul_plain_apply (M := 512) (K := 1024) (N := 1024) (φ₁ := .bf16) (φ₂ := .bf16) none _ _ _ p j).trans ?_
  show Ideal.ofBits .f32 0x00000000#32 + _ = _
  rw [Ideal.ofBits_zero_f32, zero_add]
theorem mm2 (x : S512x2048.Idx → EReal) (w : S2048x1024.Idx → EReal) (p : Fin 512) (j : Fin 1024) :
    matmul (F := Ideal) (φ₁ := .bf16) (φ₂ := .bf16) dot_S512x2048_S2048x1024_S512x1024_1_0_0_1_n_n none x w
      (constant S512x1024 .f32 0x00000000#32) (ix2 p j) = ∑ k, x (ix2 p k) * w (ix2 k j) := by
  refine (Ideal.matmul_plain_apply (M := 512) (K := 2048) (N := 1024) (φ₁ := .bf16) (φ₂ := .bf16) none _ _ _ p j).trans ?_
  show Ideal.ofBits .f32 0x00000000#32 + _ = _
  rw [Ideal.ofBits_zero_f32, zero_add]

theorem outH_at (x0 : S512x1024.Idx → EReal) (x1 : S512x2048.Idx → EReal) (x2 x3 x4 : S512x1024.Idx → EReal) (x5 : S1024x1024.Idx → EReal)
    (x6 : S2048x1024.Idx → EReal) (x7 : S1024x1024.Idx → EReal) (p : Fin 512) (j : Fin 1024) :
    outH (F := Ideal) x0 x1 x2 x3 x4 x5 x6 x7 (ix2 p j)
      = x4 (ix2 p j) + ∑ k, mergedB x0 x1 x2 x3 x5 x6 p k * x7 (ix2 k j) := by
  unfold outH k0_pay5
  simp only [cast_self]
  refine congrArg (fun x : EReal => x4 (ix2 p j) + x) ((mm1 _ x7 p j).trans ?_)
  refine Finset.sum_congr rfl fun k _ => congrArg (fun x : EReal => x * x7 (ix2 k j)) ?_
  unfold mergedB
  have ea := mm1 x0 x5 p k
  have eb := mm2 x1 x6 p k
  exact congr (congrArg HAdd.hAdd (congrArg (fun x : EReal => Ideal.logistic (x2 (ix2 p k)) * x) ea))
    (congrArg (fun x : EReal => Ideal.logistic (x3 (ix2 p k)) * x) eb)

theorem pay8_at (h : S512x1024.Idx → EReal) (x8 : S1x1024.Idx → EReal) (p : Fin 512) (k : Fin 1024) :
    k0_pay8 (F := Ideal) h (shapeCast S512x1 (multiReduction (F := Ideal) (φ := .f32) .add [1] S512 (mulf (F := Ideal) (φ := .f32) h h)
      0x00000000#32 reduces_S512x1024_S512 (.inl rfl) rfl) shapeCasts_S512_S512x1) k0_pay7 x8 (ix2 p k)
      = unit (fun k => h (ix2 p k)) (fun k => x8 (ix2 0 k)) k := by
  unfold k0_pay8 k0_pay7 unit scale
  simp only [cast_self]
  refine congr (congrArg HMul.hMul (congrArg (h (ix2 p k) * ·) ((bcol _ p k).trans ?_))) (brow _ p k)
  show FloatOps.rsqrt (F := Ideal) (φ := .f32) (FloatOps.addf (F := Ideal) (φ := .f32)
    (FloatOps.divf (F := Ideal) (φ := .f32) (shapeCast S512x1 _ shapeCasts_S512_S512x1 (ix2 p 0)) _) _) = _
  rw [sq_sum]
  rfl

theorem outT_at (x0 : S512x1024.Idx → EReal) (x1 : S512x2048.Idx → EReal) (x2 x3 x4 : S512x1024.Idx → EReal) (x5 : S1024x1024.Idx → EReal)
    (x6 : S2048x1024.Idx → EReal) (x7 : S1024x1024.Idx → EReal) (x8 : S1x1024.Idx → EReal) (p : Fin 512) (a : Fin 8) (b : Fin 128) :
    outT (F := Ideal) x0 x1 x2 x3 x4 x5 x6 x7 x8 (ix3 p a b)
      = unit (fun k => outH (F := Ideal) x0 x1 x2 x3 x4 x5 x6 x7 (ix2 p k)) (fun k => x8 (ix2 0 k)) ⟨a.val * 128 + b.val, by omega⟩ := by
  unfold outT k0_pay9 k0_pay6 outH
  refine (shapeCast_apply (s := S512x1024) (t := S512x8x128) _ _ (ix3 p a b) (ix2 p ⟨a.val * 128 + b.val, by omega⟩) ?_).trans
    (pay8_at _ x8 p _)
  rw [Shape.rowMajor_val_three, Shape.rowMajor_val_two]
  show p.val * 1024 + (a.val * 128 + b.val) = (p.val * 8 + a.val) * 128 + b.val
  omega

/-! ## The blocks -/

theorem tr0 : ∀ t : Fin grid0.N, cc0_transform_0 (grid0.coords t) 0 = t.val ∧ cc0_transform_0 (grid0.coords t) 1 = 0 := by decide +kernel
theorem tr1 : ∀ t : Fin grid0.N, cc0_transform_1 (grid0.coords t) 0 = t.val ∧ cc0_transform_1 (grid0.coords t) 1 = 0 := by decide +kernel
theorem tr2 : ∀ t : Fin grid0.N, cc0_transform_2 (grid0.coords t) 0 = t.val ∧ cc0_transform_2 (grid0.coords t) 1 = 8 := by decide +kernel
theorem tr3 : ∀ t : Fin grid0.N, cc0_transform_3 (grid0.coords t) 0 = t.val ∧ cc0_transform_3 (grid0.coords t) 1 = 9 := by decide +kernel
theorem tr4 : ∀ t : Fin grid0.N, cc0_transform_4 (grid0.coords t) 0 = t.val ∧ cc0_transform_4 (grid0.coords t) 1 = 0 := by decide +kernel
theorem tr5 : ∀ t : Fin grid0.N, cc0_transform_5 (grid0.coords t) 0 = 0 ∧ cc0_transform_5 (grid0.coords t) 1 = 0 := by decide +kernel
theorem tr6 : ∀ t : Fin grid0.N, cc0_transform_6 (grid0.coords t) 0 = 0 ∧ cc0_transform_6 (grid0.coords t) 1 = 0 := by decide +kernel
theorem tr7 : ∀ t : Fin grid0.N, cc0_transform_7 (grid0.coords t) 0 = 0 ∧ cc0_transform_7 (grid0.coords t) 1 = 0 := by decide +kernel
theorem tr8 : ∀ t : Fin grid0.N, cc0_transform_8 (grid0.coords t) 0 = 0 ∧ cc0_transform_8 (grid0.coords t) 1 = 0 := by decide +kernel
theorem tr12 : ∀ t : Fin grid0.N, cc0_transform_12 (grid0.coords t) 0 = t.val ∧ cc0_transform_12 (grid0.coords t) 1 = 0 := by decide +kernel
theorem tr13 : ∀ t : Fin grid0.N, cc0_transform_13 (grid0.coords t) 0 = t.val ∧ cc0_transform_13 (grid0.coords t) 1 = 0
    ∧ cc0_transform_13 (grid0.coords t) 2 = 0 := by decide +kernel
theorem lt64 (t : Fin cfg0.N) : t.val < 64 := t.isLt

abbrev b0 (t : Fin cfg0.N) : S512x1024.Idx → EReal := iblk m c 0 t
abbrev b1 (t : Fin cfg0.N) : S512x2048.Idx → EReal := iblk m c 1 t
abbrev b2 (t : Fin cfg0.N) : S512x1024.Idx → EReal := iblk m c 2 t
abbrev b3 (t : Fin cfg0.N) : S512x1024.Idx → EReal := iblk m c 3 t
abbrev b4 (t : Fin cfg0.N) : S512x1024.Idx → EReal := iblk m c 4 t
abbrev b5 (t : Fin cfg0.N) : S1024x1024.Idx → EReal := iblk m c 5 t
abbrev b6 (t : Fin cfg0.N) : S2048x1024.Idx → EReal := iblk m c 6 t
abbrev b7 (t : Fin cfg0.N) : S1024x1024.Idx → EReal := iblk m c 7 t
abbrev b8 (t : Fin cfg0.N) : S1x1024.Idx → EReal := iblk m c 8 t

/-- The row of the tokens that row `p` of block `t` is. -/
def row (t : Fin cfg0.N) (p : Fin 512) : Fin 32768 := ⟨t.val * 512 + p.val, by have := lt64 t; omega⟩

theorem b0_at (t : Fin cfg0.N) (p : Fin 512) (k : Fin 1024) : b0 m c t (ix2 p k) = aA m c (ix2 (row t p) k) := by
  refine (congrArg (V m c main_arg0) (?_ : _ = ix2 (row t p) k)).trans (congrFun (V_main_arg0 m c) _)
  funext a
  fin_cases a <;> apply Fin.ext
  · show cc0_transform_0 (grid0.coords t) 0 * 512 + 1 * p.val = t.val * 512 + p.val
    rw [(tr0 t).1]; omega
  · show cc0_transform_0 (grid0.coords t) 1 * 1024 + 1 * k.val = k.val
    rw [(tr0 t).2]; omega
theorem b1_at (t : Fin cfg0.N) (p : Fin 512) (k : Fin 2048) : b1 m c t (ix2 p k) = aB m c (ix2 (row t p) k) := by
  refine (congrArg (V m c main_arg1) (?_ : _ = ix2 (row t p) k)).trans (congrFun (V_main_arg1 m c) _)
  funext a
  fin_cases a <;> apply Fin.ext
  · show cc0_transform_1 (grid0.coords t) 0 * 512 + 1 * p.val = t.val * 512 + p.val
    rw [(tr1 t).1]; omega
  · show cc0_transform_1 (grid0.coords t) 1 * 2048 + 1 * k.val = k.val
    rw [(tr1 t).2]; omega
theorem b2_at (t : Fin cfg0.N) (p : Fin 512) (k : Fin 1024) :
    b2 m c t (ix2 p k) = aP m c (ix2 (row t p) ⟨8192 + k.val, by omega⟩) := by
  refine (congrArg (V m c main_arg2) (?_ : _ = ix2 (row t p) (⟨8192 + k.val, by omega⟩ : Fin 11264))).trans (congrFun (V_main_arg2 m c) _)
  funext a
  fin_cases a <;> apply Fin.ext
  · show cc0_transform_2 (grid0.coords t) 0 * 512 + 1 * p.val = t.val * 512 + p.val
    rw [(tr2 t).1]; omega
  · show cc0_transform_2 (grid0.coords t) 1 * 1024 + 1 * k.val = 8192 + k.val
    rw [(tr2 t).2]; omega
theorem b3_at (t : Fin cfg0.N) (p : Fin 512) (k : Fin 1024) :
    b3 m c t (ix2 p k) = aP m c (ix2 (row t p) ⟨9216 + k.val, by omega⟩) := by
  refine (congrArg (V m c main_arg2) (?_ : _ = ix2 (row t p) (⟨9216 + k.val, by omega⟩ : Fin 11264))).trans (congrFun (V_main_arg2 m c) _)
  funext a
  fin_cases a <;> apply Fin.ext
  · show cc0_transform_3 (grid0.coords t) 0 * 512 + 1 * p.val = t.val * 512 + p.val
    rw [(tr3 t).1]; omega
  · show cc0_transform_3 (grid0.coords t) 1 * 1024 + 1 * k.val = 9216 + k.val
    rw [(tr3 t).2]; omega
theorem b4_at (t : Fin cfg0.N) (p : Fin 512) (k : Fin 1024) : b4 m c t (ix2 p k) = X2 m c (ix2 (row t p) k) := by
  refine (congrArg (V m c main_v0) (?_ : _ = ix2 (row t p) k)).trans (congrFun (V_v0 m c) _)
  funext a
  fin_cases a <;> apply Fin.ext
  · show cc0_transform_4 (grid0.coords t) 0 * 512 + 1 * p.val = t.val * 512 + p.val
    rw [(tr4 t).1]; omega
  · show cc0_transform_4 (grid0.coords t) 1 * 1024 + 1 * k.val = k.val
    rw [(tr4 t).2]; omega
theorem b5_at (t : Fin cfg0.N) (k j : Fin 1024) : b5 m c t (ix2 k j) = aWa m c (ix2 k j) := by
  refine (congrArg (V m c main_v16) (?_ : _ = ix2 k j)).trans (congrFun (V_v16 m c) _)
  funext a
  fin_cases a <;> apply Fin.ext
  · show cc0_transform_5 (grid0.coords t) 0 * 1024 + 1 * k.val = k.val
    rw [(tr5 t).1]; omega
  · show cc0_transform_5 (grid0.coords t) 1 * 1024 + 1 * j.val = j.val
    rw [(tr5 t).2]; omega
theorem b6_at (t : Fin cfg0.N) (k : Fin 2048) (j : Fin 1024) : b6 m c t (ix2 k j) = aWb m c (ix2 k j) := by
  refine (congrArg (V m c main_v17) (?_ : _ = ix2 k j)).trans (congrFun (V_v17 m c) _)
  funext a
  fin_cases a <;> apply Fin.ext
  · show cc0_transform_6 (grid0.coords t) 0 * 2048 + 1 * k.val = k.val
    rw [(tr6 t).1]; omega
  · show cc0_transform_6 (grid0.coords t) 1 * 1024 + 1 * j.val = j.val
    rw [(tr6 t).2]; omega
theorem b7_at (t : Fin cfg0.N) (k j : Fin 1024) : b7 m c t (ix2 k j) = aWo m c (ix2 k j) := by
  refine (congrArg (V m c main_v18) (?_ : _ = ix2 k j)).trans (congrFun (V_v18 m c) _)
  funext a
  fin_cases a <;> apply Fin.ext
  · show cc0_transform_7 (grid0.coords t) 0 * 1024 + 1 * k.val = k.val
    rw [(tr7 t).1]; omega
  · show cc0_transform_7 (grid0.coords t) 1 * 1024 + 1 * j.val = j.val
    rw [(tr7 t).2]; omega
theorem b8_at (t : Fin cfg0.N) (k : Fin 1024) : b8 m c t (ix2 0 k) = aN m c (ix1 k) := by
  refine ((congrArg (V m c main_v19) (?_ : _ = ix2 (0 : Fin 1) k)).trans (congrFun (V_v19 m c) _)).trans
    (shapeCast_apply (s := S1024) (t := S1x1024) _ _ _ _ ?_)
  · funext a
    fin_cases a <;> apply Fin.ext
    · show cc0_transform_8 (grid0.coords t) 0 * 1 + 1 * 0 = 0
      rw [(tr8 t).1]
    · show cc0_transform_8 (grid0.coords t) 1 * 1024 + 1 * k.val = k.val
      rw [(tr8 t).2]; omega
  · rw [Shape.rowMajor_val_one, Shape.rowMajor_val_two]
    show k.val = 0 * 1024 + k.val
    omega

/-! ## The results -/

abbrev resid' : S32768x1024.Idx → EReal := resid (aA m c) (aB m c) (aP m c) (X2 m c) (aWa m c) (aWb m c) (aWo m c)
abbrev toks' : S32768x8x128.Idx → EReal := toks (aA m c) (aB m c) (aP m c) (X2 m c) (aWa m c) (aWb m c) (aWo m c) (aN m c)
abbrev blkH (t : Fin cfg0.N) : S512x1024.Idx → EReal :=
  outH (F := Ideal) (b0 m c t) (b1 m c t) (b2 m c t) (b3 m c t) (b4 m c t) (b5 m c t) (b6 m c t) (b7 m c t)
abbrev blkT (t : Fin cfg0.N) : S512x8x128.Idx → EReal :=
  outT (F := Ideal) (b0 m c t) (b1 m c t) (b2 m c t) (b3 m c t) (b4 m c t) (b5 m c t) (b6 m c t) (b7 m c t) (b8 m c t)

theorem merged_blk (t : Fin cfg0.N) (p : Fin 512) (k : Fin 1024) :
    mergedB (b0 m c t) (b1 m c t) (b2 m c t) (b3 m c t) (b5 m c t) (b6 m c t) p k
      = merged (aA m c) (aB m c) (aP m c) (aWa m c) (aWb m c) (row t p) k := by
  unfold mergedB merged
  refine congr (congrArg HAdd.hAdd (congr (congrArg HMul.hMul (congrArg Ideal.logistic (b2_at m c t p k))) ?_))
    (congr (congrArg HMul.hMul (congrArg Ideal.logistic (b3_at m c t p k))) ?_)
  · exact Finset.sum_congr rfl fun l _ => congr (congrArg HMul.hMul (b0_at m c t p l)) (b5_at m c t l k)
  · exact Finset.sum_congr rfl fun l _ => congr (congrArg HMul.hMul (b1_at m c t p l)) (b6_at m c t l k)

theorem blkH_at (t : Fin cfg0.N) (p : Fin 512) (j : Fin 1024) : blkH m c t (ix2 p j) = resid' m c (ix2 (row t p) j) := by
  refine (outH_at _ _ _ _ _ _ _ _ p j).trans ?_
  unfold resid' resid
  refine congr (congrArg HAdd.hAdd (b4_at m c t p j)) ?_
  exact Finset.sum_congr rfl fun k _ => congr (congrArg HMul.hMul (merged_blk m c t p k)) (b7_at m c t k j)

theorem blkT_at (t : Fin cfg0.N) (p : Fin 512) (a : Fin 8) (b : Fin 128) : blkT m c t (ix3 p a b) = toks' m c (ix3 (row t p) a b) := by
  refine (outT_at _ _ _ _ _ _ _ _ _ p a b).trans ?_
  unfold toks' toks rowOf
  exact congrFun (congr (congrArg unit (funext fun k => blkH_at m c t p k)) (funext fun k => b8_at m c t k)) _

theorem arr12 : (dats m 0 c).arrAt 12 cfg0.N = resid' m c := by
  refine (dats m 0 c).arrAt_eq_of_covers 12 _ (by decide +kernel) fun t hf y => ?_
  rw [after_h]
  have hy : ((cfg0.win 12).xinj (cfg0.grid.coords t) y : S512x1024.Idx) = ix2 (y 0) (y 1) := by
    funext a
    match a with
    | ⟨0, _⟩ => rfl
    | ⟨1, _⟩ => rfl
  refine ((congrArg (blkH m c t) hy).trans (blkH_at m c t (y 0) (y 1))).trans (congrArg (resid' m c) ?_)
  funext a
  fin_cases a <;> apply Fin.ext
  · show t.val * 512 + (y 0).val = cc0_transform_12 (grid0.coords t) 0 * 512 + 1 * (y 0).val
    rw [(tr12 t).1]; omega
  · show (y 1).val = cc0_transform_12 (grid0.coords t) 1 * 1024 + 1 * (y 1).val
    rw [(tr12 t).2]; omega

theorem arr13 : (dats m 0 c).arrAt 13 cfg0.N = toks' m c := by
  refine (dats m 0 c).arrAt_eq_of_covers 13 _ (by decide +kernel) fun t hf y => ?_
  rw [after_t]
  have hy : ((cfg0.win 13).xinj (cfg0.grid.coords t) y : S512x8x128.Idx) = ix3 (y 0) (y 1) (y 2) := by
    funext a
    match a with
    | ⟨0, _⟩ => rfl
    | ⟨1, _⟩ => rfl
    | ⟨2, _⟩ => rfl
  refine ((congrArg (blkT m c t) hy).trans (blkT_at m c t (y 0) (y 1) (y 2))).trans (congrArg (toks' m c) ?_)
  funext a
  fin_cases a <;> apply Fin.ext
  · show t.val * 512 + (y 0).val = cc0_transform_13 (grid0.coords t) 0 * 512 + 1 * (y 0).val
    rw [(tr13 t).1]; omega
  · show (y 1).val = cc0_transform_13 (grid0.coords t) 1 * 8 + 1 * (y 1).val
    rw [(tr13 t).2.1]; omega
  · show (y 2).val = cc0_transform_13 (grid0.coords t) 2 * 128 + 1 * (y 2).val
    rw [(tr13 t).2.2]; omega

/-- The run read at the two results. -/
theorem run_read : θ_run defs (onTc (τ := τ) (main (F := Ideal))) ⟨m, fun _ => 0, ρ⟩ (fun r =>
    ∀ c : Dev nD, r.2.mem ((c.tc : Thread nD τ).loc main_v23_0) = (resid' m c)
      ∧ r.2.mem ((c.tc : Thread nD τ).loc main_v23_1) = (toks' m c)) :=
  (θ_run defs _ _).mono (fun _ h c => ⟨((h.1 c).1 12).trans (arr12 m c), ((h.1 c).1 13).trans (arr13 m c)⟩) (run_main_quiescent m ρ)

end Cert.Kernel3Ideal.Hand
end
-- ==== Proof.MixRef.lean ====
/- The reference of the mix, entry by entry. -/
module

public import proofs.«01_k».proof.Proof.Gen.Reference3Ideal.Run
public import proofs.«01_k».proof.Proof.MixSpec
public import Idealize.ShloMosaic.Lib.IdealHost

@[expose] public section

set_option maxRecDepth 16384

noncomputable section

namespace Cert.Reference3Ideal.Hand

open Idealize.ShloMosaic Idealize.ShloMosaic.TcCoe Idealize.ShloMosaic.ValueIdx
open Cert.Reference3Ideal.Gen Cert.InProj Cert.Mix

variable (m : (ℓ : Loc nD τ sig) → Buf (Elt Ideal) ℓ) (c : Dev nD)

abbrev aA : S32768x1024.Idx → EReal := m ((c.tc : Thread nD τ).loc main_arg0)
abbrev aB : S32768x2048.Idx → EReal := m ((c.tc : Thread nD τ).loc main_arg1)
abbrev aP : S32768x11264.Idx → EReal := m ((c.tc : Thread nD τ).loc main_arg2)
abbrev aX : S8x4096x1024.Idx → EReal := m ((c.tc : Thread nD τ).loc main_arg3)
abbrev X2 : S32768x1024.Idx → EReal := shapeCast S32768x1024 (aX m c) shapeCasts_S8x4096x1024_S32768x1024
abbrev aWa : S1024x1024.Idx → EReal := m ((c.tc : Thread nD τ).loc main_arg4)
abbrev aWb : S2048x1024.Idx → EReal := m ((c.tc : Thread nD τ).loc main_arg5)
abbrev aWo : S1024x1024.Idx → EReal := m ((c.tc : Thread nD τ).loc main_arg6)
abbrev aN : S1024.Idx → EReal := m ((c.tc : Thread nD τ).loc main_arg7)

/-! ## The reference's steps by name -/

/-- The logistic of a gate. -/
def lgt (g : FVec Ideal S32768x1024 .bf16) : FVec Ideal S32768x1024 .f32 :=
  Host.divf (broadcastInDim S32768x1024 ![] bcast_S_S32768x1024 (constant S_ .f32 0x3F800000#32))
    (addf (broadcastInDim S32768x1024 ![] bcast_S_S32768x1024 (constant S_ .f32 0x3F800000#32))
      (Host.exp (Host.negf (extf .f32 g bitsLt_bf16_f32))))

/-- The gated sum of the branches' products. -/
def mergedR (A : FVec Ideal S32768x1024 .bf16) (B : FVec Ideal S32768x2048 .bf16) (P : FVec Ideal S32768x11264 .bf16)
    (wa : FVec Ideal S1024x1024 .f32) (wb : FVec Ideal S2048x1024 .f32) : FVec Ideal S32768x1024 .f32 :=
  addf (mulf (lgt (extractStridedSlice S32768x1024 ![0, 8192] P slices_S32768x11264_S32768x1024_0_8192))
      (Host.dotGeneral dot_S32768x1024_S1024x1024_S32768x1024_1_0_0_1_n_n none A wa))
    (mulf (lgt (extractStridedSlice S32768x1024 ![0, 9216] P slices_S32768x11264_S32768x1024_0_9216))
      (Host.dotGeneral dot_S32768x2048_S2048x1024_S32768x1024_1_0_0_1_n_n none B wb))

/-- The new residual rows. -/
def residR (A : FVec Ideal S32768x1024 .bf16) (B : FVec Ideal S32768x2048 .bf16) (P : FVec Ideal S32768x11264 .bf16)
    (X : FVec Ideal S32768x1024 .f32) (wa : FVec Ideal S1024x1024 .f32) (wb : FVec Ideal S2048x1024 .f32)
    (wo : FVec Ideal S1024x1024 .f32) : FVec Ideal S32768x1024 .f32 :=
  addf X (Host.dotGeneral dot_S32768x1024_S1024x1024_S32768x1024_1_0_0_1_n_n none (mergedR A B P wa wb) wo)

/-- The normalised rows. -/
def normed (X : FVec Ideal S32768x1024 .f32) (nw : FVec Ideal S1024 .f32) : FVec Ideal S32768x1024 .f32 :=
  mulf (mulf X (broadcastInDim S32768x1024 ![0, 1] bcast_S32768x1_S32768x1024_0_1 (Host.rsqrt (addf (Host.divf
    (broadcastInDim S32768x1 ![0] bcast_S32768_S32768x1_0 (Host.reduceAdd (mulf X X) (constant S_ .f32 0x00000000#32)
      reducesTo_S32768x1024_S32768_d1 h_S_)) (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 nw))

abbrev H : FVec Ideal S32768x1024 .f32 := residR (aA m c) (aB m c) (aP m c) (X2 m c) (aWa m c) (aWb m c) (aWo m c)

theorem res1_eq : Value.res_main_v38 m c
    = shapeCast S32768x8x128 (truncf .bf16 (normed (H m c) (aN m c)) bitsLt_bf16_f32) shapeCasts_S32768x1024_S32768x8x128 := by
  unfold Value.res_main_v38 normed H residR mergedR lgt
  rfl

/-! ## Their entries -/

theorem sq_sum (X : S32768x1024.Idx → EReal) (r : Fin 32768) :
    Host.reduceAdd (F := Ideal) (φ := .f32) (mulf (F := Ideal) (φ := .f32) X X) (constant S_ .f32 0x00000000#32)
      reducesTo_S32768x1024_S32768_d1 h_S_ (ix1 r) = ∑ k : Fin 1024, X (ix2 r k) * X (ix2 r k) := by
  have h : S32768x1024.Reduces [1] S32768 := by decide
  refine (Ideal.hostReduceAdd_single reducesTo_S32768x1024_S32768_d1 h (mulf (F := Ideal) (φ := .f32) X X)
    (Ideal.ofBits .f32 0x00000000#32) (ix1 r)).trans ?_
  rw [Ideal.ofBits_zero_f32, zero_add]
  refine Finset.sum_congr rfl fun k _ => ?_
  have e : (h.lift (ix1 r) k : S32768x1024.Idx) = ix2 r k := by
    funext a
    match a with
    | ⟨0, _⟩ => rfl
    | ⟨1, _⟩ => rfl
  rw [e]; rfl

theorem normed_at (X : S32768x1024.Idx → EReal) (nw : S1024.Idx → EReal) (r : Fin 32768) (k : Fin 1024) :
    normed X nw (ix2 r k) = rowOf X nw r k := by
  unfold normed rowOf unit scale
  refine congr (congrArg HMul.hMul (congrArg (X (ix2 r k) * ·) ?_)) ?_
  · refine (broadcastInDim_apply (s := S32768x1) (t := S32768x1024) ![0, 1] bcast_S32768x1_S32768x1024_0_1 _ (ix2 r k) (ix2 r 0) ?_).trans ?_
    · intro a
      match a with
      | ⟨0, _⟩ => rfl
      | ⟨1, _⟩ => rfl
    have e : broadcastInDim S32768x1 ![0] bcast_S32768_S32768x1_0 (Host.reduceAdd (F := Ideal) (φ := .f32) (mulf (F := Ideal) (φ := .f32) X X)
        (constant S_ .f32 0x00000000#32) reducesTo_S32768x1024_S32768_d1 h_S_) (ix2 r 0) = ∑ k : Fin 1024, X (ix2 r k) * X (ix2 r k) :=
      (broadcastInDim_apply (s := S32768) (t := S32768x1) ![0] bcast_S32768_S32768x1_0 _ (ix2 r 0) (ix1 r) (fun a => by
        match a with
        | ⟨0, _⟩ => rfl)).trans (sq_sum X r)
    exact congrArg (fun s => Ideal.rsqrt (Ideal.div s (Ideal.ofBits .f32 0x44800000#32) + Ideal.ofBits .f32 0x358637BD#32)) e
  · refine (broadcastInDim_apply (s := S1x1024) (t := S32768x1024) ![0, 1] bcast_S1x1024_S32768x1024_0_1 _ (ix2 r k) (ix2 0 k) ?_).trans
      (broadcastInDim_apply (s := S1024) (t := S1x1024) ![1] bcast_S1024_S1x1024_1 nw (ix2 0 k) (ix1 k) ?_)
    · intro a
      match a with
      | ⟨0, _⟩ => rfl
      | ⟨1, _⟩ => rfl
    · intro a
      match a with
      | ⟨0, _⟩ => rfl

theorem lgt_at (g : S32768x1024.Idx → EReal) (i : S32768x1024.Idx) : lgt g i = Ideal.logistic (g i) := by
  show Ideal.div (Ideal.ofBits .f32 0x3F800000#32) (Ideal.ofBits .f32 0x3F800000#32 + Ideal.exp (-(g i)))
    = Ideal.div 1 (1 + Ideal.exp (-(g i)))
  rw [Ideal.ofBits_one_f32]

theorem merged_at (A : S32768x1024.Idx → EReal) (B : S32768x2048.Idx → EReal) (P : S32768x11264.Idx → EReal)
    (wa : S1024x1024.Idx → EReal) (wb : S2048x1024.Idx → EReal) (r : Fin 32768) (k : Fin 1024) :
    mergedR A B P wa wb (ix2 r k) = merged A B P wa wb r k := by
  unfold mergedR merged
  have ea := (lgt_at (extractStridedSlice S32768x1024 ![0, 8192] P slices_S32768x11264_S32768x1024_0_8192) (ix2 r k)).trans
    (congrArg Ideal.logistic (cols P slices_S32768x11264_S32768x1024_0_8192 (by omega) r k.val k.isLt))
  have eb := (lgt_at (extractStridedSlice S32768x1024 ![0, 9216] P slices_S32768x11264_S32768x1024_0_9216) (ix2 r k)).trans
    (congrArg Ideal.logistic (cols P slices_S32768x11264_S32768x1024_0_9216 (by omega) r k.val k.isLt))
  have da := StackMember.dotGeneral_plain_apply (m := 32768) (k := 1024) (n := 1024) (φ₁ := .bf16) (φ₂ := .f32) none A wa r k
  have db := StackMember.dotGeneral_plain_apply (m := 32768) (k := 2048) (n := 1024) (φ₁ := .bf16) (φ₂ := .f32) none B wb r k
  exact congr (congrArg HAdd.hAdd (congr (congrArg HMul.hMul ea) da)) (congr (congrArg HMul.hMul eb) db)

theorem resid_at (A : S32768x1024.Idx → EReal) (B : S32768x2048.Idx → EReal) (P : S32768x11264.Idx → EReal) (X : S32768x1024.Idx → EReal)
    (wa : S1024x1024.Idx → EReal) (wb : S2048x1024.Idx → EReal) (wo : S1024x1024.Idx → EReal) :
    residR A B P X wa wb wo = resid A B P X wa wb wo := by
  funext i
  obtain ⟨r, j, rfl⟩ : ∃ r j, i = ix2 r j := ⟨i 0, i 1, by
    funext a
    match a with
    | ⟨0, _⟩ => rfl
    | ⟨1, _⟩ => rfl⟩
  unfold residR resid
  have d := StackMember.dotGeneral_plain_apply (m := 32768) (k := 1024) (n := 1024) (φ₁ := .f32) (φ₂ := .f32) none
    (mergedR A B P wa wb) wo r j
  refine congrArg (fun x : EReal => X (ix2 r j) + x) (d.trans ?_)
  exact Finset.sum_congr rfl fun k _ => congrArg (fun x : EReal => x * wo (ix2 k j)) (merged_at A B P wa wb r k)

theorem res1_toks : Value.res_main_v38 m c = toks (aA m c) (aB m c) (aP m c) (X2 m c) (aWa m c) (aWb m c) (aWo m c) (aN m c) := by
  rw [res1_eq]
  unfold H
  rw [resid_at]
  funext i
  have h1 : (i 1).val < 8 := (i 1).isLt
  have h2 : (i 2).val < 128 := (i 2).isLt
  refine (shapeCast_apply (s := S32768x1024) (t := S32768x8x128) _ _ i
    (ix2 (i 0) ⟨(i 1).val * 128 + (i 2).val, by omega⟩) ?_).trans (normed_at _ _ _ _)
  rw [Shape.rowMajor_val_three, Shape.rowMajor_val_two]
  show (i 0).val * 1024 + ((i 1).val * 128 + (i 2).val) = ((i 0).val * 8 + (i 1).val) * 128 + (i 2).val
  omega

end Cert.Reference3Ideal.Hand
end
-- ==== Proof.Zero.lean ====
/- The first grid point of the dispatch kernel fills the live tail blocks with zeros: one copy per
   live block, all on one semaphore, started one after another and then waited for one after another.
   This module proves what one guarded start and one guarded wait do, over any table contents. -/
module

public import proofs.«01_k».proof.Proof.Gen.KernelIdeal.Skeleton
public import proofs.«01_k».proof.Proof.Gen.KernelIdeal.Launch
public import Idealize.ShloMosaic.Lib.Claim
public import Idealize.ShloMosaic.Lib.Batch
public import Idealize.ShloMosaic.Lib.Ring
public import Idealize.ShloMosaic.Lib.PairWhole

@[expose] public section

set_option maxRecDepth 16384

noncomputable section

namespace Cert.KernelIdeal.Hand

open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- The two tables, the result and the block of zeros, as the body names them. -/
abbrev tabT : Memref sig .tc .smem S64 .i32 := Memref.whole main_v21
abbrev tabH : Memref sig .tc .smem S64 .i32 := Memref.whole main_v25
abbrev resM : Memref sig .tc .hbm S81920x8x128 .bf16 := Memref.whole main_v26
abbrev zerM : Memref sig .tc .vmem S512x8x128 .bf16 := Memref.whole cc0_scratch0

/-- Place `e` of a table (its number taken modulo the table's length). -/
def at64 (e : ℕ) : S64.Idx := fun a => ⟨e % 64, by fin_cases a; exact Nat.mod_lt _ (by decide)⟩
/-- Word `e` of a table. -/
def word (T : S64.Idx → BitVec 32) (e : ℕ) : BitVec 32 := T (at64 e)
/-- Entry `e` is to be filled: its count is positive. -/
def live (H : S64.Idx → BitVec 32) (e : ℕ) : Prop := k0_cond2 (word H e) = 1#1
instance (H : S64.Idx → BitVec 32) : DecidablePred (live H) := fun e => inferInstanceAs (Decidable (_ = _))
/-- The slots of a block that starts at slot `w`. -/
def blk (w : ℕ) : Finset S81920x8x128.Idx := Finset.univ.filter fun y => w ≤ (y 0).val ∧ (y 0).val < w + 512
theorem mem_blk (w : ℕ) (y : S81920x8x128.Idx) : y ∈ blk w ↔ w ≤ (y 0).val ∧ (y 0).val < w + 512 := by
  simp [blk]

/-- What the tables must satisfy: the live blocks lie inside the result, apart from one another. -/
structure TabOk (T H : S64.Idx → BitVec 32) : Prop where
  inside : ∀ e < 64, live H e → (word T e).toNat + 512 ≤ 81920
  apart : ∀ e < 64, ∀ e' < 64, live H e → live H e' → e ≠ e' → Disjoint (blk (word T e).toNat) (blk (word T e').toNat)

/-- How many of the first `e` entries are live. -/
def cnt (H : S64.Idx → BitVec 32) : ℕ → ℕ
  | 0 => 0
  | e + 1 => cnt H e + if live H e then 1 else 0
theorem cnt_succ_live {H : S64.Idx → BitVec 32} {e : ℕ} (h : live H e) : cnt H (e + 1) = cnt H e + 1 := by
  show cnt H e + (if live H e then 1 else 0) = _; rw [if_pos h]
theorem cnt_succ_dead {H : S64.Idx → BitVec 32} {e : ℕ} (h : ¬ live H e) : cnt H (e + 1) = cnt H e := by
  show cnt H e + (if live H e then 1 else 0) = _; rw [if_neg h]; rfl
theorem cnt_mono (H : S64.Idx → BitVec 32) {a b : ℕ} (h : a ≤ b) : cnt H a ≤ cnt H b := by
  induction b, h using Nat.le_induction with
  | base => exact le_rfl
  | succ n _ ih => exact ih.trans (Nat.le_add_right _ _)
theorem cnt_lt {H : S64.Idx → BitVec 32} {e n : ℕ} (hl : live H e) (h : e < n) : cnt H e < cnt H n := by
  have := cnt_mono H (Nat.succ_le_of_lt h)
  have h' := cnt_succ_live hl
  show cnt H e < _
  simp only [Nat.succ_eq_add_one] at this
  omega
theorem cnt_inj {H : S64.Idx → BitVec 32} {a b : ℕ} (ha : live H a) (hb : live H b) (h : cnt H a = cnt H b) : a = b := by
  rcases Nat.lt_trichotomy a b with h' | h' | h'
  · have := cnt_lt ha h'; omega
  · exact h'
  · have := cnt_lt hb h'; omega
theorem exists_of_lt_cnt {H : S64.Idx → BitVec 32} {j n : ℕ} (h : j < cnt H n) : ∃ e < n, live H e ∧ cnt H e = j := by
  induction n with
  | zero => exact absurd h (Nat.not_lt_zero _)
  | succ n ih =>
    by_cases hl : live H n
    · rw [cnt_succ_live hl] at h
      by_cases hj : j < cnt H n
      · obtain ⟨e, he, h'⟩ := ih hj; exact ⟨e, by omega, h'⟩
      · exact ⟨n, by omega, hl, by omega⟩
    · rw [cnt_succ_dead hl] at h
      obtain ⟨e, he, h'⟩ := ih h; exact ⟨e, by omega, h'⟩
open Classical in
/-- The live entry with `j` live entries before it. -/
def nth (H : S64.Idx → BitVec 32) (j : ℕ) : ℕ := if h : ∃ e, live H e ∧ cnt H e = j then h.choose else 0
theorem nth_cnt {H : S64.Idx → BitVec 32} {e : ℕ} (h : live H e) : nth H (cnt H e) = e := by
  have hx : ∃ e', live H e' ∧ cnt H e' = cnt H e := ⟨e, h, rfl⟩
  unfold nth; rw [dif_pos hx]
  exact cnt_inj hx.choose_spec.1 h hx.choose_spec.2

/-- The slots no live block among the first `e` entries covers. -/
def rest (T H : S64.Idx → BitVec 32) (e : ℕ) : Finset S81920x8x128.Idx :=
  Finset.univ.filter fun y => ∀ j < e, live H j → y ∉ blk (word T j).toNat
theorem mem_rest (T H : S64.Idx → BitVec 32) (e : ℕ) (y : S81920x8x128.Idx) :
    y ∈ rest T H e ↔ ∀ j < e, live H j → y ∉ blk (word T j).toNat := by simp [rest]

/-- The zero the kernel stores. -/
def zero16 : F .bf16 := Scalar.ofBits .bf16 0x0000#16
theorem pay1_eq (x : S512x8x128.Idx) : k0_pay1 (F := F) x = zero16 := rfl

/-- The result after the fills: zero on the live blocks, elsewhere as before. -/
def filled (T H : S64.Idx → BitVec 32) (X : S81920x8x128.Idx → Elt F .bf16) : S81920x8x128.Idx → Elt F .bf16 :=
  fun y => if y ∈ rest T H 64 then X y else zero16

/-- A word read off a table. -/
theorem read_H (f : S64.Idx → BitVec 32) (e : ℕ) (he : e < 64) (hin) (x) :
    (tabH.access (Rect.unit (s := S64) ![e] S1.size hin)).read (Elt F) f x = word f e := by
  refine congrArg f ?_
  funext a; fin_cases a; apply Fin.ext
  have := (x 0).isLt
  show e + 1 * (x 0).val = e % 64
  have h1 : (x 0).val < 1 := this
  omega
theorem read_T (f : S64.Idx → BitVec 32) (e : ℕ) (he : e < 64) (hin) (x) :
    (tabT.access (Rect.unit (s := S64) ![e] S1.size hin)).read (Elt F) f x = word f e := by
  refine congrArg f ?_
  funext a; fin_cases a; apply Fin.ext
  have := (x 0).isLt
  show e + 1 * (x 0).val = e % 64
  have h1 : (x 0).val < 1 := this
  omega

/-- The kernel's own check of a block's address. -/
theorem chk_ok (i : grid0.Coords) (v w : BitVec 32) (h : k0_cond2 v = 1#1 → w.toNat + 512 ≤ 81920) :
    k0_chk1 i v w := by
  have hin : k0_cond2 v = 1#1 → ∀ a, k0_off1 w a + S512x8x128.size a ≤ S81920x8x128.size a := by
    intro h2 a
    have := h h2
    fin_cases a
    · show w.toNat + 512 ≤ 81920; exact this
    · show 0 + 8 ≤ 8; omega
    · show 0 + 128 ≤ 128; omega
  refine ⟨fun _ h2 => hin h2, fun _ h2 hinb => ?_⟩
  exact (Rect.wholeRows_unit (s := S81920x8x128) (inb := hinb) (by decide) rfl rfl).wholeWords _

/-- The elements of a block of the result. -/
theorem slice_set (w : BitVec 32) (hin) (hr) :
    (resM.slice (Rect.unit (s := S81920x8x128) (k0_off1 w) S512x8x128.size hin) hr).view.set = blk w.toNat := by
  ext y
  rw [show (resM.slice (Rect.unit (s := S81920x8x128) (k0_off1 w) S512x8x128.size hin) hr).view.set
    = (Rect.unit (s := S81920x8x128) (k0_off1 w) S512x8x128.size hin).set from View.set_slice_whole _ _, Rect.mem_set_unit, mem_blk]
  constructor
  · intro h; have := h 0; exact ⟨this.1, this.2⟩
  · rintro ⟨h1, h2⟩ a
    fin_cases a
    · exact ⟨h1, h2⟩
    · exact ⟨Nat.zero_le _, by have h : (y 1).val < 8 := (y 1).isLt; show (y 1).val < 0 + 8; omega⟩
    · exact ⟨Nat.zero_le _, by have h : (y 2).val < 128 := (y 2).isLt; show (y 2).val < 0 + 128; omega⟩

/-- One block's copy on its semaphore: the units it credits. -/
def NZ : ℕ := (resM.slice (Rect.unit (s := S81920x8x128) (k0_off1 0#32) S512x8x128.size (by decide)) (fun _ => rfl)).view.dmaCredit
theorem NZ_pos : 0 < NZ := View.dmaCredit_pos _ (by decide)

theorem credit_eq (w : BitVec 32) (hin hr) : (resM.slice (Rect.unit (s := S81920x8x128) (k0_off1 w) S512x8x128.size hin) hr).view.dmaCredit = NZ := rfl

/-- The semaphore of the fills. -/
abbrev semZ : SemLoc sig := SemLoc.dma cc0_scratch2.sem

section Names

variable (c : Dev nD) (T H : S64.Idx → BitVec 32) (X : S81920x8x128.Idx → Elt F .bf16)

/-- What fill number `j` hands back: its block at its final contents, and the share of the zeros it read with. -/
def zD (j : ℕ) : sProp 𝕄 :=
  iprop((resM.view.loc (c : Thread nD τ) ↦[blk (word T (nth H j)).toNat]{fullShare} filled T H X)
    ∗ (zerM.view.loc (c : Thread nD τ) ↦[zerM.view.set]{Transfers.shareTokN fullShare j} (fun _ => zero16 (F := F))))
instance zD_storable (j : ℕ) : BI.Storable (upEmb : UEmb _ 𝕄) (zD c T H X j) := by unfold zD; infer_instance
/-- The batch of the fills. -/
def zBatch (j u : ℕ) : sProp 𝕄 :=
  Transfers.Batch (n := cnt H 64) (countersEmb (U := Pipeline.UD sig nD τ)) (c : Thread nD τ) semZ () NZ (fun j => zD c T H X j.val) j u
/-- The tables, each at the share the body holds. -/
def tabs : sProp 𝕄 :=
  iprop((tabT.view.loc (c : Thread nD τ) ↦{fullShare.right} T) ∗ (tabH.view.loc (c : Thread nD τ) ↦{fullShare.right} H))
/-- The share of the zeros no fill borrows. -/
def zRest : sProp 𝕄 := iprop(zerM.view.loc (c : Thread nD τ) ↦[zerM.view.set]{Transfers.shareDrop fullShare (cnt H 64)} (fun _ => zero16 (F := F)))
/-- The waits recorded so far, whichever they are, and whatever else is held meanwhile. -/
def owed (R : sProp 𝕄) : sProp 𝕄 := iprop((∃ W, owes (c : Thread nD τ) 0 W) ∗ R)
/-- Between the starts: the tables, the shares not yet lent, the part of the result not yet lent, the batch so far. -/
def SI (R : sProp 𝕄) (e : ℕ) : sProp 𝕄 :=
  iprop(tabs (F := F) c T H ∗ zRest (F := F) c H
    ∗ bigSep (Ring.rangeSet (cnt H 64) (cnt H e) (cnt H 64)) (fun j => (zerM.view.loc (c : Thread nD τ) ↦[zerM.view.set]{Transfers.shareTokN fullShare j.val} (fun _ => zero16 (F := F))))
    ∗ (resM.view.loc (c : Thread nD τ) ↦[rest T H e]{fullShare} X)
    ∗ zBatch c T H X (cnt H e) 0 ∗ owed (F := F) c R)
/-- Between the waits: the tables, the part of the result not lent, the batch with the waits so far. -/
def SW (R : sProp 𝕄) (e : ℕ) : sProp 𝕄 :=
  iprop(tabs (F := F) c T H ∗ zRest (F := F) c H ∗ (resM.view.loc (c : Thread nD τ) ↦[rest T H 64]{fullShare} X)
    ∗ zBatch c T H X (cnt H 64) (cnt H e * NZ) ∗ owed (F := F) c R)

end Names

section Steps

variable {c : Dev nD} {T H : S64.Idx → BitVec 32} {X : S81920x8x128.Idx → Elt F .bf16}
variable {α : Type}

theorem smemLoad_bind {m : Memref sig .tc .smem S64 .i32} {r : Rect S64} {h1 hp} (k : Elt F .i32 → Prog (TpuEff nD τ sig (Elt F) Λ₀ .tc) α) :
    smemLoad m r h1 hp >>= k = smemLoadElt m r (View.loads_smem_one hp h1) (Shape.Idx.first (h1.symm ▸ Nat.one_pos)) k := rfl

/-- A guard, by its two cases. -/
theorem wp_dite {Φ : α → sProp 𝕄} {R : sProp 𝕄} {P : Prop} [Decidable P] {A : P → Prog (TpuEff nD τ sig (Elt F) Λ₀ .tc) α} {B : ¬ P → Prog (TpuEff nD τ sig (Elt F) Λ₀ .tc) α}
    (hA : ∀ h, R ⊢ wp frame (wpE (defs₀ (F := F)) Variants.none c none) Set.univ (A h) Φ)
    (hB : ∀ h, R ⊢ wp frame (wpE (defs₀ (F := F)) Variants.none c none) Set.univ (B h) Φ) :
    R ⊢ wp frame (wpE (defs₀ (F := F)) Variants.none c none) Set.univ (dite P A B) Φ := by
  by_cases h : P
  · rw [dif_pos h]; exact hA h
  · rw [dif_neg h]; exact hB h

/-- Reading an entry of the second table, whatever else is held. -/
theorem load_H {Φ : α → sProp 𝕄} {e : ℕ} (he : e < 64) {R : sProp 𝕄} {hin h1 hp} {k : Elt F .i32 → Prog (TpuEff nD τ sig (Elt F) Λ₀ .tc) α}
    (h : iprop(tabs (F := F) c T H ∗ R) ⊢ wp frame (wpE (defs₀ (F := F)) Variants.none c none) Set.univ (k (word H e)) Φ) :
    iprop(tabs (F := F) c T H ∗ R) ⊢ wp frame (wpE (defs₀ (F := F)) Variants.none c none) Set.univ
      (smemLoad tabH (Rect.unit (s := S64) ![e] S1.size hin) h1 hp >>= k) Φ := by
  rw [smemLoad_bind]
  unfold tabs at h ⊢
  iintro ⟨⟨HT, HH⟩, HR⟩
  iapply (wp_smemLoadElt (defs := defs₀ (F := F)) Variants.none (c : Thread nD τ) none Set.univ (m := tabH) (r := Rect.unit (s := S64) ![e] S1.size hin) (S := Finset.univ) (Finset.subset_univ _)) $$ HH
  rw [read_H H e he]
  iintro HH
  iapply h
  isplitr [HR]; swap; · iexact HR
  isplitl [HT]; · iexact HT
  iexact HH
theorem load_T {Φ : α → sProp 𝕄} {e : ℕ} (he : e < 64) {R : sProp 𝕄} {hin h1 hp} {k : Elt F .i32 → Prog (TpuEff nD τ sig (Elt F) Λ₀ .tc) α}
    (h : iprop(tabs (F := F) c T H ∗ R) ⊢ wp frame (wpE (defs₀ (F := F)) Variants.none c none) Set.univ (k (word T e)) Φ) :
    iprop(tabs (F := F) c T H ∗ R) ⊢ wp frame (wpE (defs₀ (F := F)) Variants.none c none) Set.univ
      (smemLoad tabT (Rect.unit (s := S64) ![e] S1.size hin) h1 hp >>= k) Φ := by
  rw [smemLoad_bind]
  unfold tabs at h ⊢
  iintro ⟨⟨HT, HH⟩, HR⟩
  iapply (wp_smemLoadElt (defs := defs₀ (F := F)) Variants.none (c : Thread nD τ) none Set.univ (m := tabT) (r := Rect.unit (s := S64) ![e] S1.size hin) (S := Finset.univ) (Finset.subset_univ _)) $$ HT
  rw [read_T T e he]
  iintro HT
  iapply h
  isplitr [HR]; swap; · iexact HR
  isplitl [HT]; · iexact HT
  iexact HH

/-- The block left to lend splits off the next live block. -/
theorem rest_split (hok : TabOk T H) {e : ℕ} (he : e < 64) (hl : live H e) :
    rest T H e = blk (word T e).toNat ∪ rest T H (e + 1) ∧ Disjoint (blk (word T e).toNat) (rest T H (e + 1)) := by
  constructor
  · ext y
    rw [Finset.mem_union, mem_rest, mem_rest]
    constructor
    · intro h
      by_cases hy : y ∈ blk (word T e).toNat
      · exact .inl hy
      · refine .inr fun j hj hjl => ?_
        rcases Nat.lt_succ_iff_lt_or_eq.mp hj with h' | rfl
        · exact h j h' hjl
        · exact hy
    · rintro (hy | h) j hj hjl
      · exact Finset.disjoint_left.mp (hok.apart e he j (hj.trans he) hl hjl (by omega)) hy
      · exact h j (by omega) hjl
  · rw [Finset.disjoint_left]
    intro y hy hr
    exact (mem_rest T H _ y).mp hr e (Nat.lt_succ_self e) hl hy
theorem rest_dead {e : ℕ} (hl : ¬ live H e) : rest T H (e + 1) = rest T H e := by
  ext y; rw [mem_rest, mem_rest]
  constructor
  · intro h j hj; exact h j (by omega)
  · intro h j hj hjl
    rcases Nat.lt_succ_iff_lt_or_eq.mp hj with h' | rfl
    · exact h j h' hjl
    · exact absurd hjl hl

/-- The result with a block written with zeros is the filled result, on that block. -/
theorem filled_eq (hok : TabOk T H) {e : ℕ} (he : e < 64) (hl : live H e) (hin hr) :
    ∀ y ∈ blk (word T e).toNat, filled T H X y
      = (resM.slice (Rect.unit (s := S81920x8x128) (k0_off1 (word T e)) S512x8x128.size hin) hr).view.write (Elt F) X (fun _ => zero16 (F := F)) Finset.univ y := by
  intro y hy
  have hm := hy
  rw [← slice_set (word T e) hin hr] at hm
  obtain ⟨x, -, rfl⟩ := Finset.mem_map.mp hm
  rw [View.write_emb_of_mem _ _ (Finset.mem_univ _)]
  unfold filled
  rw [if_neg]
  · rfl
  intro hn
  exact (mem_rest T H 64 _).mp hn e he hl hy

/-- What a fill hands back is what its number promises. -/
theorem filled_give (hok : TabOk T H) {e : ℕ} (he : e < 64) (hl : live H e) (hin hr) :
    iprop(((resM.slice (Rect.unit (s := S81920x8x128) (k0_off1 (word T e)) S512x8x128.size hin) hr).view.loc (c : Thread nD τ) ↦[blk (word T e).toNat]{fullShare}
          ((resM.slice (Rect.unit (s := S81920x8x128) (k0_off1 (word T e)) S512x8x128.size hin) hr).view.write (Elt F) X (fun _ => zero16 (F := F)) Finset.univ))
        ∗ (zerM.view.loc (c : Thread nD τ) ↦[zerM.view.set]{Transfers.shareTokN fullShare (cnt H e)} (fun _ => zero16 (F := F)))) ⊢ (zD c T H X (cnt H e) : sProp 𝕄) := by
  unfold zD
  rw [nth_cnt hl]
  exact sep_mono (Entails.of_eq (pointsTo_congr fun y hy => (filled_eq hok he hl hin hr y hy).symm)) .rfl

/-- One guarded start: entry `e` is read, and if it is live its block is lent to a copy of the zeros. -/
theorem issue_guard {R : sProp 𝕄} {Φ : α → sProp 𝕄} (hok : TabOk T H) {e : ℕ} (he : e < 64) {i : grid0.Coords} {k0_h1 : k0_cond1 i = 1#1}
    {hin h1 hp hsrc} {hdst : ∀ w a h, _}
    {p : Prog (TpuEff nD τ sig (Elt F) Λ₀ .tc) α}
    (h : SI c T H X R (e + 1) ⊢ wp frame (wpE (defs₀ (F := F)) Variants.none c none) Set.univ p Φ) :
    SI c T H X R e ⊢ wp frame (wpE (defs₀ (F := F)) Variants.none c none) Set.univ
      (dite (k0_cond2 (word H e) = 1#1)
        (fun hc => smemLoad tabT (Rect.unit (s := S64) ![e] S1.size hin) h1 hp >>= fun w =>
          Prog.lift (TpuEff.assume (k0_chk1 i (word H e) w) (k0_chk1.dec i (word H e) w)) >>= fun a =>
          Prog.lift (.enqueueDma zerM (.here (resM.slice (Rect.unit (s := S81920x8x128) (k0_off1 w) S512x8x128.size (k0_off1_inb i (word H e) w a.down k0_h1 hc)) (fun _ => rfl)))
            (.dma cc0_scratch2.sem) hsrc (hdst w a hc) ⟨Or.inl rfl, trivial⟩) >>= fun _ => p)
        (fun _ => p)) Φ := by
  refine wp_dite (fun hl => ?_) (fun hl => ?_)
  · replace hl : live H e := hl
    unfold SI
    refine load_T he ?_
    have hc := chk_ok i (word H e) (word T e) (fun hc => hok.inside e he hc)
    refine Entails.trans ?_ (wp_assume (defs := defs₀ (F := F)) Variants.none (c : Thread nD τ) none Set.univ hc)
    have hlt : cnt H e < cnt H 64 := cnt_lt hl he
    obtain ⟨hr, hdj⟩ := rest_split hok he hl
    rw [Ring.bigSep_rangeSet_head hlt hlt, hr]
    refine Entails.trans ?_ (Entails.of_eq rfl : wp frame (wpE (defs₀ (F := F)) Variants.none c none) Set.univ
      (.op (.enqueueDma zerM (.here (resM.slice (Rect.unit (s := S81920x8x128) (k0_off1 (word T e)) S512x8x128.size (k0_off1_inb i (word H e) (word T e) hc k0_h1 hl)) (fun _ => rfl)))
            (.dma cc0_scratch2.sem) hsrc (hdst (word T e) ⟨hc⟩ hl) ⟨Or.inl rfl, trivial⟩) (fun _ => p)) Φ ⊢ _)
    have hb := Transfers.wp_dmaBatch (defs := defs₀ (F := F)) (countersEmb (U := Pipeline.UD sig nD τ)) Variants.none (c : Thread nD τ) none (Q := Φ)
      (k := fun _ => p) (D := fun j : Fin (cnt H 64) => zD c T H X j.val) (u := 0) (src := zerM) (via := .same) (dst := resM.slice (Rect.unit (s := S81920x8x128) (k0_off1 (word T e)) S512x8x128.size (k0_off1_inb i (word H e) (word T e) hc k0_h1 hl)) (fun _ => rfl)) (sm := .dma cc0_scratch2.sem) (q := Transfers.shareTokN fullShare (cnt H e)) (fs := fun _ => zero16 (F := F)) (Sd := blk (word T e).toNat) (fd := X) (hsrc := hsrc) (hdst := hdst (word T e) ⟨hc⟩ hl) (hsem := ⟨Or.inl rfl, trivial⟩)
      () NZ (credit_eq (word T e) _ _) (slice_set (word T e) _ _).subset hlt (Nat.zero_le _) (filled_give hok he hl _ _)
    unfold zBatch
    iintro ⟨HT, HZ, ⟨Hz, Hzs⟩, Hr, HB, HW⟩
    ihave Hr' := (pointsTo_union hdj).1 $$ Hr
    icases Hr' with ⟨Hb, Hr⟩
    iapply hb $$ [Hz Hb HB]
    · isplitl [Hz]; · iexact Hz
      isplitl [Hb]; · iexact Hb
      iexact HB
    iintro HB
    iapply h
    unfold SI zBatch
    rw [cnt_succ_live hl]
    isplitl [HT]; · iexact HT
    isplitl [HZ]; · iexact HZ
    isplitl [Hzs]; · iexact Hzs
    isplitl [Hr]; · iexact Hr
    isplitl [HB]; · iexact HB
    iexact HW
  · replace hl : ¬ live H e := hl
    refine Entails.trans ?_ h
    unfold SI
    rw [rest_dead hl, cnt_succ_dead hl]

/-- One guarded wait: entry `e` is read, and if it is live one fill is waited for. -/
theorem wait_guard {R : sProp 𝕄} {Φ : α → sProp 𝕄} (hok : TabOk T H) {e : ℕ} (he : e < 64) {i : grid0.Coords} {k0_h1 : k0_cond1 i = 1#1}
    {hin h1 hp hsrc} {hdst : ∀ w a h, _}
    {p : Prog (TpuEff nD τ sig (Elt F) Λ₀ .tc) α}
    (h : SW c T H X R (e + 1) ⊢ wp frame (wpE (defs₀ (F := F)) Variants.none c none) Set.univ p Φ) :
    SW c T H X R e ⊢ wp frame (wpE (defs₀ (F := F)) Variants.none c none) Set.univ
      (dite (k0_cond2 (word H e) = 1#1)
        (fun hc => smemLoad tabT (Rect.unit (s := S64) ![e] S1.size hin) h1 hp >>= fun w =>
          Prog.lift (TpuEff.assume (k0_chk1 i (word H e) w) (k0_chk1.dec i (word H e) w)) >>= fun a =>
          Prog.lift (.waitDma2 cc0_scratch2.sem zerM (resM.slice (Rect.unit (s := S81920x8x128) (k0_off1 w) S512x8x128.size (k0_off1_inb i (word H e) w a.down k0_h1 hc)) (fun _ => rfl))
            hsrc (hdst w a hc)) >>= fun _ => p)
        (fun _ => p)) Φ := by
  refine wp_dite (fun hl => ?_) (fun hl => ?_)
  · replace hl : live H e := hl
    unfold SW
    refine load_T he ?_
    have hc := chk_ok i (word H e) (word T e) (fun hc => hok.inside e he hc)
    refine Entails.trans ?_ (wp_assume (defs := defs₀ (F := F)) Variants.none (c : Thread nD τ) none Set.univ hc)
    have hlt : cnt H e < cnt H 64 := cnt_lt hl he
    refine Entails.trans ?_ (Entails.of_eq rfl : wp frame (wpE (defs₀ (F := F)) Variants.none c none) Set.univ
      (.op (.waitDma2 cc0_scratch2.sem zerM (resM.slice (Rect.unit (s := S81920x8x128) (k0_off1 (word T e)) S512x8x128.size (k0_off1_inb i (word H e) (word T e) hc k0_h1 hl)) (fun _ => rfl))
            hsrc (hdst (word T e) ⟨hc⟩ hl)) (fun _ => p)) Φ ⊢ _)
    unfold owed
    iintro ⟨HT, HZ, Hr, HB, ⟨⟨%W, HW⟩, HR⟩⟩
    have hb := Transfers.wp_waitBatchMul (defs := defs₀ (F := F)) (countersEmb (U := Pipeline.UD sig nD τ)) Variants.none (c : Thread nD τ) none (Q := Φ)
      (k := fun _ => p) (D := fun j : Fin (cnt H 64) => zD c T H X j.val) (sem := cc0_scratch2.sem) (u := cnt H e * NZ) (j := cnt H 64) (srcw := zerM) (hsrc := hsrc) (hdst := hdst (word T e) ⟨hc⟩ hl)
      (N := NZ) (W := W) () 1 ((credit_eq (word T e) _ _).trans (Nat.one_mul _).symm) (by rw [← Nat.add_mul, Nat.mul_comm NZ]; exact Nat.mul_le_mul_right _ hlt)
    unfold zBatch
    iapply hb $$ [HB HW]
    · isplitl [HB]; · iexact HB
      iexact HW
    iintro ⟨HB, HW⟩
    iapply h
    unfold SW zBatch owed
    rw [cnt_succ_live hl, Nat.add_mul]
    isplitl [HT]; · iexact HT
    isplitl [HZ]; · iexact HZ
    isplitl [Hr]; · iexact Hr
    isplitl [HB]; · iexact HB
    isplitl [HW]; · iexists _; iexact HW
    iexact HR
  · replace hl : ¬ live H e := hl
    refine Entails.trans ?_ h
    unfold SW
    rw [cnt_succ_dead hl]

/-- Between two guards the next entry is read. -/
theorem SI_load {R : sProp 𝕄} {Φ : α → sProp 𝕄} {a e : ℕ} (he : e < 64) {hin h1 hp} {k : Elt F .i32 → Prog (TpuEff nD τ sig (Elt F) Λ₀ .tc) α}
    (h : SI c T H X R a ⊢ wp frame (wpE (defs₀ (F := F)) Variants.none c none) Set.univ (k (word H e)) Φ) :
    SI c T H X R a ⊢ wp frame (wpE (defs₀ (F := F)) Variants.none c none) Set.univ
      (smemLoad tabH (Rect.unit (s := S64) ![e] S1.size hin) h1 hp >>= k) Φ := load_H he h
theorem SW_load {R : sProp 𝕄} {Φ : α → sProp 𝕄} {a e : ℕ} (he : e < 64) {hin h1 hp} {k : Elt F .i32 → Prog (TpuEff nD τ sig (Elt F) Λ₀ .tc) α}
    (h : SW c T H X R a ⊢ wp frame (wpE (defs₀ (F := F)) Variants.none c none) Set.univ (k (word H e)) Φ) :
    SW c T H X R a ⊢ wp frame (wpE (defs₀ (F := F)) Variants.none c none) Set.univ
      (smemLoad tabH (Rect.unit (s := S64) ![e] S1.size hin) h1 hp >>= k) Φ := load_H he h

/-- Two programs one after the other, the first's result known by `I`. -/
theorem wp_seq {R : sProp 𝕄} {β : Type} {Φ : α → sProp 𝕄} {p : Prog (TpuEff nD τ sig (Elt F) Λ₀ .tc) β} {k : β → Prog (TpuEff nD τ sig (Elt F) Λ₀ .tc) α} {S : sProp 𝕄} (I : β → Prop)
    (h : R ⊢ wp frame (wpE (defs₀ (F := F)) Variants.none c none) Set.univ p (fun r => iprop(⌜I r⌝ ∗ S)))
    (hk : ∀ r, I r → (S ⊢ wp frame (wpE (defs₀ (F := F)) Variants.none c none) Set.univ (k r) Φ)) :
    R ⊢ wp frame (wpE (defs₀ (F := F)) Variants.none c none) Set.univ (p >>= k) Φ := by
  refine h.trans ?_
  rw [wp_bind]
  refine wp_mono _ _ _ fun r => ?_
  iintro ⟨%hI, H⟩
  iapply (hk r hI)
  iexact H
/-- The end of a stretch of the program. -/
theorem wp_end {R : sProp 𝕄} {I : α → Prop} {r : α} (h : I r) :
    R ⊢ wp frame (wpE (defs₀ (F := F)) Variants.none c none) Set.univ (pure r : Prog (TpuEff nD τ sig (Elt F) Λ₀ .tc) α) (fun r => iprop(⌜I r⌝ ∗ R)) := by
  rw [wp_pure]
  iintro H
  imodintro
  isplitr; · ipureintro; exact h
  iexact H

/-- All fills started: the waits begin. -/
theorem SI_SW {R : sProp 𝕄} : SI c T H X R 64 ⊢ (SW c T H X R 0 : sProp 𝕄) := by
  unfold SI SW
  rw [Ring.bigSep_rangeSet_empty le_rfl, show cnt H 0 * NZ = 0 from Nat.zero_mul _]
  iintro ⟨HT, HZ, -, H⟩
  isplitl [HT]; · iexact HT
  isplitl [HZ]; · iexact HZ
  iexact H

/-- What the fills leave. -/
def zDone (c : Dev nD) (T H : S64.Idx → BitVec 32) (X : S81920x8x128.Idx → Elt F .bf16) (R : sProp 𝕄) : sProp 𝕄 :=
  iprop(tabs (F := F) c T H ∗ (zerM.view.loc (c : Thread nD τ) ↦{fullShare} (fun _ => zero16 (F := F)))
    ∗ (resM.view.loc (c : Thread nD τ) ↦{fullShare} filled T H X) ∗ semVal ((c : Thread nD τ), semZ) 0 ∗ owed (F := F) c R)

/-- The blocks filled and the rest are the whole result. -/
theorem fills_cover (hok : TabOk T H) :
    (Finset.univ : Finset (Fin (cnt H 64))).biUnion (fun j => blk (word T (nth H j.val)).toNat) ∪ rest T H 64 = Finset.univ := by
  ext y
  simp only [Finset.mem_union, Finset.mem_biUnion, Finset.mem_univ, true_and, iff_true]
  by_cases hy : y ∈ rest T H 64
  · exact .inr hy
  · rw [mem_rest] at hy
    push Not at hy
    obtain ⟨e, he, hl, hb⟩ := hy
    exact .inl ⟨⟨cnt H e, cnt_lt hl he⟩, by rw [nth_cnt hl]; exact hb⟩
theorem fills_apart (hok : TabOk T H) : Disjoint ((Finset.univ : Finset (Fin (cnt H 64))).biUnion (fun j => blk (word T (nth H j.val)).toNat)) (rest T H 64) := by
  rw [Finset.disjoint_left]
  intro y hy hr
  obtain ⟨j, -, hb⟩ := Finset.mem_biUnion.mp hy
  obtain ⟨e, he, hl, hj⟩ := exists_of_lt_cnt j.isLt
  rw [← hj, nth_cnt hl] at hb
  exact (mem_rest T H 64 y).mp hr e he hl hb
theorem fills_pairwise (hok : TabOk T H) (i j : Fin (cnt H 64)) (h : i ≠ j) :
    Disjoint (blk (word T (nth H i.val)).toNat) (blk (word T (nth H j.val)).toNat) := by
  obtain ⟨e, he, hl, hi⟩ := exists_of_lt_cnt i.isLt
  obtain ⟨e', he', hl', hj⟩ := exists_of_lt_cnt j.isLt
  rw [← hi, ← hj, nth_cnt hl, nth_cnt hl']
  refine hok.apart e he e' he' hl hl' ?_
  rintro rfl
  exact h (Fin.ext (hi.symm.trans hj))

theorem fills_join (hok : TabOk T H) :
    iprop((resM.view.loc (c : Thread nD τ) ↦[(Finset.univ : Finset (Fin (cnt H 64))).biUnion (fun j => blk (word T (nth H j.val)).toNat)]{fullShare} filled T H X)
      ∗ (resM.view.loc (c : Thread nD τ) ↦[rest T H 64]{fullShare} X)) ⊢ (resM.view.loc (c : Thread nD τ) ↦{fullShare} filled T H X : sProp 𝕄) := by
  rw [pointsTo_congr (ℓ := resM.view.loc (c : Thread nD τ)) (I := rest T H 64) (f := X) (g := filled T H X)
      (fun y hy => by unfold filled; rw [if_pos hy])]
  refine (pointsTo_union (ℓ := resM.view.loc (c : Thread nD τ)) (fills_apart hok)).2.trans ?_
  rw [fills_cover hok]

/-- All waits done: the fills are in. -/
theorem SW_done {R : sProp 𝕄} (hok : TabOk T H) : SW c T H X R 64 ⊢ (iprop(|={Set.univ}=> zDone c T H X R) : sProp 𝕄) := by
  unfold SW zBatch zDone zRest
  rw [Nat.mul_comm]
  iintro ⟨HT, HZ, Hr, HB, HW⟩
  imod (Transfers.batch_collect' (countersEmb (U := Pipeline.UD sig nD τ)) (c : Thread nD τ) (sm := semZ) (ι := ()) (n := cnt H 64) (D := fun j => zD c T H X j.val) NZ_pos) $$ HB with ⟨HD, Hs⟩
  imodintro
  isplitl [HT]; · iexact HT
  have h1 : (bigSep Finset.univ (fun j : Fin (cnt H 64) => zD c T H X j.val) : sProp 𝕄)
      = iprop((resM.view.loc (c : Thread nD τ) ↦[(Finset.univ : Finset (Fin (cnt H 64))).biUnion (fun j => blk (word T (nth H j.val)).toNat)]{fullShare} filled T H X)
        ∗ bigSep (Finset.range (cnt H 64)) (fun j => (zerM.view.loc (c : Thread nD τ) ↦[zerM.view.set]{Transfers.shareTokN fullShare j} (fun _ => zero16 (F := F))))) := by
    unfold zD
    rw [BI.bigSep_sep', ← pointsTo_biUnion (ℓ := resM.view.loc (c : Thread nD τ)) Finset.univ (fun j : Fin (cnt H 64) => blk (word T (nth H j.val)).toNat) (fun i _ j _ h => fills_pairwise hok i j h)]
    congr 1
    exact Ring.bigSep_fin_eq_range (cnt H 64) _ _ fun t h => rfl
  ihave HD' := (Entails.of_eq h1) $$ HD
  icases HD' with ⟨HD, Ht⟩
  isplitl [HZ Ht]
  · rw [show (zerM.view.set : Finset S512x8x128.Idx) = Finset.univ from View.set_whole _]
    iapply (Transfers.pointsTo_toks_range (ℓ := zerM.view.loc (c : Thread nD τ)) fullShare (cnt H 64)).2
    isplitl [HZ]; · iexact HZ
    iexact Ht
  isplitl [Hr HD]
  · iapply (fills_join hok)
    isplitl [HD]; · iexact HD
    iexact Hr
  isplitl [Hs]; · iexact Hs
  iexact HW

end Steps

end Cert.KernelIdeal.Hand

end
-- ==== Proof.Parts.lean ====
/- The fills of the first grid point, stretch by stretch as the program is printed: each stretch takes the
   fills from one count to another. -/
module

public import proofs.«01_k».proof.Proof.Zero

@[expose] public section

set_option maxRecDepth 16384

noncomputable section

namespace Cert.KernelIdeal.Hand

open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable {c : Dev nD} {T H : S64.Idx → BitVec 32} {X : S81920x8x128.Idx → Elt F .bf16}

/-- What the first grid point starts from. -/
def zStart (c : Dev nD) (T H : S64.Idx → BitVec 32) (X : S81920x8x128.Idx → Elt F .bf16) (R : sProp 𝕄) : sProp 𝕄 :=
  iprop(tabs (F := F) c T H ∗ (∃ f, zerM.view.loc (c : Thread nD τ) ↦{fullShare} f)
    ∗ (resM.view.loc (c : Thread nD τ) ↦{fullShare} X) ∗ semVal ((c : Thread nD τ), semZ) 0 ∗ owed (F := F) c R)

theorem rest_zero (T H : S64.Idx → BitVec 32) : rest T H 0 = Finset.univ := by
  ext y; rw [mem_rest]; simp

theorem SI_start {R : sProp 𝕄} : iprop(tabs (F := F) c T H ∗ (zerM.view.loc (c : Thread nD τ) ↦{fullShare} (fun _ => zero16 (F := F)))
    ∗ (resM.view.loc (c : Thread nD τ) ↦{fullShare} X) ∗ semVal ((c : Thread nD τ), semZ) 0 ∗ owed (F := F) c R) ⊢ (iprop(|={Set.univ}=> SI c T H X R 0) : sProp 𝕄) := by
  have h1 : (bigSep (Finset.range (cnt H 64)) (fun j => (zerM.view.loc (c : Thread nD τ) ↦{Transfers.shareTokN fullShare j} (fun _ => zero16 (F := F)))) : sProp 𝕄)
      = bigSep (Ring.rangeSet (cnt H 64) 0 (cnt H 64)) (fun j => (zerM.view.loc (c : Thread nD τ) ↦{Transfers.shareTokN fullShare j.val} (fun _ => zero16 (F := F)))) := by
    rw [Ring.rangeSet_univ]; exact (Ring.bigSep_fin_eq_range (cnt H 64) _ _ fun t h => rfl).symm
  unfold SI zRest zBatch
  rw [rest_zero, show (zerM.view.set : Finset S512x8x128.Idx) = Finset.univ from View.set_whole _,
    show cnt H 0 = 0 from rfl]
  iintro ⟨HT, Hz, Hr, Hs, HW⟩
  ihave Hz' := (Transfers.pointsTo_toks_range (ℓ := zerM.view.loc (c : Thread nD τ)) fullShare (cnt H 64)).1 $$ Hz
  icases Hz' with ⟨Hz, Ht⟩
  imod (Transfers.batch_alloc' (Lvl := ℕ) (countersEmb (U := Pipeline.UD sig nD τ)) (c : Thread nD τ) (sm := semZ) () NZ (fun j : Fin (cnt H 64) => zD c T H X j.val)) $$ Hs with HB
  imodintro
  isplitl [HT]; · iexact HT
  isplitl [Hz]; · iexact Hz
  isplitl [Ht]
  · iapply (Entails.of_eq h1)
    iexact Ht
  isplitl [Hr]; · iexact Hr
  isplitl [HB]; · iexact HB
  iexact HW

/-- The block of zeros is stored. -/
theorem zero_store (f : S512x8x128.Idx → Elt F .bf16) (hin) :
    (zerM.access (Rect.unit (s := S512x8x128) ![0, 0, 0] S512x8x128.size hin)).write (Elt F) f (k0_pay1 (F := F)) Finset.univ = fun _ => zero16 (F := F) := by
  funext y
  have hy : y = (zerM.access (Rect.unit (s := S512x8x128) ![0, 0, 0] S512x8x128.size hin)).emb y := by
    funext a; apply Fin.ext
    fin_cases a
    · show (y 0).val = 0 + 1 * (y 0).val; omega
    · show (y 1).val = 0 + 1 * (y 1).val; omega
    · show (y 2).val = 0 + 1 * (y 2).val; omega
  rw [hy, View.write_emb_of_mem _ _ (Finset.mem_univ _)]
  rfl

theorem zero_start {R : sProp 𝕄} {α : Type} {Φ : α → sProp 𝕄} {hin hl hs hm} {p : Prog (TpuEff nD τ sig (Elt F) Λ₀ .tc) α}
    (h : SI c T H X R 0 ⊢ wp frame (wpE (defs₀ (F := F)) Variants.none c none) Set.univ p Φ) :
    zStart c T H X R ⊢ wp frame (wpE (defs₀ (F := F)) Variants.none c none) Set.univ
      (Prog.lift (.load zerM (Rect.unit (s := S512x8x128) ![0, 0, 0] S512x8x128.size hin).toLoadRect hl) >>= fun _ =>
        Prog.lift (.store zerM (Rect.unit (s := S512x8x128) ![0, 0, 0] S512x8x128.size hin) (k0_pay1 (F := F)) Finset.univ hs hm) >>= fun _ => p) Φ := by
  refine Entails.trans ?_ (Entails.of_eq rfl : wp frame (wpE (defs₀ (F := F)) Variants.none c none) Set.univ
    (.op (.load zerM (Rect.unit (s := S512x8x128) ![0, 0, 0] S512x8x128.size hin).toLoadRect hl) (fun _ =>
        .op (.store zerM (Rect.unit (s := S512x8x128) ![0, 0, 0] S512x8x128.size hin) (k0_pay1 (F := F)) Finset.univ hs hm) (fun _ => p))) Φ ⊢ _)
  unfold zStart
  iintro ⟨HT, ⟨%f, Hz⟩, Hr, Hs, HW⟩
  iapply (wp_load_rect (defs := defs₀ (F := F)) Variants.none (c : Thread nD τ) none Set.univ (m := zerM) (r := Rect.unit (s := S512x8x128) ![0, 0, 0] S512x8x128.size hin) (S := Finset.univ) (Finset.subset_univ _)) $$ Hz
  iintro Hz
  iapply (wp_store (defs := defs₀ (F := F)) Variants.none (c : Thread nD τ) none Set.univ (m := zerM) (r := Rect.unit (s := S512x8x128) ![0, 0, 0] S512x8x128.size hin) (S := Finset.univ) (Finset.subset_univ _)) $$ Hz
  rw [zero_store]
  iintro Hz
  imod (SI_start (c := c) (T := T) (H := H) (X := X)) $$ [HT Hz Hr Hs HW] with HS
  · isplitl [HT]; · iexact HT
    isplitl [Hz]; · iexact Hz
    isplitl [Hr]; · iexact Hr
    isplitl [Hs]; · iexact Hs
    iexact HW
  iapply h
  iexact HS

section Parts

variable (hok : TabOk T H) (i : grid0.Coords) (h1 : k0_cond1 i = 1#1) (arg3 : Memref sig .tc .smem S2048 .i32) (harg3 : arg3.IsWhole)
  (arg4 : Memref sig .tc .smem S2048 .i32) (harg4 : arg4.IsWhole) (arg5 : Memref sig .tc .vmem S2048x8x128 .bf16) (harg5 : arg5.IsWhole)
  (htT : tabT.IsWhole) (htH : tabH.IsWhole) (hr : resM.IsWhole) (hz : zerM.IsWhole) (arg8 : DmaSems sig S_) (c0 : BitVec 32)
include hok

theorem part1 {R : sProp 𝕄} : zStart c T H X R ⊢ wp frame (wpE (defs₀ (F := F)) Variants.none c none) Set.univ
    (k0_part1 i tabT htT tabH htH arg3 harg3 arg4 harg4 arg5 harg5 resM hr zerM hz arg8 cc0_scratch2 h1)
    (fun r => iprop(⌜r.1 = word H 6⌝ ∗ SI c T H X R 6)) := by
  rw [k0_part1_eq_skeleton]
  unfold k0_part1_skel
  refine zero_start ?_
  refine SI_load (e := 0) (by decide) ?_
  refine issue_guard (k0_h1 := h1) hok (e := 0) (by decide) ?_
  refine SI_load (e := 1) (by decide) ?_
  refine issue_guard (k0_h1 := h1) hok (e := 1) (by decide) ?_
  refine SI_load (e := 2) (by decide) ?_
  refine issue_guard (k0_h1 := h1) hok (e := 2) (by decide) ?_
  refine SI_load (e := 3) (by decide) ?_
  refine issue_guard (k0_h1 := h1) hok (e := 3) (by decide) ?_
  refine SI_load (e := 4) (by decide) ?_
  refine issue_guard (k0_h1 := h1) hok (e := 4) (by decide) ?_
  refine SI_load (e := 5) (by decide) ?_
  refine issue_guard (k0_h1 := h1) hok (e := 5) (by decide) ?_
  refine SI_load (e := 6) (by decide) ?_
  exact wp_end rfl

theorem part2 {R : sProp 𝕄} : SI c T H X R 6 ⊢ wp frame (wpE (defs₀ (F := F)) Variants.none c none) Set.univ
    (k0_part2 i tabT htT tabH htH arg3 harg3 arg4 harg4 arg5 harg5 resM hr zerM hz arg8 cc0_scratch2 h1 (word H 6) c0)
    (fun r => iprop(⌜r = word H 13⌝ ∗ SI c T H X R 13)) := by
  rw [k0_part2_eq_skeleton]
  unfold k0_part2_skel
  refine issue_guard (k0_h1 := h1) hok (e := 6) (by decide) ?_
  refine SI_load (e := 7) (by decide) ?_
  refine issue_guard (k0_h1 := h1) hok (e := 7) (by decide) ?_
  refine SI_load (e := 8) (by decide) ?_
  refine issue_guard (k0_h1 := h1) hok (e := 8) (by decide) ?_
  refine SI_load (e := 9) (by decide) ?_
  refine issue_guard (k0_h1 := h1) hok (e := 9) (by decide) ?_
  refine SI_load (e := 10) (by decide) ?_
  refine issue_guard (k0_h1 := h1) hok (e := 10) (by decide) ?_
  refine SI_load (e := 11) (by decide) ?_
  refine issue_guard (k0_h1 := h1) hok (e := 11) (by decide) ?_
  refine SI_load (e := 12) (by decide) ?_
  refine issue_guard (k0_h1 := h1) hok (e := 12) (by decide) ?_
  refine SI_load (e := 13) (by decide) ?_
  exact wp_end rfl

theorem part3 {R : sProp 𝕄} : SI c T H X R 13 ⊢ wp frame (wpE (defs₀ (F := F)) Variants.none c none) Set.univ
    (k0_part3 i tabT htT tabH htH arg3 harg3 arg4 harg4 arg5 harg5 resM hr zerM hz arg8 cc0_scratch2 h1 (word H 13))
    (fun r => iprop(⌜r.1 = word H 21⌝ ∗ SI c T H X R 21)) := by
  rw [k0_part3_eq_skeleton]
  unfold k0_part3_skel
  refine issue_guard (k0_h1 := h1) hok (e := 13) (by decide) ?_
  refine SI_load (e := 14) (by decide) ?_
  refine issue_guard (k0_h1 := h1) hok (e := 14) (by decide) ?_
  refine SI_load (e := 15) (by decide) ?_
  refine issue_guard (k0_h1 := h1) hok (e := 15) (by decide) ?_
  refine SI_load (e := 16) (by decide) ?_
  refine issue_guard (k0_h1 := h1) hok (e := 16) (by decide) ?_
  refine SI_load (e := 17) (by decide) ?_
  refine issue_guard (k0_h1 := h1) hok (e := 17) (by decide) ?_
  refine SI_load (e := 18) (by decide) ?_
  refine issue_guard (k0_h1 := h1) hok (e := 18) (by decide) ?_
  refine SI_load (e := 19) (by decide) ?_
  refine issue_guard (k0_h1 := h1) hok (e := 19) (by decide) ?_
  refine SI_load (e := 20) (by decide) ?_
  refine issue_guard (k0_h1 := h1) hok (e := 20) (by decide) ?_
  refine SI_load (e := 21) (by decide) ?_
  exact wp_end rfl

theorem part4 {R : sProp 𝕄} : SI c T H X R 21 ⊢ wp frame (wpE (defs₀ (F := F)) Variants.none c none) Set.univ
    (k0_part4 i tabT htT tabH htH arg3 harg3 arg4 harg4 arg5 harg5 resM hr zerM hz arg8 cc0_scratch2 h1 (word H 21) c0)
    (fun r => iprop(⌜r = word H 28⌝ ∗ SI c T H X R 28)) := by
  rw [k0_part4_eq_skeleton]
  unfold k0_part4_skel
  refine issue_guard (k0_h1 := h1) hok (e := 21) (by decide) ?_
  refine SI_load (e := 22) (by decide) ?_
  refine issue_guard (k0_h1 := h1) hok (e := 22) (by decide) ?_
  refine SI_load (e := 23) (by decide) ?_
  refine issue_guard (k0_h1 := h1) hok (e := 23) (by decide) ?_
  refine SI_load (e := 24) (by decide) ?_
  refine issue_guard (k0_h1 := h1) hok (e := 24) (by decide) ?_
  refine SI_load (e := 25) (by decide) ?_
  refine issue_guard (k0_h1 := h1) hok (e := 25) (by decide) ?_
  refine SI_load (e := 26) (by decide) ?_
  refine issue_guard (k0_h1 := h1) hok (e := 26) (by decide) ?_
  refine SI_load (e := 27) (by decide) ?_
  refine issue_guard (k0_h1 := h1) hok (e := 27) (by decide) ?_
  refine SI_load (e := 28) (by decide) ?_
  exact wp_end rfl

theorem part5 {R : sProp 𝕄} : SI c T H X R 28 ⊢ wp frame (wpE (defs₀ (F := F)) Variants.none c none) Set.univ
    (k0_part5 i tabT htT tabH htH arg3 harg3 arg4 harg4 arg5 harg5 resM hr zerM hz arg8 cc0_scratch2 h1 (word H 28))
    (fun r => iprop(⌜r.1 = word H 36⌝ ∗ SI c T H X R 36)) := by
  rw [k0_part5_eq_skeleton]
  unfold k0_part5_skel
  refine issue_guard (k0_h1 := h1) hok (e := 28) (by decide) ?_
  refine SI_load (e := 29) (by decide) ?_
  refine issue_guard (k0_h1 := h1) hok (e := 29) (by decide) ?_
  refine SI_load (e := 30) (by decide) ?_
  refine issue_guard (k0_h1 := h1) hok (e := 30) (by decide) ?_
  refine SI_load (e := 31) (by decide) ?_
  refine issue_guard (k0_h1 := h1) hok (e := 31) (by decide) ?_
  refine SI_load (e := 32) (by decide) ?_
  refine issue_guard (k0_h1 := h1) hok (e := 32) (by decide) ?_
  refine SI_load (e := 33) (by decide) ?_
  refine issue_guard (k0_h1 := h1) hok (e := 33) (by decide) ?_
  refine SI_load (e := 34) (by decide) ?_
  refine issue_guard (k0_h1 := h1) hok (e := 34) (by decide) ?_
  refine SI_load (e := 35) (by decide) ?_
  refine issue_guard (k0_h1 := h1) hok (e := 35) (by decide) ?_
  refine SI_load (e := 36) (by decide) ?_
  exact wp_end rfl

theorem part6 {R : sProp 𝕄} : SI c T H X R 36 ⊢ wp frame (wpE (defs₀ (F := F)) Variants.none c none) Set.univ
    (k0_part6 i tabT htT tabH htH arg3 harg3 arg4 harg4 arg5 harg5 resM hr zerM hz arg8 cc0_scratch2 h1 (word H 36) c0)
    (fun r => iprop(⌜r = word H 43⌝ ∗ SI c T H X R 43)) := by
  rw [k0_part6_eq_skeleton]
  unfold k0_part6_skel
  refine issue_guard (k0_h1 := h1) hok (e := 36) (by decide) ?_
  refine SI_load (e := 37) (by decide) ?_
  refine issue_guard (k0_h1 := h1) hok (e := 37) (by decide) ?_
  refine SI_load (e := 38) (by decide) ?_
  refine issue_guard (k0_h1 := h1) hok (e := 38) (by decide) ?_
  refine SI_load (e := 39) (by decide) ?_
  refine issue_guard (k0_h1 := h1) hok (e := 39) (by decide) ?_
  refine SI_load (e := 40) (by decide) ?_
  refine issue_guard (k0_h1 := h1) hok (e := 40) (by decide) ?_
  refine SI_load (e := 41) (by decide) ?_
  refine issue_guard (k0_h1 := h1) hok (e := 41) (by decide) ?_
  refine SI_load (e := 42) (by decide) ?_
  refine issue_guard (k0_h1 := h1) hok (e := 42) (by decide) ?_
  refine SI_load (e := 43) (by decide) ?_
  exact wp_end rfl

theorem part7 {R : sProp 𝕄} : SI c T H X R 43 ⊢ wp frame (wpE (defs₀ (F := F)) Variants.none c none) Set.univ
    (k0_part7 i tabT htT tabH htH arg3 harg3 arg4 harg4 arg5 harg5 resM hr zerM hz arg8 cc0_scratch2 h1 (word H 43))
    (fun r => iprop(⌜r.1 = word H 51⌝ ∗ SI c T H X R 51)) := by
  rw [k0_part7_eq_skeleton]
  unfold k0_part7_skel
  refine issue_guard (k0_h1 := h1) hok (e := 43) (by decide) ?_
  refine SI_load (e := 44) (by decide) ?_
  refine issue_guard (k0_h1 := h1) hok (e := 44) (by decide) ?_
  refine SI_load (e := 45) (by decide) ?_
  refine issue_guard (k0_h1 := h1) hok (e := 45) (by decide) ?_
  refine SI_load (e := 46) (by decide) ?_
  refine issue_guard (k0_h1 := h1) hok (e := 46) (by decide) ?_
  refine SI_load (e := 47) (by decide) ?_
  refine issue_guard (k0_h1 := h1) hok (e := 47) (by decide) ?_
  refine SI_load (e := 48) (by decide) ?_
  refine issue_guard (k0_h1 := h1) hok (e := 48) (by decide) ?_
  refine SI_load (e := 49) (by decide) ?_
  refine issue_guard (k0_h1 := h1) hok (e := 49) (by decide) ?_
  refine SI_load (e := 50) (by decide) ?_
  refine issue_guard (k0_h1 := h1) hok (e := 50) (by decide) ?_
  refine SI_load (e := 51) (by decide) ?_
  exact wp_end rfl

theorem part8 {R : sProp 𝕄} : SI c T H X R 51 ⊢ wp frame (wpE (defs₀ (F := F)) Variants.none c none) Set.univ
    (k0_part8 i tabT htT tabH htH arg3 harg3 arg4 harg4 arg5 harg5 resM hr zerM hz arg8 cc0_scratch2 h1 (word H 51) c0)
    (fun r => iprop(⌜r = word H 58⌝ ∗ SI c T H X R 58)) := by
  rw [k0_part8_eq_skeleton]
  unfold k0_part8_skel
  refine issue_guard (k0_h1 := h1) hok (e := 51) (by decide) ?_
  refine SI_load (e := 52) (by decide) ?_
  refine issue_guard (k0_h1 := h1) hok (e := 52) (by decide) ?_
  refine SI_load (e := 53) (by decide) ?_
  refine issue_guard (k0_h1 := h1) hok (e := 53) (by decide) ?_
  refine SI_load (e := 54) (by decide) ?_
  refine issue_guard (k0_h1 := h1) hok (e := 54) (by decide) ?_
  refine SI_load (e := 55) (by decide) ?_
  refine issue_guard (k0_h1 := h1) hok (e := 55) (by decide) ?_
  refine SI_load (e := 56) (by decide) ?_
  refine issue_guard (k0_h1 := h1) hok (e := 56) (by decide) ?_
  refine SI_load (e := 57) (by decide) ?_
  refine issue_guard (k0_h1 := h1) hok (e := 57) (by decide) ?_
  refine SI_load (e := 58) (by decide) ?_
  exact wp_end rfl

theorem part9 {R : sProp 𝕄} : SI c T H X R 58 ⊢ wp frame (wpE (defs₀ (F := F)) Variants.none c none) Set.univ
    (k0_part9 i tabT htT tabH htH arg3 harg3 arg4 harg4 arg5 harg5 resM hr zerM hz arg8 cc0_scratch2 h1 (word H 58))
    (fun r => iprop(⌜r.1 = word H 2⌝ ∗ SW c T H X R 2)) := by
  rw [k0_part9_eq_skeleton]
  unfold k0_part9_skel
  refine issue_guard (k0_h1 := h1) hok (e := 58) (by decide) ?_
  refine SI_load (e := 59) (by decide) ?_
  refine issue_guard (k0_h1 := h1) hok (e := 59) (by decide) ?_
  refine SI_load (e := 60) (by decide) ?_
  refine issue_guard (k0_h1 := h1) hok (e := 60) (by decide) ?_
  refine SI_load (e := 61) (by decide) ?_
  refine issue_guard (k0_h1 := h1) hok (e := 61) (by decide) ?_
  refine SI_load (e := 62) (by decide) ?_
  refine issue_guard (k0_h1 := h1) hok (e := 62) (by decide) ?_
  refine SI_load (e := 63) (by decide) ?_
  refine issue_guard (k0_h1 := h1) hok (e := 63) (by decide) ?_
  refine SI_SW.trans ?_
  refine SW_load (e := 0) (by decide) ?_
  refine wait_guard (k0_h1 := h1) hok (e := 0) (by decide) ?_
  refine SW_load (e := 1) (by decide) ?_
  refine wait_guard (k0_h1 := h1) hok (e := 1) (by decide) ?_
  refine SW_load (e := 2) (by decide) ?_
  exact wp_end rfl

theorem part10 {R : sProp 𝕄} : SW c T H X R 2 ⊢ wp frame (wpE (defs₀ (F := F)) Variants.none c none) Set.univ
    (k0_part10 i tabT htT tabH htH arg3 harg3 arg4 harg4 arg5 harg5 resM hr zerM hz arg8 cc0_scratch2 h1 (word H 2) c0)
    (fun r => iprop(⌜r = word H 9⌝ ∗ SW c T H X R 9)) := by
  rw [k0_part10_eq_skeleton]
  unfold k0_part10_skel
  refine wait_guard (k0_h1 := h1) hok (e := 2) (by decide) ?_
  refine SW_load (e := 3) (by decide) ?_
  refine wait_guard (k0_h1 := h1) hok (e := 3) (by decide) ?_
  refine SW_load (e := 4) (by decide) ?_
  refine wait_guard (k0_h1 := h1) hok (e := 4) (by decide) ?_
  refine SW_load (e := 5) (by decide) ?_
  refine wait_guard (k0_h1 := h1) hok (e := 5) (by decide) ?_
  refine SW_load (e := 6) (by decide) ?_
  refine wait_guard (k0_h1 := h1) hok (e := 6) (by decide) ?_
  refine SW_load (e := 7) (by decide) ?_
  refine wait_guard (k0_h1 := h1) hok (e := 7) (by decide) ?_
  refine SW_load (e := 8) (by decide) ?_
  refine wait_guard (k0_h1 := h1) hok (e := 8) (by decide) ?_
  refine SW_load (e := 9) (by decide) ?_
  exact wp_end rfl

theorem part11 {R : sProp 𝕄} : SW c T H X R 9 ⊢ wp frame (wpE (defs₀ (F := F)) Variants.none c none) Set.univ
    (k0_part11 i tabT htT tabH htH arg3 harg3 arg4 harg4 arg5 harg5 resM hr zerM hz arg8 cc0_scratch2 h1 (word H 9))
    (fun r => iprop(⌜r.1 = word H 17⌝ ∗ SW c T H X R 17)) := by
  rw [k0_part11_eq_skeleton]
  unfold k0_part11_skel
  refine wait_guard (k0_h1 := h1) hok (e := 9) (by decide) ?_
  refine SW_load (e := 10) (by decide) ?_
  refine wait_guard (k0_h1 := h1) hok (e := 10) (by decide) ?_
  refine SW_load (e := 11) (by decide) ?_
  refine wait_guard (k0_h1 := h1) hok (e := 11) (by decide) ?_
  refine SW_load (e := 12) (by decide) ?_
  refine wait_guard (k0_h1 := h1) hok (e := 12) (by decide) ?_
  refine SW_load (e := 13) (by decide) ?_
  refine wait_guard (k0_h1 := h1) hok (e := 13) (by decide) ?_
  refine SW_load (e := 14) (by decide) ?_
  refine wait_guard (k0_h1 := h1) hok (e := 14) (by decide) ?_
  refine SW_load (e := 15) (by decide) ?_
  refine wait_guard (k0_h1 := h1) hok (e := 15) (by decide) ?_
  refine SW_load (e := 16) (by decide) ?_
  refine wait_guard (k0_h1 := h1) hok (e := 16) (by decide) ?_
  refine SW_load (e := 17) (by decide) ?_
  exact wp_end rfl

theorem part12 {R : sProp 𝕄} : SW c T H X R 17 ⊢ wp frame (wpE (defs₀ (F := F)) Variants.none c none) Set.univ
    (k0_part12 i tabT htT tabH htH arg3 harg3 arg4 harg4 arg5 harg5 resM hr zerM hz arg8 cc0_scratch2 h1 (word H 17) c0)
    (fun r => iprop(⌜r = word H 24⌝ ∗ SW c T H X R 24)) := by
  rw [k0_part12_eq_skeleton]
  unfold k0_part12_skel
  refine wait_guard (k0_h1 := h1) hok (e := 17) (by decide) ?_
  refine SW_load (e := 18) (by decide) ?_
  refine wait_guard (k0_h1 := h1) hok (e := 18) (by decide) ?_
  refine SW_load (e := 19) (by decide) ?_
  refine wait_guard (k0_h1 := h1) hok (e := 19) (by decide) ?_
  refine SW_load (e := 20) (by decide) ?_
  refine wait_guard (k0_h1 := h1) hok (e := 20) (by decide) ?_
  refine SW_load (e := 21) (by decide) ?_
  refine wait_guard (k0_h1 := h1) hok (e := 21) (by decide) ?_
  refine SW_load (e := 22) (by decide) ?_
  refine wait_guard (k0_h1 := h1) hok (e := 22) (by decide) ?_
  refine SW_load (e := 23) (by decide) ?_
  refine wait_guard (k0_h1 := h1) hok (e := 23) (by decide) ?_
  refine SW_load (e := 24) (by decide) ?_
  exact wp_end rfl

theorem part13 {R : sProp 𝕄} : SW c T H X R 24 ⊢ wp frame (wpE (defs₀ (F := F)) Variants.none c none) Set.univ
    (k0_part13 i tabT htT tabH htH arg3 harg3 arg4 harg4 arg5 harg5 resM hr zerM hz arg8 cc0_scratch2 h1 (word H 24))
    (fun r => iprop(⌜r.1 = word H 32⌝ ∗ SW c T H X R 32)) := by
  rw [k0_part13_eq_skeleton]
  unfold k0_part13_skel
  refine wait_guard (k0_h1 := h1) hok (e := 24) (by decide) ?_
  refine SW_load (e := 25) (by decide) ?_
  refine wait_guard (k0_h1 := h1) hok (e := 25) (by decide) ?_
  refine SW_load (e := 26) (by decide) ?_
  refine wait_guard (k0_h1 := h1) hok (e := 26) (by decide) ?_
  refine SW_load (e := 27) (by decide) ?_
  refine wait_guard (k0_h1 := h1) hok (e := 27) (by decide) ?_
  refine SW_load (e := 28) (by decide) ?_
  refine wait_guard (k0_h1 := h1) hok (e := 28) (by decide) ?_
  refine SW_load (e := 29) (by decide) ?_
  refine wait_guard (k0_h1 := h1) hok (e := 29) (by decide) ?_
  refine SW_load (e := 30) (by decide) ?_
  refine wait_guard (k0_h1 := h1) hok (e := 30) (by decide) ?_
  refine SW_load (e := 31) (by decide) ?_
  refine wait_guard (k0_h1 := h1) hok (e := 31) (by decide) ?_
  refine SW_load (e := 32) (by decide) ?_
  exact wp_end rfl

theorem part14 {R : sProp 𝕄} : SW c T H X R 32 ⊢ wp frame (wpE (defs₀ (F := F)) Variants.none c none) Set.univ
    (k0_part14 i tabT htT tabH htH arg3 harg3 arg4 harg4 arg5 harg5 resM hr zerM hz arg8 cc0_scratch2 h1 (word H 32) c0)
    (fun r => iprop(⌜r = word H 39⌝ ∗ SW c T H X R 39)) := by
  rw [k0_part14_eq_skeleton]
  unfold k0_part14_skel
  refine wait_guard (k0_h1 := h1) hok (e := 32) (by decide) ?_
  refine SW_load (e := 33) (by decide) ?_
  refine wait_guard (k0_h1 := h1) hok (e := 33) (by decide) ?_
  refine SW_load (e := 34) (by decide) ?_
  refine wait_guard (k0_h1 := h1) hok (e := 34) (by decide) ?_
  refine SW_load (e := 35) (by decide) ?_
  refine wait_guard (k0_h1 := h1) hok (e := 35) (by decide) ?_
  refine SW_load (e := 36) (by decide) ?_
  refine wait_guard (k0_h1 := h1) hok (e := 36) (by decide) ?_
  refine SW_load (e := 37) (by decide) ?_
  refine wait_guard (k0_h1 := h1) hok (e := 37) (by decide) ?_
  refine SW_load (e := 38) (by decide) ?_
  refine wait_guard (k0_h1 := h1) hok (e := 38) (by decide) ?_
  refine SW_load (e := 39) (by decide) ?_
  exact wp_end rfl

theorem part15 {R : sProp 𝕄} : SW c T H X R 39 ⊢ wp frame (wpE (defs₀ (F := F)) Variants.none c none) Set.univ
    (k0_part15 i tabT htT tabH htH arg3 harg3 arg4 harg4 arg5 harg5 resM hr zerM hz arg8 cc0_scratch2 h1 (word H 39))
    (fun r => iprop(⌜r.1 = word H 47⌝ ∗ SW c T H X R 47)) := by
  rw [k0_part15_eq_skeleton]
  unfold k0_part15_skel
  refine wait_guard (k0_h1 := h1) hok (e := 39) (by decide) ?_
  refine SW_load (e := 40) (by decide) ?_
  refine wait_guard (k0_h1 := h1) hok (e := 40) (by decide) ?_
  refine SW_load (e := 41) (by decide) ?_
  refine wait_guard (k0_h1 := h1) hok (e := 41) (by decide) ?_
  refine SW_load (e := 42) (by decide) ?_
  refine wait_guard (k0_h1 := h1) hok (e := 42) (by decide) ?_
  refine SW_load (e := 43) (by decide) ?_
  refine wait_guard (k0_h1 := h1) hok (e := 43) (by decide) ?_
  refine SW_load (e := 44) (by decide) ?_
  refine wait_guard (k0_h1 := h1) hok (e := 44) (by decide) ?_
  refine SW_load (e := 45) (by decide) ?_
  refine wait_guard (k0_h1 := h1) hok (e := 45) (by decide) ?_
  refine SW_load (e := 46) (by decide) ?_
  refine wait_guard (k0_h1 := h1) hok (e := 46) (by decide) ?_
  refine SW_load (e := 47) (by decide) ?_
  exact wp_end rfl

theorem part16 {R : sProp 𝕄} : SW c T H X R 47 ⊢ wp frame (wpE (defs₀ (F := F)) Variants.none c none) Set.univ
    (k0_part16 i tabT htT tabH htH arg3 harg3 arg4 harg4 arg5 harg5 resM hr zerM hz arg8 cc0_scratch2 h1 (word H 47) c0)
    (fun r => iprop(⌜r = word H 54⌝ ∗ SW c T H X R 54)) := by
  rw [k0_part16_eq_skeleton]
  unfold k0_part16_skel
  refine wait_guard (k0_h1 := h1) hok (e := 47) (by decide) ?_
  refine SW_load (e := 48) (by decide) ?_
  refine wait_guard (k0_h1 := h1) hok (e := 48) (by decide) ?_
  refine SW_load (e := 49) (by decide) ?_
  refine wait_guard (k0_h1 := h1) hok (e := 49) (by decide) ?_
  refine SW_load (e := 50) (by decide) ?_
  refine wait_guard (k0_h1 := h1) hok (e := 50) (by decide) ?_
  refine SW_load (e := 51) (by decide) ?_
  refine wait_guard (k0_h1 := h1) hok (e := 51) (by decide) ?_
  refine SW_load (e := 52) (by decide) ?_
  refine wait_guard (k0_h1 := h1) hok (e := 52) (by decide) ?_
  refine SW_load (e := 53) (by decide) ?_
  refine wait_guard (k0_h1 := h1) hok (e := 53) (by decide) ?_
  refine SW_load (e := 54) (by decide) ?_
  exact wp_end rfl

theorem part17 {R : sProp 𝕄} : SW c T H X R 54 ⊢ wp frame (wpE (defs₀ (F := F)) Variants.none c none) Set.univ
    (k0_part17 i tabT htT tabH htH arg3 harg3 arg4 harg4 arg5 harg5 resM hr zerM hz arg8 cc0_scratch2 h1 (word H 54))
    (fun r => iprop(⌜r.1 = word H 62⌝ ∗ SW c T H X R 62)) := by
  rw [k0_part17_eq_skeleton]
  unfold k0_part17_skel
  refine wait_guard (k0_h1 := h1) hok (e := 54) (by decide) ?_
  refine SW_load (e := 55) (by decide) ?_
  refine wait_guard (k0_h1 := h1) hok (e := 55) (by decide) ?_
  refine SW_load (e := 56) (by decide) ?_
  refine wait_guard (k0_h1 := h1) hok (e := 56) (by decide) ?_
  refine SW_load (e := 57) (by decide) ?_
  refine wait_guard (k0_h1 := h1) hok (e := 57) (by decide) ?_
  refine SW_load (e := 58) (by decide) ?_
  refine wait_guard (k0_h1 := h1) hok (e := 58) (by decide) ?_
  refine SW_load (e := 59) (by decide) ?_
  refine wait_guard (k0_h1 := h1) hok (e := 59) (by decide) ?_
  refine SW_load (e := 60) (by decide) ?_
  refine wait_guard (k0_h1 := h1) hok (e := 60) (by decide) ?_
  refine SW_load (e := 61) (by decide) ?_
  refine wait_guard (k0_h1 := h1) hok (e := 61) (by decide) ?_
  refine SW_load (e := 62) (by decide) ?_
  exact wp_end rfl

end Parts

end Cert.KernelIdeal.Hand

end
-- ==== Proof.Rows.lean ====
/- The row copies of the dispatch kernel: at each grid point a loop starts two copies per token on one
   semaphore, and two waits of a whole block of rows each drain them. -/
module

public import proofs.«01_k».proof.Proof.Parts

@[expose] public section

set_option maxRecDepth 16384

noncomputable section

namespace Cert.KernelIdeal.Hand

open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

/-- Place `k` of a block of names. -/
def at2048 (k : ℕ) : S2048.Idx := fun a => ⟨k % 2048, by fin_cases a; exact Nat.mod_lt _ (by decide)⟩
/-- The slot copy number `j` writes: copies `2k` and `2k + 1` are token `k`'s. -/
def sl (d0 d1 : S2048.Idx → BitVec 32) (j : ℕ) : ℕ :=
  if j % 2 = 0 then (d0 (at2048 (j / 2))).toNat else (d1 (at2048 (j / 2))).toNat
theorem sl_even (d0 d1 : S2048.Idx → BitVec 32) (k : ℕ) : sl d0 d1 (2 * k) = (d0 (at2048 k)).toNat := by
  unfold sl; rw [if_pos (by omega), show 2 * k / 2 = k by omega]
theorem sl_odd (d0 d1 : S2048.Idx → BitVec 32) (k : ℕ) : sl d0 d1 (2 * k + 1) = (d1 (at2048 k)).toNat := by
  unfold sl; rw [if_neg (by omega), show (2 * k + 1) / 2 = k by omega]

/-- What the names must satisfy: slots of the result, no slot twice. -/
structure RowOk (d0 d1 : S2048.Idx → BitVec 32) : Prop where
  inside : ∀ j < 4096, sl d0 d1 j < 81920
  apart : ∀ j < 4096, ∀ j' < 4096, sl d0 d1 j = sl d0 d1 j' → j = j'

/-- The elements of one slot. -/
def slot (w : ℕ) : Finset S81920x8x128.Idx := Finset.univ.filter fun y => (y 0).val = w
theorem mem_slot (w : ℕ) (y : S81920x8x128.Idx) : y ∈ slot w ↔ (y 0).val = w := by simp [slot]
/-- Token `k`'s element beside element `y` of its slot. -/
def tplace (k : ℕ) (y : S81920x8x128.Idx) : S2048x8x128.Idx :=
  fun a => ⟨(![k % 2048, (y 1).val, (y 2).val] : Fin 3 → ℕ) a, by
    fin_cases a
    · exact Nat.mod_lt _ (by decide)
    · exact (y 1).isLt
    · exact (y 2).isLt⟩

open Classical in
/-- The result after the copies of one grid point. -/
def put (d0 d1 : S2048.Idx → BitVec 32) (t : S2048x8x128.Idx → Elt F .bf16) (X : S81920x8x128.Idx → Elt F .bf16) :
    S81920x8x128.Idx → Elt F .bf16 :=
  fun y => if h : ∃ j, j < 4096 ∧ (y 0).val = sl d0 d1 j then t (tplace (h.choose / 2) y) else X y
theorem put_at {d0 d1 : S2048.Idx → BitVec 32} (hok : RowOk d0 d1) (t : S2048x8x128.Idx → Elt F .bf16) (X : S81920x8x128.Idx → Elt F .bf16)
    {j : ℕ} (hj : j < 4096) {y : S81920x8x128.Idx} (hy : (y 0).val = sl d0 d1 j) : put d0 d1 t X y = t (tplace (j / 2) y) := by
  have hx : ∃ j, j < 4096 ∧ (y 0).val = sl d0 d1 j := ⟨j, hj, hy⟩
  unfold put; rw [dif_pos hx, hok.apart _ hx.choose_spec.1 j hj (hx.choose_spec.2.symm.trans hy)]
theorem put_off {d0 d1 : S2048.Idx → BitVec 32} (t : S2048x8x128.Idx → Elt F .bf16) (X : S81920x8x128.Idx → Elt F .bf16)
    {y : S81920x8x128.Idx} (hy : ∀ j < 4096, (y 0).val ≠ sl d0 d1 j) : put d0 d1 t X y = X y := by
  unfold put; rw [dif_neg]; rintro ⟨j, hj, h⟩; exact hy j hj h

/-- The slots none of the first `j` copies writes. -/
def left (d0 d1 : S2048.Idx → BitVec 32) (j : ℕ) : Finset S81920x8x128.Idx :=
  Finset.univ.filter fun y => ∀ i < j, (y 0).val ≠ sl d0 d1 i
theorem mem_left (d0 d1 : S2048.Idx → BitVec 32) (j : ℕ) (y : S81920x8x128.Idx) :
    y ∈ left d0 d1 j ↔ ∀ i < j, (y 0).val ≠ sl d0 d1 i := by simp [left]
theorem left_zero (d0 d1 : S2048.Idx → BitVec 32) : left d0 d1 0 = Finset.univ := by
  ext y; rw [mem_left]; simp
theorem left_split {d0 d1 : S2048.Idx → BitVec 32} (hok : RowOk d0 d1) {j : ℕ} (hj : j < 4096) :
    left d0 d1 j = slot (sl d0 d1 j) ∪ left d0 d1 (j + 1) ∧ Disjoint (slot (sl d0 d1 j)) (left d0 d1 (j + 1)) := by
  constructor
  · ext y
    rw [Finset.mem_union, mem_left, mem_left, mem_slot]
    constructor
    · intro h
      by_cases hy : (y 0).val = sl d0 d1 j
      · exact .inl hy
      · refine .inr fun i hi => ?_
        rcases Nat.lt_succ_iff_lt_or_eq.mp hi with h' | rfl
        · exact h i h'
        · exact hy
    · rintro (hy | h) i hi
      · intro he
        have := hok.apart i (hi.trans hj) j hj (he.symm.trans hy)
        omega
      · exact h i (by omega)
  · rw [Finset.disjoint_left]
    intro y hy hr
    exact (mem_left d0 d1 _ y).mp hr j (Nat.lt_succ_self j) ((mem_slot _ _).mp hy)

/-- The induction variable counts. -/
theorem iv_nat {k : ℕ} (hk : k < 2048) : (Scf.iv 0#32 1#32 k : BitVec 32).toNat = k := by
  unfold Scf.iv
  rw [BitVec.mul_one, BitVec.zero_add, BitVec.toNat_ofNat, Nat.mod_eq_of_lt (by omega)]

theorem chk_row (w : BitVec 32) (h : w.toNat < 81920) : k0_chk129 w := by
  have hin : ∀ a, k0_off130 w a + S1x8x128.size a ≤ S81920x8x128.size a := by
    intro a
    fin_cases a
    · show w.toNat + 1 ≤ 81920; omega
    · show 0 + 8 ≤ 8; omega
    · show 0 + 128 ≤ 128; omega
  refine ⟨hin, fun hinb => ?_⟩
  exact (Rect.wholeRows_unit (s := S81920x8x128) (inb := hinb) (by decide) rfl rfl).wholeWords _

/-- The elements of one slot, as the copies name them. -/
theorem dst_set (w : ℕ) (hin) (hr) :
    ((resM.slice (Rect.unit (s := S81920x8x128) ![w, 0, 0] S1x8x128.size hin) hr).squeeze S8x128 squeezes_S1x8x128_S8x128).view.set = slot w := by
  ext y
  rw [show ((resM.slice (Rect.unit (s := S81920x8x128) ![w, 0, 0] S1x8x128.size hin) hr).squeeze S8x128 squeezes_S1x8x128_S8x128).view.set
    = (Rect.unit (s := S81920x8x128) ![w, 0, 0] S1x8x128.size hin).set from (View.set_reshape _ _).trans (View.set_slice_whole _ _), Rect.mem_set_unit, mem_slot]
  constructor
  · intro h; have := h 0
    have h1 : w ≤ (y 0).val ∧ (y 0).val < w + 1 := this
    omega
  · intro h a
    fin_cases a
    · exact ⟨h.ge, by show (y 0).val < w + 1; omega⟩
    · exact ⟨Nat.zero_le _, by have h : (y 1).val < 8 := (y 1).isLt; show (y 1).val < 0 + 8; omega⟩
    · exact ⟨Nat.zero_le _, by have h : (y 2).val < 128 := (y 2).isLt; show (y 2).val < 0 + 128; omega⟩

/-- One row's copy on its semaphore: the units it credits. -/
def NR : ℕ := ((resM.slice (Rect.unit (s := S81920x8x128) ![0, 0, 0] S1x8x128.size (by decide)) (fun _ => rfl)).squeeze S8x128 squeezes_S1x8x128_S8x128).view.dmaCredit
theorem NR_pos : 0 < NR := View.dmaCredit_pos _ (by decide)
theorem row_credit (w : ℕ) (hin hr) : ((resM.slice (Rect.unit (s := S81920x8x128) ![w, 0, 0] S1x8x128.size hin) hr).squeeze S8x128 squeezes_S1x8x128_S8x128).view.dmaCredit = NR := rfl
theorem block_credit (hin hr) : (resM.slice (Rect.unit (s := S81920x8x128) ![0, 0, 0] S2048x8x128.size hin) hr).view.dmaCredit = 2048 * NR := by
  show RefSig.tileCredit S2048x8x128 .bf16 = 2048 * RefSig.tileCredit S8x128 .bf16
  decide

/-- The semaphore of the row copies. -/
abbrev semR : SemLoc sig := SemLoc.dma cc0_scratch1.sem

section Src

variable (arg5 : Memref sig .tc .vmem S2048x8x128 .bf16)

/-- The elements of token `k`'s row in its block. -/
def trow (k : ℕ) : Finset arg5.view.ty.Idx := (Finset.univ.filter fun x : S2048x8x128.Idx => (x 0).val = k).map arg5.view.emb
theorem src_set (k : ℕ) (hin) (hr) :
    ((arg5.slice (Rect.unit (s := S2048x8x128) ![k, 0, 0] S1x8x128.size hin) hr).squeeze S8x128 squeezes_S1x8x128_S8x128).view.set = trow arg5 k := by
  rw [show ((arg5.slice (Rect.unit (s := S2048x8x128) ![k, 0, 0] S1x8x128.size hin) hr).squeeze S8x128 squeezes_S1x8x128_S8x128).view.set
    = (Rect.unit (s := S2048x8x128) ![k, 0, 0] S1x8x128.size hin).set.map arg5.view.emb from (View.set_reshape _ _).trans (View.set_slice _ _)]
  unfold trow
  congr 1
  ext y
  rw [Rect.mem_set_unit, Finset.mem_filter]
  constructor
  · intro h; have := h 0
    have h1 : k ≤ (y 0).val ∧ (y 0).val < k + 1 := this
    exact ⟨Finset.mem_univ _, by omega⟩
  · rintro ⟨-, h⟩ a
    fin_cases a
    · exact ⟨h.ge, by show (y 0).val < k + 1; omega⟩
    · exact ⟨Nat.zero_le _, by have h : (y 1).val < 8 := (y 1).isLt; show (y 1).val < 0 + 8; omega⟩
    · exact ⟨Nat.zero_le _, by have h : (y 2).val < 128 := (y 2).isLt; show (y 2).val < 0 + 128; omega⟩
theorem trow_pairwise (i j : ℕ) (h : i ≠ j) : Disjoint (trow arg5 i) (trow arg5 j) := by
  unfold trow
  rw [Finset.disjoint_map, Finset.disjoint_left]
  intro x hx hx'
  exact h ((Finset.mem_filter.mp hx).2.symm.trans (Finset.mem_filter.mp hx').2)
theorem trow_cover (h5 : arg5.IsWhole) : (Finset.range 2048).biUnion (trow arg5) = Finset.univ := by
  rw [← h5.set_eq_univ]
  ext x
  rw [Finset.mem_biUnion]
  constructor
  · rintro ⟨k, -, h⟩
    obtain ⟨z, -, rfl⟩ := Finset.mem_map.mp h
    exact Finset.mem_map_of_mem _ (Finset.mem_univ _)
  · intro h
    obtain ⟨z, -, rfl⟩ := Finset.mem_map.mp h
    exact ⟨(z 0).val, Finset.mem_range.mpr (z 0).isLt, Finset.mem_map_of_mem _ (Finset.mem_filter.mpr ⟨Finset.mem_univ _, rfl⟩)⟩

/-- A copied row is the token's, on its slot. -/
theorem put_eq {d0 d1 : S2048.Idx → BitVec 32} (hok : RowOk d0 d1) (f5 : arg5.view.ty.Contents (Elt F)) (X : S81920x8x128.Idx → Elt F .bf16)
    {j : ℕ} (hj : j < 4096) {w k : ℕ} (hw : sl d0 d1 j = w) (hk : j / 2 = k) (hin hr hin' hr') :
    ∀ y ∈ slot w, put d0 d1 (arg5.view.read (Elt F) f5) X y
      = ((resM.slice (Rect.unit (s := S81920x8x128) ![w, 0, 0] S1x8x128.size hin) hr).squeeze S8x128 squeezes_S1x8x128_S8x128).view.write (Elt F) X
          (((arg5.slice (Rect.unit (s := S2048x8x128) ![k, 0, 0] S1x8x128.size hin') hr').squeeze S8x128 squeezes_S1x8x128_S8x128).view.read (Elt F) f5) Finset.univ y := by
  intro y hy
  have hm := hy
  rw [← dst_set w hin hr] at hm
  obtain ⟨x, -, hx⟩ := Finset.mem_map.mp hm
  have hk' : k < 2048 := by omega
  rw [put_at hok _ _ hj (((mem_slot _ _).mp hy).trans hw.symm), hk]
  rw [← hx, View.write_emb_of_mem _ _ (Finset.mem_univ _), hx]
  refine congrArg (arg5.view.read (Elt F) f5) ?_
  have hz : ∀ z : S1x8x128.Idx, y = (Rect.unit (s := S81920x8x128) ![w, 0, 0] S1x8x128.size hin).emb z →
      tplace k y = (Rect.unit (s := S2048x8x128) ![k, 0, 0] S1x8x128.size hin').emb z := by
    rintro z rfl
    have h0 : (z 0).val < 1 := (z 0).isLt
    funext a; apply Fin.ext
    fin_cases a
    · show k % 2048 = k + 1 * (z 0).val; omega
    · rfl
    · rfl
  exact hz _ hx.symm

end Src

section Names

variable (c : Dev nD) (arg3 arg4 : Memref sig .tc .smem S2048 .i32) (arg5 : Memref sig .tc .vmem S2048x8x128 .bf16)
variable (f3 : arg3.view.ty.Contents (Elt F)) (f4 : arg4.view.ty.Contents (Elt F)) (f5 : arg5.view.ty.Contents (Elt F))
variable (X : S81920x8x128.Idx → Elt F .bf16)

/-- The two blocks of names as read. -/
abbrev nm0 : S2048.Idx → BitVec 32 := arg3.view.read (Elt F) f3
abbrev nm1 : S2048.Idx → BitVec 32 := arg4.view.read (Elt F) f4
/-- The result once the copies are in. -/
abbrev fin : S81920x8x128.Idx → Elt F .bf16 := put (nm0 arg3 f3) (nm1 arg4 f4) (arg5.view.read (Elt F) f5) X

/-- Each row is lent twice, half its share to each of its two copies. -/
def half (j : ℕ) : PosShare TreeShare := if j % 2 = 0 then fullShare.left else fullShare.right
/-- What copy number `j` borrows. -/
def lent (j : ℕ) : sProp 𝕄 := iprop(arg5.view.loc (c : Thread nD τ) ↦[trow arg5 (j / 2)]{half j} f5)
/-- What copy number `j` hands back. -/
def rD (j : ℕ) : sProp 𝕄 :=
  iprop((resM.view.loc (c : Thread nD τ) ↦[slot (sl (nm0 arg3 f3) (nm1 arg4 f4) j)]{fullShare} fin arg3 arg4 arg5 f3 f4 f5 X)
    ∗ lent (F := F) c arg5 f5 j)
instance rD_storable (j : ℕ) : BI.Storable (upEmb : UEmb _ 𝕄) (rD c arg3 arg4 arg5 f3 f4 f5 X j) := by unfold rD lent; infer_instance
/-- The batch of the copies. -/
def rBatch (j u : ℕ) : sProp 𝕄 :=
  Transfers.Batch (n := 4096) (countersEmb (U := Pipeline.UD sig nD τ)) (c : Thread nD τ) semR () NR (fun j => rD c arg3 arg4 arg5 f3 f4 f5 X j.val) j u
/-- The two blocks of names, held. -/
def names : sProp 𝕄 :=
  iprop((arg3.view.loc (c : Thread nD τ) ↦{fullShare} f3) ∗ (arg4.view.loc (c : Thread nD τ) ↦{fullShare} f4))
/-- Before copy number `j` is started. -/
def RI (R : sProp 𝕄) (j : ℕ) : sProp 𝕄 :=
  iprop(names (F := F) c arg3 arg4 f3 f4
    ∗ bigSep (Ring.rangeSet 4096 j 4096) (fun j => lent (F := F) c arg5 f5 j.val)
    ∗ (resM.view.loc (c : Thread nD τ) ↦[left (nm0 arg3 f3) (nm1 arg4 f4) j]{fullShare} X)
    ∗ rBatch c arg3 arg4 arg5 f3 f4 f5 X j 0 ∗ owed (F := F) c R)

end Names

section Steps

variable {c : Dev nD} {arg3 arg4 : Memref sig .tc .smem S2048 .i32} {arg5 : Memref sig .tc .vmem S2048x8x128 .bf16}
variable {f3 : arg3.view.ty.Contents (Elt F)} {f4 : arg4.view.ty.Contents (Elt F)} {f5 : arg5.view.ty.Contents (Elt F)}
variable {X : S81920x8x128.Idx → Elt F .bf16}
variable {α : Type}

theorem smemLoad_bind' {m : Memref sig .tc .smem S2048 .i32} {r : Rect S2048} {h1 hp} (k : Elt F .i32 → Prog (TpuEff nD τ sig (Elt F) Λ₀ .tc) α) :
    smemLoad m r h1 hp >>= k = smemLoadElt m r (View.loads_smem_one hp h1) (Shape.Idx.first (h1.symm ▸ Nat.one_pos)) k := rfl

theorem read_name (m : Memref sig .tc .smem S2048 .i32) (f : m.view.ty.Contents (Elt F)) (k : ℕ) (hk : k < 2048) (hin) (x) :
    (m.access (Rect.unit (s := S2048) ![k] S1.size hin)).read (Elt F) f x = (m.view.read (Elt F) f : S2048.Idx → BitVec 32) (at2048 k) := by
  refine congrArg (m.view.read (Elt F) f) ?_
  funext a; fin_cases a; apply Fin.ext
  have h1 : (x 0).val < 1 := (x 0).isLt
  show k + 1 * (x 0).val = k % 2048
  omega

/-- One copy started. -/
theorem issue_row {R : sProp 𝕄} {Φ : α → sProp 𝕄} (hok : RowOk (nm0 arg3 f3) (nm1 arg4 f4)) {j k w : ℕ} (hj : j < 4096)
    (hk : j / 2 = k) (hw : sl (nm0 arg3 f3) (nm1 arg4 f4) j = w) {hin hin' hsrc hdst}
    {p : Prog (TpuEff nD τ sig (Elt F) Λ₀ .tc) α}
    (h : RI c arg3 arg4 arg5 f3 f4 f5 X R (j + 1) ⊢ wp frame (wpE (defs₀ (F := F)) Variants.none c none) Set.univ p Φ) :
    RI c arg3 arg4 arg5 f3 f4 f5 X R j ⊢ wp frame (wpE (defs₀ (F := F)) Variants.none c none) Set.univ
      (Prog.lift (.enqueueDma ((arg5.slice (Rect.unit (s := S2048x8x128) ![k, 0, 0] S1x8x128.size hin') (fun _ => rfl)).squeeze S8x128 squeezes_S1x8x128_S8x128)
          (.here ((resM.slice (Rect.unit (s := S81920x8x128) ![w, 0, 0] S1x8x128.size hin) (fun _ => rfl)).squeeze S8x128 squeezes_S1x8x128_S8x128))
          (.dma cc0_scratch1.sem) hsrc hdst ⟨Or.inl rfl, trivial⟩) >>= fun _ => p) Φ := by
  refine Entails.trans ?_ (Entails.of_eq rfl : wp frame (wpE (defs₀ (F := F)) Variants.none c none) Set.univ
      (.op (.enqueueDma ((arg5.slice (Rect.unit (s := S2048x8x128) ![k, 0, 0] S1x8x128.size hin') (fun _ => rfl)).squeeze S8x128 squeezes_S1x8x128_S8x128)
          (.here ((resM.slice (Rect.unit (s := S81920x8x128) ![w, 0, 0] S1x8x128.size hin) (fun _ => rfl)).squeeze S8x128 squeezes_S1x8x128_S8x128))
          (.dma cc0_scratch1.sem) hsrc hdst ⟨Or.inl rfl, trivial⟩) (fun _ => p)) Φ ⊢ _)
  obtain ⟨hr, hdj⟩ := left_split hok hj
  have hgive : iprop((((resM.slice (Rect.unit (s := S81920x8x128) ![w, 0, 0] S1x8x128.size hin) (fun _ => rfl)).squeeze S8x128 squeezes_S1x8x128_S8x128).view.loc (c : Thread nD τ) ↦[slot w]{fullShare}
          (((resM.slice (Rect.unit (s := S81920x8x128) ![w, 0, 0] S1x8x128.size hin) (fun _ => rfl)).squeeze S8x128 squeezes_S1x8x128_S8x128).view.write (Elt F) X
            (((arg5.slice (Rect.unit (s := S2048x8x128) ![k, 0, 0] S1x8x128.size hin') (fun _ => rfl)).squeeze S8x128 squeezes_S1x8x128_S8x128).view.read (Elt F) f5) Finset.univ))
        ∗ (((arg5.slice (Rect.unit (s := S2048x8x128) ![k, 0, 0] S1x8x128.size hin') (fun _ => rfl)).squeeze S8x128 squeezes_S1x8x128_S8x128).view.loc (c : Thread nD τ)
            ↦[((arg5.slice (Rect.unit (s := S2048x8x128) ![k, 0, 0] S1x8x128.size hin') (fun _ => rfl)).squeeze S8x128 squeezes_S1x8x128_S8x128).view.set]{half j} f5))
      ⊢ (rD c arg3 arg4 arg5 f3 f4 f5 X j : sProp 𝕄) := by
    unfold rD lent
    rw [src_set, hw, hk]
    exact sep_mono (Entails.of_eq (pointsTo_congr fun y hy => (put_eq arg5 hok f5 X hj hw hk _ _ _ _ y hy).symm)) .rfl
  have hlent : lent (F := F) c arg5 f5 j = (iprop(((arg5.slice (Rect.unit (s := S2048x8x128) ![k, 0, 0] S1x8x128.size hin') (fun _ => rfl)).squeeze S8x128 squeezes_S1x8x128_S8x128).view.loc (c : Thread nD τ)
            ↦[((arg5.slice (Rect.unit (s := S2048x8x128) ![k, 0, 0] S1x8x128.size hin') (fun _ => rfl)).squeeze S8x128 squeezes_S1x8x128_S8x128).view.set]{half j} f5) : sProp 𝕄) := by
    unfold lent; rw [src_set, hk]
  have hb := Transfers.wp_dmaBatch (defs := defs₀ (F := F)) (countersEmb (U := Pipeline.UD sig nD τ)) Variants.none (c : Thread nD τ) none (Q := Φ)
      (k := fun _ => p) (D := fun j : Fin 4096 => rD c arg3 arg4 arg5 f3 f4 f5 X j.val) (u := 0)
      (src := (arg5.slice (Rect.unit (s := S2048x8x128) ![k, 0, 0] S1x8x128.size hin') (fun _ => rfl)).squeeze S8x128 squeezes_S1x8x128_S8x128) (via := .same)
      (dst := (resM.slice (Rect.unit (s := S81920x8x128) ![w, 0, 0] S1x8x128.size hin) (fun _ => rfl)).squeeze S8x128 squeezes_S1x8x128_S8x128)
      (sm := semR) (q := half j) (fs := f5) (Sd := slot w) (fd := X) (hsrc := hsrc) (hdst := hdst) (hsem := ⟨Or.inl rfl, trivial⟩) (j := j)
      () NR (row_credit w _ _) (dst_set w _ _).subset hj (Nat.zero_le _) hgive
  unfold RI
  rw [Ring.bigSep_rangeSet_head hj hj, hr, hw]
  rw [hw] at hdj
  unfold rBatch
  iintro ⟨HN, ⟨Hl, Hls⟩, Hr, HB, HW⟩
  ihave Hr' := (pointsTo_union hdj).1 $$ Hr
  icases Hr' with ⟨Hb, Hr⟩
  ihave Hl' := (Entails.of_eq hlent) $$ Hl
  iapply hb $$ [Hl' Hb HB]
  · isplitl [Hl']; · iexact Hl'
    isplitl [Hb]; · iexact Hb
    iexact HB
  iintro HB
  iapply h
  unfold RI rBatch
  isplitl [HN]; · iexact HN
  isplitl [Hls]; · iexact Hls
  isplitl [Hr]; · iexact Hr
  isplitl [HB]; · iexact HB
  iexact HW

/-- Reading a name of the first block, and of the second. -/
theorem load_0 {R : sProp 𝕄} {Φ : α → sProp 𝕄} {j k : ℕ} (hk : k < 2048) {hin h1 hp} {p : Elt F .i32 → Prog (TpuEff nD τ sig (Elt F) Λ₀ .tc) α}
    (h : RI c arg3 arg4 arg5 f3 f4 f5 X R j ⊢ wp frame (wpE (defs₀ (F := F)) Variants.none c none) Set.univ (p (nm0 arg3 f3 (at2048 k))) Φ) :
    RI c arg3 arg4 arg5 f3 f4 f5 X R j ⊢ wp frame (wpE (defs₀ (F := F)) Variants.none c none) Set.univ
      (smemLoad arg3 (Rect.unit (s := S2048) ![k] S1.size hin) h1 hp >>= p) Φ := by
  rw [smemLoad_bind']
  unfold RI names at h ⊢
  iintro ⟨⟨H3, H4⟩, HR⟩
  iapply (wp_smemLoadElt (defs := defs₀ (F := F)) Variants.none (c : Thread nD τ) none Set.univ (m := arg3) (r := Rect.unit (s := S2048) ![k] S1.size hin) (S := Finset.univ) (Finset.subset_univ _)) $$ H3
  rw [read_name arg3 f3 k hk]
  iintro H3
  iapply h
  isplitr [HR]; swap; · iexact HR
  isplitl [H3]; · iexact H3
  iexact H4
theorem load_1 {R : sProp 𝕄} {Φ : α → sProp 𝕄} {j k : ℕ} (hk : k < 2048) {hin h1 hp} {p : Elt F .i32 → Prog (TpuEff nD τ sig (Elt F) Λ₀ .tc) α}
    (h : RI c arg3 arg4 arg5 f3 f4 f5 X R j ⊢ wp frame (wpE (defs₀ (F := F)) Variants.none c none) Set.univ (p (nm1 arg4 f4 (at2048 k))) Φ) :
    RI c arg3 arg4 arg5 f3 f4 f5 X R j ⊢ wp frame (wpE (defs₀ (F := F)) Variants.none c none) Set.univ
      (smemLoad arg4 (Rect.unit (s := S2048) ![k] S1.size hin) h1 hp >>= p) Φ := by
  rw [smemLoad_bind']
  unfold RI names at h ⊢
  iintro ⟨⟨H3, H4⟩, HR⟩
  iapply (wp_smemLoadElt (defs := defs₀ (F := F)) Variants.none (c : Thread nD τ) none Set.univ (m := arg4) (r := Rect.unit (s := S2048) ![k] S1.size hin) (S := Finset.univ) (Finset.subset_univ _)) $$ H4
  rw [read_name arg4 f4 k hk]
  iintro H4
  iapply h
  isplitr [HR]; swap; · iexact HR
  isplitl [H3]; · iexact H3
  iexact H4

/-- The same three, over offsets known by an equation. -/
theorem issue_row' {R : sProp 𝕄} {Φ : α → sProp 𝕄} (hok : RowOk (nm0 arg3 f3) (nm1 arg4 f4)) {j k w : ℕ} (hj : j < 4096)
    (hk : j / 2 = k) (hw : sl (nm0 arg3 f3) (nm1 arg4 f4) j = w) {offd offs : Fin 3 → ℕ} (hd : offd = ![w, 0, 0]) (hs : offs = ![k, 0, 0]) {hin hin' hsrc hdst}
    {p : Prog (TpuEff nD τ sig (Elt F) Λ₀ .tc) α}
    (h : RI c arg3 arg4 arg5 f3 f4 f5 X R (j + 1) ⊢ wp frame (wpE (defs₀ (F := F)) Variants.none c none) Set.univ p Φ) :
    RI c arg3 arg4 arg5 f3 f4 f5 X R j ⊢ wp frame (wpE (defs₀ (F := F)) Variants.none c none) Set.univ
      (Prog.lift (.enqueueDma ((arg5.slice (Rect.unit (s := S2048x8x128) offs S1x8x128.size hin') (fun _ => rfl)).squeeze S8x128 squeezes_S1x8x128_S8x128)
          (.here ((resM.slice (Rect.unit (s := S81920x8x128) offd S1x8x128.size hin) (fun _ => rfl)).squeeze S8x128 squeezes_S1x8x128_S8x128))
          (.dma cc0_scratch1.sem) hsrc hdst ⟨Or.inl rfl, trivial⟩) >>= fun _ => p) Φ := by
  subst hd hs
  exact issue_row hok hj hk hw h
theorem load_0' {R : sProp 𝕄} {Φ : α → sProp 𝕄} {j k : ℕ} (hk : k < 2048) {off : Fin 1 → ℕ} (ho : off = ![k]) {hin h1 hp} {p : Elt F .i32 → Prog (TpuEff nD τ sig (Elt F) Λ₀ .tc) α}
    (h : RI c arg3 arg4 arg5 f3 f4 f5 X R j ⊢ wp frame (wpE (defs₀ (F := F)) Variants.none c none) Set.univ (p (nm0 arg3 f3 (at2048 k))) Φ) :
    RI c arg3 arg4 arg5 f3 f4 f5 X R j ⊢ wp frame (wpE (defs₀ (F := F)) Variants.none c none) Set.univ
      (smemLoad arg3 (Rect.unit (s := S2048) off S1.size hin) h1 hp >>= p) Φ := by
  subst ho
  exact load_0 hk h
theorem load_1' {R : sProp 𝕄} {Φ : α → sProp 𝕄} {j k : ℕ} (hk : k < 2048) {off : Fin 1 → ℕ} (ho : off = ![k]) {hin h1 hp} {p : Elt F .i32 → Prog (TpuEff nD τ sig (Elt F) Λ₀ .tc) α}
    (h : RI c arg3 arg4 arg5 f3 f4 f5 X R j ⊢ wp frame (wpE (defs₀ (F := F)) Variants.none c none) Set.univ (p (nm1 arg4 f4 (at2048 k))) Φ) :
    RI c arg3 arg4 arg5 f3 f4 f5 X R j ⊢ wp frame (wpE (defs₀ (F := F)) Variants.none c none) Set.univ
      (smemLoad arg4 (Rect.unit (s := S2048) off S1.size hin) h1 hp >>= p) Φ := by
  subst ho
  exact load_1 hk h

/-- One trip: two copies started. -/
theorem trip (harg3 : arg3.IsWhole) (harg4 : arg4.IsWhole) (harg5 : arg5.IsWhole) (htT : tabT.IsWhole) (htH : tabH.IsWhole) (hr : resM.IsWhole) (hz : zerM.IsWhole)
    {R : sProp 𝕄} (hok : RowOk (nm0 arg3 f3) (nm1 arg4 f4)) (i : grid0.Coords) (n : Fin k0_t1_loop.trips) (hn : n.val < 2048) :
    RI c arg3 arg4 arg5 f3 f4 f5 X R (2 * n.val) ⊢ wp frame (wpE (defs₀ (F := F)) Variants.none c none) Set.univ
      (k0_t1_body i tabT htT tabH htH arg3 harg3 arg4 harg4 arg5 harg5 resM hr zerM hz cc0_scratch1 cc0_scratch2 n ⟨⟩)
      (fun _ => RI c arg3 arg4 arg5 f3 f4 f5 X R (2 * (n.val + 1))) := by
  have hiv := iv_nat hn
  have e0 : sl (nm0 arg3 f3) (nm1 arg4 f4) (2 * n.val) = _ := sl_even _ _ _
  have e1 : sl (nm0 arg3 f3) (nm1 arg4 f4) (2 * n.val + 1) = _ := sl_odd _ _ _
  have h129 : k0_off129 n = ![n.val] := by show ![(Scf.iv 0#32 1#32 n.val : BitVec 32).toNat] = _; rw [hiv]
  have h132 : k0_off132 n = ![n.val] := by show ![(Scf.iv 0#32 1#32 n.val : BitVec 32).toNat] = _; rw [hiv]
  have h131 : k0_off131 n = ![n.val, 0, 0] := by show ![(Scf.iv 0#32 1#32 n.val : BitVec 32).toNat, 0, 0] = _; rw [hiv]
  have h134 : k0_off134 n = ![n.val, 0, 0] := by show ![(Scf.iv 0#32 1#32 n.val : BitVec 32).toNat, 0, 0] = _; rw [hiv]
  have c0 : k0_chk129 (nm0 arg3 f3 (at2048 n.val)) := chk_row _ (e0 ▸ hok.inside _ (by omega))
  have c1 : k0_chk130 (nm1 arg4 f4 (at2048 n.val)) := chk_row _ (e1 ▸ hok.inside _ (by omega))
  unfold k0_t1_body
  refine load_0' hn h129 ?_
  refine Entails.trans ?_ (wp_assume (defs := defs₀ (F := F)) Variants.none (c : Thread nD τ) none Set.univ c0)
  refine issue_row' hok (j := 2 * n.val) (by omega) (by omega) e0 rfl h131 ?_
  refine load_1' hn h132 ?_
  refine Entails.trans ?_ (wp_assume (defs := defs₀ (F := F)) Variants.none (c : Thread nD τ) none Set.univ c1)
  refine issue_row' hok (j := 2 * n.val + 1) (by omega) (by omega) e1 rfl h134 ?_
  rw [wp_pure]
  iintro H
  imodintro
  iexact H

/-- What one grid point's copies start from, and what they leave. -/
def rStart (c : Dev nD) (arg3 arg4 : Memref sig .tc .smem S2048 .i32) (arg5 : Memref sig .tc .vmem S2048x8x128 .bf16)
    (f3 : arg3.view.ty.Contents (Elt F)) (f4 : arg4.view.ty.Contents (Elt F)) (f5 : arg5.view.ty.Contents (Elt F))
    (X : S81920x8x128.Idx → Elt F .bf16) (R : sProp 𝕄) : sProp 𝕄 :=
  iprop(names (F := F) c arg3 arg4 f3 f4 ∗ (arg5.view.loc (c : Thread nD τ) ↦{fullShare} f5)
    ∗ (resM.view.loc (c : Thread nD τ) ↦{fullShare} X) ∗ semVal ((c : Thread nD τ), semR) 0 ∗ owed (F := F) c R)

theorem half_even (k : ℕ) : half (2 * k) = fullShare.left := if_pos (by omega)
theorem half_odd (k : ℕ) : half (2 * k + 1) = fullShare.right := if_neg (by omega)

/-- The token block is what the copies borrow, all together. -/
theorem lent_all (h5 : arg5.IsWhole) :
    (bigSep (Finset.range (2 * 2048)) (fun j => lent (F := F) c arg5 f5 j) : sProp 𝕄)
      = iprop((arg5.view.loc (c : Thread nD τ) ↦{fullShare.left} f5) ∗ (arg5.view.loc (c : Thread nD τ) ↦{fullShare.right} f5)) := by
  have hq : ∀ q : PosShare TreeShare, (bigSep (Finset.range 2048) (fun k => (arg5.view.loc (c : Thread nD τ) ↦[trow arg5 k]{q} f5)) : sProp 𝕄)
      = (arg5.view.loc (c : Thread nD τ) ↦{q} f5) := by
    intro q
    rw [← pointsTo_biUnion (ℓ := arg5.view.loc (c : Thread nD τ)) (Finset.range 2048) (trow arg5) (fun i _ j _ h => trow_pairwise arg5 i j h), trow_cover arg5 h5]
  rw [Ring.bigSep_range_deinterleave]
  rw [← hq, ← hq]
  have e0 : (fun k => lent (F := F) c arg5 f5 (2 * k)) = (fun k => (iprop(arg5.view.loc (c : Thread nD τ) ↦[trow arg5 k]{fullShare.left} f5) : sProp 𝕄)) := by
    funext k; unfold lent; rw [half_even, show 2 * k / 2 = k by omega]
  have e1 : (fun k => lent (F := F) c arg5 f5 (2 * k + 1)) = (fun k => (iprop(arg5.view.loc (c : Thread nD τ) ↦[trow arg5 k]{fullShare.right} f5) : sProp 𝕄)) := by
    funext k; unfold lent; rw [half_odd, show (2 * k + 1) / 2 = k by omega]
  rw [e0, e1]

theorem lent_join (h5 : arg5.IsWhole) :
    (bigSep (Finset.univ : Finset (Fin 4096)) (fun j => lent (F := F) c arg5 f5 j.val) : sProp 𝕄) ⊣⊢ (arg5.view.loc (c : Thread nD τ) ↦{fullShare} f5) := by
  rw [Ring.bigSep_fin_eq_range 4096 _ (fun j => lent (F := F) c arg5 f5 j) fun t h => rfl]
  rw [show (4096 : ℕ) = 2 * 2048 from rfl, lent_all h5]
  exact ⟨(pointsTo_share (PosShare.mem_left_op_right fullShare)).2, (pointsTo_share (PosShare.mem_left_op_right fullShare)).1⟩

theorem RI_start (h5 : arg5.IsWhole) {R : sProp 𝕄} : rStart c arg3 arg4 arg5 f3 f4 f5 X R ⊢ (iprop(|={Set.univ}=> RI c arg3 arg4 arg5 f3 f4 f5 X R 0) : sProp 𝕄) := by
  unfold rStart RI rBatch
  rw [left_zero, Ring.rangeSet_univ]
  iintro ⟨HN, H5, Hr, Hs, HW⟩
  imod (Transfers.batch_alloc' (Lvl := ℕ) (countersEmb (U := Pipeline.UD sig nD τ)) (c : Thread nD τ) (sm := semR) () NR (fun j : Fin 4096 => rD c arg3 arg4 arg5 f3 f4 f5 X j.val)) $$ Hs with HB
  imodintro
  isplitl [HN]; · iexact HN
  isplitl [H5]
  · iapply (lent_join h5).2
    iexact H5
  isplitl [Hr]; · iexact Hr
  isplitl [HB]; · iexact HB
  iexact HW

theorem slots_cover (d0 d1 : S2048.Idx → BitVec 32) (n : ℕ) :
    (Finset.univ : Finset (Fin n)).biUnion (fun j => slot (sl d0 d1 j.val)) ∪ left d0 d1 n = Finset.univ := by
  ext y
  simp only [Finset.mem_union, Finset.mem_biUnion, Finset.mem_univ, true_and, iff_true]
  by_cases hy : y ∈ left d0 d1 n
  · exact .inr hy
  · rw [mem_left] at hy
    push Not at hy
    obtain ⟨j, hj, h⟩ := hy
    exact .inl ⟨⟨j, hj⟩, (mem_slot _ _).mpr h⟩
theorem slots_apart (d0 d1 : S2048.Idx → BitVec 32) (n : ℕ) :
    Disjoint ((Finset.univ : Finset (Fin n)).biUnion (fun j => slot (sl d0 d1 j.val))) (left d0 d1 n) := by
  rw [Finset.disjoint_left]
  intro y hy hr
  obtain ⟨j, -, hb⟩ := Finset.mem_biUnion.mp hy
  exact (mem_left _ _ _ y).mp hr j j.isLt ((mem_slot _ _).mp hb)

/-- The slots written and the slots left are the whole result. -/
theorem rows_join (hok : RowOk (nm0 arg3 f3) (nm1 arg4 f4)) :
    iprop(bigSep (Finset.univ : Finset (Fin 4096)) (fun j => (resM.view.loc (c : Thread nD τ) ↦[slot (sl (nm0 arg3 f3) (nm1 arg4 f4) j.val)]{fullShare} fin arg3 arg4 arg5 f3 f4 f5 X))
      ∗ (resM.view.loc (c : Thread nD τ) ↦[left (nm0 arg3 f3) (nm1 arg4 f4) 4096]{fullShare} X))
      ⊢ (resM.view.loc (c : Thread nD τ) ↦{fullShare} fin arg3 arg4 arg5 f3 f4 f5 X : sProp 𝕄) := by
  have hcov := slots_cover (nm0 arg3 f3) (nm1 arg4 f4) 4096
  have hdj := slots_apart (nm0 arg3 f3) (nm1 arg4 f4) 4096
  have hpw : ∀ i j : Fin 4096, i ≠ j → Disjoint (slot (sl (nm0 arg3 f3) (nm1 arg4 f4) i.val)) (slot (sl (nm0 arg3 f3) (nm1 arg4 f4) j.val)) := by
    intro i j h
    rw [Finset.disjoint_left]
    intro y hy hy'
    exact h (Fin.ext (hok.apart _ i.isLt _ j.isLt (((mem_slot _ _).mp hy).symm.trans ((mem_slot _ _).mp hy'))))
  rw [← pointsTo_biUnion (ℓ := resM.view.loc (c : Thread nD τ)) Finset.univ (fun j : Fin 4096 => slot (sl (nm0 arg3 f3) (nm1 arg4 f4) j.val)) (fun i _ j _ h => hpw i j h),
    pointsTo_congr (ℓ := resM.view.loc (c : Thread nD τ)) (I := left (nm0 arg3 f3) (nm1 arg4 f4) 4096) (f := X) (g := fin arg3 arg4 arg5 f3 f4 f5 X)
      (fun y hy => (put_off _ _ ((mem_left _ _ _ y).mp hy)).symm)]
  refine (pointsTo_union (ℓ := resM.view.loc (c : Thread nD τ)) hdj).2.trans ?_
  rw [hcov]

/-- All copies waited for: the rows are in. -/
theorem RI_done (h5 : arg5.IsWhole) (hok : RowOk (nm0 arg3 f3) (nm1 arg4 f4)) {R : sProp 𝕄} :
    iprop(names (F := F) c arg3 arg4 f3 f4 ∗ (resM.view.loc (c : Thread nD τ) ↦[left (nm0 arg3 f3) (nm1 arg4 f4) 4096]{fullShare} X)
      ∗ rBatch c arg3 arg4 arg5 f3 f4 f5 X 4096 (NR * 4096) ∗ owed (F := F) c R)
      ⊢ (iprop(|={Set.univ}=> rStart c arg3 arg4 arg5 f3 f4 f5 (fin arg3 arg4 arg5 f3 f4 f5 X) R) : sProp 𝕄) := by
  unfold rStart rBatch
  iintro ⟨HN, Hr, HB, HW⟩
  imod (Transfers.batch_collect' (countersEmb (U := Pipeline.UD sig nD τ)) (c : Thread nD τ) (sm := semR) (ι := ()) (n := 4096) (D := fun j => rD c arg3 arg4 arg5 f3 f4 f5 X j.val) NR_pos) $$ HB with ⟨HD, Hs⟩
  imodintro
  isplitl [HN]; · iexact HN
  have h1 : (bigSep Finset.univ (fun j : Fin 4096 => rD c arg3 arg4 arg5 f3 f4 f5 X j.val) : sProp 𝕄)
      = iprop(bigSep (Finset.univ : Finset (Fin 4096)) (fun j => (resM.view.loc (c : Thread nD τ) ↦[slot (sl (nm0 arg3 f3) (nm1 arg4 f4) j.val)]{fullShare} fin arg3 arg4 arg5 f3 f4 f5 X))
        ∗ bigSep (Finset.univ : Finset (Fin 4096)) (fun j => lent (F := F) c arg5 f5 j.val)) := by
    unfold rD
    exact BI.bigSep_sep' _ _ _
  ihave HD' := (Entails.of_eq h1) $$ HD
  icases HD' with ⟨HD, Ht⟩
  isplitl [Ht]
  · iapply (lent_join h5).1
    iexact Ht
  isplitl [Hr HD]
  · iapply (rows_join hok)
    isplitl [HD]; · iexact HD
    iexact Hr
  isplitl [Hs]; · iexact Hs
  iexact HW

/-- One of the two waits. -/
theorem wait_rows {R : sProp 𝕄} {Φ : α → sProp 𝕄} {u : ℕ} (hu : u + 2048 * NR ≤ NR * 4096) {hin hsrc hdst} {p : Prog (TpuEff nD τ sig (Elt F) Λ₀ .tc) α} {S : sProp 𝕄}
    (h : iprop(S ∗ rBatch c arg3 arg4 arg5 f3 f4 f5 X 4096 (u + 2048 * NR) ∗ owed (F := F) c R) ⊢ wp frame (wpE (defs₀ (F := F)) Variants.none c none) Set.univ p Φ) :
    iprop(S ∗ rBatch c arg3 arg4 arg5 f3 f4 f5 X 4096 u ∗ owed (F := F) c R) ⊢ wp frame (wpE (defs₀ (F := F)) Variants.none c none) Set.univ
      (Prog.lift (.waitDma2 cc0_scratch1.sem arg5 (resM.slice (Rect.unit (s := S81920x8x128) ![0, 0, 0] S2048x8x128.size hin) (fun _ => rfl)) hsrc hdst) >>= fun _ => p) Φ := by
  refine Entails.trans ?_ (Entails.of_eq rfl : wp frame (wpE (defs₀ (F := F)) Variants.none c none) Set.univ
      (.op (.waitDma2 cc0_scratch1.sem arg5 (resM.slice (Rect.unit (s := S81920x8x128) ![0, 0, 0] S2048x8x128.size hin) (fun _ => rfl)) hsrc hdst) (fun _ => p)) Φ ⊢ _)
  unfold owed rBatch at h ⊢
  iintro ⟨HS, HB, ⟨⟨%W, HW⟩, HR⟩⟩
  have hb := Transfers.wp_waitBatchMul (defs := defs₀ (F := F)) (countersEmb (U := Pipeline.UD sig nD τ)) Variants.none (c : Thread nD τ) none (Q := Φ)
      (k := fun _ => p) (D := fun j : Fin 4096 => rD c arg3 arg4 arg5 f3 f4 f5 X j.val) (sem := cc0_scratch1.sem) (u := u) (j := 4096) (srcw := arg5) (hsrc := hsrc) (hdst := hdst)
      (N := NR) (W := W) () 2048 (block_credit _ _) hu
  iapply hb $$ [HB HW]
  · isplitl [HB]; · iexact HB
    iexact HW
  iintro ⟨HB, HW⟩
  iapply h
  isplitl [HS]; · iexact HS
  isplitl [HB]; · iexact HB
  isplitl [HW]; · iexists _; iexact HW
  iexact HR

theorem trips_eq : k0_t1_loop.trips = 2048 := by decide

/-- The loop and its two waits: the rows are in. -/
theorem rows (harg3 : arg3.IsWhole) (harg4 : arg4.IsWhole) (harg5 : arg5.IsWhole) (htT : tabT.IsWhole) (htH : tabH.IsWhole) (hr : resM.IsWhole) (hz : zerM.IsWhole)
    {R : sProp 𝕄} (hok : RowOk (nm0 arg3 f3) (nm1 arg4 f4)) (i : grid0.Coords) {hin hsrc hdst hsrc' hdst'} :
    rStart c arg3 arg4 arg5 f3 f4 f5 X R ⊢ wp frame (wpE (defs₀ (F := F)) Variants.none c none) Set.univ
      (Scf.Loop.for k0_t1_loop k0_t1_ok ⟨⟩ (k0_t1_body i tabT htT tabH htH arg3 harg3 arg4 harg4 arg5 harg5 resM hr zerM hz cc0_scratch1 cc0_scratch2) >>= fun _ =>
        Prog.lift (.waitDma2 cc0_scratch1.sem arg5 (resM.slice (Rect.unit (s := S81920x8x128) ![0, 0, 0] S2048x8x128.size hin) (fun _ => rfl)) hsrc hdst) >>= fun _ =>
        Prog.lift (.waitDma2 cc0_scratch1.sem arg5 (resM.slice (Rect.unit (s := S81920x8x128) ![0, 0, 0] S2048x8x128.size hin) (fun _ => rfl)) hsrc' hdst') >>= fun _ =>
        (pure ⟨⟩ : Prog (TpuEff nD τ sig (Elt F) Λ₀ .tc) PUnit))
      (fun _ => rStart c arg3 arg4 arg5 f3 f4 f5 (fin arg3 arg4 arg5 f3 f4 f5 X) R) := by
  refine (RI_start harg5).trans ?_
  have hl := Scf.wp_for_bind frame (wpE (defs₀ (F := F)) Variants.none c none) Set.univ k0_t1_loop.lb k0_t1_loop.ub k0_t1_loop.st k0_t1_ok ()
    (k0_t1_body (F := F) i tabT htT tabH htH arg3 harg3 arg4 harg4 arg5 harg5 resM hr zerM hz cc0_scratch1 cc0_scratch2)
    (fun n _ => RI c arg3 arg4 arg5 f3 f4 f5 X R (2 * n))
    (fun n acc => trip harg3 harg4 harg5 htT htH hr hz hok i n (trips_eq ▸ n.isLt))
    (kk := fun _ => Prog.lift (.waitDma2 cc0_scratch1.sem arg5 (resM.slice (Rect.unit (s := S81920x8x128) ![0, 0, 0] S2048x8x128.size hin) (fun _ => rfl)) hsrc hdst) >>= fun _ =>
        Prog.lift (.waitDma2 cc0_scratch1.sem arg5 (resM.slice (Rect.unit (s := S81920x8x128) ![0, 0, 0] S2048x8x128.size hin) (fun _ => rfl)) hsrc' hdst') >>= fun _ =>
        (pure ⟨⟩ : Prog (TpuEff nD τ sig (Elt F) Λ₀ .tc) PUnit))
    (Q := fun _ => rStart c arg3 arg4 arg5 f3 f4 f5 (fin arg3 arg4 arg5 f3 f4 f5 X) R)
  have hafter : RI c arg3 arg4 arg5 f3 f4 f5 X R 4096 ⊢ wp frame (wpE (defs₀ (F := F)) Variants.none c none) Set.univ
      (Prog.lift (.waitDma2 cc0_scratch1.sem arg5 (resM.slice (Rect.unit (s := S81920x8x128) ![0, 0, 0] S2048x8x128.size hin) (fun _ => rfl)) hsrc hdst) >>= fun _ =>
        Prog.lift (.waitDma2 cc0_scratch1.sem arg5 (resM.slice (Rect.unit (s := S81920x8x128) ![0, 0, 0] S2048x8x128.size hin) (fun _ => rfl)) hsrc' hdst') >>= fun _ =>
        (pure ⟨⟩ : Prog (TpuEff nD τ sig (Elt F) Λ₀ .tc) PUnit))
      (fun _ => rStart c arg3 arg4 arg5 f3 f4 f5 (fin arg3 arg4 arg5 f3 f4 f5 X) R) := by
    unfold RI
    have hre : iprop(names (F := F) c arg3 arg4 f3 f4
        ∗ bigSep (Ring.rangeSet 4096 4096 4096) (fun j => lent (F := F) c arg5 f5 j.val)
        ∗ (resM.view.loc (c : Thread nD τ) ↦[left (nm0 arg3 f3) (nm1 arg4 f4) 4096]{fullShare} X)
        ∗ rBatch c arg3 arg4 arg5 f3 f4 f5 X 4096 0 ∗ owed (F := F) c R)
        ⊢ (iprop((names (F := F) c arg3 arg4 f3 f4 ∗ (resM.view.loc (c : Thread nD τ) ↦[left (nm0 arg3 f3) (nm1 arg4 f4) 4096]{fullShare} X))
          ∗ rBatch c arg3 arg4 arg5 f3 f4 f5 X 4096 0 ∗ owed (F := F) c R) : sProp 𝕄) := by
      iintro ⟨HN, -, Hr, HB⟩
      isplitr [HB]; swap; · iexact HB
      isplitl [HN]; · iexact HN
      iexact Hr
    refine hre.trans ?_
    refine wait_rows (by rw [Nat.mul_comm NR]; omega) ?_
    refine wait_rows (by rw [Nat.mul_comm NR]; omega) ?_
    rw [wp_pure, show 0 + 2048 * NR + 2048 * NR = NR * 4096 by rw [Nat.mul_comm NR]; omega]
    refine Entails.trans ?_ (RI_done harg5 hok)
    iintro ⟨⟨HN, Hr⟩, HB⟩
    isplitl [HN]; · iexact HN
    isplitl [Hr]; · iexact Hr
    iexact HB
  iintro >HI
  iapply hl $$ HI
  iintro %acc HI
  iapply hafter
  have ht : Scf.trips k0_t1_loop.lb k0_t1_loop.ub k0_t1_loop.st = 2048 := trips_eq
  rw [ht]
  iexact HI

end Steps

end Cert.KernelIdeal.Hand

end
-- ==== Proof.Body.lean ====
/- The dispatch kernel's body at one grid point: the fills at the first, the row copies at every one. -/
module

public import proofs.«01_k».proof.Proof.Rows

@[expose] public section

set_option maxRecDepth 16384

noncomputable section

namespace Cert.KernelIdeal.Hand

open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable {c : Dev nD} {T H : S64.Idx → BitVec 32} {X : S81920x8x128.Idx → Elt F .bf16}
variable {arg3 arg4 : Memref sig .tc .smem S2048 .i32} {arg5 : Memref sig .tc .vmem S2048x8x128 .bf16}
variable {f3 : arg3.view.ty.Contents (Elt F)} {f4 : arg4.view.ty.Contents (Elt F)} {f5 : arg5.view.ty.Contents (Elt F)}

/-- What the body holds at one grid point, the result at `X`. -/
def held (c : Dev nD) (T H : S64.Idx → BitVec 32) (arg3 arg4 : Memref sig .tc .smem S2048 .i32) (arg5 : Memref sig .tc .vmem S2048x8x128 .bf16)
    (f3 : arg3.view.ty.Contents (Elt F)) (f4 : arg4.view.ty.Contents (Elt F)) (f5 : arg5.view.ty.Contents (Elt F))
    (R : sProp 𝕄) (X : S81920x8x128.Idx → Elt F .bf16) : sProp 𝕄 :=
  iprop(tabs (F := F) c T H ∗ (∃ f, zerM.view.loc (c : Thread nD τ) ↦{fullShare} f)
    ∗ (resM.view.loc (c : Thread nD τ) ↦{fullShare} X)
    ∗ semVal ((c : Thread nD τ), semZ) 0 ∗ semVal ((c : Thread nD τ), semR) 0
    ∗ names (F := F) c arg3 arg4 f3 f4 ∗ (arg5.view.loc (c : Thread nD τ) ↦{fullShare} f5) ∗ owed (F := F) c R)

/-- What the fills do not use. -/
def zKeep (c : Dev nD) (arg3 arg4 : Memref sig .tc .smem S2048 .i32) (arg5 : Memref sig .tc .vmem S2048x8x128 .bf16)
    (f3 : arg3.view.ty.Contents (Elt F)) (f4 : arg4.view.ty.Contents (Elt F)) (f5 : arg5.view.ty.Contents (Elt F))
    (R : sProp 𝕄) : sProp 𝕄 :=
  iprop(semVal ((c : Thread nD τ), semR) 0 ∗ names (F := F) c arg3 arg4 f3 f4 ∗ (arg5.view.loc (c : Thread nD τ) ↦{fullShare} f5) ∗ R)
/-- What the row copies do not use. -/
def rKeep (c : Dev nD) (T H : S64.Idx → BitVec 32) (R : sProp 𝕄) : sProp 𝕄 :=
  iprop(tabs (F := F) c T H ∗ (∃ f, zerM.view.loc (c : Thread nD τ) ↦{fullShare} f) ∗ semVal ((c : Thread nD τ), semZ) 0 ∗ R)

theorem held_z {R : sProp 𝕄} : held c T H arg3 arg4 arg5 f3 f4 f5 R X ⊢ (zStart c T H X (zKeep c arg3 arg4 arg5 f3 f4 f5 R) : sProp 𝕄) := by
  unfold held zStart zKeep owed
  iintro ⟨HT, Hz, Hr, HZ, HR, HN, H5, HW, HK⟩
  isplitl [HT]; · iexact HT
  isplitl [Hz]; · iexact Hz
  isplitl [Hr]; · iexact Hr
  isplitl [HZ]; · iexact HZ
  isplitl [HW]; · iexact HW
  isplitl [HR]; · iexact HR
  isplitl [HN]; · iexact HN
  isplitl [H5]; · iexact H5
  iexact HK
theorem z_held {R : sProp 𝕄} : zDone c T H X (zKeep c arg3 arg4 arg5 f3 f4 f5 R) ⊢ (held c T H arg3 arg4 arg5 f3 f4 f5 R (filled T H X) : sProp 𝕄) := by
  unfold held zDone zKeep owed
  iintro ⟨HT, Hz, Hr, HZ, HW, HR, HN, H5, HK⟩
  isplitl [HT]; · iexact HT
  isplitl [Hz]; · iexists _; iexact Hz
  isplitl [Hr]; · iexact Hr
  isplitl [HZ]; · iexact HZ
  isplitl [HR]; · iexact HR
  isplitl [HN]; · iexact HN
  isplitl [H5]; · iexact H5
  isplitl [HW]; · iexact HW
  iexact HK
theorem held_r {R : sProp 𝕄} : held c T H arg3 arg4 arg5 f3 f4 f5 R X ⊢ (rStart c arg3 arg4 arg5 f3 f4 f5 X (rKeep c T H R) : sProp 𝕄) := by
  unfold held rStart rKeep owed
  iintro ⟨HT, Hz, Hr, HZ, HR, HN, H5, HW, HK⟩
  isplitl [HN]; · iexact HN
  isplitl [H5]; · iexact H5
  isplitl [Hr]; · iexact Hr
  isplitl [HR]; · iexact HR
  isplitl [HW]; · iexact HW
  isplitl [HT]; · iexact HT
  isplitl [Hz]; · iexact Hz
  isplitl [HZ]; · iexact HZ
  iexact HK
theorem r_held {R : sProp 𝕄} : rStart c arg3 arg4 arg5 f3 f4 f5 X (rKeep c T H R) ⊢ (held c T H arg3 arg4 arg5 f3 f4 f5 R X : sProp 𝕄) := by
  unfold held rStart rKeep owed
  iintro ⟨HN, H5, Hr, HR, HW, HT, Hz, HZ, HK⟩
  isplitl [HT]; · iexact HT
  isplitl [Hz]; · iexact Hz
  isplitl [Hr]; · iexact Hr
  isplitl [HZ]; · iexact HZ
  isplitl [HR]; · iexact HR
  isplitl [HN]; · iexact HN
  isplitl [H5]; · iexact H5
  isplitl [HW]; · iexact HW
  iexact HK

/-- The result before the row copies of a grid point. -/
def base (i : grid0.Coords) (T H : S64.Idx → BitVec 32) (X : S81920x8x128.Idx → Elt F .bf16) : S81920x8x128.Idx → Elt F .bf16 :=
  if k0_cond1 i = 1#1 then filled T H X else X

/-- The body at one grid point. -/
theorem body_run (hok : TabOk T H) (hrow : RowOk (nm0 arg3 f3) (nm1 arg4 f4)) (i : grid0.Coords)
    (harg3 : arg3.IsWhole) (harg4 : arg4.IsWhole) (harg5 : arg5.IsWhole) (htT : tabT.IsWhole) (htH : tabH.IsWhole) (hr : resM.IsWhole) (hz : zerM.IsWhole)
    {R : sProp 𝕄} :
    held c T H arg3 arg4 arg5 f3 f4 f5 R X ⊢ wp frame (wpE (defs₀ (F := F)) Variants.none c none) Set.univ
      (cc0_dispatch i tabT htT tabH htH arg3 harg3 arg4 harg4 arg5 harg5 resM hr zerM hz cc0_scratch1 cc0_scratch2)
      (fun _ => held c T H arg3 arg4 arg5 f3 f4 f5 R (fin arg3 arg4 arg5 f3 f4 f5 (base i T H X))) := by
  have hrows : held c T H arg3 arg4 arg5 f3 f4 f5 R (base i T H X) ⊢ _ := held_r.trans ((rows (c := c) (f5 := f5) (X := base i T H X) (R := rKeep c T H R) harg3 harg4 harg5 htT htH hr hz hrow i
    (hin := inb_S81920x8x128_S2048x8x128_0_0_0) (hsrc := harg5.wordExact) (hdst := hr.wordExact_slice rfl _ wordsbf16_S81920x8x128_S2048x8x128_0_0_0)
    (hsrc' := harg5.wordExact) (hdst' := hr.wordExact_slice rfl _ wordsbf16_S81920x8x128_S2048x8x128_0_0_0)).trans (wp_mono _ _ _ fun _ => r_held))
  rw [cc0_dispatch_eq_skeleton]
  unfold cc0_dispatch_skel
  refine wp_dite (fun h1 => ?_) (fun h1 => ?_)
  · rw [show base i T H X = filled T H X from if_pos h1] at hrows ⊢
    refine held_z.trans ?_
    refine wp_seq _ (part1 hok i h1 arg3 harg3 arg4 harg4 arg5 harg5 htT htH hr hz cc0_scratch1) (fun r hv => ?_)
    obtain ⟨v, c0⟩ := r
    obtain rfl : v = _ := hv
    refine wp_seq _ (part2 hok i h1 arg3 harg3 arg4 harg4 arg5 harg5 htT htH hr hz cc0_scratch1 c0) (fun r hv => ?_)
    obtain rfl := hv
    refine wp_seq _ (part3 hok i h1 arg3 harg3 arg4 harg4 arg5 harg5 htT htH hr hz cc0_scratch1) (fun r hv => ?_)
    obtain ⟨v, c0⟩ := r
    obtain rfl : v = _ := hv
    refine wp_seq _ (part4 hok i h1 arg3 harg3 arg4 harg4 arg5 harg5 htT htH hr hz cc0_scratch1 c0) (fun r hv => ?_)
    obtain rfl := hv
    refine wp_seq _ (part5 hok i h1 arg3 harg3 arg4 harg4 arg5 harg5 htT htH hr hz cc0_scratch1) (fun r hv => ?_)
    obtain ⟨v, c0⟩ := r
    obtain rfl : v = _ := hv
    refine wp_seq _ (part6 hok i h1 arg3 harg3 arg4 harg4 arg5 harg5 htT htH hr hz cc0_scratch1 c0) (fun r hv => ?_)
    obtain rfl := hv
    refine wp_seq _ (part7 hok i h1 arg3 harg3 arg4 harg4 arg5 harg5 htT htH hr hz cc0_scratch1) (fun r hv => ?_)
    obtain ⟨v, c0⟩ := r
    obtain rfl : v = _ := hv
    refine wp_seq _ (part8 hok i h1 arg3 harg3 arg4 harg4 arg5 harg5 htT htH hr hz cc0_scratch1 c0) (fun r hv => ?_)
    obtain rfl := hv
    refine wp_seq _ (part9 hok i h1 arg3 harg3 arg4 harg4 arg5 harg5 htT htH hr hz cc0_scratch1) (fun r hv => ?_)
    obtain ⟨v, c0⟩ := r
    obtain rfl : v = _ := hv
    refine wp_seq _ (part10 hok i h1 arg3 harg3 arg4 harg4 arg5 harg5 htT htH hr hz cc0_scratch1 c0) (fun r hv => ?_)
    obtain rfl := hv
    refine wp_seq _ (part11 hok i h1 arg3 harg3 arg4 harg4 arg5 harg5 htT htH hr hz cc0_scratch1) (fun r hv => ?_)
    obtain ⟨v, c0⟩ := r
    obtain rfl : v = _ := hv
    refine wp_seq _ (part12 hok i h1 arg3 harg3 arg4 harg4 arg5 harg5 htT htH hr hz cc0_scratch1 c0) (fun r hv => ?_)
    obtain rfl := hv
    refine wp_seq _ (part13 hok i h1 arg3 harg3 arg4 harg4 arg5 harg5 htT htH hr hz cc0_scratch1) (fun r hv => ?_)
    obtain ⟨v, c0⟩ := r
    obtain rfl : v = _ := hv
    refine wp_seq _ (part14 hok i h1 arg3 harg3 arg4 harg4 arg5 harg5 htT htH hr hz cc0_scratch1 c0) (fun r hv => ?_)
    obtain rfl := hv
    refine wp_seq _ (part15 hok i h1 arg3 harg3 arg4 harg4 arg5 harg5 htT htH hr hz cc0_scratch1) (fun r hv => ?_)
    obtain ⟨v, c0⟩ := r
    obtain rfl : v = _ := hv
    refine wp_seq _ (part16 hok i h1 arg3 harg3 arg4 harg4 arg5 harg5 htT htH hr hz cc0_scratch1 c0) (fun r hv => ?_)
    obtain rfl := hv
    refine wp_seq _ (part17 hok i h1 arg3 harg3 arg4 harg4 arg5 harg5 htT htH hr hz cc0_scratch1) (fun r hv => ?_)
    obtain ⟨v, c0⟩ := r
    obtain rfl : v = _ := hv
    refine wait_guard (k0_h1 := h1) hok (e := 62) (by decide) ?_
    refine SW_load (e := 63) (by decide) ?_
    refine wait_guard (k0_h1 := h1) hok (e := 63) (by decide) ?_
    iintro HS
    imod (SW_done hok) $$ HS with HS
    ihave HS' := z_held $$ HS
    iapply hrows
    iexact HS'
  · rw [show base i T H X = X from if_neg h1] at hrows ⊢
    exact hrows

end Cert.KernelIdeal.Hand

end
-- ==== Proof.Run.lean ====
/- The dispatch kernel's launch: what @main's host operations leave for it, what each grid point is handed
   and leaves, and the run of the whole program from any memory whose tables and slot numbers are in order. -/
module

public import proofs.«01_k».proof.Proof.Body
public import Idealize.ShloMosaic.Lib.Pipeline.FrameBody
public import Idealize.ShloMosaic.Lib.Pipeline.FrameValue
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the launch -/

/-- The host operations before the launch, stretch by stretch. -/
abbrev opss : List (List (HloOp τ sig (Elt F))) := [hostOps0, hostOps0_1, hostOps0_2, hostOps0_3, hostOps0_4]
/-- What a core's buffers hold when the kernel is launched. -/
abbrev V (c : Dev nD) (b : Ref sig .tc) : Buf (Elt F) ((c : Thread nD τ).loc b) :=
  StableHlo.after (List.flatten opss) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

set_option maxHeartbeats 800000 in
/-- @main up to the launch. -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main opss
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- What the host operations write, in order. -/
abbrev writes : List (Ref sig .tc) :=
  [main_c, main_v0, main_v1, main_c_0, main_v2, main_v3, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4, main_c_2, main_v5, main_v6, main_call1_call0_c, main_call1_call0_v0, main_v7, main_v8, main_v9, main_v10, main_c_3, main_v11, main_v12, main_v13, main_v14, main_c_4, main_v15, main_v16, main_c_5, main_v17, main_v18, main_c_6, main_v19, main_v20, main_v21, main_c_7, main_v22, main_v23, main_v24, main_v25]
theorem V_keep (c : Dev nD) {b : Ref sig .tc} (hb : b ∉ writes) : V m c b = m ((c : Thread nD τ).loc b) :=
  StableHlo.after_of_writes_sub (W := writes) (List.flatten opss) _ (StableHlo.forall_writes_sub_of_map rfl) hb
theorem V_main_arg0 (c : Dev nD) : V m c main_arg0 = m ((c : Thread nD τ).loc main_arg0) := V_keep m c (by decide)
theorem V_main_arg1 (c : Dev nD) : V m c main_arg1 = m ((c : Thread nD τ).loc main_arg1) := V_keep m c (by decide)
theorem V_main_arg2 (c : Dev nD) : V m c main_arg2 = m ((c : Thread nD τ).loc main_arg2) := V_keep m c (by decide)
theorem V_main_arg3 (c : Dev nD) : V m c main_arg3 = m ((c : Thread nD τ).loc main_arg3) := V_keep m c (by decide)

/-! ## The tables and the blocks -/

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev adm : (pcfg0 (F := F)).Adm := ⟨tbl m, trivial⟩
abbrev cfgM : Pipeline.Cfg sig Λ₀ := cfg0 (adm m)
/-- The two tables. -/
def tT : S64.Idx → BitVec 32 := tbl m 0
def tH : S64.Idx → BitVec 32 := tbl m 1

theorem PhiT0_eq (c : Dev nD) : (Pipeline.ΦT pre0 (tbl m) c : sProp 𝕄) = tabs (F := F) c (tT m) (tH m) := by
  unfold Pipeline.ΦT Pipeline.prefHeld
  rw [show (Finset.univ : Finset (Fin 2)) = {(0 : Fin 2), 1} from by decide, bigSep_insert (by decide), bigSep_singleton]
  rfl

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The blocks at a point, by their numbers: the two blocks of slot numbers and the block of tokens. -/
abbrev bD (t : Fin (cfgM m).N) : S2048.Idx → BitVec 32 := iblk m 0 0 t
abbrev bE (t : Fin (cfgM m).N) : S2048.Idx → BitVec 32 := iblk m 0 1 t
abbrev bX (t : Fin (cfgM m).N) : S2048x8x128.Idx → Elt F .bf16 := iblk m 0 2 t

/-- What must be true of the tables and of the slot numbers. -/
structure Good : Prop where
  tab : TabOk (tT m) (tH m)
  row : ∀ t, RowOk (bD m t) (bE m t)

/-- The result before point `i`. -/
def resAt : ℕ → (S81920x8x128.Idx → Elt F .bf16)
  | 0 => V m 0 main_v26
  | i + 1 => if h : i < (cfgM m).N then put (bD m ⟨i, h⟩) (bE m ⟨i, h⟩) (bX m ⟨i, h⟩) (base (grid0.coords ⟨i, h⟩) (tT m) (tH m) (resAt i)) else resAt i
theorem resAt_succ (t : Fin (cfgM m).N) :
    resAt m (t.val + 1) = put (bD m t) (bE m t) (bX m t) (base (grid0.coords t) (tT m) (tH m) (resAt m t.val)) := by
  show (if h : t.val < (cfgM m).N then _ else _) = _
  rw [dif_pos t.isLt]

/-- A core's buffers with the result at `X`. -/
def atRes (c : Dev nD) (X : S81920x8x128.Idx → Elt F .bf16) : (b : Ref sig .tc) → Buf (Elt F) ((c : Thread nD τ).loc b) :=
  Function.update (V m c) main_v26 X
theorem atRes_res (c : Dev nD) (X) : atRes m c X main_v26 = X := Function.update_self ..

/-! ## What the body is handed -/

abbrev osem0 : Fin 2 → SemLoc sig := fun j => (![SemLoc.dma 6, SemLoc.dma 7] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0) := by
  rw [Pipeline.ownSems0_eq_of_list c osem0 [0, 1] (by decide) (by decide)]; rfl
def H0 : Finset (Ref sig .tc) := {}
theorem H0_sub : H0 ⊆ Pipeline.restRefsP sig pre0 spec0 := by decide
def R0 : Finset (Ref sig .tc) := {main_v26}
theorem R0_sub : R0 ⊆ Pipeline.restRefsP sig pre0 spec0 \ H0 := by decide
theorem hbmPts0_eq (c : Dev nD) :
    (bigSep H0 (fun b => ((c : Thread nD τ).loc b) ↦{fullShare} V m c b) : sProp 𝕄) = iprop(emp) := by
  rw [BI.bigSep_eq_bigSepL_of_eq [] (by decide) (by decide)]; rfl
theorem routed_eq (c : Dev nD) (W : (b : Ref sig .tc) → Buf (Elt F) ((c : Thread nD τ).loc b)) :
    (Pipeline.routed R0 c W : sProp 𝕄) = iprop(((c : Thread nD τ).loc main_v26) ↦{fullShare} W main_v26) :=
  Pipeline.routed_singleton main_v26 c W

theorem PhiDRG0_eq (c : Dev nD) (W : (c : Dev nD) → (b : Ref sig .tc) → Buf (Elt F) ((c : Thread nD τ).loc b)) :
    (Pipeline.ΦDRG osem0 spec0 H0 R0 (V m) W c : sProp 𝕄)
      = iprop(iprop(∃ f : Buf (Elt F) ((c : Thread nD τ).loc cc0_scratch0), ((c : Thread nD τ).loc cc0_scratch0) ↦{fullShare} f) ∗ (∃ r, prngReg c r)
        ∗ iprop(semVal ((c : Thread nD τ), SemLoc.dma 6) 0 ∗ semVal ((c : Thread nD τ), SemLoc.dma 7) 0) ∗ iprop(emp)
        ∗ iprop(((c : Thread nD τ).loc main_v26) ↦{fullShare} W c main_v26)) := by
  rw [Pipeline.ΦDRG_eq, scopedRest0_eq, ownSems00_eq, hbmPts0_eq, routed_eq]

/-- A whole memref's elements are all its buffer's. -/
theorem whole_set {κ : Kind} {sp : Space} {sh : Shape} {e : EltTy} {M : Memref sig κ sp sh e} (hw : M.IsWhole) : M.view.set = Finset.univ := by
  obtain ⟨b, rfl, rfl, rfl, hm⟩ := hw
  cases hm
  exact View.set_whole b
/-- A whole memref owned at `X` is its buffer held at the contents that read `X`. -/
theorem own_in (c : Dev nD) {sp : Space} {sh : Shape} {e : EltTy} (M : Memref sig .tc sp sh e)
    (hw : M.IsWhole) (X : sh.Idx → Elt F e) : (owns (c : Thread nD τ) M fullShare X : sProp 𝕄) ⊢ (M.view.loc (c : Thread nD τ)) ↦{fullShare} hw.unread X := by
  unfold owns
  iintro ⟨%f, %hf, H⟩
  obtain rfl := hw.eq_unread hf
  rw [whole_set hw]
  iexact H
theorem own_out (c : Dev nD) {sp : Space} {sh : Shape} {e : EltTy} (M : Memref sig .tc sp sh e)
    (hw : M.IsWhole) (X : sh.Idx → Elt F e) : ((M.view.loc (c : Thread nD τ)) ↦{fullShare} hw.unread X : sProp 𝕄) ⊢ owns (c : Thread nD τ) M fullShare X := by
  unfold owns
  rw [whole_set hw]
  iintro H
  iexists _; isplitr; · ipureintro; exact hw.read_unread X
  iexact H

/-! ## The pipeline's proof data -/

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
  Φ t := iprop(Pipeline.ΦDRG osem0 spec0 H0 R0 (V m) (fun c => atRes m c (resAt m t.val)) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after0_0 (c : Dev nD) (t : Fin (cfgM m).N) : (dats m 0 c).after 0 t = iblk m c 0 t := by dsimp only [dats]; try rfl
theorem after0_1 (c : Dev nD) (t : Fin (cfgM m).N) : (dats m 0 c).after 1 t = iblk m c 1 t := by dsimp only [dats]; try rfl
theorem after0_2 (c : Dev nD) (t : Fin (cfgM m).N) : (dats m 0 c).after 2 t = iblk m c 2 t := by dsimp only [dats]; try rfl
theorem before0_0 (c : Dev nD) (t : Fin (cfgM m).N) (d) : (dats m 0 c).before 0 t d = iblk m c 0 t :=
  before0_0_of m (dats m 0 c) (A_eq m c 0) (after0_0 m c) t d
theorem before0_1 (c : Dev nD) (t : Fin (cfgM m).N) (d) : (dats m 0 c).before 1 t d = iblk m c 1 t :=
  before0_1_of m (dats m 0 c) (A_eq m c 1) (after0_1 m c) t d
theorem before0_2 (c : Dev nD) (t : Fin (cfgM m).N) (d) : (dats m 0 c).before 2 t d = iblk m c 2 t :=
  before0_2_of m (dats m 0 c) (A_eq m c 2) (after0_2 m c) t d

/-! ## The body at any point -/

abbrev ms0_0 (t : Fin (cfgM m).N) : Memref sig .tc .smem S2048 .i32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .smem S2048 .i32 := spec0_1.stage ((cfgM m).slots t 1)
abbrev hs0_1 (t : Fin (cfgM m).N) : (ms0_1 m t).IsWhole := hstage0_1 (((cfgM m).slots t 1).cast nbuf0_1)
abbrev ms0_2 (t : Fin (cfgM m).N) : Memref sig .tc .vmem S2048x8x128 .bf16 := spec0_2.stage ((cfgM m).slots t 2)
abbrev hs0_2 (t : Fin (cfgM m).N) : (ms0_2 m t).IsWhole := hstage0_2 (((cfgM m).slots t 2).cast nbuf0_2)

abbrev bodyAt0 (t : Fin (cfgM m).N) : Prog (TpuEff nD τ sig (Elt F) Λ₀ .tc) PUnit :=
  cc0_dispatch (grid0.coords t) tabT (Memref.isWhole_whole _) tabH (Memref.isWhole_whole _) (ms0_0 m t) (hs0_0 m t) (ms0_1 m t) (hs0_1 m t)
    (ms0_2 m t) (hs0_2 m t) resM (Memref.isWhole_whole _) zerM (Memref.isWhole_whole _) cc0_scratch1 cc0_scratch2

def bodyPre (c : Dev nD) (t : Fin (cfgM m).N) : sProp 𝕄 :=
  iprop((dats m 0 c).Φ t.castSucc ∗ (dats m 0 c).owesAt () t.castSucc
    ∗ (∃ d, owns (c : Thread nD τ) (ms0_0 m t) fullShare ((dats m 0 c).before 0 t d))
    ∗ (∃ d, owns (c : Thread nD τ) (ms0_1 m t) fullShare ((dats m 0 c).before 1 t d))
    ∗ (∃ d, owns (c : Thread nD τ) (ms0_2 m t) fullShare ((dats m 0 c).before 2 t d)))
def bodyPost (c : Dev nD) (t : Fin (cfgM m).N) : sProp 𝕄 :=
  iprop((dats m 0 c).Φ t.succ ∗ (dats m 0 c).owesAt () t.succ
    ∗ owns (c : Thread nD τ) (ms0_0 m t) fullShare ((dats m 0 c).after 0 t)
    ∗ owns (c : Thread nD τ) (ms0_1 m t) fullShare ((dats m 0 c).after 1 t)
    ∗ owns (c : Thread nD τ) (ms0_2 m t) fullShare ((dats m 0 c).after 2 t))

/-- What the body holds at a point, in the run's words. -/
abbrev heldAt (c : Dev nD) (t : Fin (cfgM m).N) (X : S81920x8x128.Idx → Elt F .bf16) : sProp 𝕄 :=
  held c (tT m) (tH m) (ms0_0 m t) (ms0_1 m t) (ms0_2 m t) ((hs0_0 m t).unread (iblk m c 0 t)) ((hs0_1 m t).unread (iblk m c 1 t))
    ((hs0_2 m t).unread (iblk m c 2 t)) iprop(∃ r, prngReg c r) X

theorem pre_held (c : Dev nD) (t : Fin (cfgM m).N) : bodyPre m c t ⊢ heldAt m c t (resAt m t.val) := by
  unfold bodyPre heldAt held names owed
  simp only [before0_0, before0_1, before0_2]
  rw [show (dats m 0 c).Φ t.castSucc = iprop(Pipeline.ΦDRG osem0 spec0 H0 R0 (V m) (fun c => atRes m c (resAt m t.val)) c ∗ Pipeline.ΦT pre0 (tbl m) c) from rfl,
    PhiDRG0_eq, PhiT0_eq, atRes_res]
  unfold Dat.owesAt Pipeline.owesWithin
  rw [show (dats m 0 c).owed t.castSucc = 0 from rfl]
  iintro ⟨⟨⟨Hz, Hg, ⟨HR, HZ⟩, -, Hr⟩, HT⟩, ⟨%W, -, HW⟩, ⟨%d0, H0⟩, ⟨%d1, H1⟩, ⟨%d2, H2⟩⟩
  ihave H0 := (own_in c (ms0_0 m t) (hs0_0 m t) (iblk m c 0 t)) $$ H0
  ihave H1 := (own_in c (ms0_1 m t) (hs0_1 m t) (iblk m c 1 t)) $$ H1
  ihave H2 := (own_in c (ms0_2 m t) (hs0_2 m t) (iblk m c 2 t)) $$ H2
  isplitl [HT]; · iexact HT
  isplitl [Hz]; · iexact Hz
  isplitl [Hr]; · iexact Hr
  isplitl [HZ]; · iexact HZ
  isplitl [HR]; · iexact HR
  isplitl [H0 H1]
  · isplitl [H0]; · iexact H0
    iexact H1
  isplitl [H2]; · iexact H2
  isplitl [HW]; · iexists W; iexact HW
  iexact Hg

theorem held_post (c : Dev nD) (t : Fin (cfgM m).N) : heldAt m c t (resAt m (t.val + 1)) ⊢ bodyPost m c t := by
  unfold bodyPost heldAt held names owed
  rw [after0_0, after0_1, after0_2]
  rw [show (dats m 0 c).Φ t.succ = iprop(Pipeline.ΦDRG osem0 spec0 H0 R0 (V m) (fun c => atRes m c (resAt m (t.val + 1))) c ∗ Pipeline.ΦT pre0 (tbl m) c) from rfl,
    PhiDRG0_eq, PhiT0_eq, atRes_res]
  unfold Dat.owesAt Pipeline.owesWithin
  rw [show (dats m 0 c).owed t.succ = 0 from rfl]
  iintro ⟨HT, Hz, Hr, HZ, HR, ⟨H0, H1⟩, H2, ⟨%W, HW⟩, Hg⟩
  ihave H0 := (own_out c (ms0_0 m t) (hs0_0 m t) (iblk m c 0 t)) $$ H0
  ihave H1 := (own_out c (ms0_1 m t) (hs0_1 m t) (iblk m c 1 t)) $$ H1
  ihave H2 := (own_out c (ms0_2 m t) (hs0_2 m t) (iblk m c 2 t)) $$ H2
  isplitl [HT Hz Hr HZ HR Hg]
  · isplitl [Hz Hr HZ HR Hg]
    · isplitl [Hz]; · iexact Hz
      isplitl [Hg]; · iexact Hg
      isplitl [HZ HR]
      · isplitl [HR]; · iexact HR
        iexact HZ
      isplitr; · iempintro
      iexact Hr
    iexact HT
  isplitl [HW]
  · iexists W; isplitr; · ipureintro; exact fun _ _ => Or.inl trivial
    iexact HW
  isplitl [H0]; · iexact H0
  isplitl [H1]; · iexact H1
  iexact H2

theorem sound_body (hg : Good m) (c : Dev nD) (t : Fin (cfgM m).N) :
    bodyPre m c t ⊢ wp frame (wpE (defs₀ (F := F)) Variants.none c none) Set.univ (bodyAt0 m t) (fun _ => bodyPost m c t) := by
  obtain rfl : c = 0 := Subsingleton.elim _ _
  have e0 : nm0 (F := F) (ms0_0 m t) ((hs0_0 m t).unread (iblk m 0 0 t)) = bD m t := (hs0_0 m t).read_unread _
  have e1 : nm1 (F := F) (ms0_1 m t) ((hs0_1 m t).unread (iblk m 0 1 t)) = bE m t := (hs0_1 m t).read_unread _
  have e2 : (ms0_2 m t).view.read (Elt F) ((hs0_2 m t).unread (iblk m 0 2 t)) = bX m t := (hs0_2 m t).read_unread _
  have hrow : RowOk (nm0 (F := F) (ms0_0 m t) ((hs0_0 m t).unread (iblk m 0 0 t))) (nm1 (F := F) (ms0_1 m t) ((hs0_1 m t).unread (iblk m 0 1 t))) := by
    rw [e0, e1]; exact hg.row t
  have key := body_run (F := F) (c := 0) (X := resAt m t.val) (f5 := (hs0_2 m t).unread (iblk m 0 2 t)) hg.tab hrow (grid0.coords t) (hs0_0 m t) (hs0_1 m t) (hs0_2 m t)
    (Memref.isWhole_whole _) (Memref.isWhole_whole _) (Memref.isWhole_whole _) (Memref.isWhole_whole _) (R := iprop(∃ r, prngReg 0 r))
  have hfin : fin (ms0_0 m t) (ms0_1 m t) (ms0_2 m t) ((hs0_0 m t).unread (iblk m 0 0 t)) ((hs0_1 m t).unread (iblk m 0 1 t)) ((hs0_2 m t).unread (iblk m 0 2 t))
      (base (grid0.coords t) (tT m) (tH m) (resAt m t.val)) = resAt m (t.val + 1) := by
    rw [resAt_succ]; unfold fin; rw [e0, e1, e2]
  rw [hfin] at key
  exact (pre_held m 0 t).trans (key.trans ((wp frame _ _ _).mono fun _ => held_post m 0 t))

theorem defs₀_row (t : Fin (cfgM m).N) :
    defs₀ (F := F) .tc (cfgM m).body ((cfgM m).bodyArgs t ((cfgM m).slots t)) = bodyAt0 m t := by
  unfold defs₀; rw [Defs.onTc_tc]

theorem body_obligation (hg : Good m) (c : Dev nD) : BodyObligation (dats (F := F) m 0 c) (defs₀ (F := F)) Variants.none () Set.univ := fun t => by
  rw [bigSep_W0, bigSep_W0, defs₀_row m]
  exact triple_restated (sound_body m hg c t) rfl .rfl fun _ => .rfl

/-! ## The run -/

/-- What a core's buffers hold at the end. -/
abbrev G (c : Dev nD) : (b : Ref sig .tc) → Buf (Elt F) ((c : Thread nD τ).loc b) := atRes m c (resAt m (cfgM m).N)

theorem atRes_zero (c : Dev nD) : atRes m c (resAt m 0) = V m c := by
  obtain rfl : c = 0 := Subsingleton.elim _ _
  exact Function.update_eq_self _ _

set_option backward.isDefEq.respectTransparency.types false in
theorem run_main (hg : Good m) : θ_run defs (onTc (τ := τ) (main (F := F))) (s₀ m ρ)
    (fun r => (Pipeline.FramePostRG (Pipeline.pin pcfgs fun _ => adm m) (dats m) 0 R0 (V m) (G m)) r ∧ r.2.sem = fun _ => 0) :=
  Pipeline.θ_run_frameP_dmaRG (Q' := _) pcfgs (fun _ => adm m) (dats m) (0 : Fin 1) launch0 osem0 defs₀ Variants.none ownSemFacts0 H0 R0 H0_sub R0_sub m ρ main
    (hbody := fun c => (body_obligation m hg c).loose) (hshare := fun c => (dats m 0 c).share_full fun _ => rfl)
    (howed := fun _ _ => rfl) (V := V m) (hmain := hmain m Variants.none) (hA := A_eq m) (hpf := V_pre m) (G := G m)
    (hin := fun c => by
      change _ ⊢ iprop(Pipeline.ΦDRG osem0 spec0 H0 R0 (V m) (fun c => atRes m c (resAt m 0)) c ∗ Pipeline.ΦT pre0 (tbl m) c)
      rw [show (fun c => atRes m c (resAt m 0)) = V m from funext fun c => atRes_zero m c])
    (hout := fun c => by change iprop(_ ∗ _) ⊢ _; iintro ⟨HD, -⟩; iexact HD)

/-- The run read at the arguments, the result and the counters. -/
theorem run_read (hg : Good m) : θ_run defs (onTc (τ := τ) (main (F := F))) ⟨m, fun _ => 0, ρ⟩ (fun r =>
    ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)
    ∧ ∀ c : Dev nD, r.2.mem ((c.tc : Thread nD τ).loc main_v26) = resAt m (cfgM m).N) :=
  (θ_run defs _ _).mono (fun _ h => ⟨⟨fun c => ⟨
      ((h.1.1 c).1 2).trans (((dats m 0 c).arrAt_in 2 rfl _).trans ((A_eq m c 2).trans (V_main_arg0 m c))),
      ((h.1.1 c).1 0).trans (((dats m 0 c).arrAt_in 0 rfl _).trans ((A_eq m c 0).trans (V_main_arg1 m c))),
      ((h.1.1 c).1 1).trans (((dats m 0 c).arrAt_in 1 rfl _).trans ((A_eq m c 1).trans (V_main_arg2 m c))),
      ((h.1.1 c).2 main_arg3 (by decide : main_arg3 ∈ Pipeline.restRefs sig spec0 \ R0)).trans (V_main_arg3 m c)⟩, h.2⟩,
    fun c => (h.1.written c (by decide)).trans (atRes_res m c _)⟩) (run_main m ρ hg)

end Cert.KernelIdeal.Hand
end
-- ==== Proof.Routing.lean ====
/- What the precondition says: the destinations are slots, no two of them one slot, the live blocks of padding
   lie inside the buffer apart from one another, and every slot is a destination or in a live block. -/
module

public import proofs.«01_k».proof.Proof.Gen.Pre_routed
public import Idealize.ShloMosaic.Lib.StableHlo.Predicate
public import Idealize.ShloMosaic.Lib.ReduceAll
public import Idealize.ShloMosaic.Lib.Pipeline.Value
public import Idealize.ShloMosaic.Lib.WordArith

@[expose] public section

set_option maxRecDepth 16384

noncomputable section

namespace Cert.Pre_routed.Hand

open Idealize.ShloMosaic Idealize.ShloMosaic.StableHlo.Predicate
open Cert.Pre_routed Cert.Pre_routed.Facts

variable {F : FTy → Type} [FloatOps F]

/-! ## The precondition's steps, by name -/

def namesB (d : IVec S65536 32) : IVec S65536 1 :=
  andi (cmpi .sge d (broadcastInDim S65536 ![] bcast_S_S65536 (constantI S_ 32 0#32)))
    (cmpi .slt d (broadcastInDim S65536 ![] bcast_S_S65536 (constantI S_ 32 81920#32)))
def pick (d : IVec S65536 32) : IVec S65536 32 :=
  select (cmpi .slt d (broadcastInDim S65536 ![] bcast_S_S65536 (constantI S_ 32 0#32)))
    (addi d (broadcastInDim S65536 ![] bcast_S_S65536 (constantI S_ 32 81920#32))) d
def owner (d : IVec S65536 32) : IVec S81920 32 :=
  Host.scatter scatter_S81920_S65536x1_S65536_n_0_0_1 (fun _ b => b)
    (broadcastInDim S81920 ![] bcast_S_S81920 (constantI S_ 32 4294967295#32))
    (broadcastInDim S65536x1 ![0] bcast_S65536_S65536x1_0 (pick d)) (iotaInDim S65536 32 0)
def aloneB (d : IVec S65536 32) : IVec S65536 1 :=
  cmpi .eq (Host.gather gather_S81920_S65536x1_S65536_n_0_n_n_0_1_1 (owner d)
    (broadcastInDim S65536x1 ![0] bcast_S65536_S65536x1_0 (pick d))) (iotaInDim S65536 32 0)
def liveB (H : IVec S64 32) : IVec S64 1 := cmpi .sgt H (broadcastInDim S64 ![] bcast_S_S64 (constantI S_ 32 0#32))
def insideB (T H : IVec S64 32) : IVec S64 1 :=
  ori (noti (liveB H)) (andi (cmpi .sge T (broadcastInDim S64 ![] bcast_S_S64 (constantI S_ 32 0#32)))
    (cmpi .sle T (broadcastInDim S64 ![] bcast_S_S64 (constantI S_ 32 81408#32))))
def inB (T H : IVec S64 32) : IVec S64x81920 1 :=
  andi (andi (broadcastInDim S64x81920 ![0, 1] bcast_S64x1_S64x81920_0_1 (broadcastInDim S64x1 ![0] bcast_S64_S64x1_0 (liveB H)))
      (cmpi .sle (broadcastInDim S64x81920 ![0, 1] bcast_S64x1_S64x81920_0_1 (broadcastInDim S64x1 ![0] bcast_S64_S64x1_0 T))
        (broadcastInDim S64x81920 ![0, 1] bcast_S1x81920_S64x81920_0_1 (broadcastInDim S1x81920 ![1] bcast_S81920_S1x81920_1 (iotaInDim S81920 32 0)))))
    (cmpi .slt (broadcastInDim S64x81920 ![0, 1] bcast_S1x81920_S64x81920_0_1 (broadcastInDim S1x81920 ![1] bcast_S81920_S1x81920_1 (iotaInDim S81920 32 0)))
      (broadcastInDim S64x81920 ![0, 1] bcast_S64x1_S64x81920_0_1 (addi (broadcastInDim S64x1 ![0] bcast_S64_S64x1_0 T)
        (broadcastInDim S64x1 ![] bcast_S_S64x1 (constantI S_ 32 512#32)))))
def blocks (T H : IVec S64 32) : IVec S81920 32 :=
  Host.reduce IntOp.addi (extui 32 (inB T H) natLt_1_32) (constantI S_ 32 0#32) reducesTo_S64x81920_S81920_d0 h_S_
def oneB (T H : IVec S64 32) : IVec S81920 1 :=
  cmpi .sle (blocks T H) (broadcastInDim S81920 ![] bcast_S_S81920 (constantI S_ 32 1#32))
def someB (T H : IVec S64 32) : IVec S81920 1 :=
  cmpi .sge (blocks T H) (broadcastInDim S81920 ![] bcast_S_S81920 (constantI S_ 32 1#32))
def takenB (d : IVec S65536 32) : IVec S81920 1 :=
  cmpi .eq (Host.gather gather_S65536_S81920x1_S81920_n_0_n_n_0_1_1 d (broadcastInDim S81920x1 ![0] bcast_S81920_S81920x1_0
    (select (cmpi .slt (owner d) (broadcastInDim S81920 ![] bcast_S_S81920 (constantI S_ 32 0#32)))
      (addi (owner d) (broadcastInDim S81920 ![] bcast_S_S81920 (constantI S_ 32 65536#32))) (owner d)))) (iotaInDim S81920 32 0)
def all65536 (x : IVec S65536 1) : IVec S_ 1 := Host.reduce IntOp.andi x (constantI S_ 1 1#1) reducesTo_S65536_S_d0 h_S_
def all64 (x : IVec S64 1) : IVec S_ 1 := Host.reduce IntOp.andi x (constantI S_ 1 1#1) reducesTo_S64_S_d0 h_S_
def all81920 (x : IVec S81920 1) : IVec S_ 1 := Host.reduce IntOp.andi x (constantI S_ 1 1#1) reducesTo_S81920_S_d0 h_S_

/-- The precondition of tables `T`, `H` and destinations `d`. -/
def test (T H : IVec S64 32) (d : IVec S65536 32) : IVec S_ 1 :=
  andi (andi (andi (andi (all65536 (namesB d)) (all65536 (aloneB d))) (all64 (insideB T H))) (all81920 (oneB T H)))
    (all81920 (ori (takenB d) (someB T H)))

/-- The ends of the experts' padded ranges, and the blocks past the last of them. -/
def padEnd (F : FTy → Type) [FloatOps F] (a3 : IVec S32 32) : IVec S32 32 :=
  fn_cumsum (F := F) (muli (fn_floor_divide (F := F) (subi (addi a3 (broadcastInDim S32 ![] bcast_S_S32 (constantI S_ 32 512#32)))
    (broadcastInDim S32 ![] bcast_S_S32 (constantI S_ 32 1#32))) (constantI S_ 32 512#32)) (broadcastInDim S32 ![] bcast_S_S32 (constantI S_ 32 512#32)))
def spare (F : FTy → Type) [FloatOps F] (a3 : IVec S32 32) : IVec S32 32 :=
  addi (broadcastInDim S32 ![] bcast_S_S32 (shapeCast S_ (extractStridedSlice S1 ![31] (padEnd F a3) slices_S32_S1_31) shapeCasts_S1_S_))
    (muli (iotaInDim S32 32 0) (broadcastInDim S32 ![] bcast_S_S32 (constantI S_ 32 512#32)))
/-- The table of blocks. -/
def tailOf (F : FTy → Type) [FloatOps F] (a3 : IVec S32 32) : IVec S64 32 :=
  concatenate S64 0 [⟨S32, maxsi (subi (padEnd F a3) (broadcastInDim S32 ![] bcast_S_S32 (constantI S_ 32 512#32))) (broadcastInDim S32 ![] bcast_S_S32 (constantI S_ 32 0#32))⟩,
    ⟨S32, minsi (spare F a3) (broadcastInDim S32 ![] bcast_S_S32 (constantI S_ 32 81408#32))⟩] concatenates_S32_S32_S64_d0
/-- The table of which blocks are live. -/
def hasOf (F : FTy → Type) [FloatOps F] (a3 : IVec S32 32) : IVec S64 32 :=
  concatenate S64 0 [⟨S32, a3⟩, ⟨S32, extui 32 (cmpi .slt (spare F a3) (broadcastInDim S32 ![] bcast_S_S32 (constantI S_ 32 81920#32))) natLt_1_32⟩]
    concatenates_S32_S32_S64_d0
/-- All the destinations. -/
def destOf (a1 a2 : IVec S32768 32) : IVec S65536 32 :=
  concatenate S65536 0 [⟨S32768, a1⟩, ⟨S32768, a2⟩] concatenates_S32768_S32768_S65536_d0
theorem fn_part2_eq (a0 : FVec F S32768x8x128 .bf16) (a1 a2 : IVec S32768 32) (a3 : IVec S32 32) :
    fn (F := F) a0 a1 a2 a3 = fn_part2 (F := F) (tailOf F a3) (hasOf F a3) (destOf a1 a2) (iotaInDim S65536 32 0) (owner (destOf a1 a2)) := rfl

theorem part2_eq (T H : IVec S64 32) (d : IVec S65536 32) :
    fn_part2 (F := F) T H d (iotaInDim S65536 32 0) (owner d) = test T H d := rfl

/-! ## What it says -/

theorem andi1 {a b : BitVec 1} : IntOp.andi a b = 1#1 ↔ a = 1#1 ∧ b = 1#1 := by
  revert a b; decide
theorem ori1 {a b : BitVec 1} : IntOp.ori a b = 1#1 ↔ a = 1#1 ∨ b = 1#1 := by
  revert a b; decide

/-- Slot `y` lies in entry `e`'s block, a live one. -/
def In (T H : IVec S64 32) (e : Fin 64) (y : ℕ) : Prop :=
  liveB H (Shape.Idx.ofFin e) = 1#1 ∧ (T (Shape.Idx.ofFin e)).toNat ≤ y ∧ y < (T (Shape.Idx.ofFin e)).toNat + 512

/-- The tables and destinations are a routing. -/
structure Routed (T H : IVec S64 32) (d : IVec S65536 32) : Prop where
  names : ∀ j, (d j).toNat < 81920
  alone : ∀ j j', d j = d j' → j = j'
  inside : ∀ e, liveB H e = 1#1 → (T e).toNat + 512 ≤ 81920
  apart : ∀ y < 81920, ∀ e e', In T H e y → In T H e' y → e = e'
  cover : ∀ y < 81920, (∃ j, (d j).toNat = y) ∨ ∃ e, In T H e y

theorem range {x : BitVec 32} (k : ℕ) (hk : k < 2 ^ 31) (h0 : IntOp.cmpi .sge x 0#32 = 1#1)
    (h1 : IntOp.cmpi .slt x (BitVec.ofNat 32 k) = 1#1) : x.toNat < k := by
  refine WordArith.toNat_lt_of_zero_sle_of_slt_ofNat x k hk ?_ ?_
  · exact (WordArith.ofBool_eq_one_iff _).mp h0
  · exact (WordArith.ofBool_eq_one_iff _).mp h1
theorem range' {x : BitVec 32} (h0 : IntOp.cmpi .sge x 0#32 = 1#1)
    (h1 : IntOp.cmpi .sle x 81408#32 = 1#1) : x.toNat ≤ 81408 := by
  have a0 : BitVec.sle 0#32 x = true := (WordArith.ofBool_eq_one_iff _).mp h0
  have a1 : BitVec.sle x 81408#32 = true := (WordArith.ofBool_eq_one_iff _).mp h1
  rw [BitVec.sle_eq_decide, decide_eq_true_eq] at a0 a1
  have e0 : (0#32 : BitVec 32).toInt = 0 := by decide
  have e1 : (81408#32 : BitVec 32).toInt = 81408 := by decide
  rw [e0] at a0; rw [e1] at a1
  have := BitVec.toInt_eq_toNat_cond x
  split at this <;> omega

instance : Subsingleton S_.Idx := ⟨fun a b => funext fun i => i.elim0⟩

theorem idx64 (e : S64.Idx) : Shape.Idx.ofFin (e 0) = e := by
  funext a; obtain rfl : a = 0 := Subsingleton.elim _ _; rfl

theorem in_iff {T H : IVec S64 32} (hin : ∀ e, liveB H e = 1#1 → (T e).toNat + 512 ≤ 81920) (e : Fin 64) (y : Fin 81920) :
    inB T H (ij e y) = 1#1 ↔ In T H e y.val := by
  have hy : (BitVec.ofNat 32 y.val).toNat = y.val := WordArith.toNat_ofNat_of_lt _ (by omega)
  unfold inB In
  show IntOp.andi (IntOp.andi _ (IntOp.cmpi .sle _ _)) (IntOp.cmpi .slt _ _) = 1#1 ↔ _
  rw [bcast_of_col, bcast_of_col, bcast_of_row, bcast_of_col, bcast_col1, bcast_col1, bcast_row1]
  show IntOp.andi (IntOp.andi _ (IntOp.cmpi .sle _ (BitVec.ofNat 32 y.val))) (IntOp.cmpi .slt (BitVec.ofNat 32 y.val) (broadcastInDim S64x1 ![0] bcast_S64_S64x1_0 T (ixP e) + 512#32)) = 1#1 ↔ _
  rw [bcast_col1, andi1, andi1, and_assoc]
  refine and_congr_right fun hl => ?_
  have h := hin _ hl
  have hs : (T (Shape.Idx.ofFin e) + 512#32).toNat = (T (Shape.Idx.ofFin e)).toNat + 512 := by
    rw [BitVec.toNat_add, show (512#32 : BitVec 32).toNat = 512 from rfl]; omega
  rw [sle_iff_toNat (by omega) (by omega), slt_iff_toNat (by omega) (by omega), hs, hy]

theorem blocks_card {T H : IVec S64 32} (hin : ∀ e, liveB H e = 1#1 → (T e).toNat + 512 ≤ 81920) (y : Fin 81920) :
    ∃ S : Finset (Fin 64), (∀ e, e ∈ S ↔ In T H e y.val) ∧ (blocks T H (Shape.Idx.ofFin y)).toNat = S.card := by
  refine ⟨Finset.univ.filter fun e : Fin 64 => inB T H (ij e y) = 1#1, fun e => ?_, ?_⟩
  · rw [Finset.mem_filter, in_iff hin]; simp
  · exact toNat_reduce_count_rows (by decide) (inB T H) _ _ _ _

/-- What a table holds at a word's place. -/
def tk {N : ℕ} (hN : 0 < N) (x : (⟨1, ![N]⟩ : Shape).Idx → BitVec 32) (w : BitVec 32) : BitVec 32 :=
  x (Shape.Idx.ofFin ⟨min w.toInt.toNat (N - 1), by omega⟩)
theorem take_read {N n : ℕ} (d : GatherDims ⟨1, ![N]⟩ ⟨2, ![n, 1]⟩ ⟨1, ![n]⟩) (hcoll : d.collapsedSliceDims = [0]) (hob : d.operandBatchingDims = [])
    (hsim : d.startIndexMap = [0]) (hivd : d.indexVectorDim = 1) (hN : 0 < N) (x : (⟨1, ![N]⟩ : Shape).Idx → BitVec 32)
    (hb : (⟨1, ![n]⟩ : Shape).BroadcastsInDim ⟨2, ![n, 1]⟩ ![0]) (v : IVec ⟨1, ![n]⟩ 32) (j : (⟨1, ![n]⟩ : Shape).Idx) :
    Host.gather d x (broadcastInDim ⟨2, ![n, 1]⟩ ![0] hb v) j = tk hN x (v j) := by
  obtain ⟨p, rfl⟩ : ∃ p : Fin n, j = Shape.Idx.ofFin p := ⟨j 0, by funext a; obtain rfl : a = 0 := Subsingleton.elim _ _; rfl⟩
  rw [gather_take d hcoll hob hsim hivd x _ p hN]
  unfold tk
  refine congrArg x (congrArg _ (Fin.ext ?_))
  show min (BitVec.toInt _).toNat _ = min (BitVec.toInt _).toNat _
  rw [bcast_col1]
def ownerAt (d : IVec S65536 32) (x : BitVec 32) : BitVec 32 := tk (N := 81920) (by omega) (owner d) x
def ownerG (d : IVec S65536 32) (j : S65536.Idx) : BitVec 32 := (Host.gather gather_S81920_S65536x1_S65536_n_0_n_n_0_1_1 (owner d)
    (broadcastInDim S65536x1 ![0] bcast_S65536_S65536x1_0 (pick d))) j
theorem ownerG_eq (d : IVec S65536 32) (j : S65536.Idx) : ownerG d j = ownerAt d (pick d j) := by
  unfold ownerG ownerAt
  exact (take_read (N := 81920) (n := 65536) gather_S81920_S65536x1_S65536_n_0_n_n_0_1_1 rfl rfl rfl rfl (by omega) (owner d) bcast_S65536_S65536x1_0 (pick d) j)
theorem aloneB_eq (d : IVec S65536 32) (j : S65536.Idx) : aloneB d j = IntOp.cmpi .eq (ownerG d j) (BitVec.ofNat 32 (j 0).val) := rfl
theorem alone_read (d : IVec S65536 32) (j : S65536.Idx) : aloneB d j = IntOp.cmpi .eq (ownerAt d (pick d j)) (BitVec.ofNat 32 (j 0).val) := by
  rw [aloneB_eq, ownerG_eq]
theorem pick_congr (d : IVec S65536 32) {j j' : S65536.Idx} (he : d j = d j') : pick d j = pick d j' := by
  show Scalar.select (IntOp.cmpi .slt (d j) 0#32) (IntOp.addi (d j) 81920#32) (d j) = Scalar.select (IntOp.cmpi .slt (d j') 0#32) (IntOp.addi (d j') 81920#32) (d j')
  rw [he]

theorem routed_of_test {T H : IVec S64 32} {d : IVec S65536 32} (h : test T H d = fun _ => 1#1) : Routed T H d := by
  have h := congrFun h (fun a => a.elim0)
  obtain ⟨h, h5⟩ := andi1.mp h
  obtain ⟨h, h4⟩ := andi1.mp h
  obtain ⟨h, h3⟩ := andi1.mp h
  obtain ⟨h1, h2⟩ := andi1.mp h
  have hn : ∀ j, namesB d j = 1#1 := Host.reduce_andi_all _ _ _ _ _ h1
  have ha : ∀ j, aloneB d j = 1#1 := Host.reduce_andi_all _ _ _ _ _ h2
  have hi : ∀ e, insideB T H e = 1#1 := Host.reduce_andi_all _ _ _ _ _ h3
  have ho : ∀ y, oneB T H y = 1#1 := Host.reduce_andi_all _ _ _ _ _ h4
  have hc : ∀ y, ori (takenB d) (someB T H) y = 1#1 := Host.reduce_andi_all _ _ _ _ _ h5
  have hin : ∀ e, liveB H e = 1#1 → (T e).toNat + 512 ≤ 81920 := fun e hl => by
    rcases ori1.mp (hi e) with h | h
    · exfalso
      have h : (~~~ (liveB H e)) = 1#1 := h
      rw [hl] at h; exact absurd h (by decide)
    · have := range' (andi1.mp h).1 (andi1.mp h).2
      omega
  have hcard : ∀ y : Fin 81920, (blocks T H (Shape.Idx.ofFin y)).toNat ≤ 64 := fun y => by
    obtain ⟨S, _, hS⟩ := blocks_card hin y
    rw [hS]; exact (Finset.card_le_univ S).trans (by simp)
  refine ⟨fun j => range 81920 (by decide) (andi1.mp (hn j)).1 (andi1.mp (hn j)).2, fun j j' he => ?_, hin, fun y hy e e' h1 h2 => ?_, fun y hy => ?_⟩
  · have hread : ∀ j : S65536.Idx, ownerAt d (pick d j) = BitVec.ofNat 32 (j 0).val := fun j => by
      have h := ha j
      rw [alone_read] at h
      exact cmpi_eq_iff.mp h
    have e := (hread j).symm.trans ((congrArg (ownerAt d) (pick_congr d he)).trans (hread j'))
    have e := congrArg BitVec.toNat e
    have l1 : (j 0).val < 65536 := (j 0).isLt
    have l2 : (j' 0).val < 65536 := (j' 0).isLt
    rw [WordArith.toNat_ofNat_of_lt _ (by omega), WordArith.toNat_ofNat_of_lt _ (by omega)] at e
    funext a; obtain rfl : a = 0 := Subsingleton.elim _ _; exact Fin.ext e
  · obtain ⟨S, hm, hS⟩ := blocks_card hin ⟨y, hy⟩
    have h := hcard ⟨y, hy⟩
    have : (blocks T H (Shape.Idx.ofFin ⟨y, hy⟩)).toNat ≤ (1#32 : BitVec 32).toNat :=
      (sle_iff_toNat (by omega) (by decide)).mp (ho (Shape.Idx.ofFin ⟨y, hy⟩))
    rw [hS] at this
    exact Finset.card_le_one.mp this _ ((hm e).mpr h1) _ ((hm e').mpr h2)
  · rcases ori1.mp (hc (Shape.Idx.ofFin ⟨y, hy⟩)) with h | h
    · left
      have h := cmpi_eq_iff.mp h
      refine ⟨_, (congrArg BitVec.toNat h).trans ?_⟩
      exact WordArith.toNat_ofNat_of_lt y (by omega)
    · right
      obtain ⟨S, hm, hS⟩ := blocks_card hin ⟨y, hy⟩
      have h0 := hcard ⟨y, hy⟩
      have : (1#32 : BitVec 32).toNat ≤ (blocks T H (Shape.Idx.ofFin ⟨y, hy⟩)).toNat :=
        (sge_iff_toNat (by omega) (by decide)).mp h
      rw [hS] at this
      obtain ⟨e, he⟩ := Finset.card_pos.mp this
      exact ⟨e, (hm e).mp he⟩

theorem routed_of_pre {a0 : FVec F S32768x8x128 .bf16} {a1 a2 : IVec S32768 32} {a3 : IVec S32 32} (h : fn (F := F) a0 a1 a2 a3 = fun _ => 1#1) :
    Routed (tailOf F a3) (hasOf F a3) (destOf a1 a2) :=
  routed_of_test ((part2_eq (F := F) _ _ _).symm.trans ((fn_part2_eq a0 a1 a2 a3).symm.trans h))

/-- The first list's destinations, then the second's. -/
theorem dest_fst (a1 a2 : IVec S32768 32) (k : Fin 32768) : destOf a1 a2 (Shape.Idx.ofFin ⟨k.val, by omega⟩) = a1 (Shape.Idx.ofFin k) :=
  concatenate_pair_apply_left (s₁ := S32768) (s₂ := S32768) (t := S65536) 0 a1 a2 _ _ rfl _ fun b => by
    obtain rfl : b = 0 := Subsingleton.elim _ _; rfl
theorem dest_snd (a1 a2 : IVec S32768 32) (k : Fin 32768) : destOf a1 a2 (Shape.Idx.ofFin ⟨32768 + k.val, by omega⟩) = a2 (Shape.Idx.ofFin k) :=
  concatenate_pair_apply_right (s₁ := S32768) (s₂ := S32768) (t := S65536) 0 a1 a2 _ _ rfl rfl _ (fun b hb => absurd (Subsingleton.elim (α := Fin 1) _ _) hb)
    (show k.val + 32768 = 32768 + k.val by omega)

end Cert.Pre_routed.Hand

end
-- ==== Proof.Tables.lean ====
/- The launch's tables are the precondition's, so a routing keeps the kernel's copies in order; and what the
   result holds at each slot. -/
module

public import proofs.«01_k».proof.Proof.Run

public import proofs.«01_k».proof.Proof.Routing
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

theorem pair_congr {t s₁ s₂ : Shape} {a : Fin t.rank} {x x' : s₁.Idx → BitVec 32} {y y' : s₂.Idx → BitVec 32} (h h')
    (hx : x = x') (hy : y = y') : concatenate t a [⟨s₁, x⟩, ⟨s₂, y⟩] h = concatenate t a [⟨s₁, x'⟩, ⟨s₂, y'⟩] h' := by
  subst hx hy; rfl

set_option maxHeartbeats 1000000 in
theorem V_tail : V m 0 main_v21 = Cert.Pre_routed.Hand.tailOf F (m ((0 : Dev nD).tc.loc main_arg3)) := by
  simp only [V, opss, List.flatten_cons, List.flatten_nil, List.append_nil, List.cons_append, List.nil_append]
  after_reads_simp
  unfold Cert.Pre_routed.Hand.tailOf
  refine pair_congr _ _ ?_ ?_
  · after_reads_simp
    simp -implicitDefEqProofs only [StableHlo.TRef.toBuf, StableHlo.TRef.ofBuf, cast_cast, cast_eq]
    unfold Cert.Pre_routed.Hand.padEnd Cert.Pre_routed.fn_cumsum Cert.Pre_routed.fn_cumsum_0 Cert.Pre_routed.fn_floor_divide Cert.Pre_routed.fn_where
    rfl
  · after_reads_simp
    simp -implicitDefEqProofs only [StableHlo.TRef.toBuf, StableHlo.TRef.ofBuf, cast_cast, cast_eq]
    unfold Cert.Pre_routed.Hand.spare Cert.Pre_routed.Hand.padEnd Cert.Pre_routed.fn_cumsum Cert.Pre_routed.fn_cumsum_0 Cert.Pre_routed.fn_floor_divide Cert.Pre_routed.fn_where
    rfl
set_option maxHeartbeats 1000000 in
theorem V_has : V m 0 main_v25 = Cert.Pre_routed.Hand.hasOf F (m ((0 : Dev nD).tc.loc main_arg3)) := by
  simp only [V, opss, List.flatten_cons, List.flatten_nil, List.append_nil, List.cons_append, List.nil_append]
  after_reads_simp
  unfold Cert.Pre_routed.Hand.hasOf
  refine pair_congr _ _ ?_ ?_
  · after_reads_simp
  · after_reads_simp
    simp -implicitDefEqProofs only [StableHlo.TRef.toBuf, StableHlo.TRef.ofBuf, cast_cast, cast_eq]
    unfold Cert.Pre_routed.Hand.spare Cert.Pre_routed.Hand.padEnd Cert.Pre_routed.fn_cumsum Cert.Pre_routed.fn_cumsum_0 Cert.Pre_routed.fn_floor_divide Cert.Pre_routed.fn_where
    rfl

/-! ## The tables and the blocks are in order -/

open Cert.Pre_routed.Hand (tailOf hasOf destOf liveB In Routed)

/-- The destinations and the precondition at a memory. -/
abbrev dst : Cert.Pre_routed.S65536.Idx → BitVec 32 := destOf (m ((0 : Dev nD).tc.loc main_arg1)) (m ((0 : Dev nD).tc.loc main_arg2))
def Rt : Prop := Routed (tT m) (tH m) (dst m)
theorem tT_eq : tT m = tailOf F (m ((0 : Dev nD).tc.loc main_arg3)) := V_tail m
theorem tH_eq : tH m = hasOf F (m ((0 : Dev nD).tc.loc main_arg3)) := V_has m
theorem rt_of_pre (h : Cert.Pre_routed.fn (F := F) (m ((0 : Dev nD).tc.loc main_arg0)) (m ((0 : Dev nD).tc.loc main_arg1))
    (m ((0 : Dev nD).tc.loc main_arg2)) (m ((0 : Dev nD).tc.loc main_arg3)) = fun _ => 1#1) : Rt m := by
  unfold Rt
  rw [tT_eq, tH_eq]
  exact Cert.Pre_routed.Hand.routed_of_pre h

/-- The body's test of a table's word is the precondition's. -/
theorem live_iff (H : S64.Idx → BitVec 32) (e : ℕ) : live H e ↔ liveB H (at64 e) = 1#1 := by
  unfold live word
  show IntOp.cmpi .ne ((IntOp.cmpi .sgt (H (at64 e)) 0#32).setWidth 32) 0#32 = 1#1 ↔ IntOp.cmpi .sgt (H (at64 e)) 0#32 = 1#1
  generalize IntOp.cmpi .sgt (H (at64 e)) 0#32 = b
  revert b; decide
theorem at64_fin (e : Fin 64) : at64 e.val = Shape.Idx.ofFin e := by
  funext a; obtain rfl : a = 0 := Subsingleton.elim _ _
  exact Fin.ext (Nat.mod_eq_of_lt e.isLt)

theorem tabOk {T H : S64.Idx → BitVec 32} {d : Cert.Pre_routed.S65536.Idx → BitVec 32} (h : Routed T H d) : TabOk T H where
  inside := fun e he hl => h.inside _ ((live_iff H e).mp hl)
  apart := fun e he e' he' hl hl' hne => by
    rw [Finset.disjoint_left]
    intro y hy hy'
    rw [mem_blk] at hy hy'
    refine hne (congrArg Fin.val (h.apart (y 0).val (y 0).isLt ⟨e, he⟩ ⟨e', he'⟩ ?_ ?_))
    · have hl := (live_iff H e).mp hl
      rw [show at64 e = _ from at64_fin ⟨e, he⟩] at hl
      unfold word at hy
      rw [show at64 e = _ from at64_fin ⟨e, he⟩] at hy
      exact ⟨hl, hy.1, hy.2⟩
    · have hl := (live_iff H e').mp hl'
      rw [show at64 e' = _ from at64_fin ⟨e', he'⟩] at hl
      unfold word at hy'
      rw [show at64 e' = _ from at64_fin ⟨e', he'⟩] at hy'
      exact ⟨hl, hy'.1, hy'.2⟩

theorem tr0 : ∀ t : Fin grid0.N, cc0_transform_0 (grid0.coords t) 0 = t.val := by decide
theorem tr1 : ∀ t : Fin grid0.N, cc0_transform_1 (grid0.coords t) 0 = t.val := by decide
theorem tr2 : ∀ t : Fin grid0.N, cc0_transform_2 (grid0.coords t) 0 = t.val := by decide
theorem fill_iff : ∀ t : Fin grid0.N, k0_cond1 (grid0.coords t) = 1#1 ↔ t.val = 0 := by decide
theorem lt16 (t : Fin (cfgM m).N) : t.val < 16 := by
  have : t.val < grid0.N := t.isLt
  rwa [N_0] at this

theorem bD_eq (t : Fin (cfgM m).N) (k : ℕ) (hk : k < 2048) :
    bD m t (at2048 k) = m ((0 : Dev nD).tc.loc main_arg1) (Shape.Idx.ofFin (n := 32768) ⟨t.val * 2048 + k, by have := lt16 m t; omega⟩) := by
  refine (congrArg (V m 0 main_arg1) ?_).trans (congrFun (V_main_arg1 m 0) _)
  funext a
  fin_cases a
  apply Fin.ext
  show cc0_transform_0 (grid0.coords t) 0 * 2048 + 1 * (k % 2048) = t.val * 2048 + k
  rw [tr0, Nat.mod_eq_of_lt hk]; omega
theorem bE_eq (t : Fin (cfgM m).N) (k : ℕ) (hk : k < 2048) :
    bE m t (at2048 k) = m ((0 : Dev nD).tc.loc main_arg2) (Shape.Idx.ofFin (n := 32768) ⟨t.val * 2048 + k, by have := lt16 m t; omega⟩) := by
  refine (congrArg (V m 0 main_arg2) ?_).trans (congrFun (V_main_arg2 m 0) _)
  funext a
  fin_cases a
  apply Fin.ext
  show cc0_transform_1 (grid0.coords t) 0 * 2048 + 1 * (k % 2048) = t.val * 2048 + k
  rw [tr1, Nat.mod_eq_of_lt hk]; omega

/-- Token `n`'s element beside element `y` of a slot. -/
def rowAt (n : ℕ) (y : S81920x8x128.Idx) : S32768x8x128.Idx :=
  fun a => ⟨(![n % 32768, (y 1).val, (y 2).val] : Fin 3 → ℕ) a, by
    fin_cases a
    · exact Nat.mod_lt _ (by decide)
    · exact (y 1).isLt
    · exact (y 2).isLt⟩
theorem rowAt_congr {n n' : ℕ} (h : n % 32768 = n' % 32768) (y : S81920x8x128.Idx) : rowAt n y = rowAt n' y := by
  funext a
  apply Fin.ext
  show (![n % 32768, (y 1).val, (y 2).val] : Fin 3 → ℕ) a = (![n' % 32768, (y 1).val, (y 2).val] : Fin 3 → ℕ) a
  rw [h]
theorem bX_eq (t : Fin (cfgM m).N) (k : ℕ) (hk : k < 2048) (y : S81920x8x128.Idx) :
    bX m t (tplace k y) = m ((0 : Dev nD).tc.loc main_arg0) (rowAt (t.val * 2048 + k) y) := by
  have ht := lt16 m t
  refine (congrArg (V m 0 main_arg0) ?_).trans (congrFun (V_main_arg0 m 0) _)
  funext a
  fin_cases a <;> apply Fin.ext
  · show cc0_transform_2 (grid0.coords t) 0 * 2048 + 1 * (k % 2048) = (t.val * 2048 + k) % 32768
    rw [tr2, Nat.mod_eq_of_lt hk, Nat.mod_eq_of_lt (by omega)]; omega
  · show 0 * 8 + 1 * (y 1).val = (y 1).val
    omega
  · show 0 * 128 + 1 * (y 2).val = (y 2).val
    omega

/-- The assignment copy `j` of point `t` is for. -/
def num (t j : ℕ) : ℕ := if j % 2 = 0 then t * 2048 + j / 2 else 32768 + (t * 2048 + j / 2)
theorem num_lt {t j : ℕ} (ht : t < 16) (hj : j < 4096) : num t j < 65536 := by unfold num; split <;> omega
theorem num_inj {t j t' j' : ℕ} (hj : j < 4096) (hj' : j' < 4096) (ht : t < 16) (ht' : t' < 16) (h : num t j = num t' j') : t = t' ∧ j = j' := by
  unfold num at h; split at h <;> split at h <;> omega
theorem num_mod {t j : ℕ} (ht : t < 16) (hj : j < 4096) : num t j % 32768 = t * 2048 + j / 2 := by
  unfold num; split <;> omega
theorem num_surj {n : ℕ} (hn : n < 65536) : ∃ t < 16, ∃ j < 4096, num t j = n := by
  by_cases h : n < 32768
  · exact ⟨n / 2048, by omega, 2 * (n % 2048), by omega, by unfold num; rw [if_pos (by omega)]; omega⟩
  · exact ⟨(n - 32768) / 2048, by omega, 2 * ((n - 32768) % 2048) + 1, by omega, by unfold num; rw [if_neg (by omega)]; omega⟩

/-- The destination of an assignment. -/
def dn (n : ℕ) (hn : n < 65536) : BitVec 32 := dst m (Shape.Idx.ofFin ⟨n, hn⟩)
theorem sl_eq (t : Fin (cfgM m).N) {j : ℕ} (hj : j < 4096) :
    sl (bD m t) (bE m t) j = (dn m (num t.val j) (num_lt (lt16 m t) hj)).toNat := by
  have ht := lt16 m t
  unfold sl num dn
  by_cases h : j % 2 = 0
  · rw [if_pos h, bD_eq m t _ (by omega)]
    refine congrArg BitVec.toNat ((Cert.Pre_routed.Hand.dest_fst _ _ ⟨t.val * 2048 + j / 2, by omega⟩).symm.trans (congrArg _ (congrArg _ (Fin.ext ?_))))
    show _ = if j % 2 = 0 then _ else _
    rw [if_pos h]
  · rw [if_neg h, bE_eq m t _ (by omega)]
    refine congrArg BitVec.toNat ((Cert.Pre_routed.Hand.dest_snd _ _ ⟨t.val * 2048 + j / 2, by omega⟩).symm.trans (congrArg _ (congrArg _ (Fin.ext ?_))))
    show _ = if j % 2 = 0 then _ else _
    rw [if_neg h]

variable {m}
theorem dn_inj (h : Rt m) {n n' : ℕ} (hn : n < 65536) (hn' : n' < 65536) (e : (dn m n hn).toNat = (dn m n' hn').toNat) : n = n' := by
  have := h.alone _ _ (BitVec.eq_of_toNat_eq e)
  exact congrArg Fin.val (congrFun this 0)

theorem good_of_rt (h : Rt m) : Good m where
  tab := tabOk h
  row := fun t =>
    { inside := fun j hj => by rw [sl_eq m t hj]; exact h.names _
      apart := fun j hj j' hj' e => by
        rw [sl_eq m t hj, sl_eq m t hj'] at e
        exact (num_inj hj hj' (lt16 m t) (lt16 m t) (dn_inj h _ _ e)).2 }

/-! ## The result, slot by slot -/

/-- A slot that is an assignment's holds its token's row from the point that copies it on. -/
theorem res_row (h : Rt m) (y : S81920x8x128.Idx) {t j : ℕ} (ht : t < 16) (hj : j < 4096)
    (hy : (y 0).val = (dn m (num t j) (num_lt ht hj)).toNat) :
    ∀ i, t < i → i ≤ 16 → resAt m i y = m ((0 : Dev nD).tc.loc main_arg0) (rowAt (num t j) y) := by
  intro i
  induction i with
  | zero => intro h; omega
  | succ i ih =>
    intro hi hi'
    have hN : i < (cfgM m).N := by show i < grid0.N; rw [N_0]; omega
    rw [show resAt m (i + 1) = _ from resAt_succ m ⟨i, hN⟩]
    by_cases hti : t = i
    · subst hti
      rw [put_at ((good_of_rt h).row ⟨t, hN⟩) _ _ hj (hy.trans (sl_eq m ⟨t, hN⟩ hj).symm), bX_eq m ⟨t, hN⟩ _ (by omega)]
      refine congrArg _ ?_
      show rowAt (t * 2048 + j / 2) y = rowAt (num t j) y
      exact rowAt_congr (by rw [num_mod ht hj, Nat.mod_eq_of_lt (show t * 2048 + j / 2 < 32768 by omega)]) y
    · rw [put_off]
      · rw [show base (grid0.coords ⟨i, hN⟩) (tT m) (tH m) (resAt m i) = resAt m i from if_neg fun hc => by
          have := (fill_iff ⟨i, hN⟩).mp hc
          have : i = 0 := this
          omega]
        exact ih (by omega) (by omega)
      · intro j' hj' e
        rw [hy, sl_eq m ⟨i, hN⟩ hj'] at e
        exact hti (num_inj hj hj' ht (lt16 m ⟨i, hN⟩) (dn_inj h _ _ e)).1

/-- A slot that is no assignment's holds zero once the blocks are filled. -/
theorem res_zero (h : Rt m) (y : S81920x8x128.Idx) (hy : ∀ n (hn : n < 65536), (dn m n hn).toNat ≠ (y 0).val) :
    ∀ i, 0 < i → i ≤ 16 → resAt m i y = zero16 := by
  intro i
  induction i with
  | zero => intro h; omega
  | succ i ih =>
    intro hi hi'
    have hN : i < (cfgM m).N := by show i < grid0.N; rw [N_0]; omega
    rw [show resAt m (i + 1) = _ from resAt_succ m ⟨i, hN⟩, put_off _ _ fun j hj e => by
      rw [sl_eq m ⟨i, hN⟩ hj] at e
      exact hy _ _ e.symm]
    by_cases h0 : i = 0
    · subst h0
      rw [show base (grid0.coords ⟨0, hN⟩) (tT m) (tH m) (resAt m 0) = filled (tT m) (tH m) (resAt m 0) from if_pos ((fill_iff ⟨0, hN⟩).mpr rfl)]
      refine if_neg fun hm => ?_
      rw [mem_rest] at hm
      rcases h.cover (y 0).val (y 0).isLt with ⟨n, hn⟩ | ⟨e, he⟩
      · refine hy (n 0).val (n 0).isLt (Eq.trans ?_ hn)
        refine congrArg (fun n => (dst m n).toNat) ?_
        funext a; obtain rfl : a = 0 := Subsingleton.elim _ _; rfl
      · refine hm e.val e.isLt ((live_iff _ _).mpr ?_) ?_
        · rw [at64_fin]; exact he.1
        · rw [mem_blk]; unfold word; rw [at64_fin]; exact he.2
    · rw [show base (grid0.coords ⟨i, hN⟩) (tT m) (tH m) (resAt m i) = resAt m i from if_neg fun hc => h0 ((fill_iff ⟨i, hN⟩).mp hc)]
      exact ih (by omega) (by omega)

end Cert.KernelIdeal.Hand
end
-- ==== Proof.Ref.lean ====
/- What the reference's two scatters leave at a slot. -/
module

public import proofs.«01_k».proof.Proof.Gen.ReferenceIdeal.Run
public import Idealize.ShloMosaic.Lib.Routing.OpsSet

@[expose] public section

noncomputable section

namespace Cert.ReferenceIdeal.Hand

open Cert.ReferenceIdeal Cert.ReferenceIdeal.Gen Idealize.ShloMosaic

variable {F : FTy → Type} [FloatOps F]

abbrev sd : ScatterDims S81920x8x128 S32768x1 S32768x8x128 := scatter_S81920x8x128_S32768x1_S32768x8x128_12_0_0_1

/-- The index array a scatter reads: the destinations, a negative one counted from the end. -/
def sidx (a : IVec S32768 32) : IVec S32768x1 32 :=
  broadcastInDim S32768x1 ![0] bcast_S32768_S32768x1_0
    (select (cmpi .slt a (broadcastInDim S32768 ![] bcast_S_S32768 (constantI S_ 32 0#32)))
      (addi a (broadcastInDim S32768 ![] bcast_S_S32768 (constantI S_ 32 81920#32))) a)

def row1 (n : Fin 32768) : S32768x1.Idx := fun a => ⟨(![n.val, 0] : Fin 2 → ℕ) a, by fin_cases a; exacts [n.isLt, Nat.one_pos]⟩

theorem sidx_read (a : IVec S32768 32) (n : Fin 32768) (h : (a (Shape.Idx.ofFin n)).toNat < 81920) :
    sidx a (row1 n) = a (Shape.Idx.ofFin n) := by
  have e : sidx a (row1 n) = if IntOp.cmpi .slt (a (Shape.Idx.ofFin n)) 0#32 = 1#1 then IntOp.addi (a (Shape.Idx.ofFin n)) 81920#32 else a (Shape.Idx.ofFin n) := by
    have r : ∀ v : IVec S32768 32, broadcastInDim S32768x1 ![0] bcast_S32768_S32768x1_0 v (row1 n) = v (Shape.Idx.ofFin n) := fun v => by
      refine congrArg v ?_
      funext b
      obtain rfl : b = 0 := Subsingleton.elim _ _
      rfl
    exact r _
  rw [e, if_neg]
  generalize a (Shape.Idx.ofFin n) = x at h
  show ¬ BitVec.ofBool (x.slt 0#32) = 1#1
  have : x.slt 0#32 = false := by
    rw [BitVec.slt_eq_decide]
    have := BitVec.toInt_eq_toNat_of_lt (x := x) (by omega)
    simp only [BitVec.toInt_zero, decide_eq_false_iff_not]
    omega
  rw [this]; decide

theorem lands (idx : IVec S32768x1 32) (k : S32768x8x128.Idx) (y : S81920x8x128.Idx) :
    sd.resultIdx? k idx = some y ↔ (idx (row1 (k 0))).toInt = ((y 0).val : Int) ∧ (k 1).val = (y 1).val ∧ (k 2).val = (y 2).val := by
  rw [Routing.resultIdx?_eq_some]
  have s0 : sd.start k idx 0 = (idx (row1 (k 0))).toInt := by
    refine congrArg (fun i => (idx i).toInt) ?_
    funext b
    fin_cases b
    · rfl
    · rfl
  have s1 : sd.start k idx 1 = 0 := rfl
  have s2 : sd.start k idx 2 = 0 := rfl
  have w0 : sd.window k 0 = 0 := rfl
  have w1 : sd.window k 1 = (k 1).val := rfl
  have w2 : sd.window k 2 = (k 2).val := rfl
  constructor
  · intro h
    have h0 := h 0; have h1 := h 1; have h2 := h 2
    rw [s0, w0] at h0; rw [s1, w1] at h1; rw [s2, w2] at h2
    exact ⟨by omega, by omega, by omega⟩
  · rintro ⟨h0, h1, h2⟩ a
    fin_cases a
    · exact (congrArg₂ (fun p q => p + ((q : ℕ) : Int)) s0 w0).trans (by rw [h0]; exact Int.add_zero _)
    · exact (congrArg₂ (fun p q => p + ((q : ℕ) : Int)) s1 w1).trans (by rw [h1]; exact Int.zero_add _)
    · exact (congrArg₂ (fun p q => p + ((q : ℕ) : Int)) s2 w2).trans (by rw [h2]; exact Int.zero_add _)

/-- Token `n`'s element beside element `y` of a slot. -/
def rowAt (n : ℕ) (y : S81920x8x128.Idx) : S32768x8x128.Idx :=
  fun a => ⟨(![n % 32768, (y 1).val, (y 2).val] : Fin 3 → ℕ) a, by
    fin_cases a
    · exact Nat.mod_lt _ (by decide)
    · exact (y 1).isLt
    · exact (y 2).isLt⟩

variable {α : Type} (x0 : S81920x8x128.Idx → α) (a : IVec S32768 32) (X : S32768x8x128.Idx → α)
  (ha : ∀ n : Fin 32768, (a (Shape.Idx.ofFin n)).toNat < 81920)
include ha

theorem lands' (k : S32768x8x128.Idx) (y : S81920x8x128.Idx) :
    sd.resultIdx? k (sidx a) = some y ↔ (a (Shape.Idx.ofFin (k 0))).toNat = (y 0).val ∧ (k 1).val = (y 1).val ∧ (k 2).val = (y 2).val := by
  rw [lands, sidx_read a (k 0) (ha _)]
  have := BitVec.toInt_eq_toNat_of_lt (x := a (Shape.Idx.ofFin (k 0))) (by have := ha (k 0); omega)
  rw [this]
  exact and_congr_left' Int.ofNat_inj

theorem scatter_hit (y : S81920x8x128.Idx) (n : Fin 32768) (hn : (a (Shape.Idx.ofFin n)).toNat = (y 0).val)
    (one : ∀ n' : Fin 32768, (a (Shape.Idx.ofFin n')).toNat = (y 0).val → n' = n) :
    Host.scatter sd (fun _ b => b) x0 (sidx a) X y = X (rowAt n.val y) := by
  have r0 : rowAt n.val y 0 = n := Fin.ext (Nat.mod_eq_of_lt n.isLt)
  refine Routing.scatter_set_hit sd x0 (sidx a) X y _ (fun k hk => ?_) (rowAt n.val y) ?_
  · obtain ⟨h0, h1, h2⟩ := (lands' a ha k y).mp hk
    refine congrArg X ?_
    funext b
    fin_cases b
    · exact (one _ h0).trans r0.symm
    · exact Fin.ext h1
    · exact Fin.ext h2
  · refine (lands' a ha _ y).mpr ⟨?_, rfl, rfl⟩
    rw [r0]; exact hn

theorem scatter_miss (y : S81920x8x128.Idx) (no : ∀ n' : Fin 32768, (a (Shape.Idx.ofFin n')).toNat ≠ (y 0).val) :
    Host.scatter sd (fun _ b => b) x0 (sidx a) X y = x0 y :=
  Routing.scatter_set_miss sd x0 (sidx a) X y fun k hk => no _ ((lands' a ha k y).mp hk).1

end Cert.ReferenceIdeal.Hand
end
-- ==== Proof.Value.lean ====
/- The kernel's result is the reference's two scatters. -/
module

public import proofs.«01_k».proof.Proof.Tables
public import proofs.«01_k».proof.Proof.Ref

@[expose] public section

noncomputable section

namespace Cert.KernelIdeal.Hand

open Cert.KernelIdeal Cert.KernelIdeal.Gen Idealize.ShloMosaic
open Cert.ReferenceIdeal.Hand (sd sidx scatter_hit scatter_miss)

variable {F : FTy → Type} [FloatOps F] {m : (ℓ : Loc nD τ sig) → Buf (Elt F) ℓ}

abbrev X0 (m : (ℓ : Loc nD τ sig) → Buf (Elt F) ℓ) : FVec F S32768x8x128 .bf16 := m ((0 : Dev nD).tc.loc main_arg0)
abbrev A1 (m : (ℓ : Loc nD τ sig) → Buf (Elt F) ℓ) : IVec S32768 32 := m ((0 : Dev nD).tc.loc main_arg1)
abbrev A2 (m : (ℓ : Loc nD τ sig) → Buf (Elt F) ℓ) : IVec S32768 32 := m ((0 : Dev nD).tc.loc main_arg2)

theorem A1_eq (n : Fin 32768) : (A1 m) (Shape.Idx.ofFin n) = dn m n.val (by omega) := (Cert.Pre_routed.Hand.dest_fst (A1 m) (A2 m) n).symm
theorem A2_eq (n : Fin 32768) : (A2 m) (Shape.Idx.ofFin n) = dn m (32768 + n.val) (by omega) := (Cert.Pre_routed.Hand.dest_snd (A1 m) (A2 m) n).symm

theorem dn_congr {n n' : ℕ} (hn : n < 65536) (hn' : n' < 65536) (e : n = n') : dn m n hn = dn m n' hn' := by
  subst e; rfl

/-- The result, slot by slot: the row of the token whose destination the slot is. -/
theorem res_at (h : Rt m) (y : S81920x8x128.Idx) (n : ℕ) (hn : n < 65536) (hy : (dn m n hn).toNat = (y 0).val) :
    resAt m 16 y = X0 m (rowAt n y) := by
  obtain ⟨t, ht, j, hj, rfl⟩ := num_surj hn
  exact res_row h y ht hj hy.symm 16 ht le_rfl

theorem value (h : Rt m) (z : S81920x8x128.Idx → F .bf16) (hz : ∀ y, z y = zero16 (F := F)) :
    resAt m 16 = Host.scatter sd (fun _ b => b) (Host.scatter sd (fun _ b => b) z (sidx (A1 m)) (X0 m)) (sidx (A2 m)) (X0 m) := by
  have h1 : ∀ n : Fin 32768, ((A1 m) (Shape.Idx.ofFin n)).toNat < 81920 := fun n => by rw [A1_eq]; exact h.names _
  have h2 : ∀ n : Fin 32768, ((A2 m) (Shape.Idx.ofFin n)).toNat < 81920 := fun n => by rw [A2_eq]; exact h.names _
  funext y
  by_cases hy : ∃ n, ∃ hn : n < 65536, (dn m n hn).toNat = (y 0).val
  · obtain ⟨n, hn, hd⟩ := hy
    rw [res_at h y n hn hd]
    by_cases hlt : n < 32768
    · rw [scatter_miss _ (A2 m) _ h2 y, scatter_hit z (A1 m) (X0 m) h1 y ⟨n, hlt⟩]
      · rfl
      · rw [A1_eq]; exact hd
      · intro n' hn'
        rw [A1_eq] at hn'
        exact Fin.ext (dn_inj h _ hn (hn'.trans hd.symm))
      · intro n' hn'
        rw [A2_eq] at hn'
        have := dn_inj h _ hn (hn'.trans hd.symm)
        omega
    · rw [scatter_hit _ (A2 m) (X0 m) h2 y ⟨n - 32768, by omega⟩]
      · exact congrArg (X0 m) (rowAt_congr (show n % 32768 = (n - 32768) % 32768 by omega) y)
      · rw [A2_eq, ← hd]
        exact congrArg BitVec.toNat (dn_congr (m := m) _ hn (show 32768 + (n - 32768) = n by omega))
      · intro n' hn'
        rw [A2_eq] at hn'
        have := dn_inj h _ hn (hn'.trans hd.symm)
        exact Fin.ext (by show n'.val = n - 32768; omega)
  · have hno : ∀ n (hn : n < 65536), (dn m n hn).toNat ≠ (y 0).val := fun n hn e => hy ⟨n, hn, e⟩
    rw [res_zero h y hno 16 (by omega) le_rfl, scatter_miss _ (A2 m) _ h2 y, scatter_miss z (A1 m) _ h1 y, hz]
    · intro n'; rw [A1_eq]; exact hno _ _
    · intro n'; rw [A2_eq]; exact hno _ _

end Cert.KernelIdeal.Hand
end
-- ==== Proof.KTables.lean ====
/- The launch's tables are the precondition's, so a routing keeps the kernel's copies in order. -/
module

public import proofs.«01_k».proof.Proof.KRun

public import proofs.«01_k».proof.Proof.Routing
public import Idealize.ShloMosaic.Lib.StableHlo.RunRead

@[expose] public section

set_option maxRecDepth 16384

noncomputable section

namespace Cert.Kernel.Hand

open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (Pipeline.UD sig nD τ) ℕ

variable (m : (ℓ : Loc nD τ sig) → Buf (Elt F) ℓ)

theorem pair_congr {t s₁ s₂ : Shape} {a : Fin t.rank} {x x' : s₁.Idx → BitVec 32} {y y' : s₂.Idx → BitVec 32} (h h')
    (hx : x = x') (hy : y = y') : concatenate t a [⟨s₁, x⟩, ⟨s₂, y⟩] h = concatenate t a [⟨s₁, x'⟩, ⟨s₂, y'⟩] h' := by
  subst hx hy; rfl

set_option maxHeartbeats 1000000 in
theorem V_tail : V m 0 main_v21 = Cert.Pre_routed.Hand.tailOf F (m ((0 : Dev nD).tc.loc main_arg3)) := by
  simp only [V, opss, List.flatten_cons, List.flatten_nil, List.append_nil, List.cons_append, List.nil_append]
  after_reads_simp
  unfold Cert.Pre_routed.Hand.tailOf
  refine pair_congr _ _ ?_ ?_
  · after_reads_simp
    simp -implicitDefEqProofs only [StableHlo.TRef.toBuf, StableHlo.TRef.ofBuf, cast_cast, cast_eq]
    unfold Cert.Pre_routed.Hand.padEnd Cert.Pre_routed.fn_cumsum Cert.Pre_routed.fn_cumsum_0 Cert.Pre_routed.fn_floor_divide Cert.Pre_routed.fn_where
    rfl
  · after_reads_simp
    simp -implicitDefEqProofs only [StableHlo.TRef.toBuf, StableHlo.TRef.ofBuf, cast_cast, cast_eq]
    unfold Cert.Pre_routed.Hand.spare Cert.Pre_routed.Hand.padEnd Cert.Pre_routed.fn_cumsum Cert.Pre_routed.fn_cumsum_0 Cert.Pre_routed.fn_floor_divide Cert.Pre_routed.fn_where
    rfl
set_option maxHeartbeats 1000000 in
theorem V_has : V m 0 main_v25 = Cert.Pre_routed.Hand.hasOf F (m ((0 : Dev nD).tc.loc main_arg3)) := by
  simp only [V, opss, List.flatten_cons, List.flatten_nil, List.append_nil, List.cons_append, List.nil_append]
  after_reads_simp
  unfold Cert.Pre_routed.Hand.hasOf
  refine pair_congr _ _ ?_ ?_
  · after_reads_simp
  · after_reads_simp
    simp -implicitDefEqProofs only [StableHlo.TRef.toBuf, StableHlo.TRef.ofBuf, cast_cast, cast_eq]
    unfold Cert.Pre_routed.Hand.spare Cert.Pre_routed.Hand.padEnd Cert.Pre_routed.fn_cumsum Cert.Pre_routed.fn_cumsum_0 Cert.Pre_routed.fn_floor_divide Cert.Pre_routed.fn_where
    rfl

/-! ## The tables and the blocks are in order -/

open Cert.Pre_routed.Hand (tailOf hasOf destOf liveB In Routed)

/-- The destinations and the precondition at a memory. -/
abbrev dst : Cert.Pre_routed.S65536.Idx → BitVec 32 := destOf (m ((0 : Dev nD).tc.loc main_arg1)) (m ((0 : Dev nD).tc.loc main_arg2))
def Rt : Prop := Routed (tT m) (tH m) (dst m)
theorem tT_eq : tT m = tailOf F (m ((0 : Dev nD).tc.loc main_arg3)) := V_tail m
theorem tH_eq : tH m = hasOf F (m ((0 : Dev nD).tc.loc main_arg3)) := V_has m
theorem rt_of_pre (h : Cert.Pre_routed.fn (F := F) (m ((0 : Dev nD).tc.loc main_arg0)) (m ((0 : Dev nD).tc.loc main_arg1))
    (m ((0 : Dev nD).tc.loc main_arg2)) (m ((0 : Dev nD).tc.loc main_arg3)) = fun _ => 1#1) : Rt m := by
  unfold Rt
  rw [tT_eq, tH_eq]
  exact Cert.Pre_routed.Hand.routed_of_pre h

/-- The body's test of a table's word is the precondition's. -/
theorem live_iff (H : S64.Idx → BitVec 32) (e : ℕ) : live H e ↔ liveB H (at64 e) = 1#1 := by
  unfold live word
  show IntOp.cmpi .ne ((IntOp.cmpi .sgt (H (at64 e)) 0#32).setWidth 32) 0#32 = 1#1 ↔ IntOp.cmpi .sgt (H (at64 e)) 0#32 = 1#1
  generalize IntOp.cmpi .sgt (H (at64 e)) 0#32 = b
  revert b; decide
theorem at64_fin (e : Fin 64) : at64 e.val = Shape.Idx.ofFin e := by
  funext a; obtain rfl : a = 0 := Subsingleton.elim _ _
  exact Fin.ext (Nat.mod_eq_of_lt e.isLt)

theorem tabOk {T H : S64.Idx → BitVec 32} {d : Cert.Pre_routed.S65536.Idx → BitVec 32} (h : Routed T H d) : TabOk T H where
  inside := fun e he hl => h.inside _ ((live_iff H e).mp hl)
  apart := fun e he e' he' hl hl' hne => by
    rw [Finset.disjoint_left]
    intro y hy hy'
    rw [mem_blk] at hy hy'
    refine hne (congrArg Fin.val (h.apart (y 0).val (y 0).isLt ⟨e, he⟩ ⟨e', he'⟩ ?_ ?_))
    · have hl := (live_iff H e).mp hl
      rw [show at64 e = _ from at64_fin ⟨e, he⟩] at hl
      unfold word at hy
      rw [show at64 e = _ from at64_fin ⟨e, he⟩] at hy
      exact ⟨hl, hy.1, hy.2⟩
    · have hl := (live_iff H e').mp hl'
      rw [show at64 e' = _ from at64_fin ⟨e', he'⟩] at hl
      unfold word at hy'
      rw [show at64 e' = _ from at64_fin ⟨e', he'⟩] at hy'
      exact ⟨hl, hy'.1, hy'.2⟩

theorem tr0 : ∀ t : Fin grid0.N, cc0_transform_0 (grid0.coords t) 0 = t.val := by decide
theorem tr1 : ∀ t : Fin grid0.N, cc0_transform_1 (grid0.coords t) 0 = t.val := by decide
theorem tr2 : ∀ t : Fin grid0.N, cc0_transform_2 (grid0.coords t) 0 = t.val := by decide
theorem fill_iff : ∀ t : Fin grid0.N, k0_cond1 (grid0.coords t) = 1#1 ↔ t.val = 0 := by decide
theorem lt16 (t : Fin (cfgM m).N) : t.val < 16 := by
  have : t.val < grid0.N := t.isLt
  rwa [N_0] at this

theorem bD_eq (t : Fin (cfgM m).N) (k : ℕ) (hk : k < 2048) :
    bD m t (at2048 k) = m ((0 : Dev nD).tc.loc main_arg1) (Shape.Idx.ofFin (n := 32768) ⟨t.val * 2048 + k, by have := lt16 m t; omega⟩) := by
  refine (congrArg (V m 0 main_arg1) ?_).trans (congrFun (V_main_arg1 m 0) _)
  funext a
  fin_cases a
  apply Fin.ext
  show cc0_transform_0 (grid0.coords t) 0 * 2048 + 1 * (k % 2048) = t.val * 2048 + k
  rw [tr0, Nat.mod_eq_of_lt hk]; omega
theorem bE_eq (t : Fin (cfgM m).N) (k : ℕ) (hk : k < 2048) :
    bE m t (at2048 k) = m ((0 : Dev nD).tc.loc main_arg2) (Shape.Idx.ofFin (n := 32768) ⟨t.val * 2048 + k, by have := lt16 m t; omega⟩) := by
  refine (congrArg (V m 0 main_arg2) ?_).trans (congrFun (V_main_arg2 m 0) _)
  funext a
  fin_cases a
  apply Fin.ext
  show cc0_transform_1 (grid0.coords t) 0 * 2048 + 1 * (k % 2048) = t.val * 2048 + k
  rw [tr1, Nat.mod_eq_of_lt hk]; omega

/-- Token `n`'s element beside element `y` of a slot. -/
def rowAt (n : ℕ) (y : S81920x8x128.Idx) : S32768x8x128.Idx :=
  fun a => ⟨(![n % 32768, (y 1).val, (y 2).val] : Fin 3 → ℕ) a, by
    fin_cases a
    · exact Nat.mod_lt _ (by decide)
    · exact (y 1).isLt
    · exact (y 2).isLt⟩
theorem rowAt_congr {n n' : ℕ} (h : n % 32768 = n' % 32768) (y : S81920x8x128.Idx) : rowAt n y = rowAt n' y := by
  funext a
  apply Fin.ext
  show (![n % 32768, (y 1).val, (y 2).val] : Fin 3 → ℕ) a = (![n' % 32768, (y 1).val, (y 2).val] : Fin 3 → ℕ) a
  rw [h]
theorem bX_eq (t : Fin (cfgM m).N) (k : ℕ) (hk : k < 2048) (y : S81920x8x128.Idx) :
    bX m t (tplace k y) = m ((0 : Dev nD).tc.loc main_arg0) (rowAt (t.val * 2048 + k) y) := by
  have ht := lt16 m t
  refine (congrArg (V m 0 main_arg0) ?_).trans (congrFun (V_main_arg0 m 0) _)
  funext a
  fin_cases a <;> apply Fin.ext
  · show cc0_transform_2 (grid0.coords t) 0 * 2048 + 1 * (k % 2048) = (t.val * 2048 + k) % 32768
    rw [tr2, Nat.mod_eq_of_lt hk, Nat.mod_eq_of_lt (by omega)]; omega
  · show 0 * 8 + 1 * (y 1).val = (y 1).val
    omega
  · show 0 * 128 + 1 * (y 2).val = (y 2).val
    omega

/-- The assignment copy `j` of point `t` is for. -/
def num (t j : ℕ) : ℕ := if j % 2 = 0 then t * 2048 + j / 2 else 32768 + (t * 2048 + j / 2)
theorem num_lt {t j : ℕ} (ht : t < 16) (hj : j < 4096) : num t j < 65536 := by unfold num; split <;> omega
theorem num_inj {t j t' j' : ℕ} (hj : j < 4096) (hj' : j' < 4096) (ht : t < 16) (ht' : t' < 16) (h : num t j = num t' j') : t = t' ∧ j = j' := by
  unfold num at h; split at h <;> split at h <;> omega
theorem num_mod {t j : ℕ} (ht : t < 16) (hj : j < 4096) : num t j % 32768 = t * 2048 + j / 2 := by
  unfold num; split <;> omega
theorem num_surj {n : ℕ} (hn : n < 65536) : ∃ t < 16, ∃ j < 4096, num t j = n := by
  by_cases h : n < 32768
  · exact ⟨n / 2048, by omega, 2 * (n % 2048), by omega, by unfold num; rw [if_pos (by omega)]; omega⟩
  · exact ⟨(n - 32768) / 2048, by omega, 2 * ((n - 32768) % 2048) + 1, by omega, by unfold num; rw [if_neg (by omega)]; omega⟩

/-- The destination of an assignment. -/
def dn (n : ℕ) (hn : n < 65536) : BitVec 32 := dst m (Shape.Idx.ofFin ⟨n, hn⟩)
theorem sl_eq (t : Fin (cfgM m).N) {j : ℕ} (hj : j < 4096) :
    sl (bD m t) (bE m t) j = (dn m (num t.val j) (num_lt (lt16 m t) hj)).toNat := by
  have ht := lt16 m t
  unfold sl num dn
  by_cases h : j % 2 = 0
  · rw [if_pos h, bD_eq m t _ (by omega)]
    refine congrArg BitVec.toNat ((Cert.Pre_routed.Hand.dest_fst _ _ ⟨t.val * 2048 + j / 2, by omega⟩).symm.trans (congrArg _ (congrArg _ (Fin.ext ?_))))
    show _ = if j % 2 = 0 then _ else _
    rw [if_pos h]
  · rw [if_neg h, bE_eq m t _ (by omega)]
    refine congrArg BitVec.toNat ((Cert.Pre_routed.Hand.dest_snd _ _ ⟨t.val * 2048 + j / 2, by omega⟩).symm.trans (congrArg _ (congrArg _ (Fin.ext ?_))))
    show _ = if j % 2 = 0 then _ else _
    rw [if_neg h]

variable {m}
theorem dn_inj (h : Rt m) {n n' : ℕ} (hn : n < 65536) (hn' : n' < 65536) (e : (dn m n hn).toNat = (dn m n' hn').toNat) : n = n' := by
  have := h.alone _ _ (BitVec.eq_of_toNat_eq e)
  exact congrArg Fin.val (congrFun this 0)

theorem good_of_rt (h : Rt m) : Good m where
  tab := tabOk h
  row := fun t =>
    { inside := fun j hj => by rw [sl_eq m t hj]; exact h.names _
      apart := fun j hj j' hj' e => by
        rw [sl_eq m t hj, sl_eq m t hj'] at e
        exact (num_inj hj hj' (lt16 m t) (lt16 m t) (dn_inj h _ _ e)).2 }

end Cert.Kernel.Hand
end
-- ==== Proof.InBody.lean ====
/- The input projection's kernel body, run once at any whole buffers: at a row's first point it normalises the
   block of tokens, keeps it and projects it on the gate columns; at every point it projects what was kept on
   the point's columns. -/
module

public import proofs.«01_k».proof.Proof.Gen.Kernel2Ideal.Frame
public import proofs.«01_k».proof.Proof.Gen.Kernel2Ideal.Skeleton
public import Idealize.ShloMosaic.Lib.Pipeline.FrameBody
public import Idealize.ShloMosaic.Lib.Tactic
public import Idealize.ShloMosaic.Lib.VecWindow

@[expose] public section

set_option maxRecDepth 16384

noncomputable section

namespace Cert.Kernel2Ideal.Hand

open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref's load of everything, the memref held at the contents that read `x`, reads `x`. -/
theorem ld_whole {sp : Space} {S : Shape} {e : EltTy} {M : Memref sig .tc sp S e} (h : M.IsWhole) (x : S.Idx → Elt F e)
    {off : Fin S.rank → ℕ} (inb : ∀ a, off a + S.size a ≤ S.size a) :
    View.readAt (Elt F) M.view (Rect.unit off S.size inb).toLoadRect (h.unread x) = x := by
  rw [View.readAt_full, h.read_unread]

variable (c : Dev nD) (i : grid0.Coords)
    (M2 : Memref sig .tc .vmem S2048x1024 .f32) (h2 : M2.IsWhole) (M3 : Memref sig .tc .vmem S1x1024 .f32) (h3 : M3.IsWhole)
    (M4 : Memref sig .tc .vmem S1024x1024 .bf16) (h4 : M4.IsWhole) (M5 : Memref sig .tc .vmem S1024x128 .bf16) (h5 : M5.IsWhole)
    (M6 : Memref sig .tc .vmem S2048x1024 .bf16) (h6 : M6.IsWhole) (M7 : Memref sig .tc .vmem S2048x128 .f32) (h7 : M7.IsWhole)
    (M8 : Memref sig .tc .vmem S2048x1024 .bf16) (h8 : M8.IsWhole)
    (x2 : S2048x1024.Idx → Elt F .f32) (x3 : S1x1024.Idx → Elt F .f32) (x4 : S1024x1024.Idx → Elt F .bf16) (x5 : S1024x128.Idx → Elt F .bf16)
    (f6 : Bf (F := F) c M6) (f7 : Bf (F := F) c M7) (f8 : Bf (F := F) c M8)
    (x7 : S2048x128.Idx → Elt F .f32) (x8 : S2048x1024.Idx → Elt F .bf16)

/-- A point that is not a row's first: the kept block, projected. -/
theorem body_next (hc : k0_cond1 i ≠ 1#1) (Q : PUnit → sProp 𝕄) :
    iprop(pt c M2 (h2.unread x2) ∗ pt c M3 (h3.unread x3) ∗ pt c M4 (h4.unread x4) ∗ pt c M5 (h5.unread x5) ∗ pt c M6 f6 ∗ pt c M7 (h7.unread x7)
        ∗ pt c M8 (h8.unread x8)
        ∗ (iprop(pt c M2 (h2.unread x2) ∗ pt c M3 (h3.unread x3) ∗ pt c M4 (h4.unread x4) ∗ pt c M5 (h5.unread x5)
            ∗ pt c M6 (h6.unread (k0_pay4 x8 x4)) ∗ pt c M7 (h7.unread x7) ∗ pt c M8 (h8.unread x8)) -∗ Q ⟨⟩))
      ⊢ wp frame (wpE (defs₀ (F := F)) Variants.none c none) Set.univ
          (cc0_inproj i M2 h2 M3 h3 M4 h4 M5 h5 M6 h6 M7 h7 M8 h8) Q := by
  rw [cc0_inproj_eq_skeleton]; unfold cc0_inproj_skel
  iintro ⟨H2, H3, H4, H5, H6, H7, H8, Hk⟩
  sl_exec (disch := exact hc)
  sl_step
  iapply Hk
  isplitl [H2]; · iexact H2
  isplitl [H3]; · iexact H3
  isplitl [H4]; · iexact H4
  isplitl [H5]; · iexact H5
  isplitl [H6]
  · rw [ld_whole h8, ld_whole h4]
    rw [h6.eq_unread (View.read_writes_full M6.view f6 _ _ [])]
    iexact H6
  isplitl [H7]; · iexact H7
  iexact H8

/-- A row's first point. -/
theorem body_first (hc : k0_cond1 i = 1#1) (Q : PUnit → sProp 𝕄) :
    iprop(pt c M2 (h2.unread x2) ∗ pt c M3 (h3.unread x3) ∗ pt c M4 (h4.unread x4) ∗ pt c M5 (h5.unread x5) ∗ pt c M6 f6 ∗ pt c M7 f7
        ∗ pt c M8 f8
        ∗ (iprop(pt c M2 (h2.unread x2) ∗ pt c M3 (h3.unread x3) ∗ pt c M4 (h4.unread x4) ∗ pt c M5 (h5.unread x5)
            ∗ pt c M6 (h6.unread (k0_pay4 (k0_pay2 x2 x3) x4)) ∗ pt c M7 (h7.unread (k0_pay3 x2 x3 x5)) ∗ pt c M8 (h8.unread (k0_pay2 x2 x3))) -∗ Q ⟨⟩))
      ⊢ wp frame (wpE (defs₀ (F := F)) Variants.none c none) Set.univ
          (cc0_inproj i M2 h2 M3 h3 M4 h4 M5 h5 M6 h6 M7 h7 M8 h8) Q := by
  rw [cc0_inproj_eq_skeleton]; unfold cc0_inproj_skel
  iintro ⟨H2, H3, H4, H5, H6, H7, H8, Hk⟩
  sl_exec (disch := exact hc)
  sl_step
  iapply Hk
  isplitl [H2]; · iexact H2
  isplitl [H3]; · iexact H3
  isplitl [H4]; · iexact H4
  isplitl [H5]; · iexact H5
  isplitl [H6]
  · sl_unfold_words
    rw [View.readCov_full, ld_whole h2, ld_whole h3, ld_whole h4]
    rw [h6.eq_unread (View.read_writes_full M6.view f6 _ _ [])]
    iexact H6
  isplitl [H7]
  · sl_unfold_words
    rw [ld_whole h2, ld_whole h3, ld_whole h5]
    rw [h7.eq_unread (View.read_writes_full M7.view f7 _ _ [])]
    iexact H7
  sl_unfold_words
  rw [ld_whole h2, ld_whole h3]
  rw [h8.eq_unread (View.read_writes_full M8.view f8 _ _ [])]
  iexact H8

end Cert.Kernel2Ideal.Hand
end
-- ==== Proof.InRun.lean ====
/- The input projection's launch: what each grid point is handed and leaves, and the run of the whole program
   from any memory. The second result's buffer is stored into at a row's first point and written back at its
   last, so between the two it is carried. -/
module

public import proofs.«01_k».proof.Proof.InBody
public import Idealize.ShloMosaic.Lib.WordCmp

@[expose] public section

set_option maxRecDepth 16384

noncomputable section

namespace Cert.Kernel2Ideal.Hand

open Idealize.ShloMosaic Idealize.ShloMosaic.TcCoe Idealize.ShloMosaic.Tactic
open Idealize.SL Idealize.SL.RA
open Idealize.SL.BI (sProp Storable bigSep bigSep_insert bigSep_empty bigSep_singleton)
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Points and blocks -/

/-- The first point of the row of point `n`. -/
def rs (n : ℕ) : Fin cfg0.N := ⟨n / 11 * 11 % 176, Nat.mod_lt _ (by decide)⟩
theorem rs_self (t : Fin cfg0.N) (h : t.val % 11 = 0) : rs t.val = t := by
  have ht : t.val < 176 := t.isLt
  apply Fin.ext; show t.val / 11 * 11 % 176 = t.val; omega
theorem rs_pred {n : ℕ} (h : n % 11 ≠ 0) : rs (n - 1) = rs n := by
  apply Fin.ext; show (n - 1) / 11 * 11 % 176 = n / 11 * 11 % 176
  have : (n - 1) / 11 = n / 11 := by omega
  rw [this]
theorem rs_succ {n : ℕ} (h : (n + 1) % 11 ≠ 0) : rs (n + 1) = rs n := (rs_pred (n := n + 1) h).symm

theorem cond_iff : ∀ t : Fin cfg0.N, k0_cond1 (grid0.coords t) = 1#1 ↔ t.val % 11 = 0 := by
  have h : ∀ t : Fin 176, k0_cond1 (grid0.coords t) = 1#1 ↔ t.val % 11 = 0 := by decide
  exact h
theorem idle_first (t : Fin cfg0.N) (h : t.val % 11 = 0) : cfg0.idle 5 (cfg0.grid.coords t) = false := by
  show (!(k0_cond1 (grid0.coords t) == 1#1)) = false
  rw [(cond_iff t).mpr h]; rfl
theorem idle_next (t : Fin cfg0.N) (h : t.val % 11 ≠ 0) : cfg0.idle 5 (cfg0.grid.coords t) = true := by
  show (!(k0_cond1 (grid0.coords t) == 1#1)) = true
  rw [Bool.not_eq_true', beq_eq_false_iff_ne]
  exact fun e => h ((cond_iff t).mp e)

/-- The blocks at a point: tokens, weights of the normalisation, the columns' weights, the gate columns'. -/
abbrev bX (c : Dev nD) (t : Fin cfg0.N) : S2048x1024.Idx → Elt F .f32 := iblk m c 0 t
abbrev bN (c : Dev nD) (t : Fin cfg0.N) : S1x1024.Idx → Elt F .f32 := iblk m c 1 t
abbrev bW (c : Dev nD) (t : Fin cfg0.N) : S1024x1024.Idx → Elt F .bf16 := iblk m c 2 t
abbrev bG (c : Dev nD) (t : Fin cfg0.N) : S1024x128.Idx → Elt F .bf16 := iblk m c 3 t

/-- What is kept for the row of point `n`, and what each result's buffer holds. -/
def kept (c : Dev nD) (n : ℕ) : S2048x1024.Idx → Elt F .bf16 := k0_pay2 (bX m c (rs n)) (bN m c (rs n))
def outP (c : Dev nD) (t : Fin cfg0.N) : S2048x1024.Idx → Elt F .bf16 := k0_pay4 (kept m c t.val) (bW m c t)
def outG (c : Dev nD) (n : ℕ) : S2048x128.Idx → Elt F .f32 := k0_pay3 (bX m c (rs n)) (bN m c (rs n)) (bG m c (rs n))

abbrev scrM : Memref sig .tc .vmem S2048x1024 .bf16 := Memref.whole cc0_scratch0
theorem scrW : (scrM).IsWhole := Memref.isWhole_whole _

/-! ## The pipeline's proof data -/

/-- What the scratch buffer and the generator register are known to hold before point `n`. -/
def inv (c : Dev nD) (n : ℕ) : sProp 𝕄 :=
  iprop((∃ f : Bf (F := F) c scrM, pt c scrM f ∗ ⌜n % 11 ≠ 0 → f = scrW.unread (kept m c n)⌝) ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outP m c t
    | ⟨5, _⟩ => outG m c t.val
  Φ t := inv m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]; try rfl
theorem after0_1 (c : Dev nD) (t : Fin cfg0.N) : (dats m 0 c).after 1 t = iblk m c 1 t := by dsimp only [dats]; try rfl
theorem after0_2 (c : Dev nD) (t : Fin cfg0.N) : (dats m 0 c).after 2 t = iblk m c 2 t := by dsimp only [dats]; try rfl
theorem after0_3 (c : Dev nD) (t : Fin cfg0.N) : (dats m 0 c).after 3 t = iblk m c 3 t := by dsimp only [dats]; try rfl
theorem after0_4 (c : Dev nD) (t : Fin cfg0.N) : (dats m 0 c).after 4 t = outP m c t := by dsimp only [dats]; try rfl
theorem after0_5 (c : Dev nD) (t : Fin cfg0.N) : (dats m 0 c).after 5 t = outG m c t.val := by dsimp only [dats]; try rfl
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

theorem flush_mid (t : Fin cfg0.N) (h : t.val % 11 ≠ 10) : (cfg0.win 5).flush t = false := by
  rw [Bool.eq_false_iff]; exact fun e => h ((flush0_5 t).mp e)

/-- The second result's blocks are never cut. -/
theorem fill_any (i : cfg0.grid.Coords) {α : Type} (d d' : (cfg0.win 5).block.Idx → α) (g : ((cfg0.win 5).xblock i).Idx → α) :
    (cfg0.win 5).fill i d g = (cfg0.win 5).fill i d' g := by
  funext j
  have hm : (cfg0.win 5).moved i j = true :=
    ((cfg0.win 5).moved_iff _ j).mpr fun a => by
      have := (j a).isLt; unfold Window.xsize; rw [show (cfg0.win 5).clip i a = none from rfl]; exact this
  unfold Window.fill; rw [dif_pos hm, dif_pos hm]

/-- After a row's first point the second result's buffer holds what that point stored. -/
theorem before0_5 (c : Dev nD) : ∀ (n : ℕ) (t : Fin cfg0.N), t.val = n → n % 11 ≠ 0 → ∀ d, (dats m 0 c).before 5 t d = outG m c n := by
  intro n
  induction n with
  | zero => intro t _ h; exact absurd rfl h
  | succ n ih =>
    intro t ht h d
    have hp : (⟨t.val - 1, Nat.lt_of_le_of_lt (Nat.sub_le _ _) t.isLt⟩ : Fin cfg0.N) = ⟨n, by have := t.isLt; omega⟩ := Fin.ext (by show t.val - 1 = n; omega)
    rw [(dats m 0 c).before_of_pos 5 t (by omega) ((cfg0.win 5).fetch_out rfl t), hp, flush_mid _ (by show n % 11 ≠ 10; omega), if_neg Bool.false_ne_true]
    unfold Dat.left
    by_cases h0 : n % 11 = 0
    · rw [idle_first _ h0]
      show (dats m 0 c).kept 5 _ d = _
      unfold Dat.kept
      rw [fill_any _ d ((dats m 0 c).after 5 _), Window.fill_cut, after0_5]
      unfold outG; rw [rs_succ h]
    · rw [idle_next _ h0]
      show (dats m 0 c).before 5 _ d = _
      rw [ih _ rfl h0]
      unfold outG; rw [rs_succ h]

/-! ## The body at any point -/

abbrev ms0_0 (t : Fin cfg0.N) : Memref sig .tc .vmem S2048x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)

/-- A whole memref's elements are all its buffer's. -/
theorem whole_set {κ : Kind} {sp : Space} {sh : Shape} {e : EltTy} {M : Memref sig κ sp sh e} (hw : M.IsWhole) : M.view.set = Finset.univ := by
  obtain ⟨b, rfl, rfl, rfl, hm⟩ := hw
  cases hm
  exact View.set_whole b
/-- A whole memref owned at `X` is its buffer held at the contents that read `X`. -/
theorem own_in (c : Dev nD) {sp : Space} {sh : Shape} {e : EltTy} (M : Memref sig .tc sp sh e)
    (hw : M.IsWhole) (X : sh.Idx → Elt F e) : (owns (c : Thread nD τ) M fullShare X : sProp 𝕄) ⊢ pt c M (hw.unread X) := by
  unfold owns
  iintro ⟨%f, %hf, H⟩
  obtain rfl := hw.eq_unread hf
  rw [whole_set hw]
  iexact H
theorem own_out (c : Dev nD) {sp : Space} {sh : Shape} {e : EltTy} (M : Memref sig .tc sp sh e)
    (hw : M.IsWhole) (X : sh.Idx → Elt F e) : (pt c M (hw.unread X) : sProp 𝕄) ⊢ owns (c : Thread nD τ) M fullShare X := by
  unfold owns
  rw [whole_set hw]
  iintro H
  iexists _; isplitr; · ipureintro; exact hw.read_unread X
  iexact H

/-- What the second result's buffer must be left at. -/
def left5 (c : Dev nD) (t : Fin cfg0.N) : sProp 𝕄 :=
  match cfg0.idle 5 (cfg0.grid.coords t) with
  | true =>
    match (cfg0.win 5).flush t with
    | false => iprop(∃ d, owns (c : Thread nD τ) (ms0_5 t) fullShare ((dats m 0 c).before 5 t d))
    | true => owns (c : Thread nD τ) (ms0_5 t) fullShare ((dats m 0 c).after 5 t)
  | false => owns (c : Thread nD τ) (ms0_5 t) fullShare ((dats m 0 c).after 5 t)

theorem left5_of (c : Dev nD) (t : Fin cfg0.N) : owns (c : Thread nD τ) (ms0_5 t) fullShare (outG m c t.val) ⊢ left5 m c t := by
  unfold left5
  by_cases h : t.val % 11 = 0
  · rw [idle_first t h, after0_5]
  · rw [idle_next t h]
    by_cases h' : t.val % 11 = 10
    · rw [(flush0_5 t).mpr h', after0_5]
    · rw [flush_mid t h']
      show _ ⊢ iprop(∃ d, owns (c : Thread nD τ) (ms0_5 t) fullShare ((dats m 0 c).before 5 t d))
      iintro H
      iexists (outG m c t.val)
      rw [before0_5 m c t.val t rfl h]
      iexact H

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ left5 m c t)

theorem owes_step (c : Dev nD) (t : Fin cfg0.N) : ((dats m 0 c).owesAt () t.castSucc : sProp 𝕄) ⊢ (dats m 0 c).owesAt () t.succ := by
  unfold Dat.owesAt Pipeline.owesWithin
  rw [show (dats m 0 c).owed t.castSucc = 0 from rfl, show (dats m 0 c).owed t.succ = 0 from rfl]
  iintro ⟨%W, -, HW⟩
  iexists W; isplitr; · ipureintro; exact fun _ _ => Or.inl trivial
  iexact HW

/-- What the body hands back, from the buffers it leaves. -/
theorem post_of (c : Dev nD) (t : Fin cfg0.N) :
    iprop((dats m 0 c).owesAt () t.castSucc ∗ (∃ r, prngReg c r)
      ∗ pt c (ms0_0 t) ((hs0_0 t).unread (iblk m c 0 t)) ∗ pt c (ms0_1 t) ((hs0_1 t).unread (iblk m c 1 t))
      ∗ pt c (ms0_2 t) ((hs0_2 t).unread (iblk m c 2 t)) ∗ pt c (ms0_3 t) ((hs0_3 t).unread (iblk m c 3 t))
      ∗ pt c (ms0_4 t) ((hs0_4 t).unread (outP m c t)) ∗ pt c (ms0_5 t) ((hs0_5 t).unread (outG m c t.val))
      ∗ pt c scrM (scrW.unread (kept m c t.val)))
      ⊢ (bodyPost m c t : sProp 𝕄) := by
  unfold bodyPost
  rw [after0_0, after0_1, after0_2, after0_3, after0_4, show (dats m 0 c).Φ t.succ = inv m c (t.val + 1) from rfl]
  unfold inv
  iintro ⟨HW, Hg, H0, H1, H2, H3, H4, H5, H8⟩
  ihave HW := (owes_step m c t) $$ HW
  ihave H0 := (own_out c (ms0_0 t) (hs0_0 t) (iblk m c 0 t)) $$ H0
  ihave H1 := (own_out c (ms0_1 t) (hs0_1 t) (iblk m c 1 t)) $$ H1
  ihave H2 := (own_out c (ms0_2 t) (hs0_2 t) (iblk m c 2 t)) $$ H2
  ihave H3 := (own_out c (ms0_3 t) (hs0_3 t) (iblk m c 3 t)) $$ H3
  ihave H4 := (own_out c (ms0_4 t) (hs0_4 t) (outP m c t)) $$ H4
  ihave H5 := (own_out c (ms0_5 t) (hs0_5 t) (outG m c t.val)) $$ H5
  ihave H5 := (left5_of m c t) $$ H5
  isplitl [H8 Hg]
  · isplitl [H8]
    · iexists (scrW.unread (kept m c t.val))
      isplitl [H8]; · iexact H8
      ipureintro
      intro h
      unfold kept; rw [rs_succ h]
    iexact Hg
  isplitl [HW]; · iexact HW
  isplitl [H0]; · iexact H0
  isplitl [H1]; · iexact H1
  isplitl [H2]; · iexact H2
  isplitl [H3]; · iexact H3
  isplitl [H4]; · iexact H4
  iexact H5

theorem sound_body (c : Dev nD) (t : Fin cfg0.N) :
    bodyPre m c t ⊢ wp frame (wpE (defs₀ (F := F)) Variants.none c none) Set.univ (bodyAt0 t) (fun _ => bodyPost m c t) := by
  unfold bodyPre
  simp only [before0_0, before0_1, before0_2, before0_3]
  rw [show (dats m 0 c).Φ t.castSucc = inv m c t.val from rfl]
  unfold inv
  iintro ⟨⟨⟨%f8, H8, %e8⟩, Hg⟩, HW, ⟨%d0, H0⟩, ⟨%d1, H1⟩, ⟨%d2, H2⟩, ⟨%d3, H3⟩, ⟨%d4, H4⟩, ⟨%d5, H5⟩⟩
  ihave H0 := (own_in c (ms0_0 t) (hs0_0 t) (iblk m c 0 t)) $$ H0
  ihave H1 := (own_in c (ms0_1 t) (hs0_1 t) (iblk m c 1 t)) $$ H1
  ihave H2 := (own_in c (ms0_2 t) (hs0_2 t) (iblk m c 2 t)) $$ H2
  ihave H3 := (own_in c (ms0_3 t) (hs0_3 t) (iblk m c 3 t)) $$ H3
  ihave H4 := (own_in c (ms0_4 t) (hs0_4 t) ((dats m 0 c).before 4 t d4)) $$ H4
  ihave H5 := (own_in c (ms0_5 t) (hs0_5 t) ((dats m 0 c).before 5 t d5)) $$ H5
  by_cases h : t.val % 11 = 0
  · iapply (body_first (F := F) c (grid0.coords t) (ms0_0 t) (hs0_0 t) (ms0_1 t) (hs0_1 t) (ms0_2 t) (hs0_2 t) (ms0_3 t) (hs0_3 t) (ms0_4 t) (hs0_4 t)
      (ms0_5 t) (hs0_5 t) scrM scrW (bX m c t) (bN m c t) (bW m c t) (bG m c t) ((hs0_4 t).unread ((dats m 0 c).before 4 t d4))
      ((hs0_5 t).unread ((dats m 0 c).before 5 t d5)) f8 ((cond_iff t).mpr h) (fun _ => bodyPost m c t))
    isplitl [H0]; · iexact H0
    isplitl [H1]; · iexact H1
    isplitl [H2]; · iexact H2
    isplitl [H3]; · iexact H3
    isplitl [H4]; · iexact H4
    isplitl [H5]; · iexact H5
    isplitl [H8]; · iexact H8
    iintro ⟨H0, H1, H2, H3, H4, H5, H8⟩
    iapply (post_of m c t)
    unfold outP outG kept
    rw [rs_self t h]
    isplitl [HW]; · iexact HW
    isplitl [Hg]; · iexact Hg
    isplitl [H0]; · iexact H0
    isplitl [H1]; · iexact H1
    isplitl [H2]; · iexact H2
    isplitl [H3]; · iexact H3
    isplitl [H4]; · iexact H4
    isplitl [H5]; · iexact H5
    iexact H8
  · obtain rfl := e8 h
    rw [before0_5 m c t.val t rfl h]
    iapply (body_next (F := F) c (grid0.coords t) (ms0_0 t) (hs0_0 t) (ms0_1 t) (hs0_1 t) (ms0_2 t) (hs0_2 t) (ms0_3 t) (hs0_3 t) (ms0_4 t) (hs0_4 t)
      (ms0_5 t) (hs0_5 t) scrM scrW (bX m c t) (bN m c t) (bW m c t) (bG m c t) ((hs0_4 t).unread ((dats m 0 c).before 4 t d4))
      (outG m c t.val) (kept m c t.val) (fun e => h ((cond_iff t).mp e)) (fun _ => bodyPost m c t))
    isplitl [H0]; · iexact H0
    isplitl [H1]; · iexact H1
    isplitl [H2]; · iexact H2
    isplitl [H3]; · iexact H3
    isplitl [H4]; · iexact H4
    isplitl [H5]; · iexact H5
    isplitl [H8]; · iexact H8
    iintro ⟨H0, H1, H2, H3, H4, H5, H8⟩
    iapply (post_of m c t)
    isplitl [HW]; · iexact HW
    isplitl [Hg]; · iexact Hg
    isplitl [H0]; · iexact H0
    isplitl [H1]; · iexact H1
    isplitl [H2]; · iexact H2
    isplitl [H3]; · iexact H3
    isplitl [H4]; · iexact H4
    isplitl [H5]; · iexact H5
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem run_main : θ_run defs (onTc (τ := τ) (main (F := F))) (s₀ m ρ)
    (fun r => Pipeline.FramePost cfgs (dats m) 0 (V m) r ∧ r.2.sem = fun _ => 0) :=
  Pipeline.θ_run_frame_track (Q' := _) cfgs (dats m) 0 launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      change _ ⊢ inv m c 0
      unfold Pipeline.ΦA inv
      rw [scopedRest0_eq]
      iintro ⟨⟨%f, H⟩, Hg⟩
      isplitl [H]
      · iexists f
        isplitl [H]; · iexact H
        ipureintro; exact fun h => absurd rfl h
      iexact Hg)
    (hout := fun c => by
      change inv m c _ ⊢ _
      unfold Pipeline.ΦA inv
      rw [scopedRest0_eq]
      iintro ⟨⟨%f, H, -⟩, Hg⟩
      isplitl [H]
      · iexists f; iexact H
      iexact Hg)

/-- The run read at the arguments, the results and the counters. -/
theorem run_read : θ_run defs (onTc (τ := τ) (main (F := F))) ⟨m, fun _ => 0, ρ⟩ (fun r =>
    ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0)
    ∧ ∀ c : Dev nD, r.2.mem ((c.tc : Thread nD τ).loc main_v27_0) = (dats m 0 c).arrAt 4 cfg0.N
      ∧ r.2.mem ((c.tc : Thread nD τ).loc main_v27_1) = (dats m 0 c).arrAt 5 cfg0.N) :=
  (θ_run defs _ _).mono (fun _ h => ⟨⟨fun c =>
      ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩,
    fun c => ⟨(h.1 c).1 4, (h.1 c).1 5⟩⟩) (run_main m ρ)

end Cert.Kernel2Ideal.Hand
end
-- ==== Proof.InHost.lean ====
/- What the launch of the input projection is handed: the arrays its host operations leave. -/
module

public import proofs.«01_k».proof.Proof.InRun
public import proofs.«01_k».proof.Proof.InSpec
public import Idealize.ShloMosaic.Lib.StableHlo.RunRead

@[expose] public section

set_option maxRecDepth 16384

noncomputable section

namespace Cert.Kernel2Ideal.Hand

open Idealize.ShloMosaic Idealize.ShloMosaic.TcCoe Idealize.ShloMosaic.Tactic Idealize.ShloMosaic.ValueIdx
open Cert.Kernel2Ideal.Gen Cert.InProj

variable (m : (ℓ : Loc nD τ sig) → Buf (Elt Ideal) ℓ) (c : Dev nD)

abbrev aX : S8x4096x1024.Idx → Elt Ideal .f32 := m ((c.tc : Thread nD τ).loc main_arg0)
abbrev aN : S1024.Idx → Elt Ideal .f32 := m ((c.tc : Thread nD τ).loc main_arg1)
abbrev aW : S1024x11280.Idx → Elt Ideal .f32 := m ((c.tc : Thread nD τ).loc main_arg2)

theorem lit0_ev : ∀ q : Fin 1024, (lit0 q).toInt.toNat = ev q.val := by decide +kernel

theorem V_v0 : V m c main_v0 = shapeCast S32768x1024 (aX m c) shapeCasts_S8x4096x1024_S32768x1024 := by
  simp only [V, hostOps0, hostOps0_1, hostOps0_2, List.flatten_cons, List.flatten_nil, List.append_nil, List.cons_append, List.nil_append]
  after_reads_simp
  rfl

theorem V_v26 : V m c main_v26 = shapeCast S1x1024 (aN m c) shapeCasts_S1024_S1x1024 := by
  simp only [V, hostOps0, hostOps0_1, hostOps0_2, List.flatten_cons, List.flatten_nil, List.append_nil, List.cons_append, List.nil_append]
  after_reads_simp
  rfl

/-- The numbers of the columns that the retention heads' columns are picked by. -/
def picks : IVec S1024x1 32 :=
  broadcastInDim S1024x1 ![0] bcast_S1024_S1024x1_0
    (select (constantI S1024 1 0#1) (addi (fun i => lit0 (S1024.rowMajor i)) (broadcastInDim S1024 ![] bcast_S_S1024 (constantI S_ 32 1024#32)))
      (fun i => lit0 (S1024.rowMajor i)))

/-- The ten pieces of the weights side by side. -/
def tenOf (u0 u1 : S1024x2048.Idx → Elt Ideal .f32) (u2 u3 u4 u5 u6 u7 : S1024x1024.Idx → Elt Ideal .f32)
    (u8 u9 : S1024x512.Idx → Elt Ideal .f32) : S1024x11264.Idx → Elt Ideal .f32 :=
  concatenate S1024x11264 1 [⟨S1024x2048, u0⟩, ⟨S1024x2048, u1⟩, ⟨S1024x1024, u2⟩, ⟨S1024x1024, u3⟩, ⟨S1024x1024, u4⟩,
    ⟨S1024x1024, u5⟩, ⟨S1024x1024, u6⟩, ⟨S1024x1024, u7⟩, ⟨S1024x512, u8⟩, ⟨S1024x512, u9⟩]
    concatenates_S1024x2048_S1024x2048_S1024x1024_S1024x1024_S1024x1024_S1024x1024_S1024x1024_S1024x1024_S1024x512_S1024x512_S1024x11264_d1

def picked (x : S1024x1024.Idx → Elt Ideal .f32) : S1024x1024.Idx → Elt Ideal .f32 :=
  Host.gather gather_S1024x1024_S1024x1_S1024x1024_0_1_n_n_1_1_10241 x picks

def wMain : S1024x11264.Idx → Elt Ideal .bf16 :=
  truncf (F := Ideal) (φ := .f32) .bf16 (tenOf
    (extractStridedSlice S1024x2048 ![0, 5136] (aW m c) slices_S1024x11280_S1024x2048_0_5136)
    (extractStridedSlice S1024x2048 ![0, 7184] (aW m c) slices_S1024x11280_S1024x2048_0_7184)
    (extractStridedSlice S1024x1024 ![0, 1024] (aW m c) slices_S1024x11280_S1024x1024_0_1024)
    (extractStridedSlice S1024x1024 ![0, 2048] (aW m c) slices_S1024x11280_S1024x1024_0_2048)
    (picked (extractStridedSlice S1024x1024 ![0, 3088] (aW m c) slices_S1024x11280_S1024x1024_0_3088))
    (picked (extractStridedSlice S1024x1024 ![0, 4112] (aW m c) slices_S1024x11280_S1024x1024_0_4112))
    (extractStridedSlice S1024x1024 ![0, 9232] (aW m c) slices_S1024x11280_S1024x1024_0_9232)
    (extractStridedSlice S1024x1024 ![0, 10256] (aW m c) slices_S1024x11280_S1024x1024_0_10256)
    (extractStridedSlice S1024x512 ![0, 0] (aW m c) slices_S1024x11280_S1024x512_0_0)
    (extractStridedSlice S1024x512 ![0, 512] (aW m c) slices_S1024x11280_S1024x512_0_512)) bitsLt_bf16_f32

set_option maxHeartbeats 1000000 in
theorem V_v22 : V m c main_v22 = wMain m c := by
  unfold wMain tenOf picked picks
  simp only [V, hostOps0, hostOps0_1, hostOps0_2, List.flatten_cons, List.flatten_nil, List.append_nil, List.cons_append, List.nil_append]
  after_reads_simp
  try dsimp only [Matrix.cons_val]
  try after_reads_simp
  all_goals rfl

def wGate : S1024x128.Idx → Elt Ideal .bf16 :=
  truncf (F := Ideal) (φ := .f32) .bf16 (pad S1024x128 ![0, 0] ![0, 112] ![0, 0]
    (extractStridedSlice S1024x16 ![0, 3072] (aW m c) slices_S1024x11280_S1024x16_0_3072)
    (sitofp (F := Ideal) .f32 (constantI S_ 32 0#32)) pads_S1024x16_S1024x128_000_01120 h_S_) bitsLt_bf16_f32

set_option maxHeartbeats 1000000 in
theorem V_v25 : V m c main_v25 = wGate m c := by
  unfold wGate
  simp only [V, hostOps0, hostOps0_1, hostOps0_2, List.flatten_cons, List.flatten_nil, List.append_nil, List.cons_append, List.nil_append]
  after_reads_simp
  simp -implicitDefEqProofs only [StableHlo.TRef.toBuf, StableHlo.TRef.ofBuf, cast_cast, cast_eq]
  try rfl

/-! ## Their entries -/

theorem picks_at (j : ℕ) (hj : j < 1024) : (picks (ix2 ⟨j, hj⟩ 0)).toInt.toNat = ev j := by
  have e : picks (ix2 ⟨j, hj⟩ 0) = lit0 (S1024.rowMajor (ix1 ⟨j, hj⟩)) := by
    unfold picks
    exact broadcastInDim_apply (s := S1024) (t := S1024x1) ![0] bcast_S1024_S1024x1_0 _ (ix2 ⟨j, hj⟩ 0) (ix1 ⟨j, hj⟩) (fun a => by
      match a with
      | ⟨0, _⟩ => rfl)
  have e' : S1024.rowMajor (ix1 ⟨j, hj⟩) = (⟨j, hj⟩ : Fin 1024) := Fin.ext (Shape.rowMajor_val_one _)
  rw [e, e', lit0_ev]

theorem picked_at (x : S1024x1024.Idx → Elt Ideal .f32) (r : Fin 1024) (j : ℕ) (hj : j < 1024) :
    picked x (ix2 r ⟨j, hj⟩) = x (ix2 r ⟨ev j, ev_lt hj⟩) :=
  pick gather_S1024x1024_S1024x1_S1024x1024_0_1_n_n_1_1_10241.wf x picks r j hj (ev j) (ev_lt hj) (picks_at j hj)

theorem wMain_at (k : Fin 1024) (j : ℕ) (hj : j < 11264) :
    wMain m c (ix2 k ⟨j, hj⟩) = aW m c (ix2 k ⟨src j, src_lt hj⟩) := by
  show tenOf _ _ _ _ _ _ _ _ _ _ (ix2 k ⟨j, hj⟩) = _
  refine concat10 (R := 1024) (aW m c) _ _ _ _ _ _ _ _ _ _ _ ?_ ?_ ?_ ?_ ?_ ?_ ?_ ?_ ?_ ?_ k j hj <;> intro r j hj
  · exact cols (aW m c) slices_S1024x11280_S1024x2048_0_5136 (by decide) r j hj
  · exact cols (aW m c) slices_S1024x11280_S1024x2048_0_7184 (by decide) r j hj
  · exact cols (aW m c) slices_S1024x11280_S1024x1024_0_1024 (by decide) r j hj
  · exact cols (aW m c) slices_S1024x11280_S1024x1024_0_2048 (by decide) r j hj
  · exact (picked_at _ r j hj).trans (cols (aW m c) slices_S1024x11280_S1024x1024_0_3088 (by decide) r (ev j) (ev_lt hj))
  · exact (picked_at _ r j hj).trans (cols (aW m c) slices_S1024x11280_S1024x1024_0_4112 (by decide) r (ev j) (ev_lt hj))
  · exact cols (aW m c) slices_S1024x11280_S1024x1024_0_9232 (by decide) r j hj
  · exact cols (aW m c) slices_S1024x11280_S1024x1024_0_10256 (by decide) r j hj
  · exact cols (aW m c) slices_S1024x11280_S1024x512_0_0 (by decide) r j hj
  · exact cols (aW m c) slices_S1024x11280_S1024x512_0_512 (by decide) r j hj

theorem wGate_in (k : Fin 1024) (l : ℕ) (hl : l < 16) :
    wGate m c (ix2 k ⟨l, by omega⟩) = aW m c (ix2 k ⟨3072 + l, by omega⟩) := by
  refine (pad_apply_of_inside (s := S1024x16) (t := S1024x128) ![0, 0] ![0, 112] ![0, 0] _ _ pads_S1024x16_S1024x128_000_01120 h_S_ _ (ix2 k ⟨l, hl⟩) (fun a => ?_)).trans
    (cols (aW m c) slices_S1024x11280_S1024x16_0_3072 (by decide) k l hl)
  match a with
  | ⟨0, _⟩ => show k.val = 0 + k.val * 1; omega
  | ⟨1, _⟩ => show l = 0 + l * 1; omega

theorem wGate_out (k : Fin 1024) (l : ℕ) (hl : l < 128) (h : ¬ l < 16) : wGate m c (ix2 k ⟨l, hl⟩) = (0 : EReal) := by
  refine (pad_apply_of_not_inside (s := S1024x16) (t := S1024x128) ![0, 0] ![0, 112] ![0, 0] _ _ pads_S1024x16_S1024x128_000_01120 h_S_ _ 1 ?_).trans ?_
  · rintro ⟨-, -, h3⟩
    refine h ?_
    have : (l - 0) / (0 + 1) < 16 := h3
    omega
  · exact sitofp_zero (φ := .f32)

end Cert.Kernel2Ideal.Hand
end
-- ==== Proof.InValue.lean ====
/- The input projection's results, entry by entry. -/
module

public import proofs.«01_k».proof.Proof.InHost
public import Idealize.ShloMosaic.Lib.ValueLayoutCasts
public import Idealize.ShloMosaic.Lib.ValueLayout
public import Idealize.ShloMosaic.Lib.Pipeline.ValueKit.Geometry

@[expose] public section

set_option maxRecDepth 16384

noncomputable section

namespace Cert.Kernel2Ideal.Hand

open Idealize.ShloMosaic Idealize.ShloMosaic.TcCoe Idealize.ShloMosaic.Tactic Idealize.ShloMosaic.ValueIdx
open Cert.Kernel2Ideal.Gen Cert.InProj

variable (m : (ℓ : Loc nD τ sig) → Buf (Elt Ideal) ℓ) (c : Dev nD)

/-! ## The body's values -/

theorem bcol (v : S2048x1.Idx → EReal) (p : Fin 2048) (k : Fin 1024) :
    broadcastTo S2048x1024 v broadcasts_S2048x1_S2048x1024 (ix2 p k) = v (ix2 p 0) :=
  broadcastTo_apply (s := S2048x1) (t := S2048x1024) v _ _ _ fun a => by
    match a with
    | ⟨0, _⟩ => rfl
    | ⟨1, _⟩ => rfl
theorem brow (v : S1x1024.Idx → EReal) (p : Fin 2048) (k : Fin 1024) :
    broadcastTo S2048x1024 v broadcasts_S1x1024_S2048x1024 (ix2 p k) = v (ix2 0 k) :=
  broadcastTo_apply (s := S1x1024) (t := S2048x1024) v _ _ _ fun a => by
    match a with
    | ⟨0, _⟩ => rfl
    | ⟨1, _⟩ => rfl

theorem sq_sum (v : S2048x1024.Idx → EReal) (p : Fin 2048) :
    shapeCast S2048x1 (multiReduction (F := Ideal) (φ := .f32) .add [1] S2048 (mulf (F := Ideal) (φ := .f32) v v) 0x00000000#32
      reduces_S2048x1024_S2048 (.inl rfl) rfl) shapeCasts_S2048_S2048x1 (ix2 p 0) = ∑ k : Fin 1024, v (ix2 p k) * v (ix2 p k) := by
  refine (shapeCast_apply (s := S2048) (t := S2048x1) _ _ (ix2 p 0) (ix1 p) ?_).trans ?_
  · rw [Shape.rowMajor_val_one, Shape.rowMajor_val_two]
    show p.val = p.val * 1 + 0
    omega
  refine (Ideal.multiReduction_add_single _ _ _ _ _ _).trans (Finset.sum_congr rfl fun k _ => ?_)
  have e : (reduces_S2048x1024_S2048.lift (ix1 p) k : S2048x1024.Idx) = ix2 p k := by
    funext a
    match a with
    | ⟨0, _⟩ => rfl
    | ⟨1, _⟩ => rfl
  rw [e]; rfl

theorem pay1_at (v9 : S2048x1024.Idx → EReal) (v21 : S1x1024.Idx → EReal) (p : Fin 2048) (k : Fin 1024) :
    k0_pay1 (F := Ideal) v9 v21 (ix2 p k) = unit (fun k => v9 (ix2 p k)) (fun k => v21 (ix2 0 k)) k := by
  unfold k0_pay1 unit scale
  simp only [cast_self]
  refine congr (congrArg HMul.hMul (congrArg (v9 (ix2 p k) * ·) ((bcol _ p k).trans ?_))) (brow _ p k)
  show FloatOps.rsqrt (F := Ideal) (φ := .f32) (FloatOps.addf (F := Ideal) (φ := .f32)
    (FloatOps.divf (F := Ideal) (φ := .f32) (shapeCast S2048x1 _ shapeCasts_S2048_S2048x1 (ix2 p 0)) _) _) = _
  rw [sq_sum]
  rfl

theorem pay2_at (v9 : S2048x1024.Idx → EReal) (v21 : S1x1024.Idx → EReal) (p : Fin 2048) (k : Fin 1024) :
    k0_pay2 (F := Ideal) v9 v21 (ix2 p k) = unit (fun k => v9 (ix2 p k)) (fun k => v21 (ix2 0 k)) k := by
  unfold k0_pay2
  simp only [cast_self]
  exact pay1_at v9 v21 p k

theorem pay3_at (v9 : S2048x1024.Idx → EReal) (v21 : S1x1024.Idx → EReal) (v29 : S1024x128.Idx → EReal) (p : Fin 2048) (l : Fin 128) :
    k0_pay3 (F := Ideal) v9 v21 v29 (ix2 p l)
      = ∑ k, unit (fun k => v9 (ix2 p k)) (fun k => v21 (ix2 0 k)) k * v29 (ix2 k l) := by
  unfold k0_pay3
  simp only [cast_self]
  refine (Ideal.matmul_plain_apply (M := 2048) (K := 1024) (N := 128) (φ₁ := .bf16) (φ₂ := .bf16) none _ _ _ p l).trans ?_
  show Ideal.ofBits .f32 0x00000000#32 + _ = _
  rw [Ideal.ofBits_zero_f32, zero_add]
  exact Finset.sum_congr rfl fun k _ => congrArg (· * v29 (ix2 k l)) (pay1_at v9 v21 p k)

theorem pay4_at (v3 : S2048x1024.Idx → EReal) (v4 : S1024x1024.Idx → EReal) (p : Fin 2048) (j : Fin 1024) :
    k0_pay4 (F := Ideal) v3 v4 (ix2 p j) = ∑ k, v3 (ix2 p k) * v4 (ix2 k j) := by
  unfold k0_pay4
  simp only [cast_self]
  refine (Ideal.matmul_plain_apply (M := 2048) (K := 1024) (N := 1024) (φ₁ := .bf16) (φ₂ := .bf16) none _ _ _ p j).trans ?_
  show Ideal.ofBits .f32 0x00000000#32 + _ = _
  rw [Ideal.ofBits_zero_f32, zero_add]

/-! ## The blocks -/

theorem tr0 : ∀ t : Fin grid0.N, cc0_transform_0 (grid0.coords t) 0 = t.val / 11 ∧ cc0_transform_0 (grid0.coords t) 1 = 0 := by decide +kernel
theorem tr1 : ∀ t : Fin grid0.N, cc0_transform_1 (grid0.coords t) 0 = 0 ∧ cc0_transform_1 (grid0.coords t) 1 = 0 := by decide +kernel
theorem tr2 : ∀ t : Fin grid0.N, cc0_transform_2 (grid0.coords t) 0 = 0 ∧ cc0_transform_2 (grid0.coords t) 1 = t.val % 11 := by decide +kernel
theorem tr3 : ∀ t : Fin grid0.N, cc0_transform_3 (grid0.coords t) 0 = 0 ∧ cc0_transform_3 (grid0.coords t) 1 = 0 := by decide +kernel
theorem tr4 : ∀ t : Fin grid0.N, cc0_transform_4 (grid0.coords t) 0 = t.val / 11 ∧ cc0_transform_4 (grid0.coords t) 1 = t.val % 11 := by decide +kernel
theorem tr5 : ∀ t : Fin grid0.N, cc0_transform_5 (grid0.coords t) 0 = t.val / 11 ∧ cc0_transform_5 (grid0.coords t) 1 = 0 := by decide +kernel
theorem lt176 (t : Fin cfg0.N) : t.val < 176 := t.isLt

abbrev X2 : S32768x1024.Idx → EReal := shapeCast S32768x1024 (aX m c) shapeCasts_S8x4096x1024_S32768x1024

theorem bX_at (t : Fin cfg0.N) (p : Fin 2048) (k : Fin 1024) :
    bX m c t (ix2 p k) = X2 m c (ix2 ⟨t.val / 11 * 2048 + p.val, by have := lt176 t; omega⟩ k) := by
  refine (congrArg (V m c main_v0) ?_).trans (congrFun (V_v0 m c) _)
  funext a
  fin_cases a <;> apply Fin.ext
  · show cc0_transform_0 (grid0.coords t) 0 * 2048 + 1 * p.val = t.val / 11 * 2048 + p.val
    rw [(tr0 t).1]; omega
  · show cc0_transform_0 (grid0.coords t) 1 * 1024 + 1 * k.val = k.val
    rw [(tr0 t).2]; omega
theorem bN_at (t : Fin cfg0.N) (k : Fin 1024) : bN m c t (ix2 0 k) = aN m c (ix1 k) := by
  refine ((congrArg (V m c main_v26) (?_ : _ = ix2 (0 : Fin 1) k)).trans (congrFun (V_v26 m c) _)).trans
    (shapeCast_apply (s := S1024) (t := S1x1024) _ _ _ _ ?_)
  · funext a
    fin_cases a <;> apply Fin.ext
    · show cc0_transform_1 (grid0.coords t) 0 * 1 + 1 * 0 = 0
      rw [(tr1 t).1]
    · show cc0_transform_1 (grid0.coords t) 1 * 1024 + 1 * k.val = k.val
      rw [(tr1 t).2]; omega
  · rw [Shape.rowMajor_val_one, Shape.rowMajor_val_two]
    show k.val = 0 * 1024 + k.val
    omega
theorem bW_at (t : Fin cfg0.N) (k j : Fin 1024) :
    bW m c t (ix2 k j) = aW m c (ix2 k ⟨src (t.val % 11 * 1024 + j.val), src_lt (by omega)⟩) := by
  refine ((congrArg (V m c main_v22) (?_ : _ = ix2 k (⟨t.val % 11 * 1024 + j.val, by omega⟩ : Fin 11264))).trans (congrFun (V_v22 m c) _)).trans
    (wMain_at m c k _ _)
  funext a
  fin_cases a <;> apply Fin.ext
  · show cc0_transform_2 (grid0.coords t) 0 * 1024 + 1 * k.val = k.val
    rw [(tr2 t).1]; omega
  · show cc0_transform_2 (grid0.coords t) 1 * 1024 + 1 * j.val = t.val % 11 * 1024 + j.val
    rw [(tr2 t).2]; omega
theorem bG_at (t : Fin cfg0.N) (k : Fin 1024) (l : Fin 128) : bG m c t (ix2 k l) = wGate m c (ix2 k l) := by
  refine (congrArg (V m c main_v25) ?_).trans (congrFun (V_v25 m c) _)
  funext a
  fin_cases a <;> apply Fin.ext
  · show cc0_transform_3 (grid0.coords t) 0 * 1024 + 1 * k.val = k.val
    rw [(tr3 t).1]; omega
  · show cc0_transform_3 (grid0.coords t) 1 * 128 + 1 * l.val = l.val
    rw [(tr3 t).2]; omega

theorem rs_row (t : Fin cfg0.N) : (rs t.val).val / 11 = t.val / 11 := by
  have := lt176 t
  show t.val / 11 * 11 % 176 / 11 = t.val / 11
  omega
theorem row_at (t : Fin cfg0.N) (p : Fin 2048) :
    unit (fun k => bX m c (rs t.val) (ix2 p k)) (fun k => bN m c (rs t.val) (ix2 0 k))
      = rowOf (X2 m c) (aN m c) ⟨t.val / 11 * 2048 + p.val, by have := lt176 t; omega⟩ := by
  unfold rowOf
  refine congr (congrArg unit (funext fun k => (bX_at m c _ p k).trans ?_)) (funext fun k => bN_at m c _ k)
  have e := rs_row t
  congr 2
  apply Fin.ext
  show (rs t.val).val / 11 * 2048 + p.val = _
  rw [e]

theorem outP_at (t : Fin cfg0.N) (p : Fin 2048) (j : Fin 1024) :
    outP m c t (ix2 p j) = proj (X2 m c) (aN m c) (aW m c)
      (ix2 ⟨t.val / 11 * 2048 + p.val, by have := lt176 t; omega⟩ ⟨t.val % 11 * 1024 + j.val, by omega⟩) := by
  unfold outP kept
  refine (pay4_at _ _ p j).trans (Finset.sum_congr rfl fun k _ => ?_)
  refine congr (congrArg HMul.hMul ?_) (bW_at m c t k j)
  exact (pay2_at _ _ p k).trans (congrFun (row_at m c t p) k)
theorem outG_at (t : Fin cfg0.N) (p : Fin 2048) (l : Fin 128) :
    outG m c t.val (ix2 p l) = gate (X2 m c) (aN m c) (aW m c) (ix2 ⟨t.val / 11 * 2048 + p.val, by have := lt176 t; omega⟩ l) := by
  unfold outG
  refine (pay3_at _ _ _ p l).trans ?_
  by_cases h : l.val < 16
  · refine Eq.trans ?_ (gate_in _ _ _ _ l h).symm
    refine Finset.sum_congr rfl fun k _ => congr (congrArg HMul.hMul (congrFun (row_at m c t p) k)) ?_
    exact (bG_at m c _ k l).trans (wGate_in m c k l.val h)
  · refine Eq.trans ?_ (gate_out _ _ _ _ l h).symm
    refine Finset.sum_eq_zero fun k _ => ?_
    have e : bG m c (rs t.val) (ix2 k l) = (0 : EReal) := (bG_at m c _ k l).trans (wGate_out m c k l.val l.isLt h)
    exact (congrArg (fun x : EReal => unit (fun k => bX m c (rs t.val) (ix2 p k)) (fun k => bN m c (rs t.val) (ix2 0 k)) k * x) e).trans
      (mul_zero _)

/-! ## The results -/

theorem arr4 : (dats m 0 c).arrAt 4 cfg0.N = proj (X2 m c) (aN m c) (aW m c) := by
  refine (dats m 0 c).arrAt_eq_of_covers 4 _ (by decide +kernel) fun t hf y => ?_
  rw [after0_4]
  have hy : ((cfg0.win 4).xinj (cfg0.grid.coords t) y : S2048x1024.Idx) = ix2 (y 0) (y 1) := by
    funext a
    match a with
    | ⟨0, _⟩ => rfl
    | ⟨1, _⟩ => rfl
  refine ((congrArg (outP m c t) hy).trans (outP_at m c t (y 0) (y 1))).trans (congrArg (proj (X2 m c) (aN m c) (aW m c)) ?_)
  funext a
  fin_cases a <;> apply Fin.ext
  · show t.val / 11 * 2048 + (y 0).val = cc0_transform_4 (grid0.coords t) 0 * 2048 + 1 * (y 0).val
    rw [(tr4 t).1]; omega
  · show t.val % 11 * 1024 + (y 1).val = cc0_transform_4 (grid0.coords t) 1 * 1024 + 1 * (y 1).val
    rw [(tr4 t).2]; omega

theorem arr5 : (dats m 0 c).arrAt 5 cfg0.N = gate (X2 m c) (aN m c) (aW m c) := by
  refine (dats m 0 c).arrAt_eq_of_covers 5 _ (by decide +kernel) fun t hf y => ?_
  rw [after0_5]
  have hy : ((cfg0.win 5).xinj (cfg0.grid.coords t) y : S2048x128.Idx) = ix2 (y 0) (y 1) := by
    funext a
    match a with
    | ⟨0, _⟩ => rfl
    | ⟨1, _⟩ => rfl
  refine ((congrArg (outG m c t.val) hy).trans (outG_at m c t (y 0) (y 1))).trans (congrArg (gate (X2 m c) (aN m c) (aW m c)) ?_)
  funext a
  fin_cases a <;> apply Fin.ext
  · show t.val / 11 * 2048 + (y 0).val = cc0_transform_5 (grid0.coords t) 0 * 2048 + 1 * (y 0).val
    rw [(tr5 t).1]; omega
  · show (y 1).val = cc0_transform_5 (grid0.coords t) 1 * 128 + 1 * (y 1).val
    rw [(tr5 t).2]; omega

end Cert.Kernel2Ideal.Hand
end
-- ==== Proof.InRef.lean ====
/- The reference of the input projection, entry by entry. -/
module

public import proofs.«01_k».proof.Proof.Gen.Reference2Ideal.Run
public import proofs.«01_k».proof.Proof.InSpec

@[expose] public section

set_option maxRecDepth 16384

noncomputable section

namespace Cert.Reference2Ideal.Hand

open Idealize.ShloMosaic Idealize.ShloMosaic.TcCoe Idealize.ShloMosaic.ValueIdx
open Cert.Reference2Ideal.Gen Cert.InProj

variable (m : (ℓ : Loc nD τ sig) → Buf (Elt Ideal) ℓ) (c : Dev nD)

abbrev aX : S8x4096x1024.Idx → Elt Ideal .f32 := m ((c.tc : Thread nD τ).loc main_arg0)
abbrev aN : S1024.Idx → Elt Ideal .f32 := m ((c.tc : Thread nD τ).loc main_arg1)
abbrev aW : S1024x11280.Idx → Elt Ideal .f32 := m ((c.tc : Thread nD τ).loc main_arg2)
abbrev X2 : S32768x1024.Idx → EReal := shapeCast S32768x1024 (aX m c) shapeCasts_S8x4096x1024_S32768x1024

/-! ## The reference's steps by name -/

/-- The normalised tokens. -/
def normed (X : FVec Ideal S32768x1024 .f32) (nw : FVec Ideal S1024 .f32) : FVec Ideal S32768x1024 .f32 :=
  mulf (mulf X (broadcastInDim S32768x1024 ![0, 1] bcast_S32768x1_S32768x1024_0_1 (Host.rsqrt (addf (Host.divf
    (broadcastInDim S32768x1 ![0] bcast_S32768_S32768x1_0 (Host.reduceAdd (mulf X X) (constant S_ .f32 0x00000000#32)
      reducesTo_S32768x1024_S32768_d1 h_S_)) (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 nw))

/-- Their product with the weights. -/
def prod (X : FVec Ideal S32768x1024 .f32) (nw : FVec Ideal S1024 .f32) (w : FVec Ideal S1024x11280 .f32) : FVec Ideal S32768x11280 .f32 :=
  Host.dotGeneral dot_S32768x1024_S1024x11280_S32768x11280_1_0_0_1_n_n none (normed X nw) w

/-- A retention head's even components before its odd ones. -/
def halves (q : S32768x1024.Idx → EReal) : S32768x1024.Idx → EReal :=
  shapeCast S32768x1024 (transpose S32768x4x2x128 [0, 1, 3, 2] (shapeCast S32768x4x128x2 q shapeCasts_S32768x1024_S32768x4x128x2)
    transposes_S32768x4x128x2_S32768x4x2x128_0_1_3_2) shapeCasts_S32768x4x2x128_S32768x1024

def first (z : FVec Ideal S32768x11280 .f32) : FVec Ideal S32768x11264 .f32 :=
  Value.fn_main_v32 (F := Ideal)
    (extractStridedSlice S32768x2048 ![0, 5136] z slices_S32768x11280_S32768x2048_0_5136)
    (extractStridedSlice S32768x2048 ![0, 7184] z slices_S32768x11280_S32768x2048_0_7184)
    (extractStridedSlice S32768x1024 ![0, 1024] z slices_S32768x11280_S32768x1024_0_1024)
    (extractStridedSlice S32768x1024 ![0, 2048] z slices_S32768x11280_S32768x1024_0_2048)
    (halves (extractStridedSlice S32768x1024 ![0, 3088] z slices_S32768x11280_S32768x1024_0_3088))
    (halves (extractStridedSlice S32768x1024 ![0, 4112] z slices_S32768x11280_S32768x1024_0_4112))
    (extractStridedSlice S32768x1024 ![0, 9232] z slices_S32768x11280_S32768x1024_0_9232)
    (extractStridedSlice S32768x1024 ![0, 10256] z slices_S32768x11280_S32768x1024_0_10256)
    (extractStridedSlice S32768x512 ![0, 0] z slices_S32768x11280_S32768x512_0_0)
    (extractStridedSlice S32768x512 ![0, 512] z slices_S32768x11280_S32768x512_0_512)

def second (z : FVec Ideal S32768x11280 .f32) : FVec Ideal S32768x128 .f32 :=
  pad S32768x128 ![0, 0] ![0, 112] ![0, 0] (extractStridedSlice S32768x16 ![0, 3072] z slices_S32768x11280_S32768x16_0_3072)
    (sitofp .f32 (constantI S_ 32 0#32)) pads_S32768x16_S32768x128_000_01120 h_S_

theorem res0_eq : Value.res_main_v33 m c = truncf .bf16 (first (prod (X2 m c) (aN m c) (aW m c))) bitsLt_bf16_f32 := by
  unfold Value.res_main_v33 first halves prod normed Value.fn_main_v32
  rfl

/-! ## Their entries -/

theorem sq_sum (X : S32768x1024.Idx → EReal) (r : Fin 32768) :
    Host.reduceAdd (F := Ideal) (φ := .f32) (mulf (F := Ideal) (φ := .f32) X X) (constant S_ .f32 0x00000000#32)
      reducesTo_S32768x1024_S32768_d1 h_S_ (ix1 r) = ∑ k : Fin 1024, X (ix2 r k) * X (ix2 r k) := by
  have h : S32768x1024.Reduces [1] S32768 := by decide
  refine (Ideal.hostReduceAdd_single reducesTo_S32768x1024_S32768_d1 h (mulf (F := Ideal) (φ := .f32) X X)
    (Ideal.ofBits .f32 0x00000000#32) (ix1 r)).trans ?_
  rw [Ideal.ofBits_zero_f32, zero_add]
  refine Finset.sum_congr rfl fun k _ => ?_
  have e : (h.lift (ix1 r) k : S32768x1024.Idx) = ix2 r k := by
    funext a
    match a with
    | ⟨0, _⟩ => rfl
    | ⟨1, _⟩ => rfl
  rw [e]; rfl

theorem normed_at (X : S32768x1024.Idx → EReal) (nw : S1024.Idx → EReal) (r : Fin 32768) (k : Fin 1024) :
    normed X nw (ix2 r k) = rowOf X nw r k := by
  unfold normed rowOf unit scale
  refine congr (congrArg HMul.hMul (congrArg (X (ix2 r k) * ·) ?_)) ?_
  · refine (broadcastInDim_apply (s := S32768x1) (t := S32768x1024) ![0, 1] bcast_S32768x1_S32768x1024_0_1 _ (ix2 r k) (ix2 r 0) ?_).trans ?_
    · intro a
      match a with
      | ⟨0, _⟩ => rfl
      | ⟨1, _⟩ => rfl
    have e : broadcastInDim S32768x1 ![0] bcast_S32768_S32768x1_0 (Host.reduceAdd (F := Ideal) (φ := .f32) (mulf (F := Ideal) (φ := .f32) X X)
        (constant S_ .f32 0x00000000#32) reducesTo_S32768x1024_S32768_d1 h_S_) (ix2 r 0) = ∑ k : Fin 1024, X (ix2 r k) * X (ix2 r k) :=
      (broadcastInDim_apply (s := S32768) (t := S32768x1) ![0] bcast_S32768_S32768x1_0 _ (ix2 r 0) (ix1 r) (fun a => by
        match a with
        | ⟨0, _⟩ => rfl)).trans (sq_sum X r)
    exact congrArg (fun s => Ideal.rsqrt (Ideal.div s (Ideal.ofBits .f32 0x44800000#32) + Ideal.ofBits .f32 0x358637BD#32)) e
  · refine (broadcastInDim_apply (s := S1x1024) (t := S32768x1024) ![0, 1] bcast_S1x1024_S32768x1024_0_1 _ (ix2 r k) (ix2 0 k) ?_).trans
      (broadcastInDim_apply (s := S1024) (t := S1x1024) ![1] bcast_S1024_S1x1024_1 nw (ix2 0 k) (ix1 k) ?_)
    · intro a
      match a with
      | ⟨0, _⟩ => rfl
      | ⟨1, _⟩ => rfl
    · intro a
      match a with
      | ⟨0, _⟩ => rfl

theorem prod_at (X : S32768x1024.Idx → EReal) (nw : S1024.Idx → EReal) (w : S1024x11280.Idx → EReal) (r : Fin 32768) (j : Fin 11280) :
    prod X nw w (ix2 r j) = ∑ k, rowOf X nw r k * w (ix2 k j) := by
  unfold prod
  refine (StackMember.dotGeneral_plain_apply (m := 32768) (k := 1024) (n := 11280) (φ₁ := .f32) (φ₂ := .f32) none _ _ r j).trans ?_
  exact Finset.sum_congr rfl fun k _ => congrArg (· * w (ix2 k j)) (normed_at X nw r k)

theorem halves_at (q : S32768x1024.Idx → EReal) (r : Fin 32768) (j : ℕ) (hj : j < 1024) :
    halves q (ix2 r ⟨j, hj⟩) = q (ix2 r ⟨ev j, ev_lt hj⟩) := by
  unfold halves
  have ha : j / 256 < 4 := by omega
  have hb : j % 256 / 128 < 2 := by omega
  have hd : j % 128 < 128 := by omega
  refine (shapeCast_apply (s := S32768x4x2x128) (t := S32768x1024) _ _ (ix2 r ⟨j, hj⟩)
    (ix4 r ⟨j / 256, ha⟩ ⟨j % 256 / 128, hb⟩ ⟨j % 128, hd⟩) ?_).trans ?_
  · rw [Shape.rowMajor_val_four, Shape.rowMajor_val_two]
    show ((r.val * 4 + j / 256) * 2 + j % 256 / 128) * 128 + j % 128 = r.val * 1024 + j
    omega
  refine (transpose_apply (s := S32768x4x128x2) (t := S32768x4x2x128) [0, 1, 3, 2] _ _ _
    (ix4 r ⟨j / 256, ha⟩ ⟨j % 128, hd⟩ ⟨j % 256 / 128, hb⟩) ?_).trans ?_
  · intro b
    match b with
    | ⟨0, _⟩ => rfl
    | ⟨1, _⟩ => rfl
    | ⟨2, _⟩ => rfl
    | ⟨3, _⟩ => rfl
  refine shapeCast_apply (s := S32768x1024) (t := S32768x4x128x2) _ _ _ (ix2 r ⟨ev j, ev_lt hj⟩) ?_
  rw [Shape.rowMajor_val_four, Shape.rowMajor_val_two]
  show r.val * 1024 + ev j = ((r.val * 4 + j / 256) * 128 + j % 128) * 2 + j % 256 / 128
  unfold ev
  omega

theorem first_at (z : S32768x11280.Idx → EReal) (r : Fin 32768) (j : ℕ) (hj : j < 11264) :
    first z (ix2 r ⟨j, hj⟩) = z (ix2 r ⟨src j, src_lt hj⟩) := by
  unfold first Value.fn_main_v32
  refine concat10 (R := 32768) z _ _ _ _ _ _ _ _ _ _ _ ?_ ?_ ?_ ?_ ?_ ?_ ?_ ?_ ?_ ?_ r j hj <;> intro r j hj
  · exact cols z slices_S32768x11280_S32768x2048_0_5136 (by decide) r j hj
  · exact cols z slices_S32768x11280_S32768x2048_0_7184 (by decide) r j hj
  · exact cols z slices_S32768x11280_S32768x1024_0_1024 (by decide) r j hj
  · exact cols z slices_S32768x11280_S32768x1024_0_2048 (by decide) r j hj
  · exact (halves_at _ r j hj).trans (cols z slices_S32768x11280_S32768x1024_0_3088 (by decide) r (ev j) (ev_lt hj))
  · exact (halves_at _ r j hj).trans (cols z slices_S32768x11280_S32768x1024_0_4112 (by decide) r (ev j) (ev_lt hj))
  · exact cols z slices_S32768x11280_S32768x1024_0_9232 (by decide) r j hj
  · exact cols z slices_S32768x11280_S32768x1024_0_10256 (by decide) r j hj
  · exact cols z slices_S32768x11280_S32768x512_0_0 (by decide) r j hj
  · exact cols z slices_S32768x11280_S32768x512_0_512 (by decide) r j hj

theorem second_in (z : S32768x11280.Idx → EReal) (r : Fin 32768) (l : Fin 128) (h : l.val < 16) :
    second z (ix2 r l) = z (ix2 r ⟨3072 + l.val, by omega⟩) := by
  unfold second
  refine (pad_apply_of_inside (s := S32768x16) (t := S32768x128) ![0, 0] ![0, 112] ![0, 0] _ _ pads_S32768x16_S32768x128_000_01120 h_S_ _
    (ix2 r ⟨l.val, h⟩) (fun a => ?_)).trans (cols z slices_S32768x11280_S32768x16_0_3072 (by decide) r l.val h)
  match a with
  | ⟨0, _⟩ => show r.val = 0 + r.val * 1; omega
  | ⟨1, _⟩ => show l.val = 0 + l.val * 1; omega

theorem second_out (z : S32768x11280.Idx → EReal) (r : Fin 32768) (l : Fin 128) (h : ¬ l.val < 16) :
    second z (ix2 r l) = (0 : EReal) := by
  unfold second
  refine (pad_apply_of_not_inside (s := S32768x16) (t := S32768x128) ![0, 0] ![0, 112] ![0, 0] _ _ pads_S32768x16_S32768x128_000_01120 h_S_ _ 1 ?_).trans ?_
  · rintro ⟨-, -, h3⟩
    refine h ?_
    have : (l.val - 0) / (0 + 1) < 16 := h3
    omega
  · exact sitofp_zero (φ := .f32)

/-! ## The results -/

theorem idx_eq {a b : ℕ} (i : (M2 a b).Idx) : i = ix2 (i 0) (i 1) := by
  funext d
  match d with
  | ⟨0, _⟩ => rfl
  | ⟨1, _⟩ => rfl

theorem res0_proj : Value.res_main_v33 m c = proj (X2 m c) (aN m c) (aW m c) := by
  rw [res0_eq]
  funext i
  obtain ⟨r, j, rfl⟩ : ∃ (r : Fin 32768) (j : Fin 11264), i = ix2 r j := ⟨i 0, i 1, idx_eq i⟩
  exact (first_at _ r j.val j.isLt).trans (prod_at _ _ _ _ _)

theorem res1_gate : second (prod (X2 m c) (aN m c) (aW m c)) = gate (X2 m c) (aN m c) (aW m c) := by
  funext i
  obtain ⟨r, l, rfl⟩ : ∃ (r : Fin 32768) (l : Fin 128), i = ix2 r l := ⟨i 0, i 1, idx_eq i⟩
  by_cases h : l.val < 16
  · exact (second_in _ r l h).trans ((prod_at _ _ _ _ _).trans (gate_in _ _ _ r l h).symm)
  · exact (second_out _ r l h).trans (gate_out _ _ _ r l h).symm

end Cert.Reference2Ideal.Hand
end
-- ==== Proof.lean ====
module

public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3
public import proofs.«01_k».proof.Proof.Gen.Kernel3.Frame
public import proofs.«01_k».proof.Proof.Gen.Kernel3.Skeleton
public import proofs.«01_k».proof.Proof.Gen.Reference3Ideal.Run
public import proofs.«01_k».proof.Proof.Gen.Reference3Ideal
public import proofs.«01_k».proof.Proof.MixValue
public import proofs.«01_k».proof.Proof.MixRef
public import proofs.«01_k».proof.Proof.Value
public import proofs.«01_k».proof.Proof.KTables
public import proofs.«01_k».proof.Proof.Gen.Pre_routed
public import proofs.«01_k».proof.Defs
public import proofs.«01_k».proof.Proof.Gen.Kernel
public import proofs.«01_k».proof.Proof.InValue
public import proofs.«01_k».proof.Proof.KInRun
public import proofs.«01_k».proof.Proof.InRef
public import proofs.«01_k».proof.Proof.Gen.Kernel2.Frame
public import proofs.«01_k».proof.Proof.Gen.Kernel2.Skeleton
public import proofs.«01_k».proof.Proof.Gen.Reference2Ideal.Run
public import Idealize.ShloMosaic.Lib.Quiescent

@[expose] public section

noncomputable section

namespace Cert.Proof

open Idealize.ShloMosaic Idealize.SL.Sem

instance : Cert.Pre_routed.Facts := Cert.Pre_routed.Gen.facts

/-- The kernel runs and keeps its arguments. -/
theorem frame_kernel : Cert.quiescent_Kernel (hKernel := Cert.Kernel.Gen.facts) (hPre_routed := Cert.Pre_routed.Gen.facts) := fun m ρ hp =>
  (θ_run Cert.Kernel.defs _ _).mono (fun _ h => ⟨h.1.1, h.1.2⟩)
    (Cert.Kernel.Hand.run_read (F := Bits) m ρ (Cert.Kernel.Hand.good_of_rt (Cert.Kernel.Hand.rt_of_pre m (hp 0))))

theorem frame_kernelIdeal : Cert.quiescent_KernelIdeal (hKernelIdeal := Cert.KernelIdeal.Gen.facts) (hPre_routed := Cert.Pre_routed.Gen.facts) := fun m ρ hp =>
  (θ_run Cert.KernelIdeal.defs _ _).mono (fun _ h => ⟨h.1.1, h.1.2⟩)
    (Cert.KernelIdeal.Hand.run_read (F := Ideal) m ρ (Cert.KernelIdeal.Hand.good_of_rt (Cert.KernelIdeal.Hand.rt_of_pre m (hp 0))))

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- With every destination a slot of its own and every slot filled, the result is the reference's two scatters. -/
theorem algebraic : Cert.algebraic_KernelIdeal_ReferenceIdeal (hKernelIdeal := Cert.KernelIdeal.Gen.facts)
    (hReferenceIdeal := Cert.ReferenceIdeal.Gen.facts) (hPre_routed := Cert.Pre_routed.Gen.facts) := by
  intro m ρ m' ρ' hp hag
  have hr := Cert.KernelIdeal.Hand.rt_of_pre m (hp 0)
  refine ⟨fun _ => Cert.KernelIdeal.Hand.resAt m 16, ?_, ?_⟩
  · exact (θ_run Cert.KernelIdeal.defs _ _).mono (fun _ h c => ⟨h.2 c, h.1.1 c⟩)
      (Cert.KernelIdeal.Hand.run_read (F := Ideal) m ρ (Cert.KernelIdeal.Hand.good_of_rt hr))
  · refine (θ_run Cert.ReferenceIdeal.defs _ _).mono (fun _ h c => ⟨(h c).1.trans ?_, (h c).2⟩)
      (Cert.ReferenceIdeal.Value.run (F := Ideal) m' ρ')
    obtain rfl : c = 0 := Subsingleton.elim _ _
    obtain ⟨e0, e1, e2, -⟩ := hag 0
    refine Eq.trans ?_ (Cert.KernelIdeal.Hand.value hr _ fun _ => rfl).symm
    rw [e0, e1, e2]
    rfl

/-- The input projection runs and keeps its arguments. -/
theorem frame_kernel2 : Cert.quiescent_Kernel2 (hKernel2 := Cert.Kernel2.Gen.facts) := fun m ρ _ =>
  (θ_run Cert.Kernel2.defs _ _).mono (fun _ h => h.1) (Cert.Kernel2.Hand.run_read (F := Bits) m ρ)

theorem frame_kernel2Ideal : Cert.quiescent_Kernel2Ideal (hKernel2Ideal := Cert.Kernel2Ideal.Gen.facts) := fun m ρ _ =>
  (θ_run Cert.Kernel2Ideal.defs _ _).mono (fun _ h => h.1) (Cert.Kernel2Ideal.Hand.run_read (F := Ideal) m ρ)

theorem frame_reference2 : Cert.quiescent_Reference2Ideal (hReference2Ideal := Cert.Reference2Ideal.Gen.facts) := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The two results are the columns of the normed tokens' projection, in the reference's order. -/
theorem algebraic2 : Cert.algebraic_Kernel2Ideal_Reference2Ideal (hKernel2Ideal := Cert.Kernel2Ideal.Gen.facts)
    (hReference2Ideal := Cert.Reference2Ideal.Gen.facts) := by
  intro m ρ m' ρ' _ hag
  refine ⟨fun c => Cert.InProj.proj (Cert.Kernel2Ideal.Hand.X2 m c) (Cert.Kernel2Ideal.Hand.aN m c) (Cert.Kernel2Ideal.Hand.aW m c),
    fun c => Cert.InProj.gate (Cert.Kernel2Ideal.Hand.X2 m c) (Cert.Kernel2Ideal.Hand.aN m c) (Cert.Kernel2Ideal.Hand.aW m c), ?_, ?_⟩
  · exact (θ_run Cert.Kernel2Ideal.defs _ _).mono
      (fun _ h c => ⟨(h.2 c).1.trans (Cert.Kernel2Ideal.Hand.arr4 m c), (h.2 c).2.trans (Cert.Kernel2Ideal.Hand.arr5 m c), h.1.1 c⟩)
      (Cert.Kernel2Ideal.Hand.run_read (F := Ideal) m ρ)
  · refine (θ_run Cert.Reference2Ideal.defs _ _).mono (fun _ h c => ?_) (Cert.Reference2Ideal.Value.run (F := Ideal) m' ρ')
    obtain ⟨e0, e1, e2⟩ := hag c
    have eX : Cert.Reference2Ideal.Hand.X2 m' c = Cert.Kernel2Ideal.Hand.X2 m c := by
      unfold Cert.Reference2Ideal.Hand.X2 Cert.Kernel2Ideal.Hand.X2
      exact congrArg (fun x => shapeCast _ x _) e0
    refine ⟨(h c).1.trans ((Cert.Reference2Ideal.Hand.res0_proj m' c).trans ?_), (h c).2.1.trans (Eq.trans ?_
      ((Cert.Reference2Ideal.Hand.res1_gate m' c).trans ?_)), (h c).2.2⟩
    · exact congr (congr (congrArg Cert.InProj.proj eX) e1) e2
    · unfold Cert.Reference2Ideal.Hand.second Cert.Reference2Ideal.Hand.prod Cert.Reference2Ideal.Hand.normed
      rfl
    · exact congr (congr (congrArg Cert.InProj.gate eX) e1) e2

/-- The mix runs and keeps its arguments. -/
theorem frame_kernel3 : Cert.quiescent_Kernel3 (hKernel3 := Cert.Kernel3.Gen.facts) := fun m ρ _ =>
  Cert.Kernel3.Gen.frame (F := Bits) m ρ

theorem frame_kernel3Ideal : Cert.quiescent_Kernel3Ideal (hKernel3Ideal := Cert.Kernel3Ideal.Gen.facts) := fun m ρ _ =>
  Cert.Kernel3Ideal.Gen.frame (F := Ideal) m ρ

theorem frame_reference3 : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The two results are the tokens with the mixed branches added, and their normed rows in row tiles. -/
theorem algebraic3 : Cert.algebraic_Kernel3Ideal_Reference3Ideal (hKernel3Ideal := Cert.Kernel3Ideal.Gen.facts)
    (hReference3Ideal := Cert.Reference3Ideal.Gen.facts) := by
  intro m ρ m' ρ' _ hag
  refine ⟨fun c => Cert.Kernel3Ideal.Hand.resid' m c, fun c => Cert.Kernel3Ideal.Hand.toks' m c, ?_, ?_⟩
  · exact (θ_run Cert.Kernel3Ideal.defs _ _).mono (fun _ h c => ⟨(h.1 c).1, (h.1 c).2, h.2 c⟩)
      (θ_run_and (Cert.Kernel3Ideal.Hand.run_read m ρ) (Cert.Kernel3Ideal.Gen.unchanged (F := Ideal) m ρ))
  · refine (θ_run Cert.Reference3Ideal.defs _ _).mono (fun _ h c => ?_) (Cert.Reference3Ideal.Value.run (F := Ideal) m' ρ')
    obtain ⟨e0, e1, e2, e3, e4, e5, e6, e7, -⟩ := hag c
    have eX : Cert.Reference3Ideal.Hand.X2 m' c = Cert.Kernel3Ideal.Hand.X2 m c := by
      unfold Cert.Reference3Ideal.Hand.X2 Cert.Kernel3Ideal.Hand.X2
      exact congrArg (fun x => shapeCast _ x _) e3
    have f0 : Cert.Reference3Ideal.Hand.aA m' c = Cert.Kernel3Ideal.Hand.aA m c := e0
    have f1 : Cert.Reference3Ideal.Hand.aB m' c = Cert.Kernel3Ideal.Hand.aB m c := e1
    have f2 : Cert.Reference3Ideal.Hand.aP m' c = Cert.Kernel3Ideal.Hand.aP m c := e2
    have f4 : Cert.Reference3Ideal.Hand.aWa m' c = Cert.Kernel3Ideal.Hand.aWa m c := e4
    have f5 : Cert.Reference3Ideal.Hand.aWb m' c = Cert.Kernel3Ideal.Hand.aWb m c := e5
    have f6 : Cert.Reference3Ideal.Hand.aWo m' c = Cert.Kernel3Ideal.Hand.aWo m c := e6
    have f7 : Cert.Reference3Ideal.Hand.aN m' c = Cert.Kernel3Ideal.Hand.aN m c := e7
    have hH : Cert.Reference3Ideal.Hand.H m' c = Cert.Kernel3Ideal.Hand.resid' m c :=
      (Cert.Reference3Ideal.Hand.resid_at _ _ _ _ _ _ _).trans (by rw [eX, f0, f1, f2, f4, f5, f6])
    refine ⟨(h c).1.trans (Eq.trans ?_ hH), (h c).2.1.trans ((Cert.Reference3Ideal.Hand.res1_toks m' c).trans ?_), (h c).2.2⟩
    · unfold Cert.Reference3Ideal.Hand.H Cert.Reference3Ideal.Hand.residR Cert.Reference3Ideal.Hand.mergedR Cert.Reference3Ideal.Hand.lgt
      rfl
    · rw [eX, f0, f1, f2, f4, f5, f6, f7]

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_routed.Gen.facts,
    frame_kernel, frame_kernelIdeal, frame_reference, fun m ρ _ => frame_reference m ρ trivial,
    frame_kernel2, frame_kernel2Ideal, frame_reference2, frame_kernel3, frame_kernel3Ideal, frame_reference3,
    trivial, algebraic, trivial, algebraic2, trivial, algebraic3⟩

end Cert.Proof

end
